-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_domain [hPre_domain : Cert.Pre_domain.Facts] (m : (ℓ : Loc Cert.KernelIdeal.nD Cert.KernelIdeal.τ Cert.KernelIdeal.sig) → Buf (Elt Ideal) ℓ) : Prop :=
  ∀ c : Dev Cert.KernelIdeal.nD,
    (Cert.Pre_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_domain [hPre_domain : Cert.Pre_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_domain [hKernelIdeal : Cert.KernelIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_domain [hReferenceIdeal : Cert.ReferenceIdeal.Facts] [hPre_domain : Cert.Pre_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "exp2_scale" .f32 0x3E2E1A93#32 (((15817711 / 134217728) * (Real.log 2)⁻¹ : ℝ) : EReal)

def algebraic_KernelIdeal_ReferenceIdeal_pre_domain [hKernelIdeal : Cert.KernelIdeal.Facts] [hReferenceIdeal : Cert.ReferenceIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v271) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_domain : Cert.Pre_domain.Facts),
    quiescent_Kernel (hKernel := hKernel)
    ∧ quiescent_KernelIdeal (hKernelIdeal := hKernelIdeal)
    ∧ quiescent_KernelIdeal_pre_domain (hKernelIdeal := hKernelIdeal) (hPre_domain := hPre_domain)
    ∧ quiescent_ReferenceIdeal (hReferenceIdeal := hReferenceIdeal)
    ∧ quiescent_ReferenceIdeal_pre_domain (hReferenceIdeal := hReferenceIdeal) (hPre_domain := hPre_domain)
    ∧ preserves_Kernel_KernelIdeal
    ∧ algebraic_KernelIdeal_ReferenceIdeal_pre_domain (hKernelIdeal := hKernelIdeal) (hReferenceIdeal := hReferenceIdeal) (hPre_domain := hPre_domain)
-- ==== Pre_domain.lean ====
abbrev S6x1690x24x72 : Shape := ⟨4, ![6, 1690, 24, 72]⟩
abbrev S6x5x24 : Shape := ⟨3, ![6, 5, 24]⟩
abbrev S24 : Shape := ⟨1, ![24]⟩
abbrev S_ : Shape := ⟨0, ![]⟩
abbrev S1x1x24 : Shape := ⟨3, ![1, 1, 24]⟩

class Facts : Prop where
  bcast_S_S6x5x24 : S_.BroadcastsInDim S6x5x24 (![] : Fin 0 → Fin S6x5x24.rank)
  bcast_S24_S1x1x24_2 : S24.BroadcastsInDim S1x1x24 (![2] : Fin 1 → Fin S1x1x24.rank)
  bcast_S1x1x24_S6x5x24_0_1_2 : S1x1x24.BroadcastsInDim S6x5x24 (![0, 1, 2] : Fin 3 → Fin S6x5x24.rank)

variable [Facts]

def comparator_i32_d0 : BitVec 32 → BitVec 32 → BitVec 1 :=
  fun l r =>
    let v1 := IntOp.cmpi .slt l r
    v1
def fn_sort {F : FTy → Type} [FloatOps F] (arg0 : IVec S24 32) : IVec S24 32 :=
  let v0 : IVec S24 32 := (fun x => Host.sort S24 0 comparator_i32_d0 x) arg0
  v0

def fn {F : FTy → Type} [FloatOps F] (main_arg0 : FVec F S6x1690x24x72 .fp8e4m3) (main_arg1 : FVec F S6x1690x24x72 .fp8e4m3) (main_arg2 : FVec F S6x1690x24x72 .fp8e4m3) (main_arg3 : FVec F S6x5x24 .f32) (main_arg4 : FVec F S6x5x24 .f32) (main_arg5 : FVec F S6x5x24 .f32) (main_arg6 : IVec S24 32) : IVec S6x5x24 1 :=
  let main_v0 : IVec S24 32 := fn_sort (F := F) main_arg6
  let main_v1 : IVec S24 32 := iotaInDim S24 32 0
  let main_v2 : IVec S24 1 := cmpi .eq main_v0 main_v1
  let main_cst : FVec F S_ .f32 := constant S_ .f32 0x00000000#32
  let main_v3 : FVec F S6x5x24 .f32 := broadcastInDim S6x5x24 ![] bcast_S_S6x5x24 main_cst
  let main_v4 : IVec S6x5x24 1 := cmpf .ogt main_arg3 main_v3
  let main_cst_0 : FVec F S_ .f32 := constant S_ .f32 0x00000000#32
  let main_v5 : FVec F S6x5x24 .f32 := broadcastInDim S6x5x24 ![] bcast_S_S6x5x24 main_cst_0
  let main_v6 : IVec S6x5x24 1 := cmpf .ogt main_arg4 main_v5
  let main_v7 : IVec S6x5x24 1 := andi main_v4 main_v6
  let main_v8 : IVec S1x1x24 1 := broadcastInDim S1x1x24 ![2] bcast_S24_S1x1x24_2 main_v2
  let main_v9 : IVec S6x5x24 1 := broadcastInDim S6x5x24 ![0, 1, 2] bcast_S1x1x24_S6x5x24_0_1_2 main_v8
  let main_v10 : IVec S6x5x24 1 := andi main_v7 main_v9
  main_v10
-- ==== Kernel.lean ====
abbrev S6x1690x24x72 : Shape := ⟨4, ![6, 1690, 24, 72]⟩
abbrev S6x5x24 : Shape := ⟨3, ![6, 5, 24]⟩
abbrev S24 : Shape := ⟨1, ![24]⟩
abbrev S_ : Shape := ⟨0, ![]⟩
abbrev S6x24x72x1690 : Shape := ⟨4, ![6, 24, 72, 1690]⟩
abbrev S720 : Shape := ⟨1, ![720]⟩
abbrev S6x1690x1728 : Shape := ⟨3, ![6, 1690, 1728]⟩
abbrev S1x1x72x1690 : Shape := ⟨4, ![1, 1, 72, 1690]⟩
abbrev S1x1690x1728 : Shape := ⟨3, ![1, 1690, 1728]⟩
abbrev S128x1792 : Shape := ⟨2, ![128, 1792]⟩
abbrev S1696x128 : Shape := ⟨2, ![1696, 128]⟩
abbrev S160x128 : Shape := ⟨2, ![160, 128]⟩
abbrev S72x1792 : Shape := ⟨2, ![72, 1792]⟩
abbrev S1792x1792 : Shape := ⟨2, ![1792, 1792]⟩
abbrev S1 : Shape := ⟨1, ![1]⟩
abbrev S56x1792 : Shape := ⟨2, ![56, 1792]⟩
abbrev S72x1690 : Shape := ⟨2, ![72, 1690]⟩
abbrev S72x102 : Shape := ⟨2, ![72, 102]⟩
abbrev S1792x128 : Shape := ⟨2, ![1792, 128]⟩
abbrev S128x256 : Shape := ⟨2, ![128, 256]⟩
abbrev S256x128 : Shape := ⟨2, ![256, 128]⟩
abbrev S72x384 : Shape := ⟨2, ![72, 384]⟩
abbrev S72x256 : Shape := ⟨2, ![72, 256]⟩
abbrev S128x384 : Shape := ⟨2, ![128, 384]⟩
abbrev S160x384 : Shape := ⟨2, ![160, 384]⟩
abbrev S160x256 : Shape := ⟨2, ![160, 256]⟩
abbrev S160x1792 : Shape := ⟨2, ![160, 1792]⟩
abbrev S160 : Shape := ⟨1, ![160]⟩
abbrev S160x1 : Shape := ⟨2, ![160, 1]⟩
abbrev S72x160 : Shape := ⟨2, ![72, 160]⟩
abbrev S384x128 : Shape := ⟨2, ![384, 128]⟩
abbrev S384x384 : Shape := ⟨2, ![384, 384]⟩
abbrev S8x384 : Shape := ⟨2, ![8, 384]⟩
abbrev S152x384 : Shape := ⟨2, ![152, 384]⟩
abbrev S384 : Shape := ⟨1, ![384]⟩
abbrev S1x384 : Shape := ⟨2, ![1, 384]⟩
abbrev S1x1x72x384 : Shape := ⟨4, ![1, 1, 72, 384]⟩
abbrev S1690x128 : Shape := ⟨2, ![1690, 128]⟩
abbrev S1x1690x128 : Shape := ⟨3, ![1, 1690, 128]⟩
abbrev S1690x64 : Shape := ⟨2, ![1690, 64]⟩
abbrev S1x1690x64 : Shape := ⟨3, ![1, 1690, 64]⟩

abbrev nBuf : Space → Nat
  | .hbm => 21
  | .vmem => 14
  | .smem => 4
  | _ => 0

abbrev bufTy : (tb : Table) → Fin (tcTables nBuf tb) → BufTy
  | .hbm, ⟨0, _⟩ => ⟨S6x1690x24x72, .fp8e4m3⟩
  | .hbm, ⟨1, _⟩ => ⟨S6x1690x24x72, .fp8e4m3⟩
  | .hbm, ⟨2, _⟩ => ⟨S6x1690x24x72, .fp8e4m3⟩
  | .hbm, ⟨3, _⟩ => ⟨S6x5x24, .f32⟩
  | .hbm, ⟨4, _⟩ => ⟨S6x5x24, .f32⟩
  | .hbm, ⟨5, _⟩ => ⟨S6x5x24, .f32⟩
  | .hbm, ⟨6, _⟩ => ⟨S24, .i32⟩
  | .hbm, ⟨7, _⟩ => ⟨S24, .i32⟩
  | .hbm, ⟨8, _⟩ => ⟨S24, .i32⟩
  | .hbm, ⟨9, _⟩ => ⟨S24, .i32⟩
  | .hbm, ⟨10, _⟩ => ⟨S_, .i32⟩
  | .hbm, ⟨11, _⟩ => ⟨S24, .i32⟩
  | .hbm, ⟨12, _⟩ => ⟨S24, .i1⟩
  | .hbm, ⟨13, _⟩ => ⟨S24, .i32⟩
  | .hbm, ⟨14, _⟩ => ⟨S6x24x72x1690, .fp8e4m3⟩
  | .hbm, ⟨15, _⟩ => ⟨S6x24x72x1690, .fp8e4m3⟩
  | .hbm, ⟨16, _⟩ => ⟨S6x24x72x1690, .fp8e4m3⟩
  | .hbm, ⟨17, _⟩ => ⟨S720, .f32⟩
  | .hbm, ⟨18, _⟩ => ⟨S720, .f32⟩
  | .hbm, ⟨19, _⟩ => ⟨S720, .f32⟩
  | .hbm, ⟨20, _⟩ => ⟨S6x1690x1728, .bf16⟩
  | .local _ .vmem, ⟨0, _⟩ => ⟨S1x1x72x1690, .fp8e4m3⟩
  | .local _ .vmem, ⟨1, _⟩ => ⟨S1x1x72x1690, .fp8e4m3⟩
  | .local _ .vmem, ⟨2, _⟩ => ⟨S1x1x72x1690, .fp8e4m3⟩
  | .local _ .vmem, ⟨3, _⟩ => ⟨S1x1x72x1690, .fp8e4m3⟩
  | .local _ .vmem, ⟨4, _⟩ => ⟨S1x1x72x1690, .fp8e4m3⟩
  | .local _ .vmem, ⟨5, _⟩ => ⟨S1x1x72x1690, .fp8e4m3⟩
  | .local _ .vmem, ⟨6, _⟩ => ⟨S1x1690x1728, .bf16⟩
  | .local _ .vmem, ⟨7, _⟩ => ⟨S1x1690x1728, .bf16⟩
  | .local _ .vmem, ⟨8, _⟩ => ⟨S128x1792, .fp8e4m3⟩
  | .local _ .vmem, ⟨9, _⟩ => ⟨S128x1792, .fp8e4m3⟩
  | .local _ .vmem, ⟨10, _⟩ => ⟨S1696x128, .fp8e4m3⟩
  | .local _ .vmem, ⟨11, _⟩ => ⟨S160x128, .fp8e4m3⟩
  | .local _ .vmem, ⟨12, _⟩ => ⟨S72x1792, .bf16⟩
  | .local _ .vmem, ⟨13, _⟩ => ⟨S1792x1792, .f32⟩
  | .local _ .smem, ⟨0, _⟩ => ⟨S24, .i32⟩
  | .local _ .smem, ⟨1, _⟩ => ⟨S720, .f32⟩
  | .local _ .smem, ⟨2, _⟩ => ⟨S720, .f32⟩
  | .local _ .smem, ⟨3, _⟩ => ⟨S720, .f32⟩
  | _, _ => ⟨S6x1690x24x72, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1_0 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![6, 24], ![false, false]⟩

def k0_off1 (i : grid0.Coords) (c0_i32 : BitVec 32) : Fin 1 → Nat :=
  let arg0 : BitVec 32 := BitVec.ofNat 32 (i 0).val
  let c5_i32 : BitVec 32 := 5#32
  let v0 : BitVec 32 := Scalar.muli arg0 c5_i32
  let v1 : BitVec 32 := Scalar.addi v0 c0_i32
  let c24_i32 : BitVec 32 := 24#32
  let v2 : BitVec 32 := Scalar.muli v1 c24_i32
  let arg1 : BitVec 32 := BitVec.ofNat 32 (i 1).val
  let v3 : BitVec 32 := Scalar.addi v2 arg1
  let v4 : Index := Scalar.indexCast v3
  ![v4.toNat]
def k0_mult1 (i : grid0.Coords) : BitVec 32 :=
  let arg1 : BitVec 32 := BitVec.ofNat 32 (i 1).val
  let c72_i32 : BitVec 32 := 72#32
  let v169 : BitVec 32 := Scalar.muli arg1 c72_i32
  v169
def k0_off2 (i : grid0.Coords) : Fin 2 → Nat :=
  let arg1 : BitVec 32 := BitVec.ofNat 32 (i 1).val
  let c72_i32 : BitVec 32 := 72#32
  let v169 : BitVec 32 := Scalar.muli arg1 c72_i32
  let v170 : BitVec 32 := v169
  let v221 : Index := Scalar.indexCast v170
  let c1536_103 : Index := 1536#32
  ![v221.toNat, 1536]
def k0_off3 (i : grid0.Coords) : Fin 1 → Nat :=
  let arg1 : BitVec 32 := BitVec.ofNat 32 (i 1).val
  let v225 : Index := Scalar.indexCast arg1
  ![v225.toNat]
def k0_off4 (i : grid0.Coords) : Fin 2 → Nat :=
  let arg1 : BitVec 32 := BitVec.ofNat 32 (i 1).val
  let c72_i32 : BitVec 32 := 72#32
  let v169 : BitVec 32 := Scalar.muli arg1 c72_i32
  let v170 : BitVec 32 := v169
  let v290 : Index := Scalar.indexCast v170
  let c0_131 : Index := 0#32
  ![v290.toNat, 0]
def k0_off5 (i : grid0.Coords) : Fin 2 → Nat :=
  let arg1 : BitVec 32 := BitVec.ofNat 32 (i 1).val
  let c72_i32 : BitVec 32 := 72#32
  let v169 : BitVec 32 := Scalar.muli arg1 c72_i32
  let v170 : BitVec 32 := v169
  let v366 : Index := Scalar.indexCast v170
  let c384_162 : Index := 384#32
  ![v366.toNat, 384]
def k0_off6 (i : grid0.Coords) : Fin 2 → Nat :=
  let arg1 : BitVec 32 := BitVec.ofNat 32 (i 1).val
  let c72_i32 : BitVec 32 := 72#32
  let v169 : BitVec 32 := Scalar.muli arg1 c72_i32
  let v170 : BitVec 32 := v169
  let v442 : Index := Scalar.indexCast v170
  let c768_193 : Index := 768#32
  ![v442.toNat, 768]
def k0_off7 (i : grid0.Coords) : Fin 2 → Nat :=
  let arg1 : BitVec 32 := BitVec.ofNat 32 (i 1).val
  let c72_i32 : BitVec 32 := 72#32
  let v169 : BitVec 32 := Scalar.muli arg1 c72_i32
  let v170 : BitVec 32 := v169
  let v518 : Index := Scalar.indexCast v170
  let c1152_224 : Index := 1152#32
  ![v518.toNat, 1152]
def k0_off8 (i : grid0.Coords) : Fin 1 → Nat :=
  let arg1 : BitVec 32 := BitVec.ofNat 32 (i 1).val
  let v230 : Index := Scalar.indexCast arg1
  ![v230.toNat]
def k0_off9 (i : grid0.Coords) : Fin 2 → Nat :=
  let arg1 : BitVec 32 := BitVec.ofNat 32 (i 1).val
  let c72_i32 : BitVec 32 := 72#32
  let v169 : BitVec 32 := Scalar.muli arg1 c72_i32
  let v170 : BitVec 32 := v169
  let v351 : Index := Scalar.indexCast v170
  let c0_154 : Index := 0#32
  ![v351.toNat, 0]
def k0_off10 (i : grid0.Coords) : Fin 2 → Nat :=
  let arg1 : BitVec 32 := BitVec.ofNat 32 (i 1).val
  let c72_i32 : BitVec 32 := 72#32
  let v169 : BitVec 32 := Scalar.muli arg1 c72_i32
  let v170 : BitVec 32 := v169
  let v456 : Index := Scalar.indexCast v170
  let c384_184 : Index := 384#32
  ![v456.toNat, 384]
def k0_off11 (i : grid0.Coords) : Fin 2 → Nat :=
  let arg1 : BitVec 32 := BitVec.ofNat 32 (i 1).val
  let c72_i32 : BitVec 32 := 72#32
  let v169 : BitVec 32 := Scalar.muli arg1 c72_i32
  let v170 : BitVec 32 := v169
  let v561 : Index := Scalar.indexCast v170
  let c768_214 : Index := 768#32
  ![v561.toNat, 768]
def k0_off12 (i : grid0.Coords) : Fin 2 → Nat :=
  let arg1 : BitVec 32 := BitVec.ofNat 32 (i 1).val
  let c72_i32 : BitVec 32 := 72#32
  let v169 : BitVec 32 := Scalar.muli arg1 c72_i32
  let v170 : BitVec 32 := v169
  let v666 : Index := Scalar.indexCast v170
  let c1152_244 : Index := 1152#32
  ![v666.toNat, 1152]
def k0_cond3 (i : grid0.Coords) : BitVec 1 :=
  let arg1 : BitVec 32 := BitVec.ofNat 32 (i 1).val
  let c23_i32 : BitVec 32 := 23#32
  let v235 : BitVec 1 := Scalar.cmpi .eq arg1 c23_i32
  let v236 : BitVec 32 := Scalar.extui v235
  let c0_i32_108 : BitVec 32 := 0#32
  let v237 : BitVec 1 := Scalar.cmpi .ne v236 c0_i32_108
  v237

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S24 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S720 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S720 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S720 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x72x1690 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x72x1690 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x72x1690 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1690x1728 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "exp2_scale" => some (((15817711 / 134217728) * (Real.log 2)⁻¹ : ℝ) : EReal)
  | _ => none
-- ==== ReferenceIdeal.lean ====
abbrev S6x1690x24x72 : Shape := ⟨4, ![6, 1690, 24, 72]⟩
abbrev S6x5x24 : Shape := ⟨3, ![6, 5, 24]⟩
abbrev S24 : Shape := ⟨1, ![24]⟩
abbrev S6x24x1690x72 : Shape := ⟨4, ![6, 24, 1690, 72]⟩
abbrev S6x4x24 : Shape := ⟨3, ![6, 4, 24]⟩
abbrev S6x4x384x24 : Shape := ⟨4, ![6, 4, 384, 24]⟩
abbrev S6x1536x24 : Shape := ⟨3, ![6, 1536, 24]⟩
abbrev S6x1x24 : Shape := ⟨3, ![6, 1, 24]⟩
abbrev S6x1x154x24 : Shape := ⟨4, ![6, 1, 154, 24]⟩
abbrev S6x154x24 : Shape := ⟨3, ![6, 154, 24]⟩
abbrev S6x1690x24 : Shape := ⟨3, ![6, 1690, 24]⟩
abbrev S6x24x1690 : Shape := ⟨3, ![6, 24, 1690]⟩
abbrev S6x24 : Shape := ⟨2, ![6, 24]⟩
abbrev S6x24x154x72 : Shape := ⟨4, ![6, 24, 154, 72]⟩
abbrev S6x24x154x1690 : Shape := ⟨4, ![6, 24, 154, 1690]⟩
abbrev S_ : Shape := ⟨0, ![]⟩
abbrev S6x24x1x1 : Shape := ⟨4, ![6, 24, 1, 1]⟩
abbrev S6x24x1x1690 : Shape := ⟨4, ![6, 24, 1, 1690]⟩
abbrev S6x24x154 : Shape := ⟨3, ![6, 24, 154]⟩
abbrev S6x24x154x1 : Shape := ⟨4, ![6, 24, 154, 1]⟩
abbrev S15 : Shape := ⟨1, ![15]⟩
abbrev S9 : Shape := ⟨1, ![9]⟩
abbrev S15x1 : Shape := ⟨2, ![15, 1]⟩
abbrev S6x15x1690x72 : Shape := ⟨4, ![6, 15, 1690, 72]⟩
abbrev S6x5x15 : Shape := ⟨3, ![6, 5, 15]⟩
abbrev S6x15x5 : Shape := ⟨3, ![6, 15, 5]⟩
abbrev S6x15x1536x72 : Shape := ⟨4, ![6, 15, 1536, 72]⟩
abbrev S6x15x4x384x72 : Shape := ⟨5, ![6, 15, 4, 384, 72]⟩
abbrev S6x15x154x72 : Shape := ⟨4, ![6, 15, 154, 72]⟩
abbrev S6x15x4 : Shape := ⟨3, ![6, 15, 4]⟩
abbrev S6x15x1 : Shape := ⟨3, ![6, 15, 1]⟩
abbrev S6x15 : Shape := ⟨2, ![6, 15]⟩
abbrev S6x15x1x384x72 : Shape := ⟨5, ![6, 15, 1, 384, 72]⟩
abbrev S6x15x384x72 : Shape := ⟨4, ![6, 15, 384, 72]⟩
abbrev S6x15x4x1x1 : Shape := ⟨5, ![6, 15, 4, 1, 1]⟩
abbrev S6x15x1x1x1 : Shape := ⟨5, ![6, 15, 1, 1, 1]⟩
abbrev S6x15x4x384x384 : Shape := ⟨5, ![6, 15, 4, 384, 384]⟩
abbrev S6x15x1536x384 : Shape := ⟨4, ![6, 15, 1536, 384]⟩
abbrev S4 : Shape := ⟨1, ![4]⟩
abbrev S4x1x1 : Shape := ⟨3, ![4, 1, 1]⟩
abbrev S6x15x1536x154 : Shape := ⟨4, ![6, 15, 1536, 154]⟩
abbrev S6x15x4x384x154 : Shape := ⟨5, ![6, 15, 4, 384, 154]⟩
abbrev S6x15x4x384 : Shape := ⟨4, ![6, 15, 4, 384]⟩
abbrev S6x15x4x384x1 : Shape := ⟨5, ![6, 15, 4, 384, 1]⟩
abbrev S9x1 : Shape := ⟨2, ![9, 1]⟩
abbrev S6x9x1690x72 : Shape := ⟨4, ![6, 9, 1690, 72]⟩
abbrev S6x5x9 : Shape := ⟨3, ![6, 5, 9]⟩
abbrev S6x9x5 : Shape := ⟨3, ![6, 9, 5]⟩
abbrev S6x9x1536x72 : Shape := ⟨4, ![6, 9, 1536, 72]⟩
abbrev S6x9x4x384x72 : Shape := ⟨5, ![6, 9, 4, 384, 72]⟩
abbrev S6x9x154x72 : Shape := ⟨4, ![6, 9, 154, 72]⟩
abbrev S6x9x4 : Shape := ⟨3, ![6, 9, 4]⟩
abbrev S6x9x1 : Shape := ⟨3, ![6, 9, 1]⟩
abbrev S6x9 : Shape := ⟨2, ![6, 9]⟩
abbrev S6x9x384x4x72 : Shape := ⟨5, ![6, 9, 384, 4, 72]⟩
abbrev S6x9x4x1 : Shape := ⟨4, ![6, 9, 4, 1]⟩
abbrev S6x9x1x4 : Shape := ⟨4, ![6, 9, 1, 4]⟩
abbrev S6x9x4x4 : Shape := ⟨4, ![6, 9, 4, 4]⟩
abbrev S6x9x1x4x4 : Shape := ⟨5, ![6, 9, 1, 4, 4]⟩
abbrev S6x9x1x4x1 : Shape := ⟨5, ![6, 9, 1, 4, 1]⟩
abbrev S6x9x1x1x4 : Shape := ⟨5, ![6, 9, 1, 1, 4]⟩
abbrev S6x9x1x1x1 : Shape := ⟨5, ![6, 9, 1, 1, 1]⟩
abbrev S6x9x384x4x4 : Shape := ⟨5, ![6, 9, 384, 4, 4]⟩
abbrev S6x9x384x4x154 : Shape := ⟨5, ![6, 9, 384, 4, 154]⟩
abbrev S6x9x384x4 : Shape := ⟨4, ![6, 9, 384, 4]⟩
abbrev S6x9x384x4x1 : Shape := ⟨5, ![6, 9, 384, 4, 1]⟩
abbrev S6x24x1536x72 : Shape := ⟨4, ![6, 24, 1536, 72]⟩
abbrev S24x1 : Shape := ⟨2, ![24, 1]⟩
abbrev S6x1690x1728 : Shape := ⟨3, ![6, 1690, 1728]⟩

abbrev nBuf : Space → Nat
  | .hbm => 309
  | .vmem => 6
  | .smem => 0
  | _ => 0

abbrev hbmTy0_0 (i : Nat) : BufTy := match i % 128 with
  | 0 => ⟨S6x1690x24x72, .fp8e4m3⟩
  | 1 => ⟨S6x1690x24x72, .fp8e4m3⟩
  | 2 => ⟨S6x1690x24x72, .fp8e4m3⟩
  | 3 => ⟨S6x5x24, .f32⟩
  | 4 => ⟨S6x5x24, .f32⟩
  | 5 => ⟨S6x5x24, .f32⟩
  | 6 => ⟨S24, .i32⟩
  | 7 => ⟨S6x1690x24x72, .bf16⟩
  | 8 => ⟨S6x1690x24x72, .bf16⟩
  | 9 => ⟨S6x1690x24x72, .bf16⟩
  | 10 => ⟨S6x24x1690x72, .bf16⟩
  | 11 => ⟨S6x24x1690x72, .bf16⟩
  | 12 => ⟨S6x24x1690x72, .bf16⟩
  | 13 => ⟨S6x4x24, .f32⟩
  | 14 => ⟨S6x4x384x24, .f32⟩
  | 15 => ⟨S6x1536x24, .f32⟩
  | 16 => ⟨S6x1x24, .f32⟩
  | 17 => ⟨S6x1x154x24, .f32⟩
  | 18 => ⟨S6x154x24, .f32⟩
  | 19 => ⟨S6x1690x24, .f32⟩
  | 20 => ⟨S6x24x1690, .f32⟩
  | 21 => ⟨S6x4x24, .f32⟩
  | 22 => ⟨S6x4x384x24, .f32⟩
  | 23 => ⟨S6x1536x24, .f32⟩
  | 24 => ⟨S6x1x24, .f32⟩
  | 25 => ⟨S6x1x154x24, .f32⟩
  | 26 => ⟨S6x154x24, .f32⟩
  | 27 => ⟨S6x1690x24, .f32⟩
  | 28 => ⟨S6x24x1690, .f32⟩
  | 29 => ⟨S6x1x24, .f32⟩
  | 30 => ⟨S6x24, .f32⟩
  | 31 => ⟨S6x24x154x72, .bf16⟩
  | 32 => ⟨S6x24x154x1690, .f32⟩
  | 33 => ⟨S_, .f32⟩
  | 34 => ⟨S6x24, .f32⟩
  | 35 => ⟨S6x24, .f32⟩
  | 36 => ⟨S6x24x1x1, .f32⟩
  | 37 => ⟨S6x24x154x1690, .f32⟩
  | 38 => ⟨S6x24x154x1690, .f32⟩
  | 39 => ⟨S6x24x1x1690, .f32⟩
  | 40 => ⟨S6x24x154x1690, .f32⟩
  | 41 => ⟨S6x24x154x1690, .f32⟩
  | 42 => ⟨S_, .f32⟩
  | 43 => ⟨S6x24x154, .f32⟩
  | 44 => ⟨S6x24x154x1, .f32⟩
  | 45 => ⟨S6x24x154x1690, .f32⟩
  | 46 => ⟨S6x24x154x1690, .f32⟩
  | 47 => ⟨S6x24x154x1690, .f32⟩
  | 48 => ⟨S_, .f32⟩
  | 49 => ⟨S6x24x154, .f32⟩
  | 50 => ⟨S6x24x154x1, .f32⟩
  | 51 => ⟨S_, .f32⟩
  | 52 => ⟨S6x24x154x1, .f32⟩
  | 53 => ⟨S6x24x154x1, .f32⟩
  | 54 => ⟨S6x24x154x1690, .f32⟩
  | 55 => ⟨S6x24x154x1690, .f32⟩
  | 56 => ⟨S6x24x1x1690, .f32⟩
  | 57 => ⟨S6x24x154x1690, .f32⟩
  | 58 => ⟨S6x24x154x1690, .f32⟩
  | 59 => ⟨S6x24x154x1690, .bf16⟩
  | 60 => ⟨S6x24x154x72, .f32⟩
  | 61 => ⟨S15, .i32⟩
  | 62 => ⟨S9, .i32⟩
  | 63 => ⟨S15x1, .i32⟩
  | 64 => ⟨S6x15x1690x72, .bf16⟩
  | 65 => ⟨S15x1, .i32⟩
  | 66 => ⟨S6x15x1690x72, .bf16⟩
  | 67 => ⟨S15x1, .i32⟩
  | 68 => ⟨S6x15x1690x72, .bf16⟩
  | 69 => ⟨S15x1, .i32⟩
  | 70 => ⟨S6x5x15, .f32⟩
  | 71 => ⟨S6x15x5, .f32⟩
  | 72 => ⟨S15x1, .i32⟩
  | 73 => ⟨S6x5x15, .f32⟩
  | 74 => ⟨S6x15x5, .f32⟩
  | 75 => ⟨S15x1, .i32⟩
  | 76 => ⟨S6x5x15, .f32⟩
  | 77 => ⟨S6x15x5, .f32⟩
  | 78 => ⟨S6x15x1536x72, .bf16⟩
  | 79 => ⟨S6x15x4x384x72, .bf16⟩
  | 80 => ⟨S6x15x1536x72, .bf16⟩
  | 81 => ⟨S6x15x4x384x72, .bf16⟩
  | 82 => ⟨S6x15x1536x72, .bf16⟩
  | 83 => ⟨S6x15x4x384x72, .bf16⟩
  | 84 => ⟨S6x15x154x72, .bf16⟩
  | 85 => ⟨S6x15x154x72, .bf16⟩
  | 86 => ⟨S6x15x4, .f32⟩
  | 87 => ⟨S6x15x4, .f32⟩
  | 88 => ⟨S6x15x4, .f32⟩
  | 89 => ⟨S6x15x1, .f32⟩
  | 90 => ⟨S6x15, .f32⟩
  | 91 => ⟨S6x15x1, .f32⟩
  | 92 => ⟨S6x15, .f32⟩
  | 93 => ⟨S6x15x1x384x72, .bf16⟩
  | 94 => ⟨S6x15x384x72, .bf16⟩
  | 95 => ⟨S6x15x1x384x72, .bf16⟩
  | 96 => ⟨S6x15x384x72, .bf16⟩
  | 97 => ⟨S6x15x1, .f32⟩
  | 98 => ⟨S6x15, .f32⟩
  | 99 => ⟨S6x15x1, .f32⟩
  | 100 => ⟨S6x15, .f32⟩
  | 101 => ⟨S6x15x4, .f32⟩
  | 102 => ⟨S_, .f32⟩
  | 103 => ⟨S6x15x4, .f32⟩
  | 104 => ⟨S6x15x4, .f32⟩
  | 105 => ⟨S6x15x4x1x1, .f32⟩
  | 106 => ⟨S6x15x1, .f32⟩
  | 107 => ⟨S6x15x4, .f32⟩
  | 108 => ⟨S6x15x4, .f32⟩
  | 109 => ⟨S_, .f32⟩
  | 110 => ⟨S6x15x4, .f32⟩
  | 111 => ⟨S6x15x4, .f32⟩
  | 112 => ⟨S6x15x4x1x1, .f32⟩
  | 113 => ⟨S6x15x1, .f32⟩
  | 114 => ⟨S6x15x4, .f32⟩
  | 115 => ⟨S6x15x4, .f32⟩
  | 116 => ⟨S_, .f32⟩
  | 117 => ⟨S6x15x4, .f32⟩
  | 118 => ⟨S6x15x4, .f32⟩
  | 119 => ⟨S6x15x4x1x1, .f32⟩
  | 120 => ⟨S6x15x4x1x1, .f32⟩
  | 121 => ⟨S6x15x1x1x1, .f32⟩
  | 122 => ⟨S6x15x1x1x1, .f32⟩
  | 123 => ⟨S6x15x1536x72, .bf16⟩
  | 124 => ⟨S6x15x4x384x384, .f32⟩
  | 125 => ⟨S6x15x4x384x384, .f32⟩
  | 126 => ⟨S6x15x4x384x384, .f32⟩
  | 127 => ⟨S6x15x1536x384, .f32⟩
  | _ => ⟨S6x1690x24x72, .fp8e4m3⟩

abbrev hbmTy0_1 (i : Nat) : BufTy := match i % 128 with
  | 0 => ⟨S6x15x4x384x384, .f32⟩
  | 1 => ⟨S6x15x4x384x384, .f32⟩
  | 2 => ⟨S6x15x4x384x384, .f32⟩
  | 3 => ⟨S4, .i32⟩
  | 4 => ⟨S_, .i32⟩
  | 5 => ⟨S4, .i32⟩
  | 6 => ⟨S4, .i1⟩
  | 7 => ⟨S4x1x1, .i1⟩
  | 8 => ⟨S_, .f32⟩
  | 9 => ⟨S_, .f32⟩
  | 10 => ⟨S6x15x4x384x384, .i1⟩
  | 11 => ⟨S6x15x4x384x384, .f32⟩
  | 12 => ⟨S6x15x4x384x384, .f32⟩
  | 13 => ⟨S6x15x1536x154, .f32⟩
  | 14 => ⟨S6x15x4x384x154, .f32⟩
  | 15 => ⟨S6x15x4x384x154, .f32⟩
  | 16 => ⟨S6x15x4x384x154, .f32⟩
  | 17 => ⟨S_, .f32⟩
  | 18 => ⟨S6x15x4x384, .f32⟩
  | 19 => ⟨S6x15x4x384x1, .f32⟩
  | 20 => ⟨S_, .f32⟩
  | 21 => ⟨S6x15x4x384, .f32⟩
  | 22 => ⟨S6x15x4x384x1, .f32⟩
  | 23 => ⟨S6x15x4x384x1, .f32⟩
  | 24 => ⟨S_, .f32⟩
  | 25 => ⟨S6x15x4x384, .f32⟩
  | 26 => ⟨S6x15x4x384x1, .f32⟩
  | 27 => ⟨S6x15x4x384x1, .f32⟩
  | 28 => ⟨S6x15x4x384x384, .f32⟩
  | 29 => ⟨S6x15x4x384x384, .f32⟩
  | 30 => ⟨S6x15x4x384x384, .f32⟩
  | 31 => ⟨S6x15x4x384x384, .f32⟩
  | 32 => ⟨S6x15x4x384x384, .f32⟩
  | 33 => ⟨S6x15x4x384x384, .f32⟩
  | 34 => ⟨S6x15x4x384x154, .f32⟩
  | 35 => ⟨S6x15x4x384x154, .f32⟩
  | 36 => ⟨S6x15x4x384x154, .f32⟩
  | 37 => ⟨S_, .f32⟩
  | 38 => ⟨S6x15x4x384, .f32⟩
  | 39 => ⟨S6x15x4x384x1, .f32⟩
  | 40 => ⟨S_, .f32⟩
  | 41 => ⟨S6x15x4x384, .f32⟩
  | 42 => ⟨S6x15x4x384x1, .f32⟩
  | 43 => ⟨S6x15x4x384x1, .f32⟩
  | 44 => ⟨S_, .f32⟩
  | 45 => ⟨S6x15x4x384, .f32⟩
  | 46 => ⟨S6x15x4x384x1, .f32⟩
  | 47 => ⟨S6x15x4x384x1, .f32⟩
  | 48 => ⟨S_, .f32⟩
  | 49 => ⟨S6x15x4x384x1, .f32⟩
  | 50 => ⟨S6x15x4x384x1, .f32⟩
  | 51 => ⟨S6x15x4x384x384, .f32⟩
  | 52 => ⟨S6x15x4x384x384, .f32⟩
  | 53 => ⟨S6x15x4x384x384, .f32⟩
  | 54 => ⟨S6x15x4x384x384, .f32⟩
  | 55 => ⟨S6x15x4x384x384, .bf16⟩
  | 56 => ⟨S6x15x4x384x384, .f32⟩
  | 57 => ⟨S6x15x4x384x384, .f32⟩
  | 58 => ⟨S6x15x4x384x384, .f32⟩
  | 59 => ⟨S6x15x4x384x384, .f32⟩
  | 60 => ⟨S6x15x4x384x384, .bf16⟩
  | 61 => ⟨S6x15x4x384x154, .f32⟩
  | 62 => ⟨S6x15x4x384x154, .f32⟩
  | 63 => ⟨S6x15x4x384x154, .f32⟩
  | 64 => ⟨S6x15x4x384x154, .f32⟩
  | 65 => ⟨S6x15x4x384x154, .bf16⟩
  | 66 => ⟨S6x15x4x384x72, .f32⟩
  | 67 => ⟨S6x15x1536x384, .bf16⟩
  | 68 => ⟨S6x15x1536x72, .f32⟩
  | 69 => ⟨S6x15x4x384x72, .f32⟩
  | 70 => ⟨S6x15x4x384x72, .f32⟩
  | 71 => ⟨S6x15x1536x154, .bf16⟩
  | 72 => ⟨S6x15x1536x72, .f32⟩
  | 73 => ⟨S6x15x4x384x72, .f32⟩
  | 74 => ⟨S6x15x4x384x72, .f32⟩
  | 75 => ⟨S6x15x1536x72, .f32⟩
  | 76 => ⟨S9x1, .i32⟩
  | 77 => ⟨S6x9x1690x72, .bf16⟩
  | 78 => ⟨S9x1, .i32⟩
  | 79 => ⟨S6x9x1690x72, .bf16⟩
  | 80 => ⟨S9x1, .i32⟩
  | 81 => ⟨S6x9x1690x72, .bf16⟩
  | 82 => ⟨S9x1, .i32⟩
  | 83 => ⟨S6x5x9, .f32⟩
  | 84 => ⟨S6x9x5, .f32⟩
  | 85 => ⟨S9x1, .i32⟩
  | 86 => ⟨S6x5x9, .f32⟩
  | 87 => ⟨S6x9x5, .f32⟩
  | 88 => ⟨S9x1, .i32⟩
  | 89 => ⟨S6x5x9, .f32⟩
  | 90 => ⟨S6x9x5, .f32⟩
  | 91 => ⟨S6x9x1536x72, .bf16⟩
  | 92 => ⟨S6x9x4x384x72, .bf16⟩
  | 93 => ⟨S6x9x1536x72, .bf16⟩
  | 94 => ⟨S6x9x4x384x72, .bf16⟩
  | 95 => ⟨S6x9x1536x72, .bf16⟩
  | 96 => ⟨S6x9x4x384x72, .bf16⟩
  | 97 => ⟨S6x9x154x72, .bf16⟩
  | 98 => ⟨S6x9x154x72, .bf16⟩
  | 99 => ⟨S6x9x4, .f32⟩
  | 100 => ⟨S6x9x4, .f32⟩
  | 101 => ⟨S6x9x4, .f32⟩
  | 102 => ⟨S6x9x1, .f32⟩
  | 103 => ⟨S6x9, .f32⟩
  | 104 => ⟨S6x9x1, .f32⟩
  | 105 => ⟨S6x9, .f32⟩
  | 106 => ⟨S6x9x384x4x72, .bf16⟩
  | 107 => ⟨S6x9x384x4x72, .bf16⟩
  | 108 => ⟨S6x9x384x4x72, .bf16⟩
  | 109 => ⟨S6x9x4x1, .f32⟩
  | 110 => ⟨S6x9x1x4, .f32⟩
  | 111 => ⟨S6x9x4x4, .f32⟩
  | 112 => ⟨S6x9x4x4, .f32⟩
  | 113 => ⟨S6x9x4x4, .f32⟩
  | 114 => ⟨S_, .f32⟩
  | 115 => ⟨S6x9x4x4, .f32⟩
  | 116 => ⟨S6x9x4x4, .f32⟩
  | 117 => ⟨S6x9x1x4x4, .f32⟩
  | 118 => ⟨S6x9x1, .f32⟩
  | 119 => ⟨S6x9x4, .f32⟩
  | 120 => ⟨S6x9x4, .f32⟩
  | 121 => ⟨S_, .f32⟩
  | 122 => ⟨S6x9x4, .f32⟩
  | 123 => ⟨S6x9x4, .f32⟩
  | 124 => ⟨S6x9x1x4x1, .f32⟩
  | 125 => ⟨S6x9x1x1x4, .f32⟩
  | 126 => ⟨S6x9x1x1x1, .f32⟩
  | 127 => ⟨S6x9x384x4x4, .f32⟩
  | _ => ⟨S6x1690x24x72, .fp8e4m3⟩

abbrev hbmTy0_2 (i : Nat) : BufTy := match i % 128 with
  | 0 => ⟨S6x9x384x4x4, .f32⟩
  | 1 => ⟨S6x9x384x4x4, .f32⟩
  | 2 => ⟨S6x9x384x4x154, .f32⟩
  | 3 => ⟨S6x9x384x4x154, .f32⟩
  | 4 => ⟨S6x9x384x4x154, .f32⟩
  | 5 => ⟨S_, .f32⟩
  | 6 => ⟨S6x9x384x4, .f32⟩
  | 7 => ⟨S6x9x384x4x1, .f32⟩
  | 8 => ⟨S_, .f32⟩
  | 9 => ⟨S6x9x384x4, .f32⟩
  | 10 => ⟨S6x9x384x4x1, .f32⟩
  | 11 => ⟨S6x9x384x4x1, .f32⟩
  | 12 => ⟨S6x9x384x4x4, .f32⟩
  | 13 => ⟨S6x9x384x4x4, .f32⟩
  | 14 => ⟨S6x9x384x4x4, .f32⟩
  | 15 => ⟨S6x9x384x4x154, .f32⟩
  | 16 => ⟨S6x9x384x4x154, .f32⟩
  | 17 => ⟨S6x9x384x4x154, .f32⟩
  | 18 => ⟨S_, .f32⟩
  | 19 => ⟨S6x9x384x4, .f32⟩
  | 20 => ⟨S6x9x384x4x1, .f32⟩
  | 21 => ⟨S_, .f32⟩
  | 22 => ⟨S6x9x384x4, .f32⟩
  | 23 => ⟨S6x9x384x4x1, .f32⟩
  | 24 => ⟨S6x9x384x4x1, .f32⟩
  | 25 => ⟨S_, .f32⟩
  | 26 => ⟨S6x9x384x4x1, .f32⟩
  | 27 => ⟨S6x9x384x4x1, .f32⟩
  | 28 => ⟨S6x9x384x4x4, .f32⟩
  | 29 => ⟨S6x9x384x4x4, .f32⟩
  | 30 => ⟨S6x9x384x4x4, .f32⟩
  | 31 => ⟨S6x9x384x4x4, .f32⟩
  | 32 => ⟨S6x9x384x4x4, .bf16⟩
  | 33 => ⟨S6x9x384x4x154, .f32⟩
  | 34 => ⟨S6x9x384x4x154, .f32⟩
  | 35 => ⟨S6x9x384x4x154, .f32⟩
  | 36 => ⟨S6x9x384x4x154, .f32⟩
  | 37 => ⟨S6x9x384x4x154, .bf16⟩
  | 38 => ⟨S6x9x384x4x72, .f32⟩
  | 39 => ⟨S6x9x384x4x72, .f32⟩
  | 40 => ⟨S6x9x384x4x72, .f32⟩
  | 41 => ⟨S6x9x4x384x72, .f32⟩
  | 42 => ⟨S6x9x1536x72, .f32⟩
  | 43 => ⟨S6x24x1536x72, .f32⟩
  | 44 => ⟨S24, .i32⟩
  | 45 => ⟨S24, .i32⟩
  | 46 => ⟨S24, .i32⟩
  | 47 => ⟨S24x1, .i32⟩
  | 48 => ⟨S6x24x1536x72, .f32⟩
  | 49 => ⟨S6x24x1690x72, .f32⟩
  | 50 => ⟨S6x24x1690x72, .bf16⟩
  | 51 => ⟨S6x1690x24x72, .bf16⟩
  | 52 => ⟨S6x1690x1728, .bf16⟩
  | _ => ⟨S6x1690x24x72, .fp8e4m3⟩

abbrev hbmTy (i : Nat) : BufTy := match i / 128 with
  | 0 => hbmTy0_0 i
  | 1 => hbmTy0_1 i
  | 2 => hbmTy0_2 i
  | _ => ⟨S6x1690x24x72, .fp8e4m3⟩

abbrev bufTy : (tb : Table) → Fin (tcTables nBuf tb) → BufTy
  | .hbm, ⟨i, _⟩ => hbmTy i
  | .local _ .vmem, ⟨0, _⟩ => ⟨S6x1690x24x72, .fp8e4m3⟩
  | .local _ .vmem, ⟨1, _⟩ => ⟨S6x1690x24x72, .fp8e4m3⟩
  | .local _ .vmem, ⟨2, _⟩ => ⟨S6x1690x24x72, .fp8e4m3⟩
  | .local _ .vmem, ⟨3, _⟩ => ⟨S6x1690x24x72, .bf16⟩
  | .local _ .vmem, ⟨4, _⟩ => ⟨S6x1690x24x72, .bf16⟩
  | .local _ .vmem, ⟨5, _⟩ => ⟨S6x1690x24x72, .bf16⟩
  | _, _ => ⟨S6x1690x24x72, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_0 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_1 : Ref sig .tc := ⟨.hbm, 48, rfl⟩
abbrev main_v37 : Ref sig .tc := ⟨.hbm, 49, rfl⟩
abbrev main_v38 : Ref sig .tc := ⟨.hbm, 50, rfl⟩
abbrev main_cst_2 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_cst_3 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_cst_4 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_cst_5 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_c : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_cst_6 : Ref sig .tc := ⟨.hbm, 136, rfl⟩
abbrev main_call0_v0 : Ref sig .tc := ⟨.hbm, 137, rfl⟩
abbrev main_call0_v1 : Ref sig .tc := ⟨.hbm, 138, rfl⟩
abbrev main_call0_v2 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_cst_7 : Ref sig .tc := ⟨.hbm, 145, rfl⟩
abbrev main_v124 : Ref sig .tc := ⟨.hbm, 146, rfl⟩
abbrev main_v125 : Ref sig .tc := ⟨.hbm, 147, rfl⟩
abbrev main_cst_8 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_cst_9 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_cst_10 : Ref sig .tc := ⟨.hbm, 165, rfl⟩
abbrev main_v141 : Ref sig .tc := ⟨.hbm, 166, rfl⟩
abbrev main_v142 : Ref sig .tc := ⟨.hbm, 167, rfl⟩
abbrev main_cst_11 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_cst_12 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_cst_13 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_cst_14 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_cst_15 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩
abbrev main_v229 : Ref sig .tc := ⟨.hbm, 259, rfl⟩
abbrev main_v230 : Ref sig .tc := ⟨.hbm, 260, rfl⟩
abbrev main_cst_16 : Ref sig .tc := ⟨.hbm, 261, rfl⟩
abbrev main_v231 : Ref sig .tc := ⟨.hbm, 262, rfl⟩
abbrev main_v232 : Ref sig .tc := ⟨.hbm, 263, rfl⟩
abbrev main_cst_17 : Ref sig .tc := ⟨.hbm, 264, rfl⟩
abbrev main_v233 : Ref sig .tc := ⟨.hbm, 265, rfl⟩
abbrev main_v234 : Ref sig .tc := ⟨.hbm, 266, rfl⟩
abbrev main_v235 : Ref sig .tc := ⟨.hbm, 267, rfl⟩
abbrev main_v236 : Ref sig .tc := ⟨.hbm, 268, rfl⟩
abbrev main_v237 : Ref sig .tc := ⟨.hbm, 269, rfl⟩
abbrev main_v238 : Ref sig .tc := ⟨.hbm, 270, rfl⟩
abbrev main_v239 : Ref sig .tc := ⟨.hbm, 271, rfl⟩
abbrev main_v240 : Ref sig .tc := ⟨.hbm, 272, rfl⟩
abbrev main_v241 : Ref sig .tc := ⟨.hbm, 273, rfl⟩
abbrev main_cst_18 : Ref sig .tc := ⟨.hbm, 274, rfl⟩
abbrev main_v242 : Ref sig .tc := ⟨.hbm, 275, rfl⟩
abbrev main_v243 : Ref sig .tc := ⟨.hbm, 276, rfl⟩
abbrev main_cst_19 : Ref sig .tc := ⟨.hbm, 277, rfl⟩
abbrev main_v244 : Ref sig .tc := ⟨.hbm, 278, rfl⟩
abbrev main_v245 : Ref sig .tc := ⟨.hbm, 279, rfl⟩
abbrev main_v246 : Ref sig .tc := ⟨.hbm, 280, rfl⟩
abbrev main_cst_20 : Ref sig .tc := ⟨.hbm, 281, rfl⟩
abbrev main_v247 : Ref sig .tc := ⟨.hbm, 282, rfl⟩
abbrev main_v248 : Ref sig .tc := ⟨.hbm, 283, rfl⟩
abbrev main_v249 : Ref sig .tc := ⟨.hbm, 284, rfl⟩
abbrev main_v250 : Ref sig .tc := ⟨.hbm, 285, rfl⟩
abbrev main_v251 : Ref sig .tc := ⟨.hbm, 286, rfl⟩
abbrev main_v252 : Ref sig .tc := ⟨.hbm, 287, rfl⟩
abbrev main_v253 : Ref sig .tc := ⟨.hbm, 288, rfl⟩
abbrev main_v254 : Ref sig .tc := ⟨.hbm, 289, rfl⟩
abbrev main_v255 : Ref sig .tc := ⟨.hbm, 290, rfl⟩
abbrev main_v256 : Ref sig .tc := ⟨.hbm, 291, rfl⟩
abbrev main_v257 : Ref sig .tc := ⟨.hbm, 292, rfl⟩
abbrev main_v258 : Ref sig .tc := ⟨.hbm, 293, rfl⟩
abbrev main_v259 : Ref sig .tc := ⟨.hbm, 294, rfl⟩
abbrev main_v260 : Ref sig .tc := ⟨.hbm, 295, rfl⟩
abbrev main_v261 : Ref sig .tc := ⟨.hbm, 296, rfl⟩
abbrev main_v262 : Ref sig .tc := ⟨.hbm, 297, rfl⟩
abbrev main_v263 : Ref sig .tc := ⟨.hbm, 298, rfl⟩
abbrev main_v264 : Ref sig .tc := ⟨.hbm, 299, rfl⟩
abbrev main_call1_v0 : Ref sig .tc := ⟨.hbm, 300, rfl⟩
abbrev main_call1_v1_0 : Ref sig .tc := ⟨.hbm, 301, rfl⟩
abbrev main_v265 : Ref sig .tc := ⟨.hbm, 302, rfl⟩
abbrev main_v266 : Ref sig .tc := ⟨.hbm, 303, rfl⟩
abbrev main_v267 : Ref sig .tc := ⟨.hbm, 304, rfl⟩
abbrev main_v268 : Ref sig .tc := ⟨.hbm, 305, rfl⟩
abbrev main_v269 : Ref sig .tc := ⟨.hbm, 306, rfl⟩
abbrev main_v270 : Ref sig .tc := ⟨.hbm, 307, rfl⟩
abbrev main_v271 : Ref sig .tc := ⟨.hbm, 308, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x1690x24x72 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1690x24x72 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x1690x24x72 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x1690x24x72 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x1690x24x72 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x1690x24x72 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KRun.lean ====
module

public import proofs.«01_k».proof.Proof.Gen.Kernel.Frame
public import proofs.«01_k».proof.Proof.Gen.Kernel.Skeleton
public import Idealize.ShloMosaic.Lib.Pipeline.Frame
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The type of a memref's buffer contents on core `c`, and the buffer held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The head's kind word as the body reads it. -/
def word (c : Dev nD) (i : grid0.Coords) (arg2 : Memref sig .tc .smem S24 .i32) (f2 : Bf (F := F) c arg2) : BitVec 32 :=
  arg2.view.readAt (Elt F) (Rect.unit (s := S24) (k0_off8 i) S1.size (k0_off8_inb i)).toLoadRect f2 (Shape.Idx.first (s := S1) (numel1_S1.symm ▸ Nat.one_pos))

/-- A one-bit "equals zero" test of a nonzero word fails, and its "differs from zero" test holds. -/
theorem eqZero_of_ne {w : BitVec 32} (h : ¬ w = 0#32) : ¬ Scalar.cmpi .ne (Scalar.extui (Scalar.cmpi .eq w 0#32) : BitVec 32) 0#32 = 1#1 := by
  have : Scalar.cmpi .eq w 0#32 = 0#1 := by
    have hb : (w == 0#32) = false := by simpa using h
    simp [Scalar.cmpi, IntOp.cmpi, bne, hb]
  rw [this]; decide
/-- The word compare of the second branch holds where the kind is not zero. -/
theorem neZero_of_ne {w : BitVec 32} (h : ¬ w = 0#32) : Scalar.cmpi .ne (Scalar.extui (Scalar.cmpi .ne w 0#32) : BitVec 32) 0#32 = 1#1 := by
  have : Scalar.cmpi .ne w 0#32 = 1#1 := by
    have hb : (w == 0#32) = false := by simpa using h
    simp [Scalar.cmpi, IntOp.cmpi, bne, hb]
  rw [this]; decide

/-- The body at a spatial head that is not the last of its batch: what it leaves in the output scratch. -/
def runSpat (c : Dev nD) (i : grid0.Coords) (arg2 : Memref sig .tc .smem S24 .i32) (harg2 : arg2.IsWhole) (arg3 : Memref sig .tc .smem S720 .f32) (harg3 : arg3.IsWhole) (arg4 : Memref sig .tc .smem S720 .f32) (harg4 : arg4.IsWhole) (arg5 : Memref sig .tc .smem S720 .f32) (harg5 : arg5.IsWhole) (arg6 : Memref sig .tc .vmem S1x1x72x1690 .fp8e4m3) (harg6 : arg6.IsWhole) (arg7 : Memref sig .tc .vmem S1x1x72x1690 .fp8e4m3) (harg7 : arg7.IsWhole) (arg8 : Memref sig .tc .vmem S1x1x72x1690 .fp8e4m3) (harg8 : arg8.IsWhole) (arg9 : Memref sig .tc .vmem S1x1690x1728 .bf16) (harg9 : arg9.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8)
    (f15 : Bf (F := F) c (Memref.whole cc0_scratch5))
    (hk : word c i arg2 f2 = 0#32) (hh : ¬ k0_cond3 i = 1#1) :
    { L : Bf (F := F) c (Memref.whole cc0_scratch5) // ∀ (f9 : Bf (F := F) c arg9) (Q : PUnit → sProp 𝕄),
      iprop(pt c arg2 f2 ∗ pt c arg3 f3 ∗ pt c arg4 f4 ∗ pt c arg5 f5 ∗ pt c arg6 f6 ∗ pt c arg7 f7 ∗ pt c arg8 f8 ∗ pt c arg9 f9
        ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f)
        ∗ pt c (Memref.whole cc0_scratch5) f15
        ∗ (iprop(pt c arg2 f2 ∗ pt c arg3 f3 ∗ pt c arg4 f4 ∗ pt c arg5 f5 ∗ pt c arg6 f6 ∗ pt c arg7 f7 ∗ pt c arg8 f8 ∗ pt c arg9 f9
            ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f)
            ∗ pt c (Memref.whole cc0_scratch5) L) -∗ Q ⟨⟩))
      ⊢ wp frame (wpE (defs₀ (F := F)) Variants.none c none) Set.univ
        (cc0_svg_attention i arg2 harg2 arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)) Q } := by
  have hk1 : Scalar.cmpi .ne (Scalar.extui (Scalar.cmpi .eq (word c i arg2 f2) 0#32)) 0#32 = 1#1 := by rw [hk]; decide
  have hk2 : ¬ Scalar.cmpi .ne (Scalar.extui (Scalar.cmpi .ne (word c i arg2 f2) 0#32)) 0#32 = 1#1 := by rw [hk]; decide
  unfold word at hk1 hk2
  refine ⟨?_, fun f9 Q => ?run⟩
  case run =>
    iintro ⟨H2, H3, H4, H5, H6, H7, H8, H9, ⟨%e0, S0⟩, ⟨%e1, S1⟩, ⟨%e2, S2⟩, ⟨%e3, S3⟩, ⟨%e4, S4⟩, S5, Hk⟩
    sl_unfold [cc0_svg_attention]
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexists _; iexact S0
    isplitl [S1]; · iexists _; iexact S1
    isplitl [S2]; · iexists _; iexact S2
    isplitl [S3]; · iexists _; iexact S3
    isplitl [S4]; · iexists _; iexact S4
    iexact S5

/-- The body at a temporal head that is not the last of its batch: what it leaves in the output scratch. -/
def runTemp (c : Dev nD) (i : grid0.Coords) (arg2 : Memref sig .tc .smem S24 .i32) (harg2 : arg2.IsWhole) (arg3 : Memref sig .tc .smem S720 .f32) (harg3 : arg3.IsWhole) (arg4 : Memref sig .tc .smem S720 .f32) (harg4 : arg4.IsWhole) (arg5 : Memref sig .tc .smem S720 .f32) (harg5 : arg5.IsWhole) (arg6 : Memref sig .tc .vmem S1x1x72x1690 .fp8e4m3) (harg6 : arg6.IsWhole) (arg7 : Memref sig .tc .vmem S1x1x72x1690 .fp8e4m3) (harg7 : arg7.IsWhole) (arg8 : Memref sig .tc .vmem S1x1x72x1690 .fp8e4m3) (harg8 : arg8.IsWhole) (arg9 : Memref sig .tc .vmem S1x1690x1728 .bf16) (harg9 : arg9.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8)
    (f15 : Bf (F := F) c (Memref.whole cc0_scratch5))
    (hk : ¬ word c i arg2 f2 = 0#32) (hh : ¬ k0_cond3 i = 1#1) :
    { L : Bf (F := F) c (Memref.whole cc0_scratch5) // ∀ (f9 : Bf (F := F) c arg9) (Q : PUnit → sProp 𝕄),
      iprop(pt c arg2 f2 ∗ pt c arg3 f3 ∗ pt c arg4 f4 ∗ pt c arg5 f5 ∗ pt c arg6 f6 ∗ pt c arg7 f7 ∗ pt c arg8 f8 ∗ pt c arg9 f9
        ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f)
        ∗ pt c (Memref.whole cc0_scratch5) f15
        ∗ (iprop(pt c arg2 f2 ∗ pt c arg3 f3 ∗ pt c arg4 f4 ∗ pt c arg5 f5 ∗ pt c arg6 f6 ∗ pt c arg7 f7 ∗ pt c arg8 f8 ∗ pt c arg9 f9
            ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f)
            ∗ pt c (Memref.whole cc0_scratch5) L) -∗ Q ⟨⟩))
      ⊢ wp frame (wpE (defs₀ (F := F)) Variants.none c none) Set.univ
        (cc0_svg_attention i arg2 harg2 arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)) Q } := by
  have hk1 : ¬ Scalar.cmpi .ne (Scalar.extui (Scalar.cmpi .eq (word c i arg2 f2) 0#32)) 0#32 = 1#1 := eqZero_of_ne hk
  have hk2 : Scalar.cmpi .ne (Scalar.extui (Scalar.cmpi .ne (word c i arg2 f2) 0#32)) 0#32 = 1#1 := neZero_of_ne hk
  unfold word at hk1 hk2
  refine ⟨?_, fun f9 Q => ?run⟩
  case run =>
    iintro ⟨H2, H3, H4, H5, H6, H7, H8, H9, ⟨%e0, S0⟩, ⟨%e1, S1⟩, ⟨%e2, S2⟩, ⟨%e3, S3⟩, ⟨%e4, S4⟩, S5, Hk⟩
    sl_unfold [cc0_svg_attention]
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexists _; iexact S0
    isplitl [S1]; · iexists _; iexact S1
    isplitl [S2]; · iexists _; iexact S2
    isplitl [S3]; · iexists _; iexact S3
    isplitl [S4]; · iexists _; iexact S4
    iexact S5

/-- The body at a spatial last head: what it leaves in the output scratch and in the output block. -/
def runSpatLast (c : Dev nD) (i : grid0.Coords) (arg2 : Memref sig .tc .smem S24 .i32) (harg2 : arg2.IsWhole) (arg3 : Memref sig .tc .smem S720 .f32) (harg3 : arg3.IsWhole) (arg4 : Memref sig .tc .smem S720 .f32) (harg4 : arg4.IsWhole) (arg5 : Memref sig .tc .smem S720 .f32) (harg5 : arg5.IsWhole) (arg6 : Memref sig .tc .vmem S1x1x72x1690 .fp8e4m3) (harg6 : arg6.IsWhole) (arg7 : Memref sig .tc .vmem S1x1x72x1690 .fp8e4m3) (harg7 : arg7.IsWhole) (arg8 : Memref sig .tc .vmem S1x1x72x1690 .fp8e4m3) (harg8 : arg8.IsWhole) (arg9 : Memref sig .tc .vmem S1x1690x1728 .bf16) (harg9 : arg9.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8)
    (f15 : Bf (F := F) c (Memref.whole cc0_scratch5))
    (hk : word c i arg2 f2 = 0#32) (hh : k0_cond3 i = 1#1) :
    { L : Bf (F := F) c (Memref.whole cc0_scratch5) × Bf (F := F) c arg9 // ∀ (f9 : Bf (F := F) c arg9) (Q : PUnit → sProp 𝕄),
      iprop(pt c arg2 f2 ∗ pt c arg3 f3 ∗ pt c arg4 f4 ∗ pt c arg5 f5 ∗ pt c arg6 f6 ∗ pt c arg7 f7 ∗ pt c arg8 f8 ∗ pt c arg9 f9
        ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f)
        ∗ pt c (Memref.whole cc0_scratch5) f15
        ∗ (iprop(pt c arg2 f2 ∗ pt c arg3 f3 ∗ pt c arg4 f4 ∗ pt c arg5 f5 ∗ pt c arg6 f6 ∗ pt c arg7 f7 ∗ pt c arg8 f8 ∗ pt c arg9 L.2
            ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f)
            ∗ pt c (Memref.whole cc0_scratch5) L.1) -∗ Q ⟨⟩))
      ⊢ wp frame (wpE (defs₀ (F := F)) Variants.none c none) Set.univ
        (cc0_svg_attention i arg2 harg2 arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)) Q } := by
  have hk1 : Scalar.cmpi .ne (Scalar.extui (Scalar.cmpi .eq (word c i arg2 f2) 0#32)) 0#32 = 1#1 := by rw [hk]; decide
  have hk2 : ¬ Scalar.cmpi .ne (Scalar.extui (Scalar.cmpi .ne (word c i arg2 f2) 0#32)) 0#32 = 1#1 := by rw [hk]; decide
  unfold word at hk1 hk2
  refine ⟨(?_, ?_), fun f9 Q => ?run⟩
  case run =>
    iintro ⟨H2, H3, H4, H5, H6, H7, H8, H9, ⟨%e0, S0⟩, ⟨%e1, S1⟩, ⟨%e2, S2⟩, ⟨%e3, S3⟩, ⟨%e4, S4⟩, S5, Hk⟩
    sl_unfold [cc0_svg_attention]
    sl_exec!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexists _; iexact S0
    isplitl [S1]; · iexists _; iexact S1
    isplitl [S2]; · iexists _; iexact S2
    isplitl [S3]; · iexists _; iexact S3
    isplitl [S4]; · iexists _; iexact S4
    iexact S5

/-- The body at a temporal last head: what it leaves in the output scratch and in the output block. -/
def runTempLast (c : Dev nD) (i : grid0.Coords) (arg2 : Memref sig .tc .smem S24 .i32) (harg2 : arg2.IsWhole) (arg3 : Memref sig .tc .smem S720 .f32) (harg3 : arg3.IsWhole) (arg4 : Memref sig .tc .smem S720 .f32) (harg4 : arg4.IsWhole) (arg5 : Memref sig .tc .smem S720 .f32) (harg5 : arg5.IsWhole) (arg6 : Memref sig .tc .vmem S1x1x72x1690 .fp8e4m3) (harg6 : arg6.IsWhole) (arg7 : Memref sig .tc .vmem S1x1x72x1690 .fp8e4m3) (harg7 : arg7.IsWhole) (arg8 : Memref sig .tc .vmem S1x1x72x1690 .fp8e4m3) (harg8 : arg8.IsWhole) (arg9 : Memref sig .tc .vmem S1x1690x1728 .bf16) (harg9 : arg9.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8)
    (f15 : Bf (F := F) c (Memref.whole cc0_scratch5))
    (hk : ¬ word c i arg2 f2 = 0#32) (hh : k0_cond3 i = 1#1) :
    { L : Bf (F := F) c (Memref.whole cc0_scratch5) × Bf (F := F) c arg9 // ∀ (f9 : Bf (F := F) c arg9) (Q : PUnit → sProp 𝕄),
      iprop(pt c arg2 f2 ∗ pt c arg3 f3 ∗ pt c arg4 f4 ∗ pt c arg5 f5 ∗ pt c arg6 f6 ∗ pt c arg7 f7 ∗ pt c arg8 f8 ∗ pt c arg9 f9
        ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f)
        ∗ pt c (Memref.whole cc0_scratch5) f15
        ∗ (iprop(pt c arg2 f2 ∗ pt c arg3 f3 ∗ pt c arg4 f4 ∗ pt c arg5 f5 ∗ pt c arg6 f6 ∗ pt c arg7 f7 ∗ pt c arg8 f8 ∗ pt c arg9 L.2
            ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f)
            ∗ pt c (Memref.whole cc0_scratch5) L.1) -∗ Q ⟨⟩))
      ⊢ wp frame (wpE (defs₀ (F := F)) Variants.none c none) Set.univ
        (cc0_svg_attention i arg2 harg2 arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)) Q } := by
  have hk1 : ¬ Scalar.cmpi .ne (Scalar.extui (Scalar.cmpi .eq (word c i arg2 f2) 0#32)) 0#32 = 1#1 := eqZero_of_ne hk
  have hk2 : Scalar.cmpi .ne (Scalar.extui (Scalar.cmpi .ne (word c i arg2 f2) 0#32)) 0#32 = 1#1 := neZero_of_ne hk
  unfold word at hk1 hk2
  refine ⟨(?_, ?_), fun f9 Q => ?run⟩
  case run =>
    iintro ⟨H2, H3, H4, H5, H6, H7, H8, H9, ⟨%e0, S0⟩, ⟨%e1, S1⟩, ⟨%e2, S2⟩, ⟨%e3, S3⟩, ⟨%e4, S4⟩, S5, Hk⟩
    sl_unfold [cc0_svg_attention]
    sl_exec!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexists _; iexact S0
    isplitl [S1]; · iexists _; iexact S1
    isplitl [S2]; · iexists _; iexact S2
    isplitl [S3]; · iexists _; iexact S3
    isplitl [S4]; · iexists _; iexact S4
    iexact S5

end Cert.Kernel.Hand

end
-- ==== Proof.KBody.lean ====
module

public import proofs.«01_k».proof.Proof.Gen.Kernel.Frame
public import proofs.«01_k».proof.Proof.Gen.Kernel.Skeleton
public import proofs.«01_k».proof.Proof.KRun
public import Idealize.ShloMosaic.Lib.Pipeline.Frame
public import Idealize.ShloMosaic.Lib.Pipeline.FrameBody
public import Idealize.ShloMosaic.Lib.Tactic

@[expose] public section

set_option maxRecDepth 16384

noncomputable section

namespace Cert.Kernel.Hand

open Cert.Kernel Cert.Kernel.Gen
open Idealize.ShloMosaic.Pipeline (Dat BodyObligation)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body at a point, from any contents: whichever branches it takes it returns every buffer at some contents. -/
theorem run_any (c : Dev nD) (i : grid0.Coords) (arg2 : Memref sig .tc .smem S24 .i32) (harg2 : arg2.IsWhole) (arg3 : Memref sig .tc .smem S720 .f32) (harg3 : arg3.IsWhole) (arg4 : Memref sig .tc .smem S720 .f32) (harg4 : arg4.IsWhole) (arg5 : Memref sig .tc .smem S720 .f32) (harg5 : arg5.IsWhole) (arg6 : Memref sig .tc .vmem S1x1x72x1690 .fp8e4m3) (harg6 : arg6.IsWhole) (arg7 : Memref sig .tc .vmem S1x1x72x1690 .fp8e4m3) (harg7 : arg7.IsWhole) (arg8 : Memref sig .tc .vmem S1x1x72x1690 .fp8e4m3) (harg8 : arg8.IsWhole) (arg9 : Memref sig .tc .vmem S1x1690x1728 .bf16) (harg9 : arg9.IsWhole) (Q : PUnit → sProp 𝕄) :
    iprop((∃ f, pt c arg2 f) ∗ (∃ f, pt c arg3 f) ∗ (∃ f, pt c arg4 f) ∗ (∃ f, pt c arg5 f) ∗ (∃ f, pt c arg6 f) ∗ (∃ f, pt c arg7 f) ∗ (∃ f, pt c arg8 f) ∗ (∃ f, pt c arg9 f) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (iprop((∃ f, pt c arg2 f) ∗ (∃ f, pt c arg3 f) ∗ (∃ f, pt c arg4 f) ∗ (∃ f, pt c arg5 f) ∗ (∃ f, pt c arg6 f) ∗ (∃ f, pt c arg7 f) ∗ (∃ f, pt c arg8 f) ∗ (∃ f, pt c arg9 f) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f)) -∗ Q ⟨⟩))
      ⊢ wp frame (wpE (defs₀ (F := F)) Variants.none c none) Set.univ (cc0_svg_attention i arg2 harg2 arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)) Q := by
  iintro ⟨⟨%f2, H2⟩, ⟨%f3, H3⟩, ⟨%f4, H4⟩, ⟨%f5, H5⟩, ⟨%f6, H6⟩, ⟨%f7, H7⟩, ⟨%f8, H8⟩, ⟨%f9, H9⟩, S0, S1, S2, S3, S4, ⟨%f15, S5⟩, HK⟩
  by_cases hk : word c i arg2 f2 = 0#32
  · by_cases hh : k0_cond3 i = 1#1
    · iapply ((runSpatLast c i arg2 harg2 arg3 harg3 arg4 harg4 arg5 harg5 arg6 harg6 arg7 harg7 arg8 harg8 arg9 harg9 f2 f3 f4 f5 f6 f7 f8 f15 hk hh).2 f9 Q)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [S0]; · iexact S0
      isplitl [S1]; · iexact S1
      isplitl [S2]; · iexact S2
      isplitl [S3]; · iexact S3
      isplitl [S4]; · iexact S4
      isplitl [S5]; · iexact S5
      iintro ⟨H2, H3, H4, H5, H6, H7, H8, H9, S0, S1, S2, S3, S4, S5⟩
      iapply HK
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [S0]; · iexact S0
      isplitl [S1]; · iexact S1
      isplitl [S2]; · iexact S2
      isplitl [S3]; · iexact S3
      isplitl [S4]; · iexact S4
      iexists _; iexact S5
    · iapply ((runSpat c i arg2 harg2 arg3 harg3 arg4 harg4 arg5 harg5 arg6 harg6 arg7 harg7 arg8 harg8 arg9 harg9 f2 f3 f4 f5 f6 f7 f8 f15 hk hh).2 f9 Q)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [S0]; · iexact S0
      isplitl [S1]; · iexact S1
      isplitl [S2]; · iexact S2
      isplitl [S3]; · iexact S3
      isplitl [S4]; · iexact S4
      isplitl [S5]; · iexact S5
      iintro ⟨H2, H3, H4, H5, H6, H7, H8, H9, S0, S1, S2, S3, S4, S5⟩
      iapply HK
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [S0]; · iexact S0
      isplitl [S1]; · iexact S1
      isplitl [S2]; · iexact S2
      isplitl [S3]; · iexact S3
      isplitl [S4]; · iexact S4
      iexists _; iexact S5
  · by_cases hh : k0_cond3 i = 1#1
    · iapply ((runTempLast c i arg2 harg2 arg3 harg3 arg4 harg4 arg5 harg5 arg6 harg6 arg7 harg7 arg8 harg8 arg9 harg9 f2 f3 f4 f5 f6 f7 f8 f15 hk hh).2 f9 Q)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [S0]; · iexact S0
      isplitl [S1]; · iexact S1
      isplitl [S2]; · iexact S2
      isplitl [S3]; · iexact S3
      isplitl [S4]; · iexact S4
      isplitl [S5]; · iexact S5
      iintro ⟨H2, H3, H4, H5, H6, H7, H8, H9, S0, S1, S2, S3, S4, S5⟩
      iapply HK
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [S0]; · iexact S0
      isplitl [S1]; · iexact S1
      isplitl [S2]; · iexact S2
      isplitl [S3]; · iexact S3
      isplitl [S4]; · iexact S4
      iexists _; iexact S5
    · iapply ((runTemp c i arg2 harg2 arg3 harg3 arg4 harg4 arg5 harg5 arg6 harg6 arg7 harg7 arg8 harg8 arg9 harg9 f2 f3 f4 f5 f6 f7 f8 f15 hk hh).2 f9 Q)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [S0]; · iexact S0
      isplitl [S1]; · iexact S1
      isplitl [S2]; · iexact S2
      isplitl [S3]; · iexact S3
      isplitl [S4]; · iexact S4
      isplitl [S5]; · iexact S5
      iintro ⟨H2, H3, H4, H5, H6, H7, H8, H9, S0, S1, S2, S3, S4, S5⟩
      iapply HK
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [S0]; · iexact S0
      isplitl [S1]; · iexact S1
      isplitl [S2]; · iexact S2
      isplitl [S3]; · iexact S3
      isplitl [S4]; · iexact S4
      iexists _; iexact S5

/-! ### The proof data: nothing here reads what the body leaves, so every window is left unnamed -/

/-- A whole memref's ownership is the buffer held at contents it reads as. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

variable (m : (ℓ : Loc nD τ sig) → Buf (Elt F) ℓ) (ρ : Dev nD → PrngReg)

/-- No window is read. -/
def forgets0 : Fin 8 → Bool := fun _ => true

/-- The proof data: the arrays as the region finds them, the body's buffers unnamed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- The tracked contents of a window's array before the launch are what the host lines leave. -/
theorem A_eq (c : Dev nD) (w : Fin cfg0.W) : (dats m 0 c).A w = V m c (Pipeline.arrRef spec0 w) := by dsimp only [dats]

/-- What the body is called with at point `t`. -/
def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d))
/-- What it returns. -/
def bodyPost (c : Dev nD) (t : Fin cfg0.N) : sProp 𝕄 :=
  iprop((dats m 0 c).Φ t.succ ∗ (dats m 0 c).owesAt () t.succ ∗ (∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d))

/-- A whole memref at any contents. -/
theorem owns_any (c : Dev nD) {sp : Space} {S : Shape} {e : EltTy} (M : Memref sig .tc sp S e) (h : M.IsWhole) :
    (iprop(∃ X, owns (c : Thread nD τ) M fullShare X) : sProp 𝕄) ⊢ iprop(∃ f : Bf (F := F) c M, pt c M f) := by
  simp only [owns_pt c M h]
  iintro ⟨%X, %f, -, H⟩
  iexists f; iexact H
/-- A whole memref at any contents, the other way. -/
theorem any_owns (c : Dev nD) {sp : Space} {S : Shape} {e : EltTy} (M : Memref sig .tc sp S e) (h : M.IsWhole) :
    (iprop(∃ f : Bf (F := F) c M, pt c M f) : sProp 𝕄) ⊢ iprop(∃ X, owns (c : Thread nD τ) M fullShare X) := by
  simp only [owns_pt c M h]
  iintro ⟨%f, H⟩
  iexists _; iexists f; isplitr; · ipureintro; rfl
  iexact H

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq c]
  unfold Dat.owesAt Pipeline.owesWithin
  rw [show (dats m 0 c).owed t.castSucc = 0 from rfl]
  iintro ⟨⟨⟨S0, S1, S2, S3, S4, S5⟩, Hg⟩, ⟨%W, %hW, HO⟩, H0, H1, H2, H3, H4, H5, H6, H7⟩
  iapply (run_any c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) _)
  isplitl [H0]; · iapply (owns_any c (win0_0.stage (cfg0.slots t 0)) (hstage0_0 ((cfg0.slots t 0).cast nbuf0_0))); iexact H0
  isplitl [H1]; · iapply (owns_any c (win0_1.stage (cfg0.slots t 1)) (hstage0_1 ((cfg0.slots t 1).cast nbuf0_1))); iexact H1
  isplitl [H2]; · iapply (owns_any c (win0_2.stage (cfg0.slots t 2)) (hstage0_2 ((cfg0.slots t 2).cast nbuf0_2))); iexact H2
  isplitl [H3]; · iapply (owns_any c (win0_3.stage (cfg0.slots t 3)) (hstage0_3 ((cfg0.slots t 3).cast nbuf0_3))); iexact H3
  isplitl [H4]; · iapply (owns_any c (win0_4.stage (cfg0.slots t 4)) (hstage0_4 ((cfg0.slots t 4).cast nbuf0_4))); iexact H4
  isplitl [H5]; · iapply (owns_any c (win0_5.stage (cfg0.slots t 5)) (hstage0_5 ((cfg0.slots t 5).cast nbuf0_5))); iexact H5
  isplitl [H6]; · iapply (owns_any c (win0_6.stage (cfg0.slots t 6)) (hstage0_6 ((cfg0.slots t 6).cast nbuf0_6))); iexact H6
  isplitl [H7]; · iapply (owns_any c (win0_7.stage (cfg0.slots t 7)) (hstage0_7 ((cfg0.slots t 7).cast nbuf0_7))); iexact H7
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [HO]
  · iexists W; isplitr; · ipureintro; exact fun _ _ => Or.inl trivial
    iexact HO
  isplitl [H0]; · iapply (any_owns c (win0_0.stage (cfg0.slots t 0)) (hstage0_0 ((cfg0.slots t 0).cast nbuf0_0))); iexact H0
  isplitl [H1]; · iapply (any_owns c (win0_1.stage (cfg0.slots t 1)) (hstage0_1 ((cfg0.slots t 1).cast nbuf0_1))); iexact H1
  isplitl [H2]; · iapply (any_owns c (win0_2.stage (cfg0.slots t 2)) (hstage0_2 ((cfg0.slots t 2).cast nbuf0_2))); iexact H2
  isplitl [H3]; · iapply (any_owns c (win0_3.stage (cfg0.slots t 3)) (hstage0_3 ((cfg0.slots t 3).cast nbuf0_3))); iexact H3
  isplitl [H4]; · iapply (any_owns c (win0_4.stage (cfg0.slots t 4)) (hstage0_4 ((cfg0.slots t 4).cast nbuf0_4))); iexact H4
  isplitl [H5]; · iapply (any_owns c (win0_5.stage (cfg0.slots t 5)) (hstage0_5 ((cfg0.slots t 5).cast nbuf0_5))); iexact H5
  isplitl [H6]; · iapply (any_owns c (win0_6.stage (cfg0.slots t 6)) (hstage0_6 ((cfg0.slots t 6).cast nbuf0_6))); iexact H6
  iapply (any_owns c (win0_7.stage (cfg0.slots t 7)) (hstage0_7 ((cfg0.slots t 7).cast nbuf0_7))); iexact H7

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body's obligation to the launch: the triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ### The launch -/

set_option backward.isDefEq.respectTransparency.types false in
/-- Every run of the program terminates with every counter at zero; nothing is said of the output. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run of the program leaves its arguments unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run_main m ρ)

end Cert.Kernel.Hand

end
-- ==== Proof.RunA.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The type of a memref's buffer contents on core `c`, and the buffer held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The head's kind word as the body reads it. -/
def word (c : Dev nD) (i : grid0.Coords) (arg2 : Memref sig .tc .smem S24 .i32) (f2 : Bf (F := F) c arg2) : BitVec 32 :=
  arg2.view.readAt (Elt F) (Rect.unit (s := S24) (k0_off8 i) S1.size (k0_off8_inb i)).toLoadRect f2 (Shape.Idx.first (s := S1) (numel1_S1.symm ▸ Nat.one_pos))

/-- A one-bit "equals zero" test of a nonzero word fails, and its "differs from zero" test holds. -/
theorem eqZero_of_ne {w : BitVec 32} (h : ¬ w = 0#32) : ¬ Scalar.cmpi .ne (Scalar.extui (Scalar.cmpi .eq w 0#32) : BitVec 32) 0#32 = 1#1 := by
  have : Scalar.cmpi .eq w 0#32 = 0#1 := by
    have hb : (w == 0#32) = false := by simpa using h
    simp [Scalar.cmpi, IntOp.cmpi, bne, hb]
  rw [this]; decide
/-- The word compare of the second branch holds where the kind is not zero. -/
theorem neZero_of_ne {w : BitVec 32} (h : ¬ w = 0#32) : Scalar.cmpi .ne (Scalar.extui (Scalar.cmpi .ne w 0#32) : BitVec 32) 0#32 = 1#1 := by
  have : Scalar.cmpi .ne w 0#32 = 1#1 := by
    have hb : (w == 0#32) = false := by simpa using h
    simp [Scalar.cmpi, IntOp.cmpi, bne, hb]
  rw [this]; decide

/-- The body at a spatial head that is not the last of its batch: what it leaves in the output scratch. -/
def runSpat (c : Dev nD) (i : grid0.Coords) (arg2 : Memref sig .tc .smem S24 .i32) (harg2 : arg2.IsWhole) (arg3 : Memref sig .tc .smem S720 .f32) (harg3 : arg3.IsWhole) (arg4 : Memref sig .tc .smem S720 .f32) (harg4 : arg4.IsWhole) (arg5 : Memref sig .tc .smem S720 .f32) (harg5 : arg5.IsWhole) (arg6 : Memref sig .tc .vmem S1x1x72x1690 .fp8e4m3) (harg6 : arg6.IsWhole) (arg7 : Memref sig .tc .vmem S1x1x72x1690 .fp8e4m3) (harg7 : arg7.IsWhole) (arg8 : Memref sig .tc .vmem S1x1x72x1690 .fp8e4m3) (harg8 : arg8.IsWhole) (arg9 : Memref sig .tc .vmem S1x1690x1728 .bf16) (harg9 : arg9.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8)
    (f15 : Bf (F := F) c (Memref.whole cc0_scratch5))
    (hk : word c i arg2 f2 = 0#32) (hh : ¬ k0_cond3 i = 1#1) :
    { L : Bf (F := F) c (Memref.whole cc0_scratch5) // ∀ (f9 : Bf (F := F) c arg9) (Q : PUnit → sProp 𝕄),
      iprop(pt c arg2 f2 ∗ pt c arg3 f3 ∗ pt c arg4 f4 ∗ pt c arg5 f5 ∗ pt c arg6 f6 ∗ pt c arg7 f7 ∗ pt c arg8 f8 ∗ pt c arg9 f9
        ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f)
        ∗ pt c (Memref.whole cc0_scratch5) f15
        ∗ (iprop(pt c arg2 f2 ∗ pt c arg3 f3 ∗ pt c arg4 f4 ∗ pt c arg5 f5 ∗ pt c arg6 f6 ∗ pt c arg7 f7 ∗ pt c arg8 f8 ∗ pt c arg9 f9
            ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f)
            ∗ pt c (Memref.whole cc0_scratch5) L) -∗ Q ⟨⟩))
      ⊢ wp frame (wpE (defs₀ (F := F)) Variants.none c none) Set.univ
        (cc0_svg_attention i arg2 harg2 arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)) Q } := by
  have hk1 : Scalar.cmpi .ne (Scalar.extui (Scalar.cmpi .eq (word c i arg2 f2) 0#32)) 0#32 = 1#1 := by rw [hk]; decide
  have hk2 : ¬ Scalar.cmpi .ne (Scalar.extui (Scalar.cmpi .ne (word c i arg2 f2) 0#32)) 0#32 = 1#1 := by rw [hk]; decide
  unfold word at hk1 hk2
  refine ⟨?_, fun f9 Q => ?run⟩
  case run =>
    iintro ⟨H2, H3, H4, H5, H6, H7, H8, H9, ⟨%e0, S0⟩, ⟨%e1, S1⟩, ⟨%e2, S2⟩, ⟨%e3, S3⟩, ⟨%e4, S4⟩, S5, Hk⟩
    sl_unfold [cc0_svg_attention]
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexists _; iexact S0
    isplitl [S1]; · iexists _; iexact S1
    isplitl [S2]; · iexists _; iexact S2
    isplitl [S3]; · iexists _; iexact S3
    isplitl [S4]; · iexists _; iexact S4
    iexact S5

/-- The body at a temporal head that is not the last of its batch: what it leaves in the output scratch. -/
def runTemp (c : Dev nD) (i : grid0.Coords) (arg2 : Memref sig .tc .smem S24 .i32) (harg2 : arg2.IsWhole) (arg3 : Memref sig .tc .smem S720 .f32) (harg3 : arg3.IsWhole) (arg4 : Memref sig .tc .smem S720 .f32) (harg4 : arg4.IsWhole) (arg5 : Memref sig .tc .smem S720 .f32) (harg5 : arg5.IsWhole) (arg6 : Memref sig .tc .vmem S1x1x72x1690 .fp8e4m3) (harg6 : arg6.IsWhole) (arg7 : Memref sig .tc .vmem S1x1x72x1690 .fp8e4m3) (harg7 : arg7.IsWhole) (arg8 : Memref sig .tc .vmem S1x1x72x1690 .fp8e4m3) (harg8 : arg8.IsWhole) (arg9 : Memref sig .tc .vmem S1x1690x1728 .bf16) (harg9 : arg9.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8)
    (f15 : Bf (F := F) c (Memref.whole cc0_scratch5))
    (hk : ¬ word c i arg2 f2 = 0#32) (hh : ¬ k0_cond3 i = 1#1) :
    { L : Bf (F := F) c (Memref.whole cc0_scratch5) // ∀ (f9 : Bf (F := F) c arg9) (Q : PUnit → sProp 𝕄),
      iprop(pt c arg2 f2 ∗ pt c arg3 f3 ∗ pt c arg4 f4 ∗ pt c arg5 f5 ∗ pt c arg6 f6 ∗ pt c arg7 f7 ∗ pt c arg8 f8 ∗ pt c arg9 f9
        ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f)
        ∗ pt c (Memref.whole cc0_scratch5) f15
        ∗ (iprop(pt c arg2 f2 ∗ pt c arg3 f3 ∗ pt c arg4 f4 ∗ pt c arg5 f5 ∗ pt c arg6 f6 ∗ pt c arg7 f7 ∗ pt c arg8 f8 ∗ pt c arg9 f9
            ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f)
            ∗ pt c (Memref.whole cc0_scratch5) L) -∗ Q ⟨⟩))
      ⊢ wp frame (wpE (defs₀ (F := F)) Variants.none c none) Set.univ
        (cc0_svg_attention i arg2 harg2 arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)) Q } := by
  have hk1 : ¬ Scalar.cmpi .ne (Scalar.extui (Scalar.cmpi .eq (word c i arg2 f2) 0#32)) 0#32 = 1#1 := eqZero_of_ne hk
  have hk2 : Scalar.cmpi .ne (Scalar.extui (Scalar.cmpi .ne (word c i arg2 f2) 0#32)) 0#32 = 1#1 := neZero_of_ne hk
  unfold word at hk1 hk2
  refine ⟨?_, fun f9 Q => ?run⟩
  case run =>
    iintro ⟨H2, H3, H4, H5, H6, H7, H8, H9, ⟨%e0, S0⟩, ⟨%e1, S1⟩, ⟨%e2, S2⟩, ⟨%e3, S3⟩, ⟨%e4, S4⟩, S5, Hk⟩
    sl_unfold [cc0_svg_attention]
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexists _; iexact S0
    isplitl [S1]; · iexists _; iexact S1
    isplitl [S2]; · iexists _; iexact S2
    isplitl [S3]; · iexists _; iexact S3
    isplitl [S4]; · iexists _; iexact S4
    iexact S5

/-- The body at a spatial last head: what it leaves in the output scratch and in the output block. -/
def runSpatLast (c : Dev nD) (i : grid0.Coords) (arg2 : Memref sig .tc .smem S24 .i32) (harg2 : arg2.IsWhole) (arg3 : Memref sig .tc .smem S720 .f32) (harg3 : arg3.IsWhole) (arg4 : Memref sig .tc .smem S720 .f32) (harg4 : arg4.IsWhole) (arg5 : Memref sig .tc .smem S720 .f32) (harg5 : arg5.IsWhole) (arg6 : Memref sig .tc .vmem S1x1x72x1690 .fp8e4m3) (harg6 : arg6.IsWhole) (arg7 : Memref sig .tc .vmem S1x1x72x1690 .fp8e4m3) (harg7 : arg7.IsWhole) (arg8 : Memref sig .tc .vmem S1x1x72x1690 .fp8e4m3) (harg8 : arg8.IsWhole) (arg9 : Memref sig .tc .vmem S1x1690x1728 .bf16) (harg9 : arg9.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8)
    (f15 : Bf (F := F) c (Memref.whole cc0_scratch5))
    (hk : word c i arg2 f2 = 0#32) (hh : k0_cond3 i = 1#1) :
    { L : Bf (F := F) c (Memref.whole cc0_scratch5) × Bf (F := F) c arg9 // ∀ (f9 : Bf (F := F) c arg9) (Q : PUnit → sProp 𝕄),
      iprop(pt c arg2 f2 ∗ pt c arg3 f3 ∗ pt c arg4 f4 ∗ pt c arg5 f5 ∗ pt c arg6 f6 ∗ pt c arg7 f7 ∗ pt c arg8 f8 ∗ pt c arg9 f9
        ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f)
        ∗ pt c (Memref.whole cc0_scratch5) f15
        ∗ (iprop(pt c arg2 f2 ∗ pt c arg3 f3 ∗ pt c arg4 f4 ∗ pt c arg5 f5 ∗ pt c arg6 f6 ∗ pt c arg7 f7 ∗ pt c arg8 f8 ∗ pt c arg9 L.2
            ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f)
            ∗ pt c (Memref.whole cc0_scratch5) L.1) -∗ Q ⟨⟩))
      ⊢ wp frame (wpE (defs₀ (F := F)) Variants.none c none) Set.univ
        (cc0_svg_attention i arg2 harg2 arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)) Q } := by
  have hk1 : Scalar.cmpi .ne (Scalar.extui (Scalar.cmpi .eq (word c i arg2 f2) 0#32)) 0#32 = 1#1 := by rw [hk]; decide
  have hk2 : ¬ Scalar.cmpi .ne (Scalar.extui (Scalar.cmpi .ne (word c i arg2 f2) 0#32)) 0#32 = 1#1 := by rw [hk]; decide
  unfold word at hk1 hk2
  refine ⟨(?_, ?_), fun f9 Q => ?run⟩
  case run =>
    iintro ⟨H2, H3, H4, H5, H6, H7, H8, H9, ⟨%e0, S0⟩, ⟨%e1, S1⟩, ⟨%e2, S2⟩, ⟨%e3, S3⟩, ⟨%e4, S4⟩, S5, Hk⟩
    sl_unfold [cc0_svg_attention]
    sl_exec!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexists _; iexact S0
    isplitl [S1]; · iexists _; iexact S1
    isplitl [S2]; · iexists _; iexact S2
    isplitl [S3]; · iexists _; iexact S3
    isplitl [S4]; · iexists _; iexact S4
    iexact S5

/-- The body at a temporal last head: what it leaves in the output scratch and in the output block. -/
def runTempLast (c : Dev nD) (i : grid0.Coords) (arg2 : Memref sig .tc .smem S24 .i32) (harg2 : arg2.IsWhole) (arg3 : Memref sig .tc .smem S720 .f32) (harg3 : arg3.IsWhole) (arg4 : Memref sig .tc .smem S720 .f32) (harg4 : arg4.IsWhole) (arg5 : Memref sig .tc .smem S720 .f32) (harg5 : arg5.IsWhole) (arg6 : Memref sig .tc .vmem S1x1x72x1690 .fp8e4m3) (harg6 : arg6.IsWhole) (arg7 : Memref sig .tc .vmem S1x1x72x1690 .fp8e4m3) (harg7 : arg7.IsWhole) (arg8 : Memref sig .tc .vmem S1x1x72x1690 .fp8e4m3) (harg8 : arg8.IsWhole) (arg9 : Memref sig .tc .vmem S1x1690x1728 .bf16) (harg9 : arg9.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8)
    (f15 : Bf (F := F) c (Memref.whole cc0_scratch5))
    (hk : ¬ word c i arg2 f2 = 0#32) (hh : k0_cond3 i = 1#1) :
    { L : Bf (F := F) c (Memref.whole cc0_scratch5) × Bf (F := F) c arg9 // ∀ (f9 : Bf (F := F) c arg9) (Q : PUnit → sProp 𝕄),
      iprop(pt c arg2 f2 ∗ pt c arg3 f3 ∗ pt c arg4 f4 ∗ pt c arg5 f5 ∗ pt c arg6 f6 ∗ pt c arg7 f7 ∗ pt c arg8 f8 ∗ pt c arg9 f9
        ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f)
        ∗ pt c (Memref.whole cc0_scratch5) f15
        ∗ (iprop(pt c arg2 f2 ∗ pt c arg3 f3 ∗ pt c arg4 f4 ∗ pt c arg5 f5 ∗ pt c arg6 f6 ∗ pt c arg7 f7 ∗ pt c arg8 f8 ∗ pt c arg9 L.2
            ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f)
            ∗ pt c (Memref.whole cc0_scratch5) L.1) -∗ Q ⟨⟩))
      ⊢ wp frame (wpE (defs₀ (F := F)) Variants.none c none) Set.univ
        (cc0_svg_attention i arg2 harg2 arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)) Q } := by
  have hk1 : ¬ Scalar.cmpi .ne (Scalar.extui (Scalar.cmpi .eq (word c i arg2 f2) 0#32)) 0#32 = 1#1 := eqZero_of_ne hk
  have hk2 : Scalar.cmpi .ne (Scalar.extui (Scalar.cmpi .ne (word c i arg2 f2) 0#32)) 0#32 = 1#1 := neZero_of_ne hk
  unfold word at hk1 hk2
  refine ⟨(?_, ?_), fun f9 Q => ?run⟩
  case run =>
    iintro ⟨H2, H3, H4, H5, H6, H7, H8, H9, ⟨%e0, S0⟩, ⟨%e1, S1⟩, ⟨%e2, S2⟩, ⟨%e3, S3⟩, ⟨%e4, S4⟩, S5, Hk⟩
    sl_unfold [cc0_svg_attention]
    sl_exec!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexists _; iexact S0
    isplitl [S1]; · iexists _; iexact S1
    isplitl [S2]; · iexists _; iexact S2
    isplitl [S3]; · iexists _; iexact S3
    isplitl [S4]; · iexists _; iexact S4
    iexact S5

end Cert.KernelIdeal.Hand

end
-- ==== Proof.Model.lean ====
module

public import proofs.«01_k».proof.Proof.RunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-! ### What the body stages for one head -/

/-- The codes of a head widened and padded with zero columns to the token lanes. -/
def pad72 (x : Vec F S1x1x72x1690 .fp8e4m3) : FVec F S72x1792 .bf16 :=
  concatenate S72x1792 1 [⟨S72x1690, extf .bf16 (shapeCast S72x1690 x shapeCasts_S1x1x72x1690_S72x1690 : FVec F S72x1690 .fp8e4m3) bitsLt_fp8e4m3_bf16⟩, ⟨S72x102, broadcast S72x102 (Scalar.ofBits .bf16 0x0000#16 : F .bf16)⟩] concatenates_S72x1690_S72x102_S72x1792_d1
/-- The same, padded with zero rows too. -/
def pad128 (x : Vec F S1x1x72x1690 .fp8e4m3) : FVec F S128x1792 .bf16 :=
  concatenate S128x1792 0 [⟨S72x1792, pad72 x⟩, ⟨S56x1792, broadcast S56x1792 (Scalar.ofBits .bf16 0x0000#16 : F .bf16)⟩] concatenates_S72x1792_S56x1792_S128x1792_d0
/-- The padded codes as stored, features by tokens. -/
def wq (x : Vec F S1x1x72x1690 .fp8e4m3) : FVec F S128x1792 .fp8e4m3 :=
  shapeCast S128x1792 (truncf .fp8e4m3 (pad128 x) bitsLt_fp8e4m3_bf16) shapeCasts_S128x1792_S128x1792
/-- The padded codes as stored, tokens by features. -/
def wkn (x : Vec F S1x1x72x1690 .fp8e4m3) : FVec F S1696x128 .fp8e4m3 :=
  shapeCast S1696x128 (truncf .fp8e4m3 (extractStridedSlice S1696x128 ![0, 0] (transpose S1792x128 [1, 0] (pad128 x) transposes_S128x1792_p1_0_S1792x128 : FVec F S1792x128 .bf16) slices_S1792x128_o0_0_S1696x128 : FVec F S1696x128 .bf16) bitsLt_fp8e4m3_bf16) shapeCasts_S1696x128_S1696x128
/-- The padded codes of the text tokens, tokens by features. -/
def wqt (x : Vec F S1x1x72x1690 .fp8e4m3) : FVec F S160x128 .fp8e4m3 :=
  shapeCast S160x128 (truncf .fp8e4m3 (extractStridedSlice S160x128 ![0, 0] (transpose S256x128 [1, 0] (extractStridedSlice S128x256 ![0, 1536] (pad128 x) slices_S128x1792_o0_1536_S128x256 : FVec F S128x256 .bf16) transposes_S128x256_p1_0_S256x128 : FVec F S256x128 .bf16) slices_S256x128_o0_0_S160x128 : FVec F S160x128 .bf16) bitsLt_fp8e4m3_bf16) shapeCasts_S160x128_S160x128
/-- One frame of the values times the frame's scale. -/
def wv (o : ℕ) (hs : S72x1792.Slices ![0, o] S72x384) (x : Vec F S1x1x72x1690 .fp8e4m3) (s : F .f32) : FVec F S72x384 .bf16 :=
  shapeCast S72x384 (mulf (extractStridedSlice S72x384 ![0, o] (pad72 x) hs : FVec F S72x384 .bf16) (broadcast S72x384 (Scalar.truncf .bf16 bitsLt_bf16_f32 s))) shapeCasts_S72x384_S72x384
/-- The text tokens of the values times the text's scale. -/
def wvt (x : Vec F S1x1x72x1690 .fp8e4m3) (s : F .f32) : FVec F S72x256 .bf16 :=
  shapeCast S72x256 (mulf (extractStridedSlice S72x256 ![0, 1536] (pad72 x) slices_S72x1792_o0_1536_S72x256 : FVec F S72x256 .bf16) (broadcast S72x256 (Scalar.truncf .bf16 bitsLt_bf16_f32 s))) shapeCasts_S72x256_S72x256

/-! ### Loads from the staged buffers -/

/-- Token lanes `o ..` of the staged queries. -/
def rq (o : ℕ) (hb : ∀ a, (![0, o] : Fin 2 → Nat) a + S128x384.size a ≤ S128x1792.size a) (x : Vec F S1x1x72x1690 .fp8e4m3) : Vec F S128x384 .fp8e4m3 :=
  (Memref.whole cc0_scratch0).view.readCov (Val := Elt F) [⟨Rect.unit (s := S128x1792) ![0, 0] S128x1792.size inb_S128x1792_S128x1792_0_0, wq x⟩] (Rect.unit (s := S128x1792) ![0, o] S128x384.size hb).toLoadRect
/-- Token lanes `o ..` of the staged keys. -/
def rk (o : ℕ) (hb : ∀ a, (![0, o] : Fin 2 → Nat) a + S128x384.size a ≤ S128x1792.size a) (x : Vec F S1x1x72x1690 .fp8e4m3) : Vec F S128x384 .fp8e4m3 :=
  (Memref.whole cc0_scratch1).view.readCov (Val := Elt F) [⟨Rect.unit (s := S128x1792) ![0, 0] S128x1792.size inb_S128x1792_S128x1792_0_0, wq x⟩] (Rect.unit (s := S128x1792) ![0, o] S128x384.size hb).toLoadRect
/-- The text lanes of the staged keys. -/
def rkt (x : Vec F S1x1x72x1690 .fp8e4m3) : Vec F S128x256 .fp8e4m3 :=
  (Memref.whole cc0_scratch1).view.readCov (Val := Elt F) [⟨Rect.unit (s := S128x1792) ![0, 0] S128x1792.size inb_S128x1792_S128x1792_0_0, wq x⟩] (Rect.unit (s := S128x1792) ![0, 1536] S128x256.size inb_S128x1792_S128x256_0_1536).toLoadRect
/-- Token rows `o ..` of the staged keys. -/
def rkn (o : ℕ) (hb : ∀ a, (![o, 0] : Fin 2 → Nat) a + S384x128.size a ≤ S1696x128.size a) (x : Vec F S1x1x72x1690 .fp8e4m3) : Vec F S384x128 .fp8e4m3 :=
  (Memref.whole cc0_scratch2).view.readCov (Val := Elt F) [⟨Rect.unit (s := S1696x128) ![0, 0] S1696x128.size inb_S1696x128_S1696x128_0_0, wkn x⟩] (Rect.unit (s := S1696x128) ![o, 0] S384x128.size hb).toLoadRect
/-- The text rows of the staged keys. -/
def rknt (x : Vec F S1x1x72x1690 .fp8e4m3) : Vec F S160x128 .fp8e4m3 :=
  (Memref.whole cc0_scratch2).view.readCov (Val := Elt F) [⟨Rect.unit (s := S1696x128) ![0, 0] S1696x128.size inb_S1696x128_S1696x128_0_0, wkn x⟩] (Rect.unit (s := S1696x128) ![1536, 0] S160x128.size inb_S1696x128_S160x128_1536_0).toLoadRect
/-- The staged text queries. -/
def rqt (x : Vec F S1x1x72x1690 .fp8e4m3) : Vec F S160x128 .fp8e4m3 :=
  (Memref.whole cc0_scratch3).view.readCov (Val := Elt F) [⟨Rect.unit (s := S160x128) ![0, 0] S160x128.size inb_S160x128_S160x128_0_0, wqt x⟩] (Rect.unit (s := S160x128) ![0, 0] S160x128.size inb_S160x128_S160x128_0_0).toLoadRect
/-- The stores that stage the values, newest first. -/
def vPieces (x : Vec F S1x1x72x1690 .fp8e4m3) (s : Fin 5 → F .f32) : List (View.Piece (Elt F) S72x1792 .bf16) :=
  [⟨Rect.unit (s := S72x1792) ![0, 1536] S72x256.size inb_S72x1792_S72x256_0_1536, wvt x (s 4)⟩,
   ⟨Rect.unit (s := S72x1792) ![0, 1152] S72x384.size inb_S72x1792_S72x384_0_1152, wv 1152 slices_S72x1792_o0_1152_S72x384 x (s 3)⟩,
   ⟨Rect.unit (s := S72x1792) ![0, 768] S72x384.size inb_S72x1792_S72x384_0_768, wv 768 slices_S72x1792_o0_768_S72x384 x (s 2)⟩,
   ⟨Rect.unit (s := S72x1792) ![0, 384] S72x384.size inb_S72x1792_S72x384_0_384, wv 384 slices_S72x1792_o0_384_S72x384 x (s 1)⟩,
   ⟨Rect.unit (s := S72x1792) ![0, 0] S72x384.size inb_S72x1792_S72x384_0_0, wv 0 slices_S72x1792_o0_0_S72x384 x (s 0)⟩]
/-- Token lanes `o ..` of the staged values. -/
def rv (o : ℕ) (hb : ∀ a, (![0, o] : Fin 2 → Nat) a + S72x384.size a ≤ S72x1792.size a) (x : Vec F S1x1x72x1690 .fp8e4m3) (s : Fin 5 → F .f32) : Vec F S72x384 .bf16 :=
  (Memref.whole cc0_scratch4).view.readCov (Val := Elt F) (vPieces x s) (Rect.unit (s := S72x1792) ![0, o] S72x384.size hb).toLoadRect
/-- The text lanes of the staged values. -/
def rvt (x : Vec F S1x1x72x1690 .fp8e4m3) (s : Fin 5 → F .f32) : Vec F S72x160 .bf16 :=
  (Memref.whole cc0_scratch4).view.readCov (Val := Elt F) (vPieces x s) (Rect.unit (s := S72x1792) ![0, 1536] S72x160.size inb_S72x1792_S72x160_0_1536).toLoadRect
/-- All lanes of the staged values. -/
def rvall (x : Vec F S1x1x72x1690 .fp8e4m3) (s : Fin 5 → F .f32) : Vec F S72x1792 .bf16 :=
  (Memref.whole cc0_scratch4).view.readCov (Val := Elt F) (vPieces x s) (Rect.unit (s := S72x1792) ![0, 0] S72x1792.size inb_S72x1792_S72x1792_0_0).toLoadRect

/-! ### The three kinds of attention -/

/-- Scaled scores of the text queries against one frame's keys. -/
def tScore (q : Vec F S160x128 .fp8e4m3) (k : Vec F S128x384 .fp8e4m3) (c : F .f32) : FVec F S160x384 .f32 :=
  mulf (matmul dot_S160x128_S128x384_S160x384_1_0_0_1_n_n none q k (constant S160x384 .f32 0x00000000#32)) (broadcast S160x384 c)
/-- Scaled and masked scores of the text queries against the text keys. -/
def tScoreT (q : Vec F S160x128 .fp8e4m3) (k : Vec F S128x256 .fp8e4m3) (c : F .f32) : FVec F S160x256 .f32 :=
  select (cmpi .slt (iota .tc S160x256 32 [1] iota_S160x256_d1_w32) (broadcast S160x256 154#32))
    (mulf (matmul dot_S160x128_S128x256_S160x256_1_0_0_1_n_n none q k (constant S160x256 .f32 0x00000000#32)) (broadcast S160x256 c))
    (broadcast S160x256 (Scalar.ofBits .f32 0xFF800000#32 : F .f32))
/-- The text queries' scores against all keys. -/
def tAll (q : Vec F S160x128 .fp8e4m3) (k0 k1 k2 k3 : Vec F S128x384 .fp8e4m3) (k4 : Vec F S128x256 .fp8e4m3) (c0 c1 c2 c3 c4 : F .f32) : FVec F S160x1792 .f32 :=
  concatenate S160x1792 1 [⟨S160x384, tScore q k0 c0⟩, ⟨S160x384, tScore q k1 c1⟩, ⟨S160x384, tScore q k2 c2⟩, ⟨S160x384, tScore q k3 c3⟩, ⟨S160x256, tScoreT q k4 c4⟩] concatenates_S160x384_S160x384_S160x384_S160x384_S160x256_S160x1792_d1
/-- The exponentials of scores shifted by their row maximum. -/
def tExp (s : FVec F S160x1792 .f32) : FVec F S160x1792 .f32 :=
  exp2 (subf s (broadcastTo S160x1792 (shapeCast S160x1 (multiReduction .maximumf [1] S160 s 0xFF800000#32 reduces_S160x1792_S160 (.inl rfl) rfl : FVec F S160 .f32) shapeCasts_S160_S160x1 : FVec F S160x1 .f32) broadcasts_S160x1_S160x1792))
/-- The text attention from its exponentials and the values. -/
def tOut (e : FVec F S160x1792 .f32) (v : Vec F S72x1792 .bf16) : FVec F S72x160 .f32 :=
  shapeCast S72x160 (matmul dot_S72x1792_S160x1792_S72x160_1_1_0_0_n_n none v
    (truncf .bf16 (mulf e (broadcastTo S160x1792 (divf (broadcast S160x1 (Scalar.ofBits .f32 0x3F800000#32 : F .f32)) (shapeCast S160x1 (multiReduction .add [1] S160 e 0x00000000#32 reduces_S160x1792_S160 (.inl rfl) rfl : FVec F S160 .f32) shapeCasts_S160_S160x1 : FVec F S160x1 .f32)) broadcasts_S160x1_S160x1792)) bitsLt_bf16_f32)
    (constant S72x160 .f32 0x00000000#32) : FVec F S72x160 .f32) shapeCasts_S72x160_S72x160

/-- Scores of one frame's keys against one frame's queries. -/
def sScore (k : Vec F S384x128 .fp8e4m3) (q : Vec F S128x384 .fp8e4m3) : FVec F S384x384 .f32 :=
  matmul dot_S384x128_S128x384_S384x384_1_0_0_1_n_n none k q (constant S384x384 .f32 0x00000000#32)
/-- Scores of the text keys against one frame's queries. -/
def sText (k : Vec F S160x128 .fp8e4m3) (q : Vec F S128x384 .fp8e4m3) : FVec F S160x384 .f32 :=
  matmul dot_S160x128_S128x384_S160x384_1_0_0_1_n_n none k q (constant S160x384 .f32 0x00000000#32)
/-- The padding rows of the text scores masked. -/
def maskT (s : FVec F S160x384 .f32) : FVec F S160x384 .f32 :=
  concatenate S160x384 0 [⟨S152x384, extractStridedSlice S152x384 ![0, 0] s slices_S160x384_o0_0_S152x384⟩,
    ⟨S8x384, select (cmpi .slt (iota .tc S8x384 32 [0] iota_S8x384_d0_w32) (broadcast S8x384 2#32))
      (extractStridedSlice S8x384 ![152, 0] s slices_S160x384_o152_0_S8x384 : FVec F S8x384 .f32) (broadcast S8x384 (Scalar.ofBits .f32 0xFF800000#32 : F .f32))⟩] concatenates_S152x384_S8x384_S160x384_d0
/-- A frame's column maxima times its coefficient. -/
def cmax (s : FVec F S384x384 .f32) (c : F .f32) : FVec F S1x384 .f32 :=
  mulf (shapeCast S1x384 (multiReduction .maximumf [0] S384 s 0xFF800000#32 reduces_S384x384_S384 (.inl rfl) rfl : FVec F S384 .f32) shapeCasts_S384_S1x384) (broadcast S1x384 c)
/-- The text's column maxima times its coefficient. -/
def cmaxT (s : FVec F S160x384 .f32) (c : F .f32) : FVec F S1x384 .f32 :=
  mulf (shapeCast S1x384 (multiReduction .maximumf [0] S384 s 0xFF800000#32 reduces_S160x384_S384 (.inl rfl) rfl : FVec F S384 .f32) shapeCasts_S384_S1x384) (broadcast S1x384 c)
/-- A frame's exponentials. -/
def cexp (s : FVec F S384x384 .f32) (c : F .f32) (m : FVec F S1x384 .f32) : FVec F S384x384 .f32 :=
  exp2 (subf (mulf s (broadcast S384x384 c)) (broadcastTo S384x384 m broadcasts_S1x384_S384x384))
/-- The text's exponentials. -/
def cexpT (s : FVec F S160x384 .f32) (c : F .f32) (m : FVec F S1x384 .f32) : FVec F S160x384 .f32 :=
  exp2 (subf (mulf s (broadcast S160x384 c)) (broadcastTo S160x384 m broadcasts_S1x384_S160x384))
/-- Column sums of a frame's exponentials. -/
def csum (e : FVec F S384x384 .f32) : FVec F S1x384 .f32 :=
  shapeCast S1x384 (multiReduction .add [0] S384 e 0x00000000#32 reduces_S384x384_S384 (.inl rfl) rfl : FVec F S384 .f32) shapeCasts_S384_S1x384
/-- Column sums of the text's exponentials. -/
def csumT (e : FVec F S160x384 .f32) : FVec F S1x384 .f32 :=
  shapeCast S1x384 (multiReduction .add [0] S384 e 0x00000000#32 reduces_S160x384_S384 (.inl rfl) rfl : FVec F S384 .f32) shapeCasts_S384_S1x384
/-- A frame's values times its exponentials. -/
def vdot (v : Vec F S72x384 .bf16) (e : FVec F S384x384 .f32) : FVec F S72x384 .f32 :=
  matmul dot_S72x384_S384x384_S72x384_1_0_0_1_n_n none v (truncf .bf16 e bitsLt_bf16_f32 : FVec F S384x384 .bf16) (constant S72x384 .f32 0x00000000#32)
/-- The text's values times its exponentials. -/
def vdotT (v : Vec F S72x160 .bf16) (e : FVec F S160x384 .f32) : FVec F S72x384 .f32 :=
  matmul dot_S72x160_S160x384_S72x384_1_0_0_1_n_n none v (truncf .bf16 e bitsLt_bf16_f32 : FVec F S160x384 .bf16) (constant S72x384 .f32 0x00000000#32)
/-- A weighted sum times the reciprocal of the sum of the weights. -/
def fin (o : FVec F S72x384 .f32) (d : FVec F S1x384 .f32) : FVec F S72x384 .f32 :=
  shapeCast S72x384 (mulf o (broadcastTo S72x384 (divf (broadcast S1x384 (Scalar.ofBits .f32 0x3F800000#32 : F .f32)) d) broadcasts_S1x384_S72x384)) shapeCasts_S72x384_S72x384
/-- The zero the weighted sum starts from. -/
def z72 : FVec F S72x384 .f32 := broadcast S72x384 (Scalar.ofBits .f32 0x00000000#32 : F .f32)

/-- Spatial attention of frame 0 from its column maxima. -/
def spat0F (s : FVec F S384x384 .f32) (st : FVec F S160x384 .f32) (c ct : F .f32) (v : Vec F S72x384 .bf16) (vt : Vec F S72x160 .bf16) (m : FVec F S1x384 .f32) : FVec F S72x384 .f32 :=
  fin (addf (addf z72 (vdot v (cexp s c m))) (vdotT vt (cexpT st ct m))) (addf (csum (cexp s c m)) (csumT (cexpT st ct m)))
/-- Spatial attention of frame 0: its own keys and the text's. -/
def spat0 (s : FVec F S384x384 .f32) (st : FVec F S160x384 .f32) (c ct : F .f32) (v : Vec F S72x384 .bf16) (vt : Vec F S72x160 .bf16) : FVec F S72x384 .f32 :=
  spat0F s st c ct v vt (maximumf (cmax s c) (cmaxT st ct))
/-- Spatial attention of a later frame from its column maxima. -/
def spat1F (s : FVec F S384x384 .f32) (st : FVec F S160x384 .f32) (s0 : FVec F S384x384 .f32) (c ct c0 : F .f32) (v : Vec F S72x384 .bf16) (vt : Vec F S72x160 .bf16) (v0 : Vec F S72x384 .bf16) (m : FVec F S1x384 .f32) : FVec F S72x384 .f32 :=
  fin (addf (addf (addf z72 (vdot v (cexp s c m))) (vdotT vt (cexpT st ct m))) (vdot v0 (cexp s0 c0 m)))
    (addf (addf (csum (cexp s c m)) (csumT (cexpT st ct m))) (csum (cexp s0 c0 m)))
/-- Spatial attention of a later frame: its own keys, the text's and frame 0's. -/
def spat1 (s : FVec F S384x384 .f32) (st : FVec F S160x384 .f32) (s0 : FVec F S384x384 .f32) (c ct c0 : F .f32) (v : Vec F S72x384 .bf16) (vt : Vec F S72x160 .bf16) (v0 : Vec F S72x384 .bf16) : FVec F S72x384 .f32 :=
  spat1F s st s0 c ct c0 v vt v0 (maximumf (maximumf (cmax s c) (cmaxT st ct)) (cmax s0 c0))
/-- One frame of a head's codes, widened. -/
def xf (y : Vec F S1x1x72x384 .fp8e4m3) : FVec F S72x384 .f32 :=
  extf .f32 (shapeCast S72x384 y shapeCasts_S1x1x72x384_S72x384 : FVec F S72x384 .fp8e4m3) bitsLt_fp8e4m3_f32
/-- Scaled scores of each query against the key at its own place in another frame. -/
def pScore (q k : FVec F S72x384 .f32) (c : F .f32) : FVec F S1x384 .f32 :=
  mulf (shapeCast S1x384 (multiReduction .add [0] S384 (mulf q k) 0x00000000#32 reduces_S72x384_S384 (.inl rfl) rfl : FVec F S384 .f32) shapeCasts_S384_S1x384) (broadcast S1x384 c)
/-- One key's exponentials times its values. -/
def pdot (e : FVec F S1x384 .f32) (v : Vec F S72x384 .bf16) : FVec F S72x384 .f32 :=
  mulf (broadcastTo S72x384 (extf .f32 (truncf .bf16 e bitsLt_bf16_f32 : FVec F S1x384 .bf16) bitsLt_bf16_f32 : FVec F S1x384 .f32) broadcasts_S1x384_S72x384) (extf .f32 (v : FVec F S72x384 .bf16) bitsLt_bf16_f32)
/-- Temporal attention of a frame from its maxima. -/
def tempF (st : FVec F S160x384 .f32) (s0 s1 s2 s3 : FVec F S1x384 .f32) (ct : F .f32) (vt : Vec F S72x160 .bf16) (v0 v1 v2 v3 : Vec F S72x384 .bf16) (m : FVec F S1x384 .f32) : FVec F S72x384 .f32 :=
  fin (addf (addf (addf (addf (vdotT vt (cexpT st ct m)) (pdot (exp2 (subf s0 m)) v0)) (pdot (exp2 (subf s1 m)) v1)) (pdot (exp2 (subf s2 m)) v2)) (pdot (exp2 (subf s3 m)) v3))
    (addf (addf (addf (addf (csumT (cexpT st ct m)) (exp2 (subf s0 m))) (exp2 (subf s1 m))) (exp2 (subf s2 m))) (exp2 (subf s3 m)))
/-- The maxima of a temporal frame's scores. -/
def tempM (st : FVec F S160x384 .f32) (s0 s1 s2 s3 : FVec F S1x384 .f32) (ct : F .f32) : FVec F S1x384 .f32 :=
  maximumf (maximumf (maximumf (maximumf (cmaxT st ct) s0) s1) s2) s3
/-- Temporal attention of a frame: the text keys and the keys at the same place of every frame. -/
def temp (st : FVec F S160x384 .f32) (s0 s1 s2 s3 : FVec F S1x384 .f32) (ct : F .f32) (vt : Vec F S72x160 .bf16) (v0 v1 v2 v3 : Vec F S72x384 .bf16) : FVec F S72x384 .f32 :=
  tempF st s0 s1 s2 s3 ct vt v0 v1 v2 v3 (tempM st s0 s1 s2 s3 ct)

/-! ### One head's stores into the output scratch, and the last head's into the output block -/

/-- The five scale words of a head. -/
def scales (c : Dev nD) (i : grid0.Coords) (arg : Memref sig .tc .smem S720 .f32) (f : Bf (F := F) c arg) : Fin 5 → F .f32 :=
  ![arg.view.readAt (Elt F) (Rect.unit (s := S720) (k0_off1 i 0#32) S1.size (k0_off1_inb i 0)).toLoadRect f (Shape.Idx.first (s := S1) (numel1_S1.symm ▸ Nat.one_pos)),
    arg.view.readAt (Elt F) (Rect.unit (s := S720) (k0_off1 i 1#32) S1.size (k0_off1_inb i 1)).toLoadRect f (Shape.Idx.first (s := S1) (numel1_S1.symm ▸ Nat.one_pos)),
    arg.view.readAt (Elt F) (Rect.unit (s := S720) (k0_off1 i 2#32) S1.size (k0_off1_inb i 2)).toLoadRect f (Shape.Idx.first (s := S1) (numel1_S1.symm ▸ Nat.one_pos)),
    arg.view.readAt (Elt F) (Rect.unit (s := S720) (k0_off1 i 3#32) S1.size (k0_off1_inb i 3)).toLoadRect f (Shape.Idx.first (s := S1) (numel1_S1.symm ▸ Nat.one_pos)),
    arg.view.readAt (Elt F) (Rect.unit (s := S720) (k0_off1 i 4#32) S1.size (k0_off1_inb i 4)).toLoadRect f (Shape.Idx.first (s := S1) (numel1_S1.symm ▸ Nat.one_pos))]
/-- A head's codes as the body loads them whole. -/
def codes (c : Dev nD) (arg : Memref sig .tc .vmem S1x1x72x1690 .fp8e4m3) (f : Bf (F := F) c arg) : Vec F S1x1x72x1690 .fp8e4m3 :=
  arg.view.readAt (Elt F) (Rect.unit (s := S1x1x72x1690) ![0, 0, 0, 0] S1x1x72x1690.size inb_S1x1x72x1690_S1x1x72x1690_0_0_0_0).toLoadRect f
/-- One frame of a head's codes as the body loads it. -/
def codesF (c : Dev nD) (o : ℕ) (hb : ∀ a, (![0, 0, 0, o] : Fin 4 → Nat) a + S1x1x72x384.size a ≤ S1x1x72x1690.size a) (arg : Memref sig .tc .vmem S1x1x72x1690 .fp8e4m3) (f : Bf (F := F) c arg) : Vec F S1x1x72x384 .fp8e4m3 :=
  arg.view.readAt (Elt F) (Rect.unit (s := S1x1x72x1690) ![0, 0, 0, o] S1x1x72x384.size hb).toLoadRect f

/-- The text rows of the head. -/
def textP (x6 x7 x8 : Vec F S1x1x72x1690 .fp8e4m3) (q k v : Fin 5 → F .f32) : FVec F S72x160 .f32 :=
  tOut (tExp (tAll (rqt x6) (rk 0 inb_S128x1792_S128x384_0_0 x7) (rk 384 inb_S128x1792_S128x384_0_384 x7) (rk 768 inb_S128x1792_S128x384_0_768 x7) (rk 1152 inb_S128x1792_S128x384_0_1152 x7) (rkt x7)
    (Scalar.mulf (k0_pay126 (q 4)) (k 0)) (Scalar.mulf (k0_pay126 (q 4)) (k 1)) (Scalar.mulf (k0_pay126 (q 4)) (k 2)) (Scalar.mulf (k0_pay126 (q 4)) (k 3)) (Scalar.mulf (k0_pay126 (q 4)) (k 4)))) (rvall x8 v)
/-- Frame 0 of a spatial head. -/
def spatP0 (x6 x7 x8 : Vec F S1x1x72x1690 .fp8e4m3) (q k v : Fin 5 → F .f32) : FVec F S72x384 .f32 :=
  spat0 (sScore (rkn 0 inb_S1696x128_S384x128_0_0 x7) (rq 0 inb_S128x1792_S128x384_0_0 x6)) (maskT (sText (rknt x7) (rq 0 inb_S128x1792_S128x384_0_0 x6)))
    (Scalar.mulf (k0_pay126 (q 0)) (k 0)) (Scalar.mulf (k0_pay126 (q 0)) (k 4)) (rv 0 inb_S72x1792_S72x384_0_0 x8 v) (rvt x8 v)
/-- A later frame of a spatial head. -/
def spatP (g : Fin 5) (o : ℕ) (hk : ∀ a, (![o, 0] : Fin 2 → Nat) a + S384x128.size a ≤ S1696x128.size a) (hq : ∀ a, (![0, o] : Fin 2 → Nat) a + S128x384.size a ≤ S128x1792.size a) (hv : ∀ a, (![0, o] : Fin 2 → Nat) a + S72x384.size a ≤ S72x1792.size a) (x6 x7 x8 : Vec F S1x1x72x1690 .fp8e4m3) (q k v : Fin 5 → F .f32) : FVec F S72x384 .f32 :=
  spat1 (sScore (rkn o hk x7) (rq o hq x6)) (maskT (sText (rknt x7) (rq o hq x6))) (sScore (rkn 0 inb_S1696x128_S384x128_0_0 x7) (rq o hq x6))
    (Scalar.mulf (k0_pay126 (q g)) (k g)) (Scalar.mulf (k0_pay126 (q g)) (k 4)) (Scalar.mulf (k0_pay126 (q g)) (k 0)) (rv o hv x8 v) (rvt x8 v) (rv 0 inb_S72x1792_S72x384_0_0 x8 v)
/-- A frame of a temporal head. -/
def tempP (g : Fin 5) (o : ℕ) (hq : ∀ a, (![0, o] : Fin 2 → Nat) a + S128x384.size a ≤ S128x1792.size a) (x6 x7 x8 : Vec F S1x1x72x1690 .fp8e4m3) (y6 y0 y1 y2 y3 : Vec F S1x1x72x384 .fp8e4m3) (q k v : Fin 5 → F .f32) : FVec F S72x384 .f32 :=
  temp (maskT (sText (rknt x7) (rq o hq x6))) (pScore (xf y6) (xf y0) (Scalar.mulf (k0_pay126 (q g)) (k 0))) (pScore (xf y6) (xf y1) (Scalar.mulf (k0_pay126 (q g)) (k 1))) (pScore (xf y6) (xf y2) (Scalar.mulf (k0_pay126 (q g)) (k 2))) (pScore (xf y6) (xf y3) (Scalar.mulf (k0_pay126 (q g)) (k 3))) (Scalar.mulf (k0_pay126 (q g)) (k 4))
    (rvt x8 v) (rv 0 inb_S72x1792_S72x384_0_0 x8 v) (rv 384 inb_S72x1792_S72x384_0_384 x8 v) (rv 768 inb_S72x1792_S72x384_0_768 x8 v) (rv 1152 inb_S72x1792_S72x384_0_1152 x8 v)

/-- A spatial head's stores into the output scratch, newest first. -/
def spatPieces (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : List (View.Piece (Elt F) S1792x1792 .f32) :=
  [⟨Rect.unit (s := S1792x1792) (k0_off7 i) S72x384.size (k0_off7_inb i), spatP 3 1152 inb_S1696x128_S384x128_1152_0 inb_S128x1792_S128x384_0_1152 inb_S72x1792_S72x384_0_1152 (codes c arg6 f6) (codes c arg7 f7) (codes c arg8 f8) (scales c i arg3 f3) (scales c i arg4 f4) (scales c i arg5 f5)⟩,
   ⟨Rect.unit (s := S1792x1792) (k0_off6 i) S72x384.size (k0_off6_inb i), spatP 2 768 inb_S1696x128_S384x128_768_0 inb_S128x1792_S128x384_0_768 inb_S72x1792_S72x384_0_768 (codes c arg6 f6) (codes c arg7 f7) (codes c arg8 f8) (scales c i arg3 f3) (scales c i arg4 f4) (scales c i arg5 f5)⟩,
   ⟨Rect.unit (s := S1792x1792) (k0_off5 i) S72x384.size (k0_off5_inb i), spatP 1 384 inb_S1696x128_S384x128_384_0 inb_S128x1792_S128x384_0_384 inb_S72x1792_S72x384_0_384 (codes c arg6 f6) (codes c arg7 f7) (codes c arg8 f8) (scales c i arg3 f3) (scales c i arg4 f4) (scales c i arg5 f5)⟩,
   ⟨Rect.unit (s := S1792x1792) (k0_off4 i) S72x384.size (k0_off4_inb i), spatP0 (codes c arg6 f6) (codes c arg7 f7) (codes c arg8 f8) (scales c i arg3 f3) (scales c i arg4 f4) (scales c i arg5 f5)⟩,
   ⟨Rect.unit (s := S1792x1792) (k0_off2 i) S72x160.size (k0_off2_inb i), textP (codes c arg6 f6) (codes c arg7 f7) (codes c arg8 f8) (scales c i arg3 f3) (scales c i arg4 f4) (scales c i arg5 f5)⟩]
/-- A temporal head's stores into the output scratch, newest first. -/
def tempPieces (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : List (View.Piece (Elt F) S1792x1792 .f32) :=
  [⟨Rect.unit (s := S1792x1792) (k0_off12 i) S72x384.size (k0_off12_inb i), tempP 3 1152 inb_S128x1792_S128x384_0_1152 (codes c arg6 f6) (codes c arg7 f7) (codes c arg8 f8) (codesF c 1152 inb_S1x1x72x1690_S1x1x72x384_0_0_0_1152 arg6 f6) (codesF c 0 inb_S1x1x72x1690_S1x1x72x384_0_0_0_0 arg7 f7) (codesF c 384 inb_S1x1x72x1690_S1x1x72x384_0_0_0_384 arg7 f7) (codesF c 768 inb_S1x1x72x1690_S1x1x72x384_0_0_0_768 arg7 f7) (codesF c 1152 inb_S1x1x72x1690_S1x1x72x384_0_0_0_1152 arg7 f7) (scales c i arg3 f3) (scales c i arg4 f4) (scales c i arg5 f5)⟩,
   ⟨Rect.unit (s := S1792x1792) (k0_off11 i) S72x384.size (k0_off11_inb i), tempP 2 768 inb_S128x1792_S128x384_0_768 (codes c arg6 f6) (codes c arg7 f7) (codes c arg8 f8) (codesF c 768 inb_S1x1x72x1690_S1x1x72x384_0_0_0_768 arg6 f6) (codesF c 0 inb_S1x1x72x1690_S1x1x72x384_0_0_0_0 arg7 f7) (codesF c 384 inb_S1x1x72x1690_S1x1x72x384_0_0_0_384 arg7 f7) (codesF c 768 inb_S1x1x72x1690_S1x1x72x384_0_0_0_768 arg7 f7) (codesF c 1152 inb_S1x1x72x1690_S1x1x72x384_0_0_0_1152 arg7 f7) (scales c i arg3 f3) (scales c i arg4 f4) (scales c i arg5 f5)⟩,
   ⟨Rect.unit (s := S1792x1792) (k0_off10 i) S72x384.size (k0_off10_inb i), tempP 1 384 inb_S128x1792_S128x384_0_384 (codes c arg6 f6) (codes c arg7 f7) (codes c arg8 f8) (codesF c 384 inb_S1x1x72x1690_S1x1x72x384_0_0_0_384 arg6 f6) (codesF c 0 inb_S1x1x72x1690_S1x1x72x384_0_0_0_0 arg7 f7) (codesF c 384 inb_S1x1x72x1690_S1x1x72x384_0_0_0_384 arg7 f7) (codesF c 768 inb_S1x1x72x1690_S1x1x72x384_0_0_0_768 arg7 f7) (codesF c 1152 inb_S1x1x72x1690_S1x1x72x384_0_0_0_1152 arg7 f7) (scales c i arg3 f3) (scales c i arg4 f4) (scales c i arg5 f5)⟩,
   ⟨Rect.unit (s := S1792x1792) (k0_off9 i) S72x384.size (k0_off9_inb i), tempP 0 0 inb_S128x1792_S128x384_0_0 (codes c arg6 f6) (codes c arg7 f7) (codes c arg8 f8) (codesF c 0 inb_S1x1x72x1690_S1x1x72x384_0_0_0_0 arg6 f6) (codesF c 0 inb_S1x1x72x1690_S1x1x72x384_0_0_0_0 arg7 f7) (codesF c 384 inb_S1x1x72x1690_S1x1x72x384_0_0_0_384 arg7 f7) (codesF c 768 inb_S1x1x72x1690_S1x1x72x384_0_0_0_768 arg7 f7) (codesF c 1152 inb_S1x1x72x1690_S1x1x72x384_0_0_0_1152 arg7 f7) (scales c i arg3 f3) (scales c i arg4 f4) (scales c i arg5 f5)⟩,
   ⟨Rect.unit (s := S1792x1792) (k0_off2 i) S72x160.size (k0_off2_inb i), textP (codes c arg6 f6) (codes c arg7 f7) (codes c arg8 f8) (scales c i arg3 f3) (scales c i arg4 f4) (scales c i arg5 f5)⟩]
/-- One column tile of the output block from the output scratch. -/
def outTile (o : ℕ) (hb : ∀ a, (![o, 0] : Fin 2 → Nat) a + S128x1792.size a ≤ S1792x1792.size a) (f : cc0_scratch5.ty.Contents (Elt F)) : FVec F S1x1690x128 .bf16 :=
  shapeCast S1x1690x128 (truncf .bf16 (extractStridedSlice S1690x128 ![0, 0] (transpose S1792x128 [1, 0] ((Memref.whole cc0_scratch5).view.readAt (Elt F) (Rect.unit (s := S1792x1792) ![o, 0] S128x1792.size hb).toLoadRect f) transposes_S128x1792_p1_0_S1792x128 : FVec F S1792x128 .f32) slices_S1792x128_o0_0_S1690x128 : FVec F S1690x128 .f32) bitsLt_bf16_f32 : FVec F S1690x128 .bf16) shapeCasts_S1690x128_S1x1690x128
/-- The last, half column tile of the output block from the output scratch. -/
def outHalf (f : cc0_scratch5.ty.Contents (Elt F)) : FVec F S1x1690x64 .bf16 :=
  shapeCast S1x1690x64 (truncf .bf16 (extractStridedSlice S1690x64 ![0, 0] (transpose S1792x128 [1, 0] ((Memref.whole cc0_scratch5).view.readAt (Elt F) (Rect.unit (s := S1792x1792) ![1664, 0] S128x1792.size inb_S1792x1792_S128x1792_1664_0).toLoadRect f) transposes_S128x1792_p1_0_S1792x128 : FVec F S1792x128 .f32) slices_S1792x128_o0_0_S1690x64 : FVec F S1690x64 .f32) bitsLt_bf16_f32 : FVec F S1690x64 .bf16) shapeCasts_S1690x64_S1x1690x64
/-- The last head's stores into the output block, newest first. -/
def outPieces (f : cc0_scratch5.ty.Contents (Elt F)) : List (View.Piece (Elt F) S1x1690x1728 .bf16) :=
  [⟨Rect.unit (s := S1x1690x1728) ![0, 0, 1664] S1x1690x64.size inb_S1x1690x1728_S1x1690x64_0_0_1664, outHalf f⟩,
   ⟨Rect.unit (s := S1x1690x1728) ![0, 0, 1536] S1x1690x128.size inb_S1x1690x1728_S1x1690x128_0_0_1536, outTile 1536 inb_S1792x1792_S128x1792_1536_0 f⟩,
   ⟨Rect.unit (s := S1x1690x1728) ![0, 0, 1408] S1x1690x128.size inb_S1x1690x1728_S1x1690x128_0_0_1408, outTile 1408 inb_S1792x1792_S128x1792_1408_0 f⟩,
   ⟨Rect.unit (s := S1x1690x1728) ![0, 0, 1280] S1x1690x128.size inb_S1x1690x1728_S1x1690x128_0_0_1280, outTile 1280 inb_S1792x1792_S128x1792_1280_0 f⟩,
   ⟨Rect.unit (s := S1x1690x1728) ![0, 0, 1152] S1x1690x128.size inb_S1x1690x1728_S1x1690x128_0_0_1152, outTile 1152 inb_S1792x1792_S128x1792_1152_0 f⟩,
   ⟨Rect.unit (s := S1x1690x1728) ![0, 0, 1024] S1x1690x128.size inb_S1x1690x1728_S1x1690x128_0_0_1024, outTile 1024 inb_S1792x1792_S128x1792_1024_0 f⟩,
   ⟨Rect.unit (s := S1x1690x1728) ![0, 0, 896] S1x1690x128.size inb_S1x1690x1728_S1x1690x128_0_0_896, outTile 896 inb_S1792x1792_S128x1792_896_0 f⟩,
   ⟨Rect.unit (s := S1x1690x1728) ![0, 0, 768] S1x1690x128.size inb_S1x1690x1728_S1x1690x128_0_0_768, outTile 768 inb_S1792x1792_S128x1792_768_0 f⟩,
   ⟨Rect.unit (s := S1x1690x1728) ![0, 0, 640] S1x1690x128.size inb_S1x1690x1728_S1x1690x128_0_0_640, outTile 640 inb_S1792x1792_S128x1792_640_0 f⟩,
   ⟨Rect.unit (s := S1x1690x1728) ![0, 0, 512] S1x1690x128.size inb_S1x1690x1728_S1x1690x128_0_0_512, outTile 512 inb_S1792x1792_S128x1792_512_0 f⟩,
   ⟨Rect.unit (s := S1x1690x1728) ![0, 0, 384] S1x1690x128.size inb_S1x1690x1728_S1x1690x128_0_0_384, outTile 384 inb_S1792x1792_S128x1792_384_0 f⟩,
   ⟨Rect.unit (s := S1x1690x1728) ![0, 0, 256] S1x1690x128.size inb_S1x1690x1728_S1x1690x128_0_0_256, outTile 256 inb_S1792x1792_S128x1792_256_0 f⟩,
   ⟨Rect.unit (s := S1x1690x1728) ![0, 0, 128] S1x1690x128.size inb_S1x1690x1728_S1x1690x128_0_0_128, outTile 128 inb_S1792x1792_S128x1792_128_0 f⟩,
   ⟨Rect.unit (s := S1x1690x1728) ![0, 0, 0] S1x1690x128.size inb_S1x1690x1728_S1x1690x128_0_0_0, outTile 0 inb_S1792x1792_S128x1792_0_0 f⟩]

end Cert.KernelIdeal.Hand

end
-- ==== Proof.EqSpat.lean ====
module

public import proofs.«01_k».proof.Proof.Model

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-! ### The words of `runSpat` in closed form -/

/-- The text rows this run stores. -/
theorem runSpat_v224 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v224 c i arg3 arg4 arg5 arg6 arg7 arg8 f3 f4 f5 f6 f7 f8) = textP (codes c arg6 f6) (codes c arg7 f7) (codes c arg8 f8) (scales c i arg3 f3) (scales c i arg4 f4) (scales c i arg5 f5) := rfl

/-- A word of this run. -/
theorem runSpat_v254 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v254 c i arg5 arg8 f5 f8) = (rvt (codes c arg8 f8) (scales c i arg5 f5)) := rfl

/-- A word of this run. -/
theorem runSpat_v240 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v240 c arg6 arg7 f6 f7) = sScore (rkn 0 inb_S1696x128_S384x128_0_0 (codes c arg7 f7)) (rq 0 inb_S128x1792_S128x384_0_0 (codes c arg6 f6)) := rfl

/-- A word of this run. -/
theorem runSpat_v250 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v250 c arg6 arg7 f6 f7) = maskT (sText (rknt (codes c arg7 f7)) (rq 0 inb_S128x1792_S128x384_0_0 (codes c arg6 f6))) := rfl

/-- A word of this run. -/
theorem runSpat_v251 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v251 c i arg3 arg4 f3 f4) = (Scalar.mulf (k0_pay126 ((scales c i arg3 f3) 0)) ((scales c i arg4 f4) 0)) := rfl

/-- A word of this run. -/
theorem runSpat_v252 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v252 c i arg3 arg4 f3 f4) = (Scalar.mulf (k0_pay126 ((scales c i arg3 f3) 0)) ((scales c i arg4 f4) 4)) := rfl

/-- A word of this run. -/
theorem runSpat_v253 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v253 c i arg5 arg8 f5 f8) = (rv 0 inb_S72x1792_S72x384_0_0 (codes c arg8 f8) (scales c i arg5 f5)) := rfl

/-- The maxima of this frame. -/
theorem runSpat_v263 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v263 c i arg3 arg4 arg6 arg7 f3 f4 f6 f7) = maximumf (cmax (runSpat.sl.v240 c arg6 arg7 f6 f7) (runSpat.sl.v251 c i arg3 arg4 f3 f4)) (cmaxT (runSpat.sl.v250 c arg6 arg7 f6 f7) (runSpat.sl.v252 c i arg3 arg4 f3 f4)) := rfl

/-- What this run stores for frame 0. -/
theorem runSpat_f0 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v293 c i arg3 arg4 arg5 arg6 arg7 arg8 f3 f4 f5 f6 f7 f8) = spatP0 (codes c arg6 f6) (codes c arg7 f7) (codes c arg8 f8) (scales c i arg3 f3) (scales c i arg4 f4) (scales c i arg5 f5) := by
  have h : (runSpat.sl.v293 c i arg3 arg4 arg5 arg6 arg7 arg8 f3 f4 f5 f6 f7 f8) = spat0F (runSpat.sl.v240 c arg6 arg7 f6 f7) (runSpat.sl.v250 c arg6 arg7 f6 f7) (runSpat.sl.v251 c i arg3 arg4 f3 f4) (runSpat.sl.v252 c i arg3 arg4 f3 f4) (runSpat.sl.v253 c i arg5 arg8 f5 f8) (runSpat.sl.v254 c i arg5 arg8 f5 f8) (runSpat.sl.v263 c i arg3 arg4 arg6 arg7 f3 f4 f6 f7) := rfl
  rw [h, runSpat_v263 c i arg3 arg4 arg5 arg6 arg7 arg8 f3 f4 f5 f6 f7 f8, runSpat_v254 c i arg3 arg4 arg5 arg6 arg7 arg8 f3 f4 f5 f6 f7 f8, runSpat_v240 c i arg3 arg4 arg5 arg6 arg7 arg8 f3 f4 f5 f6 f7 f8, runSpat_v250 c i arg3 arg4 arg5 arg6 arg7 arg8 f3 f4 f5 f6 f7 f8, runSpat_v251 c i arg3 arg4 arg5 arg6 arg7 arg8 f3 f4 f5 f6 f7 f8, runSpat_v252 c i arg3 arg4 arg5 arg6 arg7 arg8 f3 f4 f5 f6 f7 f8, runSpat_v253 c i arg3 arg4 arg5 arg6 arg7 arg8 f3 f4 f5 f6 f7 f8]
  rfl

/-- A word of this run. -/
theorem runSpat_v296 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v296 c arg6 arg7 f6 f7) = sScore (rkn 384 inb_S1696x128_S384x128_384_0 (codes c arg7 f7)) (rq 384 inb_S128x1792_S128x384_0_384 (codes c arg6 f6)) := rfl

/-- A word of this run. -/
theorem runSpat_v306 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v306 c arg6 arg7 f6 f7) = maskT (sText (rknt (codes c arg7 f7)) (rq 384 inb_S128x1792_S128x384_0_384 (codes c arg6 f6))) := rfl

/-- A word of this run. -/
theorem runSpat_v307 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v307 c i arg3 arg4 f3 f4) = (Scalar.mulf (k0_pay126 ((scales c i arg3 f3) 1)) ((scales c i arg4 f4) 1)) := rfl

/-- A word of this run. -/
theorem runSpat_v308 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v308 c i arg3 arg4 f3 f4) = (Scalar.mulf (k0_pay126 ((scales c i arg3 f3) 1)) ((scales c i arg4 f4) 4)) := rfl

/-- A word of this run. -/
theorem runSpat_v309 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v309 c i arg5 arg8 f5 f8) = (rv 384 inb_S72x1792_S72x384_0_384 (codes c arg8 f8) (scales c i arg5 f5)) := rfl

/-- A word of this run. -/
theorem runSpat_v312 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v312 c arg6 arg7 f6 f7) = sScore (rkn 0 inb_S1696x128_S384x128_0_0 (codes c arg7 f7)) (rq 384 inb_S128x1792_S128x384_0_384 (codes c arg6 f6)) := rfl

/-- A word of this run. -/
theorem runSpat_v313 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v313 c i arg3 arg4 f3 f4) = (Scalar.mulf (k0_pay126 ((scales c i arg3 f3) 1)) ((scales c i arg4 f4) 0)) := rfl

/-- The maxima of this frame. -/
theorem runSpat_v328 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v328 c i arg3 arg4 arg6 arg7 f3 f4 f6 f7) = maximumf (maximumf (cmax (runSpat.sl.v296 c arg6 arg7 f6 f7) (runSpat.sl.v307 c i arg3 arg4 f3 f4)) (cmaxT (runSpat.sl.v306 c arg6 arg7 f6 f7) (runSpat.sl.v308 c i arg3 arg4 f3 f4))) (cmax (runSpat.sl.v312 c arg6 arg7 f6 f7) (runSpat.sl.v313 c i arg3 arg4 f3 f4)) := rfl

/-- What this run stores for frame 1. -/
theorem runSpat_f1 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v369 c i arg3 arg4 arg5 arg6 arg7 arg8 f3 f4 f5 f6 f7 f8) = spatP 1 384 inb_S1696x128_S384x128_384_0 inb_S128x1792_S128x384_0_384 inb_S72x1792_S72x384_0_384 (codes c arg6 f6) (codes c arg7 f7) (codes c arg8 f8) (scales c i arg3 f3) (scales c i arg4 f4) (scales c i arg5 f5) := by
  have h : (runSpat.sl.v369 c i arg3 arg4 arg5 arg6 arg7 arg8 f3 f4 f5 f6 f7 f8) = spat1F (runSpat.sl.v296 c arg6 arg7 f6 f7) (runSpat.sl.v306 c arg6 arg7 f6 f7) (runSpat.sl.v312 c arg6 arg7 f6 f7) (runSpat.sl.v307 c i arg3 arg4 f3 f4) (runSpat.sl.v308 c i arg3 arg4 f3 f4) (runSpat.sl.v313 c i arg3 arg4 f3 f4) (runSpat.sl.v309 c i arg5 arg8 f5 f8) (runSpat.sl.v254 c i arg5 arg8 f5 f8) (runSpat.sl.v253 c i arg5 arg8 f5 f8) (runSpat.sl.v328 c i arg3 arg4 arg6 arg7 f3 f4 f6 f7) := rfl
  rw [h, runSpat_v328 c i arg3 arg4 arg5 arg6 arg7 arg8 f3 f4 f5 f6 f7 f8, runSpat_v296 c i arg3 arg4 arg5 arg6 arg7 arg8 f3 f4 f5 f6 f7 f8, runSpat_v306 c i arg3 arg4 arg5 arg6 arg7 arg8 f3 f4 f5 f6 f7 f8, runSpat_v307 c i arg3 arg4 arg5 arg6 arg7 arg8 f3 f4 f5 f6 f7 f8, runSpat_v308 c i arg3 arg4 arg5 arg6 arg7 arg8 f3 f4 f5 f6 f7 f8, runSpat_v309 c i arg3 arg4 arg5 arg6 arg7 arg8 f3 f4 f5 f6 f7 f8, runSpat_v312 c i arg3 arg4 arg5 arg6 arg7 arg8 f3 f4 f5 f6 f7 f8, runSpat_v313 c i arg3 arg4 arg5 arg6 arg7 arg8 f3 f4 f5 f6 f7 f8, runSpat_v254 c i arg3 arg4 arg5 arg6 arg7 arg8 f3 f4 f5 f6 f7 f8, runSpat_v253 c i arg3 arg4 arg5 arg6 arg7 arg8 f3 f4 f5 f6 f7 f8]
  rfl

/-- A word of this run. -/
theorem runSpat_v372 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v372 c arg6 arg7 f6 f7) = sScore (rkn 768 inb_S1696x128_S384x128_768_0 (codes c arg7 f7)) (rq 768 inb_S128x1792_S128x384_0_768 (codes c arg6 f6)) := rfl

/-- A word of this run. -/
theorem runSpat_v382 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v382 c arg6 arg7 f6 f7) = maskT (sText (rknt (codes c arg7 f7)) (rq 768 inb_S128x1792_S128x384_0_768 (codes c arg6 f6))) := rfl

/-- A word of this run. -/
theorem runSpat_v383 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v383 c i arg3 arg4 f3 f4) = (Scalar.mulf (k0_pay126 ((scales c i arg3 f3) 2)) ((scales c i arg4 f4) 2)) := rfl

/-- A word of this run. -/
theorem runSpat_v384 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v384 c i arg3 arg4 f3 f4) = (Scalar.mulf (k0_pay126 ((scales c i arg3 f3) 2)) ((scales c i arg4 f4) 4)) := rfl

/-- A word of this run. -/
theorem runSpat_v385 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v385 c i arg5 arg8 f5 f8) = (rv 768 inb_S72x1792_S72x384_0_768 (codes c arg8 f8) (scales c i arg5 f5)) := rfl

/-- A word of this run. -/
theorem runSpat_v388 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v388 c arg6 arg7 f6 f7) = sScore (rkn 0 inb_S1696x128_S384x128_0_0 (codes c arg7 f7)) (rq 768 inb_S128x1792_S128x384_0_768 (codes c arg6 f6)) := rfl

/-- A word of this run. -/
theorem runSpat_v389 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v389 c i arg3 arg4 f3 f4) = (Scalar.mulf (k0_pay126 ((scales c i arg3 f3) 2)) ((scales c i arg4 f4) 0)) := rfl

/-- The maxima of this frame. -/
theorem runSpat_v404 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v404 c i arg3 arg4 arg6 arg7 f3 f4 f6 f7) = maximumf (maximumf (cmax (runSpat.sl.v372 c arg6 arg7 f6 f7) (runSpat.sl.v383 c i arg3 arg4 f3 f4)) (cmaxT (runSpat.sl.v382 c arg6 arg7 f6 f7) (runSpat.sl.v384 c i arg3 arg4 f3 f4))) (cmax (runSpat.sl.v388 c arg6 arg7 f6 f7) (runSpat.sl.v389 c i arg3 arg4 f3 f4)) := rfl

/-- What this run stores for frame 2. -/
theorem runSpat_f2 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v445 c i arg3 arg4 arg5 arg6 arg7 arg8 f3 f4 f5 f6 f7 f8) = spatP 2 768 inb_S1696x128_S384x128_768_0 inb_S128x1792_S128x384_0_768 inb_S72x1792_S72x384_0_768 (codes c arg6 f6) (codes c arg7 f7) (codes c arg8 f8) (scales c i arg3 f3) (scales c i arg4 f4) (scales c i arg5 f5) := by
  have h : (runSpat.sl.v445 c i arg3 arg4 arg5 arg6 arg7 arg8 f3 f4 f5 f6 f7 f8) = spat1F (runSpat.sl.v372 c arg6 arg7 f6 f7) (runSpat.sl.v382 c arg6 arg7 f6 f7) (runSpat.sl.v388 c arg6 arg7 f6 f7) (runSpat.sl.v383 c i arg3 arg4 f3 f4) (runSpat.sl.v384 c i arg3 arg4 f3 f4) (runSpat.sl.v389 c i arg3 arg4 f3 f4) (runSpat.sl.v385 c i arg5 arg8 f5 f8) (runSpat.sl.v254 c i arg5 arg8 f5 f8) (runSpat.sl.v253 c i arg5 arg8 f5 f8) (runSpat.sl.v404 c i arg3 arg4 arg6 arg7 f3 f4 f6 f7) := rfl
  rw [h, runSpat_v404 c i arg3 arg4 arg5 arg6 arg7 arg8 f3 f4 f5 f6 f7 f8, runSpat_v372 c i arg3 arg4 arg5 arg6 arg7 arg8 f3 f4 f5 f6 f7 f8, runSpat_v382 c i arg3 arg4 arg5 arg6 arg7 arg8 f3 f4 f5 f6 f7 f8, runSpat_v383 c i arg3 arg4 arg5 arg6 arg7 arg8 f3 f4 f5 f6 f7 f8, runSpat_v384 c i arg3 arg4 arg5 arg6 arg7 arg8 f3 f4 f5 f6 f7 f8, runSpat_v385 c i arg3 arg4 arg5 arg6 arg7 arg8 f3 f4 f5 f6 f7 f8, runSpat_v388 c i arg3 arg4 arg5 arg6 arg7 arg8 f3 f4 f5 f6 f7 f8, runSpat_v389 c i arg3 arg4 arg5 arg6 arg7 arg8 f3 f4 f5 f6 f7 f8, runSpat_v254 c i arg3 arg4 arg5 arg6 arg7 arg8 f3 f4 f5 f6 f7 f8, runSpat_v253 c i arg3 arg4 arg5 arg6 arg7 arg8 f3 f4 f5 f6 f7 f8]
  rfl

/-- A word of this run. -/
theorem runSpat_v448 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v448 c arg6 arg7 f6 f7) = sScore (rkn 1152 inb_S1696x128_S384x128_1152_0 (codes c arg7 f7)) (rq 1152 inb_S128x1792_S128x384_0_1152 (codes c arg6 f6)) := rfl

/-- A word of this run. -/
theorem runSpat_v458 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v458 c arg6 arg7 f6 f7) = maskT (sText (rknt (codes c arg7 f7)) (rq 1152 inb_S128x1792_S128x384_0_1152 (codes c arg6 f6))) := rfl

/-- A word of this run. -/
theorem runSpat_v459 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v459 c i arg3 arg4 f3 f4) = (Scalar.mulf (k0_pay126 ((scales c i arg3 f3) 3)) ((scales c i arg4 f4) 3)) := rfl

/-- A word of this run. -/
theorem runSpat_v460 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v460 c i arg3 arg4 f3 f4) = (Scalar.mulf (k0_pay126 ((scales c i arg3 f3) 3)) ((scales c i arg4 f4) 4)) := rfl

/-- A word of this run. -/
theorem runSpat_v461 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v461 c i arg5 arg8 f5 f8) = (rv 1152 inb_S72x1792_S72x384_0_1152 (codes c arg8 f8) (scales c i arg5 f5)) := rfl

/-- A word of this run. -/
theorem runSpat_v464 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v464 c arg6 arg7 f6 f7) = sScore (rkn 0 inb_S1696x128_S384x128_0_0 (codes c arg7 f7)) (rq 1152 inb_S128x1792_S128x384_0_1152 (codes c arg6 f6)) := rfl

/-- A word of this run. -/
theorem runSpat_v465 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v465 c i arg3 arg4 f3 f4) = (Scalar.mulf (k0_pay126 ((scales c i arg3 f3) 3)) ((scales c i arg4 f4) 0)) := rfl

/-- The maxima of this frame. -/
theorem runSpat_v480 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpat.sl.v480 c i arg3 arg4 arg6 arg7 f3 f4 f6 f7) = maximumf (maximumf (cmax (runSpat.sl.v448 c arg6 arg7 f6 f7) (runSpat.sl.v459 c i arg3 arg4 f3 f4)) (cmaxT (runSpat.sl.v458 c arg6 arg7 f6 f7) (runSpat.sl.v460 c i arg3 arg4 f3 f4))) (cmax (runSpat.sl.v464 c arg6 arg7 f6 f7) (runSpat.sl.v465 c i arg3 arg4 f3 f4)) := rfl

/-- What this run stores for frame 3. -/
theorem runSpat_f3 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (k0_pay1 (runSpat.sl.v458 c arg6 arg7 f6 f7) (runSpat.sl.v460 c i arg3 arg4 f3 f4) (runSpat.sl.v461 c i arg5 arg8 f5 f8) (runSpat.sl.v254 c i arg5 arg8 f5 f8) (runSpat.sl.v464 c arg6 arg7 f6 f7) (runSpat.sl.v465 c i arg3 arg4 f3 f4) (runSpat.sl.v253 c i arg5 arg8 f5 f8) (runSpat.sl.v480 c i arg3 arg4 arg6 arg7 f3 f4 f6 f7) (runSpat.sl.v485 c i arg3 arg4 arg6 arg7 f3 f4 f6 f7) (runSpat.sl.v486 c i arg3 arg4 arg6 arg7 f3 f4 f6 f7)) = spatP 3 1152 inb_S1696x128_S384x128_1152_0 inb_S128x1792_S128x384_0_1152 inb_S72x1792_S72x384_0_1152 (codes c arg6 f6) (codes c arg7 f7) (codes c arg8 f8) (scales c i arg3 f3) (scales c i arg4 f4) (scales c i arg5 f5) := by
  have h : (k0_pay1 (runSpat.sl.v458 c arg6 arg7 f6 f7) (runSpat.sl.v460 c i arg3 arg4 f3 f4) (runSpat.sl.v461 c i arg5 arg8 f5 f8) (runSpat.sl.v254 c i arg5 arg8 f5 f8) (runSpat.sl.v464 c arg6 arg7 f6 f7) (runSpat.sl.v465 c i arg3 arg4 f3 f4) (runSpat.sl.v253 c i arg5 arg8 f5 f8) (runSpat.sl.v480 c i arg3 arg4 arg6 arg7 f3 f4 f6 f7) (runSpat.sl.v485 c i arg3 arg4 arg6 arg7 f3 f4 f6 f7) (runSpat.sl.v486 c i arg3 arg4 arg6 arg7 f3 f4 f6 f7)) = spat1F (runSpat.sl.v448 c arg6 arg7 f6 f7) (runSpat.sl.v458 c arg6 arg7 f6 f7) (runSpat.sl.v464 c arg6 arg7 f6 f7) (runSpat.sl.v459 c i arg3 arg4 f3 f4) (runSpat.sl.v460 c i arg3 arg4 f3 f4) (runSpat.sl.v465 c i arg3 arg4 f3 f4) (runSpat.sl.v461 c i arg5 arg8 f5 f8) (runSpat.sl.v254 c i arg5 arg8 f5 f8) (runSpat.sl.v253 c i arg5 arg8 f5 f8) (runSpat.sl.v480 c i arg3 arg4 arg6 arg7 f3 f4 f6 f7) := rfl
  rw [h, runSpat_v480 c i arg3 arg4 arg5 arg6 arg7 arg8 f3 f4 f5 f6 f7 f8, runSpat_v448 c i arg3 arg4 arg5 arg6 arg7 arg8 f3 f4 f5 f6 f7 f8, runSpat_v458 c i arg3 arg4 arg5 arg6 arg7 arg8 f3 f4 f5 f6 f7 f8, runSpat_v459 c i arg3 arg4 arg5 arg6 arg7 arg8 f3 f4 f5 f6 f7 f8, runSpat_v460 c i arg3 arg4 arg5 arg6 arg7 arg8 f3 f4 f5 f6 f7 f8, runSpat_v461 c i arg3 arg4 arg5 arg6 arg7 arg8 f3 f4 f5 f6 f7 f8, runSpat_v464 c i arg3 arg4 arg5 arg6 arg7 arg8 f3 f4 f5 f6 f7 f8, runSpat_v465 c i arg3 arg4 arg5 arg6 arg7 arg8 f3 f4 f5 f6 f7 f8, runSpat_v254 c i arg3 arg4 arg5 arg6 arg7 arg8 f3 f4 f5 f6 f7 f8, runSpat_v253 c i arg3 arg4 arg5 arg6 arg7 arg8 f3 f4 f5 f6 f7 f8]
  rfl

/-- The stores of this run in closed form. -/
theorem runSpat_pieces (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) :
    ([⟨Rect.unit (s := S1792x1792) (k0_off7 i) S72x384.size (k0_off7_inb i), (k0_pay1 (runSpat.sl.v458 c arg6 arg7 f6 f7) (runSpat.sl.v460 c i arg3 arg4 f3 f4) (runSpat.sl.v461 c i arg5 arg8 f5 f8) (runSpat.sl.v254 c i arg5 arg8 f5 f8) (runSpat.sl.v464 c arg6 arg7 f6 f7) (runSpat.sl.v465 c i arg3 arg4 f3 f4) (runSpat.sl.v253 c i arg5 arg8 f5 f8) (runSpat.sl.v480 c i arg3 arg4 arg6 arg7 f3 f4 f6 f7) (runSpat.sl.v485 c i arg3 arg4 arg6 arg7 f3 f4 f6 f7) (runSpat.sl.v486 c i arg3 arg4 arg6 arg7 f3 f4 f6 f7))⟩, ⟨Rect.unit (s := S1792x1792) (k0_off6 i) S72x384.size (k0_off6_inb i), (runSpat.sl.v445 c i arg3 arg4 arg5 arg6 arg7 arg8 f3 f4 f5 f6 f7 f8)⟩, ⟨Rect.unit (s := S1792x1792) (k0_off5 i) S72x384.size (k0_off5_inb i), (runSpat.sl.v369 c i arg3 arg4 arg5 arg6 arg7 arg8 f3 f4 f5 f6 f7 f8)⟩, ⟨Rect.unit (s := S1792x1792) (k0_off4 i) S72x384.size (k0_off4_inb i), (runSpat.sl.v293 c i arg3 arg4 arg5 arg6 arg7 arg8 f3 f4 f5 f6 f7 f8)⟩, ⟨Rect.unit (s := S1792x1792) (k0_off2 i) S72x160.size (k0_off2_inb i), (runSpat.sl.v224 c i arg3 arg4 arg5 arg6 arg7 arg8 f3 f4 f5 f6 f7 f8)⟩] : List (View.Piece (Elt F) S1792x1792 .f32)) = spatPieces c i arg3 arg4 arg5 arg6 arg7 arg8 f3 f4 f5 f6 f7 f8 := by
  rw [runSpat_f3 c i arg3 arg4 arg5 arg6 arg7 arg8 f3 f4 f5 f6 f7 f8, runSpat_f2 c i arg3 arg4 arg5 arg6 arg7 arg8 f3 f4 f5 f6 f7 f8, runSpat_f1 c i arg3 arg4 arg5 arg6 arg7 arg8 f3 f4 f5 f6 f7 f8, runSpat_f0 c i arg3 arg4 arg5 arg6 arg7 arg8 f3 f4 f5 f6 f7 f8, runSpat_v224 c i arg3 arg4 arg5 arg6 arg7 arg8 f3 f4 f5 f6 f7 f8]
  rfl

/-- What this run leaves in the output scratch. -/
theorem runSpat_eq (c : Dev nD) (i : grid0.Coords) (arg2 : Memref sig .tc .smem S24 .i32) (harg2 : arg2.IsWhole) (arg3 : Memref sig .tc .smem S720 .f32) (harg3 : arg3.IsWhole) (arg4 : Memref sig .tc .smem S720 .f32) (harg4 : arg4.IsWhole) (arg5 : Memref sig .tc .smem S720 .f32) (harg5 : arg5.IsWhole) (arg6 : Memref sig .tc .vmem S1x1x72x1690 .fp8e4m3) (harg6 : arg6.IsWhole) (arg7 : Memref sig .tc .vmem S1x1x72x1690 .fp8e4m3) (harg7 : arg7.IsWhole) (arg8 : Memref sig .tc .vmem S1x1x72x1690 .fp8e4m3) (harg8 : arg8.IsWhole) (arg9 : Memref sig .tc .vmem S1x1690x1728 .bf16) (harg9 : arg9.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8)
    (f15 : Bf (F := F) c (Memref.whole cc0_scratch5))
    (hk : word c i arg2 f2 = 0#32) (hh : ¬ k0_cond3 i = 1#1) :
    (runSpat c i arg2 harg2 arg3 harg3 arg4 harg4 arg5 harg5 arg6 harg6 arg7 harg7 arg8 harg8 arg9 harg9 f2 f3 f4 f5 f6 f7 f8 f15 hk hh).1 = (Memref.whole cc0_scratch5).view.writes (Elt F) f15 (spatPieces c i arg3 arg4 arg5 arg6 arg7 arg8 f3 f4 f5 f6 f7 f8) := by
  rw [← runSpat_pieces c i arg3 arg4 arg5 arg6 arg7 arg8 f3 f4 f5 f6 f7 f8]
  rfl

end Cert.KernelIdeal.Hand

end
-- ==== Proof.EqTemp.lean ====
module

public import proofs.«01_k».proof.Proof.Model

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-! ### The words of `runTemp` in closed form -/

/-- The text rows this run stores. -/
theorem runTemp_v224 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v224 c i arg3 arg4 arg5 arg6 arg7 arg8 f3 f4 f5 f6 f7 f8) = textP (codes c arg6 f6) (codes c arg7 f7) (codes c arg8 f8) (scales c i arg3 f3) (scales c i arg4 f4) (scales c i arg5 f5) := rfl

/-- A word of this run. -/
theorem runTemp_v260 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v260 c arg6 arg7 f6 f7) = maskT (sText (rknt (codes c arg7 f7)) (rq 0 inb_S128x1792_S128x384_0_0 (codes c arg6 f6))) := rfl

/-- A word of this run. -/
theorem runTemp_v261 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v261 c i arg3 arg4 f3 f4) = (Scalar.mulf (k0_pay126 ((scales c i arg3 f3) 0)) ((scales c i arg4 f4) 4)) := rfl

/-- A word of this run. -/
theorem runTemp_v270 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v270 c i arg3 arg4 arg6 arg7 f3 f4 f6 f7) = pScore (xf (codesF c 0 inb_S1x1x72x1690_S1x1x72x384_0_0_0_0 arg6 f6)) (xf (codesF c 0 inb_S1x1x72x1690_S1x1x72x384_0_0_0_0 arg7 f7)) (Scalar.mulf (k0_pay126 ((scales c i arg3 f3) 0)) ((scales c i arg4 f4) 0)) := rfl

/-- A word of this run. -/
theorem runTemp_v276 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v276 c i arg3 arg4 arg6 arg7 f3 f4 f6 f7) = pScore (xf (codesF c 0 inb_S1x1x72x1690_S1x1x72x384_0_0_0_0 arg6 f6)) (xf (codesF c 384 inb_S1x1x72x1690_S1x1x72x384_0_0_0_384 arg7 f7)) (Scalar.mulf (k0_pay126 ((scales c i arg3 f3) 0)) ((scales c i arg4 f4) 1)) := rfl

/-- A word of this run. -/
theorem runTemp_v282 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v282 c i arg3 arg4 arg6 arg7 f3 f4 f6 f7) = pScore (xf (codesF c 0 inb_S1x1x72x1690_S1x1x72x384_0_0_0_0 arg6 f6)) (xf (codesF c 768 inb_S1x1x72x1690_S1x1x72x384_0_0_0_768 arg7 f7)) (Scalar.mulf (k0_pay126 ((scales c i arg3 f3) 0)) ((scales c i arg4 f4) 2)) := rfl

/-- A word of this run. -/
theorem runTemp_v288 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v288 c i arg3 arg4 arg6 arg7 f3 f4 f6 f7) = pScore (xf (codesF c 0 inb_S1x1x72x1690_S1x1x72x384_0_0_0_0 arg6 f6)) (xf (codesF c 1152 inb_S1x1x72x1690_S1x1x72x384_0_0_0_1152 arg7 f7)) (Scalar.mulf (k0_pay126 ((scales c i arg3 f3) 0)) ((scales c i arg4 f4) 3)) := rfl

/-- A word of this run. -/
theorem runTemp_v304 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v304 c i arg5 arg8 f5 f8) = (rvt (codes c arg8 f8) (scales c i arg5 f5)) := rfl

/-- A word of this run. -/
theorem runTemp_v312 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v312 c i arg5 arg8 f5 f8) = (rv 0 inb_S72x1792_S72x384_0_0 (codes c arg8 f8) (scales c i arg5 f5)) := rfl

/-- A word of this run. -/
theorem runTemp_v322 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v322 c i arg5 arg8 f5 f8) = (rv 384 inb_S72x1792_S72x384_0_384 (codes c arg8 f8) (scales c i arg5 f5)) := rfl

/-- A word of this run. -/
theorem runTemp_v332 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v332 c i arg5 arg8 f5 f8) = (rv 768 inb_S72x1792_S72x384_0_768 (codes c arg8 f8) (scales c i arg5 f5)) := rfl

/-- A word of this run. -/
theorem runTemp_v342 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v342 c i arg5 arg8 f5 f8) = (rv 1152 inb_S72x1792_S72x384_0_1152 (codes c arg8 f8) (scales c i arg5 f5)) := rfl

/-- The maxima of this frame. -/
theorem runTemp_v296 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v296 c i arg3 arg4 arg6 arg7 f3 f4 f6 f7) = tempM (runTemp.sl.v260 c arg6 arg7 f6 f7) (runTemp.sl.v270 c i arg3 arg4 arg6 arg7 f3 f4 f6 f7) (runTemp.sl.v276 c i arg3 arg4 arg6 arg7 f3 f4 f6 f7) (runTemp.sl.v282 c i arg3 arg4 arg6 arg7 f3 f4 f6 f7) (runTemp.sl.v288 c i arg3 arg4 arg6 arg7 f3 f4 f6 f7) (runTemp.sl.v261 c i arg3 arg4 f3 f4) := rfl

/-- What this run stores for frame 0. -/
theorem runTemp_f0 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v354 c i arg3 arg4 arg5 arg6 arg7 arg8 f3 f4 f5 f6 f7 f8) = tempP 0 0 inb_S128x1792_S128x384_0_0 (codes c arg6 f6) (codes c arg7 f7) (codes c arg8 f8) (codesF c 0 inb_S1x1x72x1690_S1x1x72x384_0_0_0_0 arg6 f6) (codesF c 0 inb_S1x1x72x1690_S1x1x72x384_0_0_0_0 arg7 f7) (codesF c 384 inb_S1x1x72x1690_S1x1x72x384_0_0_0_384 arg7 f7) (codesF c 768 inb_S1x1x72x1690_S1x1x72x384_0_0_0_768 arg7 f7) (codesF c 1152 inb_S1x1x72x1690_S1x1x72x384_0_0_0_1152 arg7 f7) (scales c i arg3 f3) (scales c i arg4 f4) (scales c i arg5 f5) := by
  have h : (runTemp.sl.v354 c i arg3 arg4 arg5 arg6 arg7 arg8 f3 f4 f5 f6 f7 f8) = tempF (runTemp.sl.v260 c arg6 arg7 f6 f7) (runTemp.sl.v270 c i arg3 arg4 arg6 arg7 f3 f4 f6 f7) (runTemp.sl.v276 c i arg3 arg4 arg6 arg7 f3 f4 f6 f7) (runTemp.sl.v282 c i arg3 arg4 arg6 arg7 f3 f4 f6 f7) (runTemp.sl.v288 c i arg3 arg4 arg6 arg7 f3 f4 f6 f7) (runTemp.sl.v261 c i arg3 arg4 f3 f4) (runTemp.sl.v304 c i arg5 arg8 f5 f8) (runTemp.sl.v312 c i arg5 arg8 f5 f8) (runTemp.sl.v322 c i arg5 arg8 f5 f8) (runTemp.sl.v332 c i arg5 arg8 f5 f8) (runTemp.sl.v342 c i arg5 arg8 f5 f8) (runTemp.sl.v296 c i arg3 arg4 arg6 arg7 f3 f4 f6 f7) := rfl
  rw [h, runTemp_v296 c i arg3 arg4 arg5 arg6 arg7 arg8 f3 f4 f5 f6 f7 f8, runTemp_v260 c i arg3 arg4 arg5 arg6 arg7 arg8 f3 f4 f5 f6 f7 f8, runTemp_v261 c i arg3 arg4 arg5 arg6 arg7 arg8 f3 f4 f5 f6 f7 f8, runTemp_v270 c i arg3 arg4 arg5 arg6 arg7 arg8 f3 f4 f5 f6 f7 f8, runTemp_v276 c i arg3 arg4 arg5 arg6 arg7 arg8 f3 f4 f5 f6 f7 f8, runTemp_v282 c i arg3 arg4 arg5 arg6 arg7 arg8 f3 f4 f5 f6 f7 f8, runTemp_v288 c i arg3 arg4 arg5 arg6 arg7 arg8 f3 f4 f5 f6 f7 f8, runTemp_v304 c i arg3 arg4 arg5 arg6 arg7 arg8 f3 f4 f5 f6 f7 f8, runTemp_v312 c i arg3 arg4 arg5 arg6 arg7 arg8 f3 f4 f5 f6 f7 f8, runTemp_v322 c i arg3 arg4 arg5 arg6 arg7 arg8 f3 f4 f5 f6 f7 f8, runTemp_v332 c i arg3 arg4 arg5 arg6 arg7 arg8 f3 f4 f5 f6 f7 f8, runTemp_v342 c i arg3 arg4 arg5 arg6 arg7 arg8 f3 f4 f5 f6 f7 f8]
  rfl

/-- A word of this run. -/
theorem runTemp_v365 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v365 c arg6 arg7 f6 f7) = maskT (sText (rknt (codes c arg7 f7)) (rq 384 inb_S128x1792_S128x384_0_384 (codes c arg6 f6))) := rfl

/-- A word of this run. -/
theorem runTemp_v366 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v366 c i arg3 arg4 f3 f4) = (Scalar.mulf (k0_pay126 ((scales c i arg3 f3) 1)) ((scales c i arg4 f4) 4)) := rfl

/-- A word of this run. -/
theorem runTemp_v375 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v375 c i arg3 arg4 arg6 arg7 f3 f4 f6 f7) = pScore (xf (codesF c 384 inb_S1x1x72x1690_S1x1x72x384_0_0_0_384 arg6 f6)) (xf (codesF c 0 inb_S1x1x72x1690_S1x1x72x384_0_0_0_0 arg7 f7)) (Scalar.mulf (k0_pay126 ((scales c i arg3 f3) 1)) ((scales c i arg4 f4) 0)) := rfl

/-- A word of this run. -/
theorem runTemp_v381 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v381 c i arg3 arg4 arg6 arg7 f3 f4 f6 f7) = pScore (xf (codesF c 384 inb_S1x1x72x1690_S1x1x72x384_0_0_0_384 arg6 f6)) (xf (codesF c 384 inb_S1x1x72x1690_S1x1x72x384_0_0_0_384 arg7 f7)) (Scalar.mulf (k0_pay126 ((scales c i arg3 f3) 1)) ((scales c i arg4 f4) 1)) := rfl

/-- A word of this run. -/
theorem runTemp_v387 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v387 c i arg3 arg4 arg6 arg7 f3 f4 f6 f7) = pScore (xf (codesF c 384 inb_S1x1x72x1690_S1x1x72x384_0_0_0_384 arg6 f6)) (xf (codesF c 768 inb_S1x1x72x1690_S1x1x72x384_0_0_0_768 arg7 f7)) (Scalar.mulf (k0_pay126 ((scales c i arg3 f3) 1)) ((scales c i arg4 f4) 2)) := rfl

/-- A word of this run. -/
theorem runTemp_v393 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v393 c i arg3 arg4 arg6 arg7 f3 f4 f6 f7) = pScore (xf (codesF c 384 inb_S1x1x72x1690_S1x1x72x384_0_0_0_384 arg6 f6)) (xf (codesF c 1152 inb_S1x1x72x1690_S1x1x72x384_0_0_0_1152 arg7 f7)) (Scalar.mulf (k0_pay126 ((scales c i arg3 f3) 1)) ((scales c i arg4 f4) 3)) := rfl

/-- The maxima of this frame. -/
theorem runTemp_v401 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v401 c i arg3 arg4 arg6 arg7 f3 f4 f6 f7) = tempM (runTemp.sl.v365 c arg6 arg7 f6 f7) (runTemp.sl.v375 c i arg3 arg4 arg6 arg7 f3 f4 f6 f7) (runTemp.sl.v381 c i arg3 arg4 arg6 arg7 f3 f4 f6 f7) (runTemp.sl.v387 c i arg3 arg4 arg6 arg7 f3 f4 f6 f7) (runTemp.sl.v393 c i arg3 arg4 arg6 arg7 f3 f4 f6 f7) (runTemp.sl.v366 c i arg3 arg4 f3 f4) := rfl

/-- What this run stores for frame 1. -/
theorem runTemp_f1 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v459 c i arg3 arg4 arg5 arg6 arg7 arg8 f3 f4 f5 f6 f7 f8) = tempP 1 384 inb_S128x1792_S128x384_0_384 (codes c arg6 f6) (codes c arg7 f7) (codes c arg8 f8) (codesF c 384 inb_S1x1x72x1690_S1x1x72x384_0_0_0_384 arg6 f6) (codesF c 0 inb_S1x1x72x1690_S1x1x72x384_0_0_0_0 arg7 f7) (codesF c 384 inb_S1x1x72x1690_S1x1x72x384_0_0_0_384 arg7 f7) (codesF c 768 inb_S1x1x72x1690_S1x1x72x384_0_0_0_768 arg7 f7) (codesF c 1152 inb_S1x1x72x1690_S1x1x72x384_0_0_0_1152 arg7 f7) (scales c i arg3 f3) (scales c i arg4 f4) (scales c i arg5 f5) := by
  have h : (runTemp.sl.v459 c i arg3 arg4 arg5 arg6 arg7 arg8 f3 f4 f5 f6 f7 f8) = tempF (runTemp.sl.v365 c arg6 arg7 f6 f7) (runTemp.sl.v375 c i arg3 arg4 arg6 arg7 f3 f4 f6 f7) (runTemp.sl.v381 c i arg3 arg4 arg6 arg7 f3 f4 f6 f7) (runTemp.sl.v387 c i arg3 arg4 arg6 arg7 f3 f4 f6 f7) (runTemp.sl.v393 c i arg3 arg4 arg6 arg7 f3 f4 f6 f7) (runTemp.sl.v366 c i arg3 arg4 f3 f4) (runTemp.sl.v304 c i arg5 arg8 f5 f8) (runTemp.sl.v312 c i arg5 arg8 f5 f8) (runTemp.sl.v322 c i arg5 arg8 f5 f8) (runTemp.sl.v332 c i arg5 arg8 f5 f8) (runTemp.sl.v342 c i arg5 arg8 f5 f8) (runTemp.sl.v401 c i arg3 arg4 arg6 arg7 f3 f4 f6 f7) := rfl
  rw [h, runTemp_v401 c i arg3 arg4 arg5 arg6 arg7 arg8 f3 f4 f5 f6 f7 f8, runTemp_v365 c i arg3 arg4 arg5 arg6 arg7 arg8 f3 f4 f5 f6 f7 f8, runTemp_v366 c i arg3 arg4 arg5 arg6 arg7 arg8 f3 f4 f5 f6 f7 f8, runTemp_v375 c i arg3 arg4 arg5 arg6 arg7 arg8 f3 f4 f5 f6 f7 f8, runTemp_v381 c i arg3 arg4 arg5 arg6 arg7 arg8 f3 f4 f5 f6 f7 f8, runTemp_v387 c i arg3 arg4 arg5 arg6 arg7 arg8 f3 f4 f5 f6 f7 f8, runTemp_v393 c i arg3 arg4 arg5 arg6 arg7 arg8 f3 f4 f5 f6 f7 f8, runTemp_v304 c i arg3 arg4 arg5 arg6 arg7 arg8 f3 f4 f5 f6 f7 f8, runTemp_v312 c i arg3 arg4 arg5 arg6 arg7 arg8 f3 f4 f5 f6 f7 f8, runTemp_v322 c i arg3 arg4 arg5 arg6 arg7 arg8 f3 f4 f5 f6 f7 f8, runTemp_v332 c i arg3 arg4 arg5 arg6 arg7 arg8 f3 f4 f5 f6 f7 f8, runTemp_v342 c i arg3 arg4 arg5 arg6 arg7 arg8 f3 f4 f5 f6 f7 f8]
  rfl

/-- A word of this run. -/
theorem runTemp_v470 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v470 c arg6 arg7 f6 f7) = maskT (sText (rknt (codes c arg7 f7)) (rq 768 inb_S128x1792_S128x384_0_768 (codes c arg6 f6))) := rfl

/-- A word of this run. -/
theorem runTemp_v471 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v471 c i arg3 arg4 f3 f4) = (Scalar.mulf (k0_pay126 ((scales c i arg3 f3) 2)) ((scales c i arg4 f4) 4)) := rfl

/-- A word of this run. -/
theorem runTemp_v480 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v480 c i arg3 arg4 arg6 arg7 f3 f4 f6 f7) = pScore (xf (codesF c 768 inb_S1x1x72x1690_S1x1x72x384_0_0_0_768 arg6 f6)) (xf (codesF c 0 inb_S1x1x72x1690_S1x1x72x384_0_0_0_0 arg7 f7)) (Scalar.mulf (k0_pay126 ((scales c i arg3 f3) 2)) ((scales c i arg4 f4) 0)) := rfl

/-- A word of this run. -/
theorem runTemp_v486 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v486 c i arg3 arg4 arg6 arg7 f3 f4 f6 f7) = pScore (xf (codesF c 768 inb_S1x1x72x1690_S1x1x72x384_0_0_0_768 arg6 f6)) (xf (codesF c 384 inb_S1x1x72x1690_S1x1x72x384_0_0_0_384 arg7 f7)) (Scalar.mulf (k0_pay126 ((scales c i arg3 f3) 2)) ((scales c i arg4 f4) 1)) := rfl

/-- A word of this run. -/
theorem runTemp_v492 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v492 c i arg3 arg4 arg6 arg7 f3 f4 f6 f7) = pScore (xf (codesF c 768 inb_S1x1x72x1690_S1x1x72x384_0_0_0_768 arg6 f6)) (xf (codesF c 768 inb_S1x1x72x1690_S1x1x72x384_0_0_0_768 arg7 f7)) (Scalar.mulf (k0_pay126 ((scales c i arg3 f3) 2)) ((scales c i arg4 f4) 2)) := rfl

/-- A word of this run. -/
theorem runTemp_v498 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v498 c i arg3 arg4 arg6 arg7 f3 f4 f6 f7) = pScore (xf (codesF c 768 inb_S1x1x72x1690_S1x1x72x384_0_0_0_768 arg6 f6)) (xf (codesF c 1152 inb_S1x1x72x1690_S1x1x72x384_0_0_0_1152 arg7 f7)) (Scalar.mulf (k0_pay126 ((scales c i arg3 f3) 2)) ((scales c i arg4 f4) 3)) := rfl

/-- The maxima of this frame. -/
theorem runTemp_v506 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v506 c i arg3 arg4 arg6 arg7 f3 f4 f6 f7) = tempM (runTemp.sl.v470 c arg6 arg7 f6 f7) (runTemp.sl.v480 c i arg3 arg4 arg6 arg7 f3 f4 f6 f7) (runTemp.sl.v486 c i arg3 arg4 arg6 arg7 f3 f4 f6 f7) (runTemp.sl.v492 c i arg3 arg4 arg6 arg7 f3 f4 f6 f7) (runTemp.sl.v498 c i arg3 arg4 arg6 arg7 f3 f4 f6 f7) (runTemp.sl.v471 c i arg3 arg4 f3 f4) := rfl

/-- What this run stores for frame 2. -/
theorem runTemp_f2 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v564 c i arg3 arg4 arg5 arg6 arg7 arg8 f3 f4 f5 f6 f7 f8) = tempP 2 768 inb_S128x1792_S128x384_0_768 (codes c arg6 f6) (codes c arg7 f7) (codes c arg8 f8) (codesF c 768 inb_S1x1x72x1690_S1x1x72x384_0_0_0_768 arg6 f6) (codesF c 0 inb_S1x1x72x1690_S1x1x72x384_0_0_0_0 arg7 f7) (codesF c 384 inb_S1x1x72x1690_S1x1x72x384_0_0_0_384 arg7 f7) (codesF c 768 inb_S1x1x72x1690_S1x1x72x384_0_0_0_768 arg7 f7) (codesF c 1152 inb_S1x1x72x1690_S1x1x72x384_0_0_0_1152 arg7 f7) (scales c i arg3 f3) (scales c i arg4 f4) (scales c i arg5 f5) := by
  have h : (runTemp.sl.v564 c i arg3 arg4 arg5 arg6 arg7 arg8 f3 f4 f5 f6 f7 f8) = tempF (runTemp.sl.v470 c arg6 arg7 f6 f7) (runTemp.sl.v480 c i arg3 arg4 arg6 arg7 f3 f4 f6 f7) (runTemp.sl.v486 c i arg3 arg4 arg6 arg7 f3 f4 f6 f7) (runTemp.sl.v492 c i arg3 arg4 arg6 arg7 f3 f4 f6 f7) (runTemp.sl.v498 c i arg3 arg4 arg6 arg7 f3 f4 f6 f7) (runTemp.sl.v471 c i arg3 arg4 f3 f4) (runTemp.sl.v304 c i arg5 arg8 f5 f8) (runTemp.sl.v312 c i arg5 arg8 f5 f8) (runTemp.sl.v322 c i arg5 arg8 f5 f8) (runTemp.sl.v332 c i arg5 arg8 f5 f8) (runTemp.sl.v342 c i arg5 arg8 f5 f8) (runTemp.sl.v506 c i arg3 arg4 arg6 arg7 f3 f4 f6 f7) := rfl
  rw [h, runTemp_v506 c i arg3 arg4 arg5 arg6 arg7 arg8 f3 f4 f5 f6 f7 f8, runTemp_v470 c i arg3 arg4 arg5 arg6 arg7 arg8 f3 f4 f5 f6 f7 f8, runTemp_v471 c i arg3 arg4 arg5 arg6 arg7 arg8 f3 f4 f5 f6 f7 f8, runTemp_v480 c i arg3 arg4 arg5 arg6 arg7 arg8 f3 f4 f5 f6 f7 f8, runTemp_v486 c i arg3 arg4 arg5 arg6 arg7 arg8 f3 f4 f5 f6 f7 f8, runTemp_v492 c i arg3 arg4 arg5 arg6 arg7 arg8 f3 f4 f5 f6 f7 f8, runTemp_v498 c i arg3 arg4 arg5 arg6 arg7 arg8 f3 f4 f5 f6 f7 f8, runTemp_v304 c i arg3 arg4 arg5 arg6 arg7 arg8 f3 f4 f5 f6 f7 f8, runTemp_v312 c i arg3 arg4 arg5 arg6 arg7 arg8 f3 f4 f5 f6 f7 f8, runTemp_v322 c i arg3 arg4 arg5 arg6 arg7 arg8 f3 f4 f5 f6 f7 f8, runTemp_v332 c i arg3 arg4 arg5 arg6 arg7 arg8 f3 f4 f5 f6 f7 f8, runTemp_v342 c i arg3 arg4 arg5 arg6 arg7 arg8 f3 f4 f5 f6 f7 f8]
  rfl

/-- A word of this run. -/
theorem runTemp_v575 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v575 c arg6 arg7 f6 f7) = maskT (sText (rknt (codes c arg7 f7)) (rq 1152 inb_S128x1792_S128x384_0_1152 (codes c arg6 f6))) := rfl

/-- A word of this run. -/
theorem runTemp_v576 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v576 c i arg3 arg4 f3 f4) = (Scalar.mulf (k0_pay126 ((scales c i arg3 f3) 3)) ((scales c i arg4 f4) 4)) := rfl

/-- A word of this run. -/
theorem runTemp_v585 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v585 c i arg3 arg4 arg6 arg7 f3 f4 f6 f7) = pScore (xf (codesF c 1152 inb_S1x1x72x1690_S1x1x72x384_0_0_0_1152 arg6 f6)) (xf (codesF c 0 inb_S1x1x72x1690_S1x1x72x384_0_0_0_0 arg7 f7)) (Scalar.mulf (k0_pay126 ((scales c i arg3 f3) 3)) ((scales c i arg4 f4) 0)) := rfl

/-- A word of this run. -/
theorem runTemp_v591 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v591 c i arg3 arg4 arg6 arg7 f3 f4 f6 f7) = pScore (xf (codesF c 1152 inb_S1x1x72x1690_S1x1x72x384_0_0_0_1152 arg6 f6)) (xf (codesF c 384 inb_S1x1x72x1690_S1x1x72x384_0_0_0_384 arg7 f7)) (Scalar.mulf (k0_pay126 ((scales c i arg3 f3) 3)) ((scales c i arg4 f4) 1)) := rfl

/-- A word of this run. -/
theorem runTemp_v597 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v597 c i arg3 arg4 arg6 arg7 f3 f4 f6 f7) = pScore (xf (codesF c 1152 inb_S1x1x72x1690_S1x1x72x384_0_0_0_1152 arg6 f6)) (xf (codesF c 768 inb_S1x1x72x1690_S1x1x72x384_0_0_0_768 arg7 f7)) (Scalar.mulf (k0_pay126 ((scales c i arg3 f3) 3)) ((scales c i arg4 f4) 2)) := rfl

/-- A word of this run. -/
theorem runTemp_v603 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v603 c i arg3 arg4 arg6 arg7 f3 f4 f6 f7) = pScore (xf (codesF c 1152 inb_S1x1x72x1690_S1x1x72x384_0_0_0_1152 arg6 f6)) (xf (codesF c 1152 inb_S1x1x72x1690_S1x1x72x384_0_0_0_1152 arg7 f7)) (Scalar.mulf (k0_pay126 ((scales c i arg3 f3) 3)) ((scales c i arg4 f4) 3)) := rfl

/-- A word of this run. -/
theorem runTemp_v647 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v647 c i arg5 arg8 f5 f8) = (rv 768 inb_S72x1792_S72x384_0_768 (codes c arg8 f8) (scales c i arg5 f5)) := rfl

/-- A word of this run. -/
theorem runTemp_v657 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v657 c i arg5 arg8 f5 f8) = (rv 1152 inb_S72x1792_S72x384_0_1152 (codes c arg8 f8) (scales c i arg5 f5)) := rfl

/-- The maxima of this frame. -/
theorem runTemp_v611 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTemp.sl.v611 c i arg3 arg4 arg6 arg7 f3 f4 f6 f7) = tempM (runTemp.sl.v575 c arg6 arg7 f6 f7) (runTemp.sl.v585 c i arg3 arg4 arg6 arg7 f3 f4 f6 f7) (runTemp.sl.v591 c i arg3 arg4 arg6 arg7 f3 f4 f6 f7) (runTemp.sl.v597 c i arg3 arg4 arg6 arg7 f3 f4 f6 f7) (runTemp.sl.v603 c i arg3 arg4 arg6 arg7 f3 f4 f6 f7) (runTemp.sl.v576 c i arg3 arg4 f3 f4) := rfl

/-- What this run stores for frame 3. -/
theorem runTemp_f3 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (k0_pay2 (runTemp.sl.v603 c i arg3 arg4 arg6 arg7 f3 f4 f6 f7) (runTemp.sl.v611 c i arg3 arg4 arg6 arg7 f3 f4 f6 f7) (runTemp.sl.v641 c i arg3 arg4 arg5 arg6 arg7 arg8 f3 f4 f5 f6 f7 f8) (runTemp.sl.v643 c i arg3 arg4 arg6 arg7 f3 f4 f6 f7) (runTemp.sl.v644 c i arg3 arg4 arg6 arg7 f3 f4 f6 f7) (runTemp.sl.v647 c i arg5 arg8 f5 f8) (runTemp.sl.v657 c i arg5 arg8 f5 f8)) = tempP 3 1152 inb_S128x1792_S128x384_0_1152 (codes c arg6 f6) (codes c arg7 f7) (codes c arg8 f8) (codesF c 1152 inb_S1x1x72x1690_S1x1x72x384_0_0_0_1152 arg6 f6) (codesF c 0 inb_S1x1x72x1690_S1x1x72x384_0_0_0_0 arg7 f7) (codesF c 384 inb_S1x1x72x1690_S1x1x72x384_0_0_0_384 arg7 f7) (codesF c 768 inb_S1x1x72x1690_S1x1x72x384_0_0_0_768 arg7 f7) (codesF c 1152 inb_S1x1x72x1690_S1x1x72x384_0_0_0_1152 arg7 f7) (scales c i arg3 f3) (scales c i arg4 f4) (scales c i arg5 f5) := by
  have h : (k0_pay2 (runTemp.sl.v603 c i arg3 arg4 arg6 arg7 f3 f4 f6 f7) (runTemp.sl.v611 c i arg3 arg4 arg6 arg7 f3 f4 f6 f7) (runTemp.sl.v641 c i arg3 arg4 arg5 arg6 arg7 arg8 f3 f4 f5 f6 f7 f8) (runTemp.sl.v643 c i arg3 arg4 arg6 arg7 f3 f4 f6 f7) (runTemp.sl.v644 c i arg3 arg4 arg6 arg7 f3 f4 f6 f7) (runTemp.sl.v647 c i arg5 arg8 f5 f8) (runTemp.sl.v657 c i arg5 arg8 f5 f8)) = tempF (runTemp.sl.v575 c arg6 arg7 f6 f7) (runTemp.sl.v585 c i arg3 arg4 arg6 arg7 f3 f4 f6 f7) (runTemp.sl.v591 c i arg3 arg4 arg6 arg7 f3 f4 f6 f7) (runTemp.sl.v597 c i arg3 arg4 arg6 arg7 f3 f4 f6 f7) (runTemp.sl.v603 c i arg3 arg4 arg6 arg7 f3 f4 f6 f7) (runTemp.sl.v576 c i arg3 arg4 f3 f4) (runTemp.sl.v304 c i arg5 arg8 f5 f8) (runTemp.sl.v312 c i arg5 arg8 f5 f8) (runTemp.sl.v322 c i arg5 arg8 f5 f8) (runTemp.sl.v647 c i arg5 arg8 f5 f8) (runTemp.sl.v657 c i arg5 arg8 f5 f8) (runTemp.sl.v611 c i arg3 arg4 arg6 arg7 f3 f4 f6 f7) := rfl
  rw [h, runTemp_v611 c i arg3 arg4 arg5 arg6 arg7 arg8 f3 f4 f5 f6 f7 f8, runTemp_v575 c i arg3 arg4 arg5 arg6 arg7 arg8 f3 f4 f5 f6 f7 f8, runTemp_v576 c i arg3 arg4 arg5 arg6 arg7 arg8 f3 f4 f5 f6 f7 f8, runTemp_v585 c i arg3 arg4 arg5 arg6 arg7 arg8 f3 f4 f5 f6 f7 f8, runTemp_v591 c i arg3 arg4 arg5 arg6 arg7 arg8 f3 f4 f5 f6 f7 f8, runTemp_v597 c i arg3 arg4 arg5 arg6 arg7 arg8 f3 f4 f5 f6 f7 f8, runTemp_v603 c i arg3 arg4 arg5 arg6 arg7 arg8 f3 f4 f5 f6 f7 f8, runTemp_v304 c i arg3 arg4 arg5 arg6 arg7 arg8 f3 f4 f5 f6 f7 f8, runTemp_v312 c i arg3 arg4 arg5 arg6 arg7 arg8 f3 f4 f5 f6 f7 f8, runTemp_v322 c i arg3 arg4 arg5 arg6 arg7 arg8 f3 f4 f5 f6 f7 f8, runTemp_v647 c i arg3 arg4 arg5 arg6 arg7 arg8 f3 f4 f5 f6 f7 f8, runTemp_v657 c i arg3 arg4 arg5 arg6 arg7 arg8 f3 f4 f5 f6 f7 f8]
  rfl

/-- The stores of this run in closed form. -/
theorem runTemp_pieces (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) :
    ([⟨Rect.unit (s := S1792x1792) (k0_off12 i) S72x384.size (k0_off12_inb i), (k0_pay2 (runTemp.sl.v603 c i arg3 arg4 arg6 arg7 f3 f4 f6 f7) (runTemp.sl.v611 c i arg3 arg4 arg6 arg7 f3 f4 f6 f7) (runTemp.sl.v641 c i arg3 arg4 arg5 arg6 arg7 arg8 f3 f4 f5 f6 f7 f8) (runTemp.sl.v643 c i arg3 arg4 arg6 arg7 f3 f4 f6 f7) (runTemp.sl.v644 c i arg3 arg4 arg6 arg7 f3 f4 f6 f7) (runTemp.sl.v647 c i arg5 arg8 f5 f8) (runTemp.sl.v657 c i arg5 arg8 f5 f8))⟩, ⟨Rect.unit (s := S1792x1792) (k0_off11 i) S72x384.size (k0_off11_inb i), (runTemp.sl.v564 c i arg3 arg4 arg5 arg6 arg7 arg8 f3 f4 f5 f6 f7 f8)⟩, ⟨Rect.unit (s := S1792x1792) (k0_off10 i) S72x384.size (k0_off10_inb i), (runTemp.sl.v459 c i arg3 arg4 arg5 arg6 arg7 arg8 f3 f4 f5 f6 f7 f8)⟩, ⟨Rect.unit (s := S1792x1792) (k0_off9 i) S72x384.size (k0_off9_inb i), (runTemp.sl.v354 c i arg3 arg4 arg5 arg6 arg7 arg8 f3 f4 f5 f6 f7 f8)⟩, ⟨Rect.unit (s := S1792x1792) (k0_off2 i) S72x160.size (k0_off2_inb i), (runTemp.sl.v224 c i arg3 arg4 arg5 arg6 arg7 arg8 f3 f4 f5 f6 f7 f8)⟩] : List (View.Piece (Elt F) S1792x1792 .f32)) = tempPieces c i arg3 arg4 arg5 arg6 arg7 arg8 f3 f4 f5 f6 f7 f8 := by
  rw [runTemp_f3 c i arg3 arg4 arg5 arg6 arg7 arg8 f3 f4 f5 f6 f7 f8, runTemp_f2 c i arg3 arg4 arg5 arg6 arg7 arg8 f3 f4 f5 f6 f7 f8, runTemp_f1 c i arg3 arg4 arg5 arg6 arg7 arg8 f3 f4 f5 f6 f7 f8, runTemp_f0 c i arg3 arg4 arg5 arg6 arg7 arg8 f3 f4 f5 f6 f7 f8, runTemp_v224 c i arg3 arg4 arg5 arg6 arg7 arg8 f3 f4 f5 f6 f7 f8]
  rfl

/-- What this run leaves in the output scratch. -/
theorem runTemp_eq (c : Dev nD) (i : grid0.Coords) (arg2 : Memref sig .tc .smem S24 .i32) (harg2 : arg2.IsWhole) (arg3 : Memref sig .tc .smem S720 .f32) (harg3 : arg3.IsWhole) (arg4 : Memref sig .tc .smem S720 .f32) (harg4 : arg4.IsWhole) (arg5 : Memref sig .tc .smem S720 .f32) (harg5 : arg5.IsWhole) (arg6 : Memref sig .tc .vmem S1x1x72x1690 .fp8e4m3) (harg6 : arg6.IsWhole) (arg7 : Memref sig .tc .vmem S1x1x72x1690 .fp8e4m3) (harg7 : arg7.IsWhole) (arg8 : Memref sig .tc .vmem S1x1x72x1690 .fp8e4m3) (harg8 : arg8.IsWhole) (arg9 : Memref sig .tc .vmem S1x1690x1728 .bf16) (harg9 : arg9.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8)
    (f15 : Bf (F := F) c (Memref.whole cc0_scratch5))
    (hk : ¬ word c i arg2 f2 = 0#32) (hh : ¬ k0_cond3 i = 1#1) :
    (runTemp c i arg2 harg2 arg3 harg3 arg4 harg4 arg5 harg5 arg6 harg6 arg7 harg7 arg8 harg8 arg9 harg9 f2 f3 f4 f5 f6 f7 f8 f15 hk hh).1 = (Memref.whole cc0_scratch5).view.writes (Elt F) f15 (tempPieces c i arg3 arg4 arg5 arg6 arg7 arg8 f3 f4 f5 f6 f7 f8) := by
  rw [← runTemp_pieces c i arg3 arg4 arg5 arg6 arg7 arg8 f3 f4 f5 f6 f7 f8]
  rfl

end Cert.KernelIdeal.Hand

end
-- ==== Proof.EqSpatLast.lean ====
module

public import proofs.«01_k».proof.Proof.Model

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-! ### The words of `runSpatLast` in closed form -/

/-- The text rows this run stores. -/
theorem runSpatLast_v224 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v224 c i arg3 arg4 arg5 arg6 arg7 arg8 f3 f4 f5 f6 f7 f8) = textP (codes c arg6 f6) (codes c arg7 f7) (codes c arg8 f8) (scales c i arg3 f3) (scales c i arg4 f4) (scales c i arg5 f5) := rfl

/-- A word of this run. -/
theorem runSpatLast_v254 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v254 c i arg5 arg8 f5 f8) = (rvt (codes c arg8 f8) (scales c i arg5 f5)) := rfl

/-- A word of this run. -/
theorem runSpatLast_v240 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v240 c arg6 arg7 f6 f7) = sScore (rkn 0 inb_S1696x128_S384x128_0_0 (codes c arg7 f7)) (rq 0 inb_S128x1792_S128x384_0_0 (codes c arg6 f6)) := rfl

/-- A word of this run. -/
theorem runSpatLast_v250 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v250 c arg6 arg7 f6 f7) = maskT (sText (rknt (codes c arg7 f7)) (rq 0 inb_S128x1792_S128x384_0_0 (codes c arg6 f6))) := rfl

/-- A word of this run. -/
theorem runSpatLast_v251 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v251 c i arg3 arg4 f3 f4) = (Scalar.mulf (k0_pay126 ((scales c i arg3 f3) 0)) ((scales c i arg4 f4) 0)) := rfl

/-- A word of this run. -/
theorem runSpatLast_v252 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v252 c i arg3 arg4 f3 f4) = (Scalar.mulf (k0_pay126 ((scales c i arg3 f3) 0)) ((scales c i arg4 f4) 4)) := rfl

/-- A word of this run. -/
theorem runSpatLast_v253 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v253 c i arg5 arg8 f5 f8) = (rv 0 inb_S72x1792_S72x384_0_0 (codes c arg8 f8) (scales c i arg5 f5)) := rfl

/-- The maxima of this frame. -/
theorem runSpatLast_v263 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v263 c i arg3 arg4 arg6 arg7 f3 f4 f6 f7) = maximumf (cmax (runSpatLast.sl.v240 c arg6 arg7 f6 f7) (runSpatLast.sl.v251 c i arg3 arg4 f3 f4)) (cmaxT (runSpatLast.sl.v250 c arg6 arg7 f6 f7) (runSpatLast.sl.v252 c i arg3 arg4 f3 f4)) := rfl

/-- What this run stores for frame 0. -/
theorem runSpatLast_f0 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v293 c i arg3 arg4 arg5 arg6 arg7 arg8 f3 f4 f5 f6 f7 f8) = spatP0 (codes c arg6 f6) (codes c arg7 f7) (codes c arg8 f8) (scales c i arg3 f3) (scales c i arg4 f4) (scales c i arg5 f5) := by
  have h : (runSpatLast.sl.v293 c i arg3 arg4 arg5 arg6 arg7 arg8 f3 f4 f5 f6 f7 f8) = spat0F (runSpatLast.sl.v240 c arg6 arg7 f6 f7) (runSpatLast.sl.v250 c arg6 arg7 f6 f7) (runSpatLast.sl.v251 c i arg3 arg4 f3 f4) (runSpatLast.sl.v252 c i arg3 arg4 f3 f4) (runSpatLast.sl.v253 c i arg5 arg8 f5 f8) (runSpatLast.sl.v254 c i arg5 arg8 f5 f8) (runSpatLast.sl.v263 c i arg3 arg4 arg6 arg7 f3 f4 f6 f7) := rfl
  rw [h, runSpatLast_v263 c i arg3 arg4 arg5 arg6 arg7 arg8 f3 f4 f5 f6 f7 f8, runSpatLast_v254 c i arg3 arg4 arg5 arg6 arg7 arg8 f3 f4 f5 f6 f7 f8, runSpatLast_v240 c i arg3 arg4 arg5 arg6 arg7 arg8 f3 f4 f5 f6 f7 f8, runSpatLast_v250 c i arg3 arg4 arg5 arg6 arg7 arg8 f3 f4 f5 f6 f7 f8, runSpatLast_v251 c i arg3 arg4 arg5 arg6 arg7 arg8 f3 f4 f5 f6 f7 f8, runSpatLast_v252 c i arg3 arg4 arg5 arg6 arg7 arg8 f3 f4 f5 f6 f7 f8, runSpatLast_v253 c i arg3 arg4 arg5 arg6 arg7 arg8 f3 f4 f5 f6 f7 f8]
  rfl

/-- A word of this run. -/
theorem runSpatLast_v296 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v296 c arg6 arg7 f6 f7) = sScore (rkn 384 inb_S1696x128_S384x128_384_0 (codes c arg7 f7)) (rq 384 inb_S128x1792_S128x384_0_384 (codes c arg6 f6)) := rfl

/-- A word of this run. -/
theorem runSpatLast_v306 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v306 c arg6 arg7 f6 f7) = maskT (sText (rknt (codes c arg7 f7)) (rq 384 inb_S128x1792_S128x384_0_384 (codes c arg6 f6))) := rfl

/-- A word of this run. -/
theorem runSpatLast_v307 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v307 c i arg3 arg4 f3 f4) = (Scalar.mulf (k0_pay126 ((scales c i arg3 f3) 1)) ((scales c i arg4 f4) 1)) := rfl

/-- A word of this run. -/
theorem runSpatLast_v308 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v308 c i arg3 arg4 f3 f4) = (Scalar.mulf (k0_pay126 ((scales c i arg3 f3) 1)) ((scales c i arg4 f4) 4)) := rfl

/-- A word of this run. -/
theorem runSpatLast_v309 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v309 c i arg5 arg8 f5 f8) = (rv 384 inb_S72x1792_S72x384_0_384 (codes c arg8 f8) (scales c i arg5 f5)) := rfl

/-- A word of this run. -/
theorem runSpatLast_v312 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v312 c arg6 arg7 f6 f7) = sScore (rkn 0 inb_S1696x128_S384x128_0_0 (codes c arg7 f7)) (rq 384 inb_S128x1792_S128x384_0_384 (codes c arg6 f6)) := rfl

/-- A word of this run. -/
theorem runSpatLast_v313 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v313 c i arg3 arg4 f3 f4) = (Scalar.mulf (k0_pay126 ((scales c i arg3 f3) 1)) ((scales c i arg4 f4) 0)) := rfl

/-- The maxima of this frame. -/
theorem runSpatLast_v328 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v328 c i arg3 arg4 arg6 arg7 f3 f4 f6 f7) = maximumf (maximumf (cmax (runSpatLast.sl.v296 c arg6 arg7 f6 f7) (runSpatLast.sl.v307 c i arg3 arg4 f3 f4)) (cmaxT (runSpatLast.sl.v306 c arg6 arg7 f6 f7) (runSpatLast.sl.v308 c i arg3 arg4 f3 f4))) (cmax (runSpatLast.sl.v312 c arg6 arg7 f6 f7) (runSpatLast.sl.v313 c i arg3 arg4 f3 f4)) := rfl

/-- What this run stores for frame 1. -/
theorem runSpatLast_f1 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v369 c i arg3 arg4 arg5 arg6 arg7 arg8 f3 f4 f5 f6 f7 f8) = spatP 1 384 inb_S1696x128_S384x128_384_0 inb_S128x1792_S128x384_0_384 inb_S72x1792_S72x384_0_384 (codes c arg6 f6) (codes c arg7 f7) (codes c arg8 f8) (scales c i arg3 f3) (scales c i arg4 f4) (scales c i arg5 f5) := by
  have h : (runSpatLast.sl.v369 c i arg3 arg4 arg5 arg6 arg7 arg8 f3 f4 f5 f6 f7 f8) = spat1F (runSpatLast.sl.v296 c arg6 arg7 f6 f7) (runSpatLast.sl.v306 c arg6 arg7 f6 f7) (runSpatLast.sl.v312 c arg6 arg7 f6 f7) (runSpatLast.sl.v307 c i arg3 arg4 f3 f4) (runSpatLast.sl.v308 c i arg3 arg4 f3 f4) (runSpatLast.sl.v313 c i arg3 arg4 f3 f4) (runSpatLast.sl.v309 c i arg5 arg8 f5 f8) (runSpatLast.sl.v254 c i arg5 arg8 f5 f8) (runSpatLast.sl.v253 c i arg5 arg8 f5 f8) (runSpatLast.sl.v328 c i arg3 arg4 arg6 arg7 f3 f4 f6 f7) := rfl
  rw [h, runSpatLast_v328 c i arg3 arg4 arg5 arg6 arg7 arg8 f3 f4 f5 f6 f7 f8, runSpatLast_v296 c i arg3 arg4 arg5 arg6 arg7 arg8 f3 f4 f5 f6 f7 f8, runSpatLast_v306 c i arg3 arg4 arg5 arg6 arg7 arg8 f3 f4 f5 f6 f7 f8, runSpatLast_v307 c i arg3 arg4 arg5 arg6 arg7 arg8 f3 f4 f5 f6 f7 f8, runSpatLast_v308 c i arg3 arg4 arg5 arg6 arg7 arg8 f3 f4 f5 f6 f7 f8, runSpatLast_v309 c i arg3 arg4 arg5 arg6 arg7 arg8 f3 f4 f5 f6 f7 f8, runSpatLast_v312 c i arg3 arg4 arg5 arg6 arg7 arg8 f3 f4 f5 f6 f7 f8, runSpatLast_v313 c i arg3 arg4 arg5 arg6 arg7 arg8 f3 f4 f5 f6 f7 f8, runSpatLast_v254 c i arg3 arg4 arg5 arg6 arg7 arg8 f3 f4 f5 f6 f7 f8, runSpatLast_v253 c i arg3 arg4 arg5 arg6 arg7 arg8 f3 f4 f5 f6 f7 f8]
  rfl

/-- A word of this run. -/
theorem runSpatLast_v372 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v372 c arg6 arg7 f6 f7) = sScore (rkn 768 inb_S1696x128_S384x128_768_0 (codes c arg7 f7)) (rq 768 inb_S128x1792_S128x384_0_768 (codes c arg6 f6)) := rfl

/-- A word of this run. -/
theorem runSpatLast_v382 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v382 c arg6 arg7 f6 f7) = maskT (sText (rknt (codes c arg7 f7)) (rq 768 inb_S128x1792_S128x384_0_768 (codes c arg6 f6))) := rfl

/-- A word of this run. -/
theorem runSpatLast_v383 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v383 c i arg3 arg4 f3 f4) = (Scalar.mulf (k0_pay126 ((scales c i arg3 f3) 2)) ((scales c i arg4 f4) 2)) := rfl

/-- A word of this run. -/
theorem runSpatLast_v384 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v384 c i arg3 arg4 f3 f4) = (Scalar.mulf (k0_pay126 ((scales c i arg3 f3) 2)) ((scales c i arg4 f4) 4)) := rfl

/-- A word of this run. -/
theorem runSpatLast_v385 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v385 c i arg5 arg8 f5 f8) = (rv 768 inb_S72x1792_S72x384_0_768 (codes c arg8 f8) (scales c i arg5 f5)) := rfl

/-- A word of this run. -/
theorem runSpatLast_v388 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v388 c arg6 arg7 f6 f7) = sScore (rkn 0 inb_S1696x128_S384x128_0_0 (codes c arg7 f7)) (rq 768 inb_S128x1792_S128x384_0_768 (codes c arg6 f6)) := rfl

/-- A word of this run. -/
theorem runSpatLast_v389 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v389 c i arg3 arg4 f3 f4) = (Scalar.mulf (k0_pay126 ((scales c i arg3 f3) 2)) ((scales c i arg4 f4) 0)) := rfl

/-- The maxima of this frame. -/
theorem runSpatLast_v404 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v404 c i arg3 arg4 arg6 arg7 f3 f4 f6 f7) = maximumf (maximumf (cmax (runSpatLast.sl.v372 c arg6 arg7 f6 f7) (runSpatLast.sl.v383 c i arg3 arg4 f3 f4)) (cmaxT (runSpatLast.sl.v382 c arg6 arg7 f6 f7) (runSpatLast.sl.v384 c i arg3 arg4 f3 f4))) (cmax (runSpatLast.sl.v388 c arg6 arg7 f6 f7) (runSpatLast.sl.v389 c i arg3 arg4 f3 f4)) := rfl

/-- What this run stores for frame 2. -/
theorem runSpatLast_f2 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v445 c i arg3 arg4 arg5 arg6 arg7 arg8 f3 f4 f5 f6 f7 f8) = spatP 2 768 inb_S1696x128_S384x128_768_0 inb_S128x1792_S128x384_0_768 inb_S72x1792_S72x384_0_768 (codes c arg6 f6) (codes c arg7 f7) (codes c arg8 f8) (scales c i arg3 f3) (scales c i arg4 f4) (scales c i arg5 f5) := by
  have h : (runSpatLast.sl.v445 c i arg3 arg4 arg5 arg6 arg7 arg8 f3 f4 f5 f6 f7 f8) = spat1F (runSpatLast.sl.v372 c arg6 arg7 f6 f7) (runSpatLast.sl.v382 c arg6 arg7 f6 f7) (runSpatLast.sl.v388 c arg6 arg7 f6 f7) (runSpatLast.sl.v383 c i arg3 arg4 f3 f4) (runSpatLast.sl.v384 c i arg3 arg4 f3 f4) (runSpatLast.sl.v389 c i arg3 arg4 f3 f4) (runSpatLast.sl.v385 c i arg5 arg8 f5 f8) (runSpatLast.sl.v254 c i arg5 arg8 f5 f8) (runSpatLast.sl.v253 c i arg5 arg8 f5 f8) (runSpatLast.sl.v404 c i arg3 arg4 arg6 arg7 f3 f4 f6 f7) := rfl
  rw [h, runSpatLast_v404 c i arg3 arg4 arg5 arg6 arg7 arg8 f3 f4 f5 f6 f7 f8, runSpatLast_v372 c i arg3 arg4 arg5 arg6 arg7 arg8 f3 f4 f5 f6 f7 f8, runSpatLast_v382 c i arg3 arg4 arg5 arg6 arg7 arg8 f3 f4 f5 f6 f7 f8, runSpatLast_v383 c i arg3 arg4 arg5 arg6 arg7 arg8 f3 f4 f5 f6 f7 f8, runSpatLast_v384 c i arg3 arg4 arg5 arg6 arg7 arg8 f3 f4 f5 f6 f7 f8, runSpatLast_v385 c i arg3 arg4 arg5 arg6 arg7 arg8 f3 f4 f5 f6 f7 f8, runSpatLast_v388 c i arg3 arg4 arg5 arg6 arg7 arg8 f3 f4 f5 f6 f7 f8, runSpatLast_v389 c i arg3 arg4 arg5 arg6 arg7 arg8 f3 f4 f5 f6 f7 f8, runSpatLast_v254 c i arg3 arg4 arg5 arg6 arg7 arg8 f3 f4 f5 f6 f7 f8, runSpatLast_v253 c i arg3 arg4 arg5 arg6 arg7 arg8 f3 f4 f5 f6 f7 f8]
  rfl

/-- A word of this run. -/
theorem runSpatLast_v448 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v448 c arg6 arg7 f6 f7) = sScore (rkn 1152 inb_S1696x128_S384x128_1152_0 (codes c arg7 f7)) (rq 1152 inb_S128x1792_S128x384_0_1152 (codes c arg6 f6)) := rfl

/-- A word of this run. -/
theorem runSpatLast_v458 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v458 c arg6 arg7 f6 f7) = maskT (sText (rknt (codes c arg7 f7)) (rq 1152 inb_S128x1792_S128x384_0_1152 (codes c arg6 f6))) := rfl

/-- A word of this run. -/
theorem runSpatLast_v459 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v459 c i arg3 arg4 f3 f4) = (Scalar.mulf (k0_pay126 ((scales c i arg3 f3) 3)) ((scales c i arg4 f4) 3)) := rfl

/-- A word of this run. -/
theorem runSpatLast_v460 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v460 c i arg3 arg4 f3 f4) = (Scalar.mulf (k0_pay126 ((scales c i arg3 f3) 3)) ((scales c i arg4 f4) 4)) := rfl

/-- A word of this run. -/
theorem runSpatLast_v461 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v461 c i arg5 arg8 f5 f8) = (rv 1152 inb_S72x1792_S72x384_0_1152 (codes c arg8 f8) (scales c i arg5 f5)) := rfl

/-- A word of this run. -/
theorem runSpatLast_v464 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v464 c arg6 arg7 f6 f7) = sScore (rkn 0 inb_S1696x128_S384x128_0_0 (codes c arg7 f7)) (rq 1152 inb_S128x1792_S128x384_0_1152 (codes c arg6 f6)) := rfl

/-- A word of this run. -/
theorem runSpatLast_v465 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v465 c i arg3 arg4 f3 f4) = (Scalar.mulf (k0_pay126 ((scales c i arg3 f3) 3)) ((scales c i arg4 f4) 0)) := rfl

/-- The maxima of this frame. -/
theorem runSpatLast_v480 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runSpatLast.sl.v480 c i arg3 arg4 arg6 arg7 f3 f4 f6 f7) = maximumf (maximumf (cmax (runSpatLast.sl.v448 c arg6 arg7 f6 f7) (runSpatLast.sl.v459 c i arg3 arg4 f3 f4)) (cmaxT (runSpatLast.sl.v458 c arg6 arg7 f6 f7) (runSpatLast.sl.v460 c i arg3 arg4 f3 f4))) (cmax (runSpatLast.sl.v464 c arg6 arg7 f6 f7) (runSpatLast.sl.v465 c i arg3 arg4 f3 f4)) := rfl

/-- What this run stores for frame 3. -/
theorem runSpatLast_f3 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (k0_pay1 (runSpatLast.sl.v458 c arg6 arg7 f6 f7) (runSpatLast.sl.v460 c i arg3 arg4 f3 f4) (runSpatLast.sl.v461 c i arg5 arg8 f5 f8) (runSpatLast.sl.v254 c i arg5 arg8 f5 f8) (runSpatLast.sl.v464 c arg6 arg7 f6 f7) (runSpatLast.sl.v465 c i arg3 arg4 f3 f4) (runSpatLast.sl.v253 c i arg5 arg8 f5 f8) (runSpatLast.sl.v480 c i arg3 arg4 arg6 arg7 f3 f4 f6 f7) (runSpatLast.sl.v485 c i arg3 arg4 arg6 arg7 f3 f4 f6 f7) (runSpatLast.sl.v486 c i arg3 arg4 arg6 arg7 f3 f4 f6 f7)) = spatP 3 1152 inb_S1696x128_S384x128_1152_0 inb_S128x1792_S128x384_0_1152 inb_S72x1792_S72x384_0_1152 (codes c arg6 f6) (codes c arg7 f7) (codes c arg8 f8) (scales c i arg3 f3) (scales c i arg4 f4) (scales c i arg5 f5) := by
  have h : (k0_pay1 (runSpatLast.sl.v458 c arg6 arg7 f6 f7) (runSpatLast.sl.v460 c i arg3 arg4 f3 f4) (runSpatLast.sl.v461 c i arg5 arg8 f5 f8) (runSpatLast.sl.v254 c i arg5 arg8 f5 f8) (runSpatLast.sl.v464 c arg6 arg7 f6 f7) (runSpatLast.sl.v465 c i arg3 arg4 f3 f4) (runSpatLast.sl.v253 c i arg5 arg8 f5 f8) (runSpatLast.sl.v480 c i arg3 arg4 arg6 arg7 f3 f4 f6 f7) (runSpatLast.sl.v485 c i arg3 arg4 arg6 arg7 f3 f4 f6 f7) (runSpatLast.sl.v486 c i arg3 arg4 arg6 arg7 f3 f4 f6 f7)) = spat1F (runSpatLast.sl.v448 c arg6 arg7 f6 f7) (runSpatLast.sl.v458 c arg6 arg7 f6 f7) (runSpatLast.sl.v464 c arg6 arg7 f6 f7) (runSpatLast.sl.v459 c i arg3 arg4 f3 f4) (runSpatLast.sl.v460 c i arg3 arg4 f3 f4) (runSpatLast.sl.v465 c i arg3 arg4 f3 f4) (runSpatLast.sl.v461 c i arg5 arg8 f5 f8) (runSpatLast.sl.v254 c i arg5 arg8 f5 f8) (runSpatLast.sl.v253 c i arg5 arg8 f5 f8) (runSpatLast.sl.v480 c i arg3 arg4 arg6 arg7 f3 f4 f6 f7) := rfl
  rw [h, runSpatLast_v480 c i arg3 arg4 arg5 arg6 arg7 arg8 f3 f4 f5 f6 f7 f8, runSpatLast_v448 c i arg3 arg4 arg5 arg6 arg7 arg8 f3 f4 f5 f6 f7 f8, runSpatLast_v458 c i arg3 arg4 arg5 arg6 arg7 arg8 f3 f4 f5 f6 f7 f8, runSpatLast_v459 c i arg3 arg4 arg5 arg6 arg7 arg8 f3 f4 f5 f6 f7 f8, runSpatLast_v460 c i arg3 arg4 arg5 arg6 arg7 arg8 f3 f4 f5 f6 f7 f8, runSpatLast_v461 c i arg3 arg4 arg5 arg6 arg7 arg8 f3 f4 f5 f6 f7 f8, runSpatLast_v464 c i arg3 arg4 arg5 arg6 arg7 arg8 f3 f4 f5 f6 f7 f8, runSpatLast_v465 c i arg3 arg4 arg5 arg6 arg7 arg8 f3 f4 f5 f6 f7 f8, runSpatLast_v254 c i arg3 arg4 arg5 arg6 arg7 arg8 f3 f4 f5 f6 f7 f8, runSpatLast_v253 c i arg3 arg4 arg5 arg6 arg7 arg8 f3 f4 f5 f6 f7 f8]
  rfl

/-- The stores of this run in closed form. -/
theorem runSpatLast_pieces (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) :
    ([⟨Rect.unit (s := S1792x1792) (k0_off7 i) S72x384.size (k0_off7_inb i), (k0_pay1 (runSpatLast.sl.v458 c arg6 arg7 f6 f7) (runSpatLast.sl.v460 c i arg3 arg4 f3 f4) (runSpatLast.sl.v461 c i arg5 arg8 f5 f8) (runSpatLast.sl.v254 c i arg5 arg8 f5 f8) (runSpatLast.sl.v464 c arg6 arg7 f6 f7) (runSpatLast.sl.v465 c i arg3 arg4 f3 f4) (runSpatLast.sl.v253 c i arg5 arg8 f5 f8) (runSpatLast.sl.v480 c i arg3 arg4 arg6 arg7 f3 f4 f6 f7) (runSpatLast.sl.v485 c i arg3 arg4 arg6 arg7 f3 f4 f6 f7) (runSpatLast.sl.v486 c i arg3 arg4 arg6 arg7 f3 f4 f6 f7))⟩, ⟨Rect.unit (s := S1792x1792) (k0_off6 i) S72x384.size (k0_off6_inb i), (runSpatLast.sl.v445 c i arg3 arg4 arg5 arg6 arg7 arg8 f3 f4 f5 f6 f7 f8)⟩, ⟨Rect.unit (s := S1792x1792) (k0_off5 i) S72x384.size (k0_off5_inb i), (runSpatLast.sl.v369 c i arg3 arg4 arg5 arg6 arg7 arg8 f3 f4 f5 f6 f7 f8)⟩, ⟨Rect.unit (s := S1792x1792) (k0_off4 i) S72x384.size (k0_off4_inb i), (runSpatLast.sl.v293 c i arg3 arg4 arg5 arg6 arg7 arg8 f3 f4 f5 f6 f7 f8)⟩, ⟨Rect.unit (s := S1792x1792) (k0_off2 i) S72x160.size (k0_off2_inb i), (runSpatLast.sl.v224 c i arg3 arg4 arg5 arg6 arg7 arg8 f3 f4 f5 f6 f7 f8)⟩] : List (View.Piece (Elt F) S1792x1792 .f32)) = spatPieces c i arg3 arg4 arg5 arg6 arg7 arg8 f3 f4 f5 f6 f7 f8 := by
  rw [runSpatLast_f3 c i arg3 arg4 arg5 arg6 arg7 arg8 f3 f4 f5 f6 f7 f8, runSpatLast_f2 c i arg3 arg4 arg5 arg6 arg7 arg8 f3 f4 f5 f6 f7 f8, runSpatLast_f1 c i arg3 arg4 arg5 arg6 arg7 arg8 f3 f4 f5 f6 f7 f8, runSpatLast_f0 c i arg3 arg4 arg5 arg6 arg7 arg8 f3 f4 f5 f6 f7 f8, runSpatLast_v224 c i arg3 arg4 arg5 arg6 arg7 arg8 f3 f4 f5 f6 f7 f8]
  rfl

/-- What this run leaves in the output scratch. -/
theorem runSpatLast_eq1 (c : Dev nD) (i : grid0.Coords) (arg2 : Memref sig .tc .smem S24 .i32) (harg2 : arg2.IsWhole) (arg3 : Memref sig .tc .smem S720 .f32) (harg3 : arg3.IsWhole) (arg4 : Memref sig .tc .smem S720 .f32) (harg4 : arg4.IsWhole) (arg5 : Memref sig .tc .smem S720 .f32) (harg5 : arg5.IsWhole) (arg6 : Memref sig .tc .vmem S1x1x72x1690 .fp8e4m3) (harg6 : arg6.IsWhole) (arg7 : Memref sig .tc .vmem S1x1x72x1690 .fp8e4m3) (harg7 : arg7.IsWhole) (arg8 : Memref sig .tc .vmem S1x1x72x1690 .fp8e4m3) (harg8 : arg8.IsWhole) (arg9 : Memref sig .tc .vmem S1x1690x1728 .bf16) (harg9 : arg9.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8)
    (f15 : Bf (F := F) c (Memref.whole cc0_scratch5))
    (hk : word c i arg2 f2 = 0#32) (hh : k0_cond3 i = 1#1) :
    (runSpatLast c i arg2 harg2 arg3 harg3 arg4 harg4 arg5 harg5 arg6 harg6 arg7 harg7 arg8 harg8 arg9 harg9 f2 f3 f4 f5 f6 f7 f8 f15 hk hh).1.1 = (Memref.whole cc0_scratch5).view.writes (Elt F) f15 (spatPieces c i arg3 arg4 arg5 arg6 arg7 arg8 f3 f4 f5 f6 f7 f8) := by
  rw [← runSpatLast_pieces c i arg3 arg4 arg5 arg6 arg7 arg8 f3 f4 f5 f6 f7 f8]
  rfl

/-- An output tile of this run. -/
theorem runSpatLast_t1664 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : k0_pay3 (runSpatLast.sl.v332_1 c i arg3 arg4 arg5 arg6 arg7 arg8 f3 f4 f5 f6 f7 f8 f15) = outHalf ((Memref.whole cc0_scratch5).view.writes (Elt F) f15 (runSpatLast.sl.S5_5 c i arg3 arg4 arg5 arg6 arg7 arg8 f3 f4 f5 f6 f7 f8)) := rfl

/-- An output tile of this run. -/
theorem runSpatLast_t1536 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runSpatLast.sl.v328_1 c i arg3 arg4 arg5 arg6 arg7 arg8 f3 f4 f5 f6 f7 f8 f15 = outTile 1536 inb_S1792x1792_S128x1792_1536_0 ((Memref.whole cc0_scratch5).view.writes (Elt F) f15 (runSpatLast.sl.S5_5 c i arg3 arg4 arg5 arg6 arg7 arg8 f3 f4 f5 f6 f7 f8)) := rfl

/-- An output tile of this run. -/
theorem runSpatLast_t1408 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runSpatLast.sl.v321_1 c i arg3 arg4 arg5 arg6 arg7 arg8 f3 f4 f5 f6 f7 f8 f15 = outTile 1408 inb_S1792x1792_S128x1792_1408_0 ((Memref.whole cc0_scratch5).view.writes (Elt F) f15 (runSpatLast.sl.S5_5 c i arg3 arg4 arg5 arg6 arg7 arg8 f3 f4 f5 f6 f7 f8)) := rfl

/-- An output tile of this run. -/
theorem runSpatLast_t1280 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runSpatLast.sl.v314 c i arg3 arg4 arg5 arg6 arg7 arg8 f3 f4 f5 f6 f7 f8 f15 = outTile 1280 inb_S1792x1792_S128x1792_1280_0 ((Memref.whole cc0_scratch5).view.writes (Elt F) f15 (runSpatLast.sl.S5_5 c i arg3 arg4 arg5 arg6 arg7 arg8 f3 f4 f5 f6 f7 f8)) := rfl

/-- An output tile of this run. -/
theorem runSpatLast_t1152 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runSpatLast.sl.v307_1 c i arg3 arg4 arg5 arg6 arg7 arg8 f3 f4 f5 f6 f7 f8 f15 = outTile 1152 inb_S1792x1792_S128x1792_1152_0 ((Memref.whole cc0_scratch5).view.writes (Elt F) f15 (runSpatLast.sl.S5_5 c i arg3 arg4 arg5 arg6 arg7 arg8 f3 f4 f5 f6 f7 f8)) := rfl

/-- An output tile of this run. -/
theorem runSpatLast_t1024 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runSpatLast.sl.v300 c i arg3 arg4 arg5 arg6 arg7 arg8 f3 f4 f5 f6 f7 f8 f15 = outTile 1024 inb_S1792x1792_S128x1792_1024_0 ((Memref.whole cc0_scratch5).view.writes (Elt F) f15 (runSpatLast.sl.S5_5 c i arg3 arg4 arg5 arg6 arg7 arg8 f3 f4 f5 f6 f7 f8)) := rfl

/-- An output tile of this run. -/
theorem runSpatLast_t896 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runSpatLast.sl.v293_1 c i arg3 arg4 arg5 arg6 arg7 arg8 f3 f4 f5 f6 f7 f8 f15 = outTile 896 inb_S1792x1792_S128x1792_896_0 ((Memref.whole cc0_scratch5).view.writes (Elt F) f15 (runSpatLast.sl.S5_5 c i arg3 arg4 arg5 arg6 arg7 arg8 f3 f4 f5 f6 f7 f8)) := rfl

/-- An output tile of this run. -/
theorem runSpatLast_t768 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runSpatLast.sl.v286_1 c i arg3 arg4 arg5 arg6 arg7 arg8 f3 f4 f5 f6 f7 f8 f15 = outTile 768 inb_S1792x1792_S128x1792_768_0 ((Memref.whole cc0_scratch5).view.writes (Elt F) f15 (runSpatLast.sl.S5_5 c i arg3 arg4 arg5 arg6 arg7 arg8 f3 f4 f5 f6 f7 f8)) := rfl

/-- An output tile of this run. -/
theorem runSpatLast_t640 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runSpatLast.sl.v279_1 c i arg3 arg4 arg5 arg6 arg7 arg8 f3 f4 f5 f6 f7 f8 f15 = outTile 640 inb_S1792x1792_S128x1792_640_0 ((Memref.whole cc0_scratch5).view.writes (Elt F) f15 (runSpatLast.sl.S5_5 c i arg3 arg4 arg5 arg6 arg7 arg8 f3 f4 f5 f6 f7 f8)) := rfl

/-- An output tile of this run. -/
theorem runSpatLast_t512 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runSpatLast.sl.v272_1 c i arg3 arg4 arg5 arg6 arg7 arg8 f3 f4 f5 f6 f7 f8 f15 = outTile 512 inb_S1792x1792_S128x1792_512_0 ((Memref.whole cc0_scratch5).view.writes (Elt F) f15 (runSpatLast.sl.S5_5 c i arg3 arg4 arg5 arg6 arg7 arg8 f3 f4 f5 f6 f7 f8)) := rfl

/-- An output tile of this run. -/
theorem runSpatLast_t384 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runSpatLast.sl.v265_1 c i arg3 arg4 arg5 arg6 arg7 arg8 f3 f4 f5 f6 f7 f8 f15 = outTile 384 inb_S1792x1792_S128x1792_384_0 ((Memref.whole cc0_scratch5).view.writes (Elt F) f15 (runSpatLast.sl.S5_5 c i arg3 arg4 arg5 arg6 arg7 arg8 f3 f4 f5 f6 f7 f8)) := rfl

/-- An output tile of this run. -/
theorem runSpatLast_t256 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runSpatLast.sl.v258_1 c i arg3 arg4 arg5 arg6 arg7 arg8 f3 f4 f5 f6 f7 f8 f15 = outTile 256 inb_S1792x1792_S128x1792_256_0 ((Memref.whole cc0_scratch5).view.writes (Elt F) f15 (runSpatLast.sl.S5_5 c i arg3 arg4 arg5 arg6 arg7 arg8 f3 f4 f5 f6 f7 f8)) := rfl

/-- An output tile of this run. -/
theorem runSpatLast_t128 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runSpatLast.sl.v251_1 c i arg3 arg4 arg5 arg6 arg7 arg8 f3 f4 f5 f6 f7 f8 f15 = outTile 128 inb_S1792x1792_S128x1792_128_0 ((Memref.whole cc0_scratch5).view.writes (Elt F) f15 (runSpatLast.sl.S5_5 c i arg3 arg4 arg5 arg6 arg7 arg8 f3 f4 f5 f6 f7 f8)) := rfl

/-- An output tile of this run. -/
theorem runSpatLast_t0 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runSpatLast.sl.v244_1 c i arg3 arg4 arg5 arg6 arg7 arg8 f3 f4 f5 f6 f7 f8 f15 = outTile 0 inb_S1792x1792_S128x1792_0_0 ((Memref.whole cc0_scratch5).view.writes (Elt F) f15 (runSpatLast.sl.S5_5 c i arg3 arg4 arg5 arg6 arg7 arg8 f3 f4 f5 f6 f7 f8)) := rfl

/-- The output stores of this run. -/
theorem runSpatLast_out (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runSpatLast.sl.H9_14 c i arg3 arg4 arg5 arg6 arg7 arg8 f3 f4 f5 f6 f7 f8 f15 = outPieces ((Memref.whole cc0_scratch5).view.writes (Elt F) f15 (runSpatLast.sl.S5_5 c i arg3 arg4 arg5 arg6 arg7 arg8 f3 f4 f5 f6 f7 f8)) := by
  have h : runSpatLast.sl.H9_14 c i arg3 arg4 arg5 arg6 arg7 arg8 f3 f4 f5 f6 f7 f8 f15 = [⟨Rect.unit (s := S1x1690x1728) ![0, 0, 1664] S1x1690x64.size inb_S1x1690x1728_S1x1690x64_0_0_1664, k0_pay3 (runSpatLast.sl.v332_1 c i arg3 arg4 arg5 arg6 arg7 arg8 f3 f4 f5 f6 f7 f8 f15)⟩, ⟨Rect.unit (s := S1x1690x1728) ![0, 0, 1536] S1x1690x128.size inb_S1x1690x1728_S1x1690x128_0_0_1536, runSpatLast.sl.v328_1 c i arg3 arg4 arg5 arg6 arg7 arg8 f3 f4 f5 f6 f7 f8 f15⟩, ⟨Rect.unit (s := S1x1690x1728) ![0, 0, 1408] S1x1690x128.size inb_S1x1690x1728_S1x1690x128_0_0_1408, runSpatLast.sl.v321_1 c i arg3 arg4 arg5 arg6 arg7 arg8 f3 f4 f5 f6 f7 f8 f15⟩, ⟨Rect.unit (s := S1x1690x1728) ![0, 0, 1280] S1x1690x128.size inb_S1x1690x1728_S1x1690x128_0_0_1280, runSpatLast.sl.v314 c i arg3 arg4 arg5 arg6 arg7 arg8 f3 f4 f5 f6 f7 f8 f15⟩, ⟨Rect.unit (s := S1x1690x1728) ![0, 0, 1152] S1x1690x128.size inb_S1x1690x1728_S1x1690x128_0_0_1152, runSpatLast.sl.v307_1 c i arg3 arg4 arg5 arg6 arg7 arg8 f3 f4 f5 f6 f7 f8 f15⟩, ⟨Rect.unit (s := S1x1690x1728) ![0, 0, 1024] S1x1690x128.size inb_S1x1690x1728_S1x1690x128_0_0_1024, runSpatLast.sl.v300 c i arg3 arg4 arg5 arg6 arg7 arg8 f3 f4 f5 f6 f7 f8 f15⟩, ⟨Rect.unit (s := S1x1690x1728) ![0, 0, 896] S1x1690x128.size inb_S1x1690x1728_S1x1690x128_0_0_896, runSpatLast.sl.v293_1 c i arg3 arg4 arg5 arg6 arg7 arg8 f3 f4 f5 f6 f7 f8 f15⟩, ⟨Rect.unit (s := S1x1690x1728) ![0, 0, 768] S1x1690x128.size inb_S1x1690x1728_S1x1690x128_0_0_768, runSpatLast.sl.v286_1 c i arg3 arg4 arg5 arg6 arg7 arg8 f3 f4 f5 f6 f7 f8 f15⟩, ⟨Rect.unit (s := S1x1690x1728) ![0, 0, 640] S1x1690x128.size inb_S1x1690x1728_S1x1690x128_0_0_640, runSpatLast.sl.v279_1 c i arg3 arg4 arg5 arg6 arg7 arg8 f3 f4 f5 f6 f7 f8 f15⟩, ⟨Rect.unit (s := S1x1690x1728) ![0, 0, 512] S1x1690x128.size inb_S1x1690x1728_S1x1690x128_0_0_512, runSpatLast.sl.v272_1 c i arg3 arg4 arg5 arg6 arg7 arg8 f3 f4 f5 f6 f7 f8 f15⟩, ⟨Rect.unit (s := S1x1690x1728) ![0, 0, 384] S1x1690x128.size inb_S1x1690x1728_S1x1690x128_0_0_384, runSpatLast.sl.v265_1 c i arg3 arg4 arg5 arg6 arg7 arg8 f3 f4 f5 f6 f7 f8 f15⟩, ⟨Rect.unit (s := S1x1690x1728) ![0, 0, 256] S1x1690x128.size inb_S1x1690x1728_S1x1690x128_0_0_256, runSpatLast.sl.v258_1 c i arg3 arg4 arg5 arg6 arg7 arg8 f3 f4 f5 f6 f7 f8 f15⟩, ⟨Rect.unit (s := S1x1690x1728) ![0, 0, 128] S1x1690x128.size inb_S1x1690x1728_S1x1690x128_0_0_128, runSpatLast.sl.v251_1 c i arg3 arg4 arg5 arg6 arg7 arg8 f3 f4 f5 f6 f7 f8 f15⟩, ⟨Rect.unit (s := S1x1690x1728) ![0, 0, 0] S1x1690x128.size inb_S1x1690x1728_S1x1690x128_0_0_0, runSpatLast.sl.v244_1 c i arg3 arg4 arg5 arg6 arg7 arg8 f3 f4 f5 f6 f7 f8 f15⟩] := rfl
  rw [h, runSpatLast_t1664, runSpatLast_t1536, runSpatLast_t1408, runSpatLast_t1280, runSpatLast_t1152, runSpatLast_t1024, runSpatLast_t896, runSpatLast_t768, runSpatLast_t640, runSpatLast_t512, runSpatLast_t384, runSpatLast_t256, runSpatLast_t128, runSpatLast_t0]
  rfl

/-- What this run leaves in the output block. -/
theorem runSpatLast_eq2 (c : Dev nD) (i : grid0.Coords) (arg2 : Memref sig .tc .smem S24 .i32) (harg2 : arg2.IsWhole) (arg3 : Memref sig .tc .smem S720 .f32) (harg3 : arg3.IsWhole) (arg4 : Memref sig .tc .smem S720 .f32) (harg4 : arg4.IsWhole) (arg5 : Memref sig .tc .smem S720 .f32) (harg5 : arg5.IsWhole) (arg6 : Memref sig .tc .vmem S1x1x72x1690 .fp8e4m3) (harg6 : arg6.IsWhole) (arg7 : Memref sig .tc .vmem S1x1x72x1690 .fp8e4m3) (harg7 : arg7.IsWhole) (arg8 : Memref sig .tc .vmem S1x1x72x1690 .fp8e4m3) (harg8 : arg8.IsWhole) (arg9 : Memref sig .tc .vmem S1x1690x1728 .bf16) (harg9 : arg9.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8)
    (f15 : Bf (F := F) c (Memref.whole cc0_scratch5))
    (hk : word c i arg2 f2 = 0#32) (hh : k0_cond3 i = 1#1) :
    (runSpatLast c i arg2 harg2 arg3 harg3 arg4 harg4 arg5 harg5 arg6 harg6 arg7 harg7 arg8 harg8 arg9 harg9 f2 f3 f4 f5 f6 f7 f8 f15 hk hh).1.2 = arg9.view.writes (Elt F) arg9.view.junk (outPieces ((Memref.whole cc0_scratch5).view.writes (Elt F) f15 (spatPieces c i arg3 arg4 arg5 arg6 arg7 arg8 f3 f4 f5 f6 f7 f8))) := by
  have h : (runSpatLast c i arg2 harg2 arg3 harg3 arg4 harg4 arg5 harg5 arg6 harg6 arg7 harg7 arg8 harg8 arg9 harg9 f2 f3 f4 f5 f6 f7 f8 f15 hk hh).1.2 = arg9.view.writes (Elt F) arg9.view.junk (runSpatLast.sl.H9_14 c i arg3 arg4 arg5 arg6 arg7 arg8 f3 f4 f5 f6 f7 f8 f15) := by
    unfold runSpatLast
    with_reducible rfl
  have h2 : runSpatLast.sl.S5_5 c i arg3 arg4 arg5 arg6 arg7 arg8 f3 f4 f5 f6 f7 f8 = spatPieces c i arg3 arg4 arg5 arg6 arg7 arg8 f3 f4 f5 f6 f7 f8 := runSpatLast_pieces c i arg3 arg4 arg5 arg6 arg7 arg8 f3 f4 f5 f6 f7 f8
  rw [h, runSpatLast_out, h2]

end Cert.KernelIdeal.Hand

end
-- ==== Proof.EqTempLast.lean ====
module

public import proofs.«01_k».proof.Proof.Model

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-! ### The words of `runTempLast` in closed form -/

/-- The text rows this run stores. -/
theorem runTempLast_v224 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v224 c i arg3 arg4 arg5 arg6 arg7 arg8 f3 f4 f5 f6 f7 f8) = textP (codes c arg6 f6) (codes c arg7 f7) (codes c arg8 f8) (scales c i arg3 f3) (scales c i arg4 f4) (scales c i arg5 f5) := rfl

/-- A word of this run. -/
theorem runTempLast_v260 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v260 c arg6 arg7 f6 f7) = maskT (sText (rknt (codes c arg7 f7)) (rq 0 inb_S128x1792_S128x384_0_0 (codes c arg6 f6))) := rfl

/-- A word of this run. -/
theorem runTempLast_v261 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v261 c i arg3 arg4 f3 f4) = (Scalar.mulf (k0_pay126 ((scales c i arg3 f3) 0)) ((scales c i arg4 f4) 4)) := rfl

/-- A word of this run. -/
theorem runTempLast_v270 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v270 c i arg3 arg4 arg6 arg7 f3 f4 f6 f7) = pScore (xf (codesF c 0 inb_S1x1x72x1690_S1x1x72x384_0_0_0_0 arg6 f6)) (xf (codesF c 0 inb_S1x1x72x1690_S1x1x72x384_0_0_0_0 arg7 f7)) (Scalar.mulf (k0_pay126 ((scales c i arg3 f3) 0)) ((scales c i arg4 f4) 0)) := rfl

/-- A word of this run. -/
theorem runTempLast_v276 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v276 c i arg3 arg4 arg6 arg7 f3 f4 f6 f7) = pScore (xf (codesF c 0 inb_S1x1x72x1690_S1x1x72x384_0_0_0_0 arg6 f6)) (xf (codesF c 384 inb_S1x1x72x1690_S1x1x72x384_0_0_0_384 arg7 f7)) (Scalar.mulf (k0_pay126 ((scales c i arg3 f3) 0)) ((scales c i arg4 f4) 1)) := rfl

/-- A word of this run. -/
theorem runTempLast_v282 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v282 c i arg3 arg4 arg6 arg7 f3 f4 f6 f7) = pScore (xf (codesF c 0 inb_S1x1x72x1690_S1x1x72x384_0_0_0_0 arg6 f6)) (xf (codesF c 768 inb_S1x1x72x1690_S1x1x72x384_0_0_0_768 arg7 f7)) (Scalar.mulf (k0_pay126 ((scales c i arg3 f3) 0)) ((scales c i arg4 f4) 2)) := rfl

/-- A word of this run. -/
theorem runTempLast_v288 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v288 c i arg3 arg4 arg6 arg7 f3 f4 f6 f7) = pScore (xf (codesF c 0 inb_S1x1x72x1690_S1x1x72x384_0_0_0_0 arg6 f6)) (xf (codesF c 1152 inb_S1x1x72x1690_S1x1x72x384_0_0_0_1152 arg7 f7)) (Scalar.mulf (k0_pay126 ((scales c i arg3 f3) 0)) ((scales c i arg4 f4) 3)) := rfl

/-- A word of this run. -/
theorem runTempLast_v304 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v304 c i arg5 arg8 f5 f8) = (rvt (codes c arg8 f8) (scales c i arg5 f5)) := rfl

/-- A word of this run. -/
theorem runTempLast_v312 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v312 c i arg5 arg8 f5 f8) = (rv 0 inb_S72x1792_S72x384_0_0 (codes c arg8 f8) (scales c i arg5 f5)) := rfl

/-- A word of this run. -/
theorem runTempLast_v322 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v322 c i arg5 arg8 f5 f8) = (rv 384 inb_S72x1792_S72x384_0_384 (codes c arg8 f8) (scales c i arg5 f5)) := rfl

/-- A word of this run. -/
theorem runTempLast_v332 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v332 c i arg5 arg8 f5 f8) = (rv 768 inb_S72x1792_S72x384_0_768 (codes c arg8 f8) (scales c i arg5 f5)) := rfl

/-- A word of this run. -/
theorem runTempLast_v342 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v342 c i arg5 arg8 f5 f8) = (rv 1152 inb_S72x1792_S72x384_0_1152 (codes c arg8 f8) (scales c i arg5 f5)) := rfl

/-- The maxima of this frame. -/
theorem runTempLast_v296 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v296 c i arg3 arg4 arg6 arg7 f3 f4 f6 f7) = tempM (runTempLast.sl.v260 c arg6 arg7 f6 f7) (runTempLast.sl.v270 c i arg3 arg4 arg6 arg7 f3 f4 f6 f7) (runTempLast.sl.v276 c i arg3 arg4 arg6 arg7 f3 f4 f6 f7) (runTempLast.sl.v282 c i arg3 arg4 arg6 arg7 f3 f4 f6 f7) (runTempLast.sl.v288 c i arg3 arg4 arg6 arg7 f3 f4 f6 f7) (runTempLast.sl.v261 c i arg3 arg4 f3 f4) := rfl

/-- What this run stores for frame 0. -/
theorem runTempLast_f0 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v354 c i arg3 arg4 arg5 arg6 arg7 arg8 f3 f4 f5 f6 f7 f8) = tempP 0 0 inb_S128x1792_S128x384_0_0 (codes c arg6 f6) (codes c arg7 f7) (codes c arg8 f8) (codesF c 0 inb_S1x1x72x1690_S1x1x72x384_0_0_0_0 arg6 f6) (codesF c 0 inb_S1x1x72x1690_S1x1x72x384_0_0_0_0 arg7 f7) (codesF c 384 inb_S1x1x72x1690_S1x1x72x384_0_0_0_384 arg7 f7) (codesF c 768 inb_S1x1x72x1690_S1x1x72x384_0_0_0_768 arg7 f7) (codesF c 1152 inb_S1x1x72x1690_S1x1x72x384_0_0_0_1152 arg7 f7) (scales c i arg3 f3) (scales c i arg4 f4) (scales c i arg5 f5) := by
  have h : (runTempLast.sl.v354 c i arg3 arg4 arg5 arg6 arg7 arg8 f3 f4 f5 f6 f7 f8) = tempF (runTempLast.sl.v260 c arg6 arg7 f6 f7) (runTempLast.sl.v270 c i arg3 arg4 arg6 arg7 f3 f4 f6 f7) (runTempLast.sl.v276 c i arg3 arg4 arg6 arg7 f3 f4 f6 f7) (runTempLast.sl.v282 c i arg3 arg4 arg6 arg7 f3 f4 f6 f7) (runTempLast.sl.v288 c i arg3 arg4 arg6 arg7 f3 f4 f6 f7) (runTempLast.sl.v261 c i arg3 arg4 f3 f4) (runTempLast.sl.v304 c i arg5 arg8 f5 f8) (runTempLast.sl.v312 c i arg5 arg8 f5 f8) (runTempLast.sl.v322 c i arg5 arg8 f5 f8) (runTempLast.sl.v332 c i arg5 arg8 f5 f8) (runTempLast.sl.v342 c i arg5 arg8 f5 f8) (runTempLast.sl.v296 c i arg3 arg4 arg6 arg7 f3 f4 f6 f7) := rfl
  rw [h, runTempLast_v296 c i arg3 arg4 arg5 arg6 arg7 arg8 f3 f4 f5 f6 f7 f8, runTempLast_v260 c i arg3 arg4 arg5 arg6 arg7 arg8 f3 f4 f5 f6 f7 f8, runTempLast_v261 c i arg3 arg4 arg5 arg6 arg7 arg8 f3 f4 f5 f6 f7 f8, runTempLast_v270 c i arg3 arg4 arg5 arg6 arg7 arg8 f3 f4 f5 f6 f7 f8, runTempLast_v276 c i arg3 arg4 arg5 arg6 arg7 arg8 f3 f4 f5 f6 f7 f8, runTempLast_v282 c i arg3 arg4 arg5 arg6 arg7 arg8 f3 f4 f5 f6 f7 f8, runTempLast_v288 c i arg3 arg4 arg5 arg6 arg7 arg8 f3 f4 f5 f6 f7 f8, runTempLast_v304 c i arg3 arg4 arg5 arg6 arg7 arg8 f3 f4 f5 f6 f7 f8, runTempLast_v312 c i arg3 arg4 arg5 arg6 arg7 arg8 f3 f4 f5 f6 f7 f8, runTempLast_v322 c i arg3 arg4 arg5 arg6 arg7 arg8 f3 f4 f5 f6 f7 f8, runTempLast_v332 c i arg3 arg4 arg5 arg6 arg7 arg8 f3 f4 f5 f6 f7 f8, runTempLast_v342 c i arg3 arg4 arg5 arg6 arg7 arg8 f3 f4 f5 f6 f7 f8]
  rfl

/-- A word of this run. -/
theorem runTempLast_v365 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v365 c arg6 arg7 f6 f7) = maskT (sText (rknt (codes c arg7 f7)) (rq 384 inb_S128x1792_S128x384_0_384 (codes c arg6 f6))) := rfl

/-- A word of this run. -/
theorem runTempLast_v366 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v366 c i arg3 arg4 f3 f4) = (Scalar.mulf (k0_pay126 ((scales c i arg3 f3) 1)) ((scales c i arg4 f4) 4)) := rfl

/-- A word of this run. -/
theorem runTempLast_v375 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v375 c i arg3 arg4 arg6 arg7 f3 f4 f6 f7) = pScore (xf (codesF c 384 inb_S1x1x72x1690_S1x1x72x384_0_0_0_384 arg6 f6)) (xf (codesF c 0 inb_S1x1x72x1690_S1x1x72x384_0_0_0_0 arg7 f7)) (Scalar.mulf (k0_pay126 ((scales c i arg3 f3) 1)) ((scales c i arg4 f4) 0)) := rfl

/-- A word of this run. -/
theorem runTempLast_v381 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v381 c i arg3 arg4 arg6 arg7 f3 f4 f6 f7) = pScore (xf (codesF c 384 inb_S1x1x72x1690_S1x1x72x384_0_0_0_384 arg6 f6)) (xf (codesF c 384 inb_S1x1x72x1690_S1x1x72x384_0_0_0_384 arg7 f7)) (Scalar.mulf (k0_pay126 ((scales c i arg3 f3) 1)) ((scales c i arg4 f4) 1)) := rfl

/-- A word of this run. -/
theorem runTempLast_v387 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v387 c i arg3 arg4 arg6 arg7 f3 f4 f6 f7) = pScore (xf (codesF c 384 inb_S1x1x72x1690_S1x1x72x384_0_0_0_384 arg6 f6)) (xf (codesF c 768 inb_S1x1x72x1690_S1x1x72x384_0_0_0_768 arg7 f7)) (Scalar.mulf (k0_pay126 ((scales c i arg3 f3) 1)) ((scales c i arg4 f4) 2)) := rfl

/-- A word of this run. -/
theorem runTempLast_v393 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v393 c i arg3 arg4 arg6 arg7 f3 f4 f6 f7) = pScore (xf (codesF c 384 inb_S1x1x72x1690_S1x1x72x384_0_0_0_384 arg6 f6)) (xf (codesF c 1152 inb_S1x1x72x1690_S1x1x72x384_0_0_0_1152 arg7 f7)) (Scalar.mulf (k0_pay126 ((scales c i arg3 f3) 1)) ((scales c i arg4 f4) 3)) := rfl

/-- The maxima of this frame. -/
theorem runTempLast_v401 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v401 c i arg3 arg4 arg6 arg7 f3 f4 f6 f7) = tempM (runTempLast.sl.v365 c arg6 arg7 f6 f7) (runTempLast.sl.v375 c i arg3 arg4 arg6 arg7 f3 f4 f6 f7) (runTempLast.sl.v381 c i arg3 arg4 arg6 arg7 f3 f4 f6 f7) (runTempLast.sl.v387 c i arg3 arg4 arg6 arg7 f3 f4 f6 f7) (runTempLast.sl.v393 c i arg3 arg4 arg6 arg7 f3 f4 f6 f7) (runTempLast.sl.v366 c i arg3 arg4 f3 f4) := rfl

/-- What this run stores for frame 1. -/
theorem runTempLast_f1 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v459 c i arg3 arg4 arg5 arg6 arg7 arg8 f3 f4 f5 f6 f7 f8) = tempP 1 384 inb_S128x1792_S128x384_0_384 (codes c arg6 f6) (codes c arg7 f7) (codes c arg8 f8) (codesF c 384 inb_S1x1x72x1690_S1x1x72x384_0_0_0_384 arg6 f6) (codesF c 0 inb_S1x1x72x1690_S1x1x72x384_0_0_0_0 arg7 f7) (codesF c 384 inb_S1x1x72x1690_S1x1x72x384_0_0_0_384 arg7 f7) (codesF c 768 inb_S1x1x72x1690_S1x1x72x384_0_0_0_768 arg7 f7) (codesF c 1152 inb_S1x1x72x1690_S1x1x72x384_0_0_0_1152 arg7 f7) (scales c i arg3 f3) (scales c i arg4 f4) (scales c i arg5 f5) := by
  have h : (runTempLast.sl.v459 c i arg3 arg4 arg5 arg6 arg7 arg8 f3 f4 f5 f6 f7 f8) = tempF (runTempLast.sl.v365 c arg6 arg7 f6 f7) (runTempLast.sl.v375 c i arg3 arg4 arg6 arg7 f3 f4 f6 f7) (runTempLast.sl.v381 c i arg3 arg4 arg6 arg7 f3 f4 f6 f7) (runTempLast.sl.v387 c i arg3 arg4 arg6 arg7 f3 f4 f6 f7) (runTempLast.sl.v393 c i arg3 arg4 arg6 arg7 f3 f4 f6 f7) (runTempLast.sl.v366 c i arg3 arg4 f3 f4) (runTempLast.sl.v304 c i arg5 arg8 f5 f8) (runTempLast.sl.v312 c i arg5 arg8 f5 f8) (runTempLast.sl.v322 c i arg5 arg8 f5 f8) (runTempLast.sl.v332 c i arg5 arg8 f5 f8) (runTempLast.sl.v342 c i arg5 arg8 f5 f8) (runTempLast.sl.v401 c i arg3 arg4 arg6 arg7 f3 f4 f6 f7) := rfl
  rw [h, runTempLast_v401 c i arg3 arg4 arg5 arg6 arg7 arg8 f3 f4 f5 f6 f7 f8, runTempLast_v365 c i arg3 arg4 arg5 arg6 arg7 arg8 f3 f4 f5 f6 f7 f8, runTempLast_v366 c i arg3 arg4 arg5 arg6 arg7 arg8 f3 f4 f5 f6 f7 f8, runTempLast_v375 c i arg3 arg4 arg5 arg6 arg7 arg8 f3 f4 f5 f6 f7 f8, runTempLast_v381 c i arg3 arg4 arg5 arg6 arg7 arg8 f3 f4 f5 f6 f7 f8, runTempLast_v387 c i arg3 arg4 arg5 arg6 arg7 arg8 f3 f4 f5 f6 f7 f8, runTempLast_v393 c i arg3 arg4 arg5 arg6 arg7 arg8 f3 f4 f5 f6 f7 f8, runTempLast_v304 c i arg3 arg4 arg5 arg6 arg7 arg8 f3 f4 f5 f6 f7 f8, runTempLast_v312 c i arg3 arg4 arg5 arg6 arg7 arg8 f3 f4 f5 f6 f7 f8, runTempLast_v322 c i arg3 arg4 arg5 arg6 arg7 arg8 f3 f4 f5 f6 f7 f8, runTempLast_v332 c i arg3 arg4 arg5 arg6 arg7 arg8 f3 f4 f5 f6 f7 f8, runTempLast_v342 c i arg3 arg4 arg5 arg6 arg7 arg8 f3 f4 f5 f6 f7 f8]
  rfl

/-- A word of this run. -/
theorem runTempLast_v470 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v470 c arg6 arg7 f6 f7) = maskT (sText (rknt (codes c arg7 f7)) (rq 768 inb_S128x1792_S128x384_0_768 (codes c arg6 f6))) := rfl

/-- A word of this run. -/
theorem runTempLast_v471 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v471 c i arg3 arg4 f3 f4) = (Scalar.mulf (k0_pay126 ((scales c i arg3 f3) 2)) ((scales c i arg4 f4) 4)) := rfl

/-- A word of this run. -/
theorem runTempLast_v480 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v480 c i arg3 arg4 arg6 arg7 f3 f4 f6 f7) = pScore (xf (codesF c 768 inb_S1x1x72x1690_S1x1x72x384_0_0_0_768 arg6 f6)) (xf (codesF c 0 inb_S1x1x72x1690_S1x1x72x384_0_0_0_0 arg7 f7)) (Scalar.mulf (k0_pay126 ((scales c i arg3 f3) 2)) ((scales c i arg4 f4) 0)) := rfl

/-- A word of this run. -/
theorem runTempLast_v486 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v486 c i arg3 arg4 arg6 arg7 f3 f4 f6 f7) = pScore (xf (codesF c 768 inb_S1x1x72x1690_S1x1x72x384_0_0_0_768 arg6 f6)) (xf (codesF c 384 inb_S1x1x72x1690_S1x1x72x384_0_0_0_384 arg7 f7)) (Scalar.mulf (k0_pay126 ((scales c i arg3 f3) 2)) ((scales c i arg4 f4) 1)) := rfl

/-- A word of this run. -/
theorem runTempLast_v492 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v492 c i arg3 arg4 arg6 arg7 f3 f4 f6 f7) = pScore (xf (codesF c 768 inb_S1x1x72x1690_S1x1x72x384_0_0_0_768 arg6 f6)) (xf (codesF c 768 inb_S1x1x72x1690_S1x1x72x384_0_0_0_768 arg7 f7)) (Scalar.mulf (k0_pay126 ((scales c i arg3 f3) 2)) ((scales c i arg4 f4) 2)) := rfl

/-- A word of this run. -/
theorem runTempLast_v498 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v498 c i arg3 arg4 arg6 arg7 f3 f4 f6 f7) = pScore (xf (codesF c 768 inb_S1x1x72x1690_S1x1x72x384_0_0_0_768 arg6 f6)) (xf (codesF c 1152 inb_S1x1x72x1690_S1x1x72x384_0_0_0_1152 arg7 f7)) (Scalar.mulf (k0_pay126 ((scales c i arg3 f3) 2)) ((scales c i arg4 f4) 3)) := rfl

/-- The maxima of this frame. -/
theorem runTempLast_v506 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v506 c i arg3 arg4 arg6 arg7 f3 f4 f6 f7) = tempM (runTempLast.sl.v470 c arg6 arg7 f6 f7) (runTempLast.sl.v480 c i arg3 arg4 arg6 arg7 f3 f4 f6 f7) (runTempLast.sl.v486 c i arg3 arg4 arg6 arg7 f3 f4 f6 f7) (runTempLast.sl.v492 c i arg3 arg4 arg6 arg7 f3 f4 f6 f7) (runTempLast.sl.v498 c i arg3 arg4 arg6 arg7 f3 f4 f6 f7) (runTempLast.sl.v471 c i arg3 arg4 f3 f4) := rfl

/-- What this run stores for frame 2. -/
theorem runTempLast_f2 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v564 c i arg3 arg4 arg5 arg6 arg7 arg8 f3 f4 f5 f6 f7 f8) = tempP 2 768 inb_S128x1792_S128x384_0_768 (codes c arg6 f6) (codes c arg7 f7) (codes c arg8 f8) (codesF c 768 inb_S1x1x72x1690_S1x1x72x384_0_0_0_768 arg6 f6) (codesF c 0 inb_S1x1x72x1690_S1x1x72x384_0_0_0_0 arg7 f7) (codesF c 384 inb_S1x1x72x1690_S1x1x72x384_0_0_0_384 arg7 f7) (codesF c 768 inb_S1x1x72x1690_S1x1x72x384_0_0_0_768 arg7 f7) (codesF c 1152 inb_S1x1x72x1690_S1x1x72x384_0_0_0_1152 arg7 f7) (scales c i arg3 f3) (scales c i arg4 f4) (scales c i arg5 f5) := by
  have h : (runTempLast.sl.v564 c i arg3 arg4 arg5 arg6 arg7 arg8 f3 f4 f5 f6 f7 f8) = tempF (runTempLast.sl.v470 c arg6 arg7 f6 f7) (runTempLast.sl.v480 c i arg3 arg4 arg6 arg7 f3 f4 f6 f7) (runTempLast.sl.v486 c i arg3 arg4 arg6 arg7 f3 f4 f6 f7) (runTempLast.sl.v492 c i arg3 arg4 arg6 arg7 f3 f4 f6 f7) (runTempLast.sl.v498 c i arg3 arg4 arg6 arg7 f3 f4 f6 f7) (runTempLast.sl.v471 c i arg3 arg4 f3 f4) (runTempLast.sl.v304 c i arg5 arg8 f5 f8) (runTempLast.sl.v312 c i arg5 arg8 f5 f8) (runTempLast.sl.v322 c i arg5 arg8 f5 f8) (runTempLast.sl.v332 c i arg5 arg8 f5 f8) (runTempLast.sl.v342 c i arg5 arg8 f5 f8) (runTempLast.sl.v506 c i arg3 arg4 arg6 arg7 f3 f4 f6 f7) := rfl
  rw [h, runTempLast_v506 c i arg3 arg4 arg5 arg6 arg7 arg8 f3 f4 f5 f6 f7 f8, runTempLast_v470 c i arg3 arg4 arg5 arg6 arg7 arg8 f3 f4 f5 f6 f7 f8, runTempLast_v471 c i arg3 arg4 arg5 arg6 arg7 arg8 f3 f4 f5 f6 f7 f8, runTempLast_v480 c i arg3 arg4 arg5 arg6 arg7 arg8 f3 f4 f5 f6 f7 f8, runTempLast_v486 c i arg3 arg4 arg5 arg6 arg7 arg8 f3 f4 f5 f6 f7 f8, runTempLast_v492 c i arg3 arg4 arg5 arg6 arg7 arg8 f3 f4 f5 f6 f7 f8, runTempLast_v498 c i arg3 arg4 arg5 arg6 arg7 arg8 f3 f4 f5 f6 f7 f8, runTempLast_v304 c i arg3 arg4 arg5 arg6 arg7 arg8 f3 f4 f5 f6 f7 f8, runTempLast_v312 c i arg3 arg4 arg5 arg6 arg7 arg8 f3 f4 f5 f6 f7 f8, runTempLast_v322 c i arg3 arg4 arg5 arg6 arg7 arg8 f3 f4 f5 f6 f7 f8, runTempLast_v332 c i arg3 arg4 arg5 arg6 arg7 arg8 f3 f4 f5 f6 f7 f8, runTempLast_v342 c i arg3 arg4 arg5 arg6 arg7 arg8 f3 f4 f5 f6 f7 f8]
  rfl

/-- A word of this run. -/
theorem runTempLast_v575 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v575 c arg6 arg7 f6 f7) = maskT (sText (rknt (codes c arg7 f7)) (rq 1152 inb_S128x1792_S128x384_0_1152 (codes c arg6 f6))) := rfl

/-- A word of this run. -/
theorem runTempLast_v576 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v576 c i arg3 arg4 f3 f4) = (Scalar.mulf (k0_pay126 ((scales c i arg3 f3) 3)) ((scales c i arg4 f4) 4)) := rfl

/-- A word of this run. -/
theorem runTempLast_v585 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v585 c i arg3 arg4 arg6 arg7 f3 f4 f6 f7) = pScore (xf (codesF c 1152 inb_S1x1x72x1690_S1x1x72x384_0_0_0_1152 arg6 f6)) (xf (codesF c 0 inb_S1x1x72x1690_S1x1x72x384_0_0_0_0 arg7 f7)) (Scalar.mulf (k0_pay126 ((scales c i arg3 f3) 3)) ((scales c i arg4 f4) 0)) := rfl

/-- A word of this run. -/
theorem runTempLast_v591 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v591 c i arg3 arg4 arg6 arg7 f3 f4 f6 f7) = pScore (xf (codesF c 1152 inb_S1x1x72x1690_S1x1x72x384_0_0_0_1152 arg6 f6)) (xf (codesF c 384 inb_S1x1x72x1690_S1x1x72x384_0_0_0_384 arg7 f7)) (Scalar.mulf (k0_pay126 ((scales c i arg3 f3) 3)) ((scales c i arg4 f4) 1)) := rfl

/-- A word of this run. -/
theorem runTempLast_v597 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v597 c i arg3 arg4 arg6 arg7 f3 f4 f6 f7) = pScore (xf (codesF c 1152 inb_S1x1x72x1690_S1x1x72x384_0_0_0_1152 arg6 f6)) (xf (codesF c 768 inb_S1x1x72x1690_S1x1x72x384_0_0_0_768 arg7 f7)) (Scalar.mulf (k0_pay126 ((scales c i arg3 f3) 3)) ((scales c i arg4 f4) 2)) := rfl

/-- A word of this run. -/
theorem runTempLast_v603 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v603 c i arg3 arg4 arg6 arg7 f3 f4 f6 f7) = pScore (xf (codesF c 1152 inb_S1x1x72x1690_S1x1x72x384_0_0_0_1152 arg6 f6)) (xf (codesF c 1152 inb_S1x1x72x1690_S1x1x72x384_0_0_0_1152 arg7 f7)) (Scalar.mulf (k0_pay126 ((scales c i arg3 f3) 3)) ((scales c i arg4 f4) 3)) := rfl

/-- A word of this run. -/
theorem runTempLast_v647 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v647 c i arg5 arg8 f5 f8) = (rv 768 inb_S72x1792_S72x384_0_768 (codes c arg8 f8) (scales c i arg5 f5)) := rfl

/-- A word of this run. -/
theorem runTempLast_v657 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v657 c i arg5 arg8 f5 f8) = (rv 1152 inb_S72x1792_S72x384_0_1152 (codes c arg8 f8) (scales c i arg5 f5)) := rfl

/-- The maxima of this frame. -/
theorem runTempLast_v611 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (runTempLast.sl.v611 c i arg3 arg4 arg6 arg7 f3 f4 f6 f7) = tempM (runTempLast.sl.v575 c arg6 arg7 f6 f7) (runTempLast.sl.v585 c i arg3 arg4 arg6 arg7 f3 f4 f6 f7) (runTempLast.sl.v591 c i arg3 arg4 arg6 arg7 f3 f4 f6 f7) (runTempLast.sl.v597 c i arg3 arg4 arg6 arg7 f3 f4 f6 f7) (runTempLast.sl.v603 c i arg3 arg4 arg6 arg7 f3 f4 f6 f7) (runTempLast.sl.v576 c i arg3 arg4 f3 f4) := rfl

/-- What this run stores for frame 3. -/
theorem runTempLast_f3 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) : (k0_pay2 (runTempLast.sl.v603 c i arg3 arg4 arg6 arg7 f3 f4 f6 f7) (runTempLast.sl.v611 c i arg3 arg4 arg6 arg7 f3 f4 f6 f7) (runTempLast.sl.v641 c i arg3 arg4 arg5 arg6 arg7 arg8 f3 f4 f5 f6 f7 f8) (runTempLast.sl.v643 c i arg3 arg4 arg6 arg7 f3 f4 f6 f7) (runTempLast.sl.v644 c i arg3 arg4 arg6 arg7 f3 f4 f6 f7) (runTempLast.sl.v647 c i arg5 arg8 f5 f8) (runTempLast.sl.v657 c i arg5 arg8 f5 f8)) = tempP 3 1152 inb_S128x1792_S128x384_0_1152 (codes c arg6 f6) (codes c arg7 f7) (codes c arg8 f8) (codesF c 1152 inb_S1x1x72x1690_S1x1x72x384_0_0_0_1152 arg6 f6) (codesF c 0 inb_S1x1x72x1690_S1x1x72x384_0_0_0_0 arg7 f7) (codesF c 384 inb_S1x1x72x1690_S1x1x72x384_0_0_0_384 arg7 f7) (codesF c 768 inb_S1x1x72x1690_S1x1x72x384_0_0_0_768 arg7 f7) (codesF c 1152 inb_S1x1x72x1690_S1x1x72x384_0_0_0_1152 arg7 f7) (scales c i arg3 f3) (scales c i arg4 f4) (scales c i arg5 f5) := by
  have h : (k0_pay2 (runTempLast.sl.v603 c i arg3 arg4 arg6 arg7 f3 f4 f6 f7) (runTempLast.sl.v611 c i arg3 arg4 arg6 arg7 f3 f4 f6 f7) (runTempLast.sl.v641 c i arg3 arg4 arg5 arg6 arg7 arg8 f3 f4 f5 f6 f7 f8) (runTempLast.sl.v643 c i arg3 arg4 arg6 arg7 f3 f4 f6 f7) (runTempLast.sl.v644 c i arg3 arg4 arg6 arg7 f3 f4 f6 f7) (runTempLast.sl.v647 c i arg5 arg8 f5 f8) (runTempLast.sl.v657 c i arg5 arg8 f5 f8)) = tempF (runTempLast.sl.v575 c arg6 arg7 f6 f7) (runTempLast.sl.v585 c i arg3 arg4 arg6 arg7 f3 f4 f6 f7) (runTempLast.sl.v591 c i arg3 arg4 arg6 arg7 f3 f4 f6 f7) (runTempLast.sl.v597 c i arg3 arg4 arg6 arg7 f3 f4 f6 f7) (runTempLast.sl.v603 c i arg3 arg4 arg6 arg7 f3 f4 f6 f7) (runTempLast.sl.v576 c i arg3 arg4 f3 f4) (runTempLast.sl.v304 c i arg5 arg8 f5 f8) (runTempLast.sl.v312 c i arg5 arg8 f5 f8) (runTempLast.sl.v322 c i arg5 arg8 f5 f8) (runTempLast.sl.v647 c i arg5 arg8 f5 f8) (runTempLast.sl.v657 c i arg5 arg8 f5 f8) (runTempLast.sl.v611 c i arg3 arg4 arg6 arg7 f3 f4 f6 f7) := rfl
  rw [h, runTempLast_v611 c i arg3 arg4 arg5 arg6 arg7 arg8 f3 f4 f5 f6 f7 f8, runTempLast_v575 c i arg3 arg4 arg5 arg6 arg7 arg8 f3 f4 f5 f6 f7 f8, runTempLast_v576 c i arg3 arg4 arg5 arg6 arg7 arg8 f3 f4 f5 f6 f7 f8, runTempLast_v585 c i arg3 arg4 arg5 arg6 arg7 arg8 f3 f4 f5 f6 f7 f8, runTempLast_v591 c i arg3 arg4 arg5 arg6 arg7 arg8 f3 f4 f5 f6 f7 f8, runTempLast_v597 c i arg3 arg4 arg5 arg6 arg7 arg8 f3 f4 f5 f6 f7 f8, runTempLast_v603 c i arg3 arg4 arg5 arg6 arg7 arg8 f3 f4 f5 f6 f7 f8, runTempLast_v304 c i arg3 arg4 arg5 arg6 arg7 arg8 f3 f4 f5 f6 f7 f8, runTempLast_v312 c i arg3 arg4 arg5 arg6 arg7 arg8 f3 f4 f5 f6 f7 f8, runTempLast_v322 c i arg3 arg4 arg5 arg6 arg7 arg8 f3 f4 f5 f6 f7 f8, runTempLast_v647 c i arg3 arg4 arg5 arg6 arg7 arg8 f3 f4 f5 f6 f7 f8, runTempLast_v657 c i arg3 arg4 arg5 arg6 arg7 arg8 f3 f4 f5 f6 f7 f8]
  rfl

/-- The stores of this run in closed form. -/
theorem runTempLast_pieces (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) :
    ([⟨Rect.unit (s := S1792x1792) (k0_off12 i) S72x384.size (k0_off12_inb i), (k0_pay2 (runTempLast.sl.v603 c i arg3 arg4 arg6 arg7 f3 f4 f6 f7) (runTempLast.sl.v611 c i arg3 arg4 arg6 arg7 f3 f4 f6 f7) (runTempLast.sl.v641 c i arg3 arg4 arg5 arg6 arg7 arg8 f3 f4 f5 f6 f7 f8) (runTempLast.sl.v643 c i arg3 arg4 arg6 arg7 f3 f4 f6 f7) (runTempLast.sl.v644 c i arg3 arg4 arg6 arg7 f3 f4 f6 f7) (runTempLast.sl.v647 c i arg5 arg8 f5 f8) (runTempLast.sl.v657 c i arg5 arg8 f5 f8))⟩, ⟨Rect.unit (s := S1792x1792) (k0_off11 i) S72x384.size (k0_off11_inb i), (runTempLast.sl.v564 c i arg3 arg4 arg5 arg6 arg7 arg8 f3 f4 f5 f6 f7 f8)⟩, ⟨Rect.unit (s := S1792x1792) (k0_off10 i) S72x384.size (k0_off10_inb i), (runTempLast.sl.v459 c i arg3 arg4 arg5 arg6 arg7 arg8 f3 f4 f5 f6 f7 f8)⟩, ⟨Rect.unit (s := S1792x1792) (k0_off9 i) S72x384.size (k0_off9_inb i), (runTempLast.sl.v354 c i arg3 arg4 arg5 arg6 arg7 arg8 f3 f4 f5 f6 f7 f8)⟩, ⟨Rect.unit (s := S1792x1792) (k0_off2 i) S72x160.size (k0_off2_inb i), (runTempLast.sl.v224 c i arg3 arg4 arg5 arg6 arg7 arg8 f3 f4 f5 f6 f7 f8)⟩] : List (View.Piece (Elt F) S1792x1792 .f32)) = tempPieces c i arg3 arg4 arg5 arg6 arg7 arg8 f3 f4 f5 f6 f7 f8 := by
  rw [runTempLast_f3 c i arg3 arg4 arg5 arg6 arg7 arg8 f3 f4 f5 f6 f7 f8, runTempLast_f2 c i arg3 arg4 arg5 arg6 arg7 arg8 f3 f4 f5 f6 f7 f8, runTempLast_f1 c i arg3 arg4 arg5 arg6 arg7 arg8 f3 f4 f5 f6 f7 f8, runTempLast_f0 c i arg3 arg4 arg5 arg6 arg7 arg8 f3 f4 f5 f6 f7 f8, runTempLast_v224 c i arg3 arg4 arg5 arg6 arg7 arg8 f3 f4 f5 f6 f7 f8]
  rfl

/-- What this run leaves in the output scratch. -/
theorem runTempLast_eq1 (c : Dev nD) (i : grid0.Coords) (arg2 : Memref sig .tc .smem S24 .i32) (harg2 : arg2.IsWhole) (arg3 : Memref sig .tc .smem S720 .f32) (harg3 : arg3.IsWhole) (arg4 : Memref sig .tc .smem S720 .f32) (harg4 : arg4.IsWhole) (arg5 : Memref sig .tc .smem S720 .f32) (harg5 : arg5.IsWhole) (arg6 : Memref sig .tc .vmem S1x1x72x1690 .fp8e4m3) (harg6 : arg6.IsWhole) (arg7 : Memref sig .tc .vmem S1x1x72x1690 .fp8e4m3) (harg7 : arg7.IsWhole) (arg8 : Memref sig .tc .vmem S1x1x72x1690 .fp8e4m3) (harg8 : arg8.IsWhole) (arg9 : Memref sig .tc .vmem S1x1690x1728 .bf16) (harg9 : arg9.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8)
    (f15 : Bf (F := F) c (Memref.whole cc0_scratch5))
    (hk : ¬ word c i arg2 f2 = 0#32) (hh : k0_cond3 i = 1#1) :
    (runTempLast c i arg2 harg2 arg3 harg3 arg4 harg4 arg5 harg5 arg6 harg6 arg7 harg7 arg8 harg8 arg9 harg9 f2 f3 f4 f5 f6 f7 f8 f15 hk hh).1.1 = (Memref.whole cc0_scratch5).view.writes (Elt F) f15 (tempPieces c i arg3 arg4 arg5 arg6 arg7 arg8 f3 f4 f5 f6 f7 f8) := by
  rw [← runTempLast_pieces c i arg3 arg4 arg5 arg6 arg7 arg8 f3 f4 f5 f6 f7 f8]
  rfl

/-- An output tile of this run. -/
theorem runTempLast_t1664 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : k0_pay3 (runTempLast.sl.v332_1 c i arg3 arg4 arg5 arg6 arg7 arg8 f3 f4 f5 f6 f7 f8 f15) = outHalf ((Memref.whole cc0_scratch5).view.writes (Elt F) f15 (runTempLast.sl.S5_5 c i arg3 arg4 arg5 arg6 arg7 arg8 f3 f4 f5 f6 f7 f8)) := rfl

/-- An output tile of this run. -/
theorem runTempLast_t1536 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runTempLast.sl.v328_1 c i arg3 arg4 arg5 arg6 arg7 arg8 f3 f4 f5 f6 f7 f8 f15 = outTile 1536 inb_S1792x1792_S128x1792_1536_0 ((Memref.whole cc0_scratch5).view.writes (Elt F) f15 (runTempLast.sl.S5_5 c i arg3 arg4 arg5 arg6 arg7 arg8 f3 f4 f5 f6 f7 f8)) := rfl

/-- An output tile of this run. -/
theorem runTempLast_t1408 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runTempLast.sl.v321_1 c i arg3 arg4 arg5 arg6 arg7 arg8 f3 f4 f5 f6 f7 f8 f15 = outTile 1408 inb_S1792x1792_S128x1792_1408_0 ((Memref.whole cc0_scratch5).view.writes (Elt F) f15 (runTempLast.sl.S5_5 c i arg3 arg4 arg5 arg6 arg7 arg8 f3 f4 f5 f6 f7 f8)) := rfl

/-- An output tile of this run. -/
theorem runTempLast_t1280 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runTempLast.sl.v314_1 c i arg3 arg4 arg5 arg6 arg7 arg8 f3 f4 f5 f6 f7 f8 f15 = outTile 1280 inb_S1792x1792_S128x1792_1280_0 ((Memref.whole cc0_scratch5).view.writes (Elt F) f15 (runTempLast.sl.S5_5 c i arg3 arg4 arg5 arg6 arg7 arg8 f3 f4 f5 f6 f7 f8)) := rfl

/-- An output tile of this run. -/
theorem runTempLast_t1152 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runTempLast.sl.v307_1 c i arg3 arg4 arg5 arg6 arg7 arg8 f3 f4 f5 f6 f7 f8 f15 = outTile 1152 inb_S1792x1792_S128x1792_1152_0 ((Memref.whole cc0_scratch5).view.writes (Elt F) f15 (runTempLast.sl.S5_5 c i arg3 arg4 arg5 arg6 arg7 arg8 f3 f4 f5 f6 f7 f8)) := rfl

/-- An output tile of this run. -/
theorem runTempLast_t1024 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runTempLast.sl.v300_1 c i arg3 arg4 arg5 arg6 arg7 arg8 f3 f4 f5 f6 f7 f8 f15 = outTile 1024 inb_S1792x1792_S128x1792_1024_0 ((Memref.whole cc0_scratch5).view.writes (Elt F) f15 (runTempLast.sl.S5_5 c i arg3 arg4 arg5 arg6 arg7 arg8 f3 f4 f5 f6 f7 f8)) := rfl

/-- An output tile of this run. -/
theorem runTempLast_t896 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runTempLast.sl.v293_1 c i arg3 arg4 arg5 arg6 arg7 arg8 f3 f4 f5 f6 f7 f8 f15 = outTile 896 inb_S1792x1792_S128x1792_896_0 ((Memref.whole cc0_scratch5).view.writes (Elt F) f15 (runTempLast.sl.S5_5 c i arg3 arg4 arg5 arg6 arg7 arg8 f3 f4 f5 f6 f7 f8)) := rfl

/-- An output tile of this run. -/
theorem runTempLast_t768 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runTempLast.sl.v286_1 c i arg3 arg4 arg5 arg6 arg7 arg8 f3 f4 f5 f6 f7 f8 f15 = outTile 768 inb_S1792x1792_S128x1792_768_0 ((Memref.whole cc0_scratch5).view.writes (Elt F) f15 (runTempLast.sl.S5_5 c i arg3 arg4 arg5 arg6 arg7 arg8 f3 f4 f5 f6 f7 f8)) := rfl

/-- An output tile of this run. -/
theorem runTempLast_t640 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runTempLast.sl.v279_1 c i arg3 arg4 arg5 arg6 arg7 arg8 f3 f4 f5 f6 f7 f8 f15 = outTile 640 inb_S1792x1792_S128x1792_640_0 ((Memref.whole cc0_scratch5).view.writes (Elt F) f15 (runTempLast.sl.S5_5 c i arg3 arg4 arg5 arg6 arg7 arg8 f3 f4 f5 f6 f7 f8)) := rfl

/-- An output tile of this run. -/
theorem runTempLast_t512 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runTempLast.sl.v272_1 c i arg3 arg4 arg5 arg6 arg7 arg8 f3 f4 f5 f6 f7 f8 f15 = outTile 512 inb_S1792x1792_S128x1792_512_0 ((Memref.whole cc0_scratch5).view.writes (Elt F) f15 (runTempLast.sl.S5_5 c i arg3 arg4 arg5 arg6 arg7 arg8 f3 f4 f5 f6 f7 f8)) := rfl

/-- An output tile of this run. -/
theorem runTempLast_t384 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runTempLast.sl.v265_1 c i arg3 arg4 arg5 arg6 arg7 arg8 f3 f4 f5 f6 f7 f8 f15 = outTile 384 inb_S1792x1792_S128x1792_384_0 ((Memref.whole cc0_scratch5).view.writes (Elt F) f15 (runTempLast.sl.S5_5 c i arg3 arg4 arg5 arg6 arg7 arg8 f3 f4 f5 f6 f7 f8)) := rfl

/-- An output tile of this run. -/
theorem runTempLast_t256 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runTempLast.sl.v258_1 c i arg3 arg4 arg5 arg6 arg7 arg8 f3 f4 f5 f6 f7 f8 f15 = outTile 256 inb_S1792x1792_S128x1792_256_0 ((Memref.whole cc0_scratch5).view.writes (Elt F) f15 (runTempLast.sl.S5_5 c i arg3 arg4 arg5 arg6 arg7 arg8 f3 f4 f5 f6 f7 f8)) := rfl

/-- An output tile of this run. -/
theorem runTempLast_t128 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runTempLast.sl.v251_1 c i arg3 arg4 arg5 arg6 arg7 arg8 f3 f4 f5 f6 f7 f8 f15 = outTile 128 inb_S1792x1792_S128x1792_128_0 ((Memref.whole cc0_scratch5).view.writes (Elt F) f15 (runTempLast.sl.S5_5 c i arg3 arg4 arg5 arg6 arg7 arg8 f3 f4 f5 f6 f7 f8)) := rfl

/-- An output tile of this run. -/
theorem runTempLast_t0 (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runTempLast.sl.v244 c i arg3 arg4 arg5 arg6 arg7 arg8 f3 f4 f5 f6 f7 f8 f15 = outTile 0 inb_S1792x1792_S128x1792_0_0 ((Memref.whole cc0_scratch5).view.writes (Elt F) f15 (runTempLast.sl.S5_5 c i arg3 arg4 arg5 arg6 arg7 arg8 f3 f4 f5 f6 f7 f8)) := rfl

/-- The output stores of this run. -/
theorem runTempLast_out (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f15 : Bf (F := F) c (Memref.whole cc0_scratch5)) : runTempLast.sl.H9_14 c i arg3 arg4 arg5 arg6 arg7 arg8 f3 f4 f5 f6 f7 f8 f15 = outPieces ((Memref.whole cc0_scratch5).view.writes (Elt F) f15 (runTempLast.sl.S5_5 c i arg3 arg4 arg5 arg6 arg7 arg8 f3 f4 f5 f6 f7 f8)) := by
  have h : runTempLast.sl.H9_14 c i arg3 arg4 arg5 arg6 arg7 arg8 f3 f4 f5 f6 f7 f8 f15 = [⟨Rect.unit (s := S1x1690x1728) ![0, 0, 1664] S1x1690x64.size inb_S1x1690x1728_S1x1690x64_0_0_1664, k0_pay3 (runTempLast.sl.v332_1 c i arg3 arg4 arg5 arg6 arg7 arg8 f3 f4 f5 f6 f7 f8 f15)⟩, ⟨Rect.unit (s := S1x1690x1728) ![0, 0, 1536] S1x1690x128.size inb_S1x1690x1728_S1x1690x128_0_0_1536, runTempLast.sl.v328_1 c i arg3 arg4 arg5 arg6 arg7 arg8 f3 f4 f5 f6 f7 f8 f15⟩, ⟨Rect.unit (s := S1x1690x1728) ![0, 0, 1408] S1x1690x128.size inb_S1x1690x1728_S1x1690x128_0_0_1408, runTempLast.sl.v321_1 c i arg3 arg4 arg5 arg6 arg7 arg8 f3 f4 f5 f6 f7 f8 f15⟩, ⟨Rect.unit (s := S1x1690x1728) ![0, 0, 1280] S1x1690x128.size inb_S1x1690x1728_S1x1690x128_0_0_1280, runTempLast.sl.v314_1 c i arg3 arg4 arg5 arg6 arg7 arg8 f3 f4 f5 f6 f7 f8 f15⟩, ⟨Rect.unit (s := S1x1690x1728) ![0, 0, 1152] S1x1690x128.size inb_S1x1690x1728_S1x1690x128_0_0_1152, runTempLast.sl.v307_1 c i arg3 arg4 arg5 arg6 arg7 arg8 f3 f4 f5 f6 f7 f8 f15⟩, ⟨Rect.unit (s := S1x1690x1728) ![0, 0, 1024] S1x1690x128.size inb_S1x1690x1728_S1x1690x128_0_0_1024, runTempLast.sl.v300_1 c i arg3 arg4 arg5 arg6 arg7 arg8 f3 f4 f5 f6 f7 f8 f15⟩, ⟨Rect.unit (s := S1x1690x1728) ![0, 0, 896] S1x1690x128.size inb_S1x1690x1728_S1x1690x128_0_0_896, runTempLast.sl.v293_1 c i arg3 arg4 arg5 arg6 arg7 arg8 f3 f4 f5 f6 f7 f8 f15⟩, ⟨Rect.unit (s := S1x1690x1728) ![0, 0, 768] S1x1690x128.size inb_S1x1690x1728_S1x1690x128_0_0_768, runTempLast.sl.v286_1 c i arg3 arg4 arg5 arg6 arg7 arg8 f3 f4 f5 f6 f7 f8 f15⟩, ⟨Rect.unit (s := S1x1690x1728) ![0, 0, 640] S1x1690x128.size inb_S1x1690x1728_S1x1690x128_0_0_640, runTempLast.sl.v279_1 c i arg3 arg4 arg5 arg6 arg7 arg8 f3 f4 f5 f6 f7 f8 f15⟩, ⟨Rect.unit (s := S1x1690x1728) ![0, 0, 512] S1x1690x128.size inb_S1x1690x1728_S1x1690x128_0_0_512, runTempLast.sl.v272_1 c i arg3 arg4 arg5 arg6 arg7 arg8 f3 f4 f5 f6 f7 f8 f15⟩, ⟨Rect.unit (s := S1x1690x1728) ![0, 0, 384] S1x1690x128.size inb_S1x1690x1728_S1x1690x128_0_0_384, runTempLast.sl.v265_1 c i arg3 arg4 arg5 arg6 arg7 arg8 f3 f4 f5 f6 f7 f8 f15⟩, ⟨Rect.unit (s := S1x1690x1728) ![0, 0, 256] S1x1690x128.size inb_S1x1690x1728_S1x1690x128_0_0_256, runTempLast.sl.v258_1 c i arg3 arg4 arg5 arg6 arg7 arg8 f3 f4 f5 f6 f7 f8 f15⟩, ⟨Rect.unit (s := S1x1690x1728) ![0, 0, 128] S1x1690x128.size inb_S1x1690x1728_S1x1690x128_0_0_128, runTempLast.sl.v251_1 c i arg3 arg4 arg5 arg6 arg7 arg8 f3 f4 f5 f6 f7 f8 f15⟩, ⟨Rect.unit (s := S1x1690x1728) ![0, 0, 0] S1x1690x128.size inb_S1x1690x1728_S1x1690x128_0_0_0, runTempLast.sl.v244 c i arg3 arg4 arg5 arg6 arg7 arg8 f3 f4 f5 f6 f7 f8 f15⟩] := rfl
  rw [h, runTempLast_t1664, runTempLast_t1536, runTempLast_t1408, runTempLast_t1280, runTempLast_t1152, runTempLast_t1024, runTempLast_t896, runTempLast_t768, runTempLast_t640, runTempLast_t512, runTempLast_t384, runTempLast_t256, runTempLast_t128, runTempLast_t0]
  rfl

/-- What this run leaves in the output block. -/
theorem runTempLast_eq2 (c : Dev nD) (i : grid0.Coords) (arg2 : Memref sig .tc .smem S24 .i32) (harg2 : arg2.IsWhole) (arg3 : Memref sig .tc .smem S720 .f32) (harg3 : arg3.IsWhole) (arg4 : Memref sig .tc .smem S720 .f32) (harg4 : arg4.IsWhole) (arg5 : Memref sig .tc .smem S720 .f32) (harg5 : arg5.IsWhole) (arg6 : Memref sig .tc .vmem S1x1x72x1690 .fp8e4m3) (harg6 : arg6.IsWhole) (arg7 : Memref sig .tc .vmem S1x1x72x1690 .fp8e4m3) (harg7 : arg7.IsWhole) (arg8 : Memref sig .tc .vmem S1x1x72x1690 .fp8e4m3) (harg8 : arg8.IsWhole) (arg9 : Memref sig .tc .vmem S1x1690x1728 .bf16) (harg9 : arg9.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8)
    (f15 : Bf (F := F) c (Memref.whole cc0_scratch5))
    (hk : ¬ word c i arg2 f2 = 0#32) (hh : k0_cond3 i = 1#1) :
    (runTempLast c i arg2 harg2 arg3 harg3 arg4 harg4 arg5 harg5 arg6 harg6 arg7 harg7 arg8 harg8 arg9 harg9 f2 f3 f4 f5 f6 f7 f8 f15 hk hh).1.2 = arg9.view.writes (Elt F) arg9.view.junk (outPieces ((Memref.whole cc0_scratch5).view.writes (Elt F) f15 (tempPieces c i arg3 arg4 arg5 arg6 arg7 arg8 f3 f4 f5 f6 f7 f8))) := by
  have h : (runTempLast c i arg2 harg2 arg3 harg3 arg4 harg4 arg5 harg5 arg6 harg6 arg7 harg7 arg8 harg8 arg9 harg9 f2 f3 f4 f5 f6 f7 f8 f15 hk hh).1.2 = arg9.view.writes (Elt F) arg9.view.junk (runTempLast.sl.H9_14 c i arg3 arg4 arg5 arg6 arg7 arg8 f3 f4 f5 f6 f7 f8 f15) := by
    unfold runTempLast
    with_reducible rfl
  have h2 : runTempLast.sl.S5_5 c i arg3 arg4 arg5 arg6 arg7 arg8 f3 f4 f5 f6 f7 f8 = tempPieces c i arg3 arg4 arg5 arg6 arg7 arg8 f3 f4 f5 f6 f7 f8 := runTempLast_pieces c i arg3 arg4 arg5 arg6 arg7 arg8 f3 f4 f5 f6 f7 f8
  rw [h, runTempLast_out, h2]

end Cert.KernelIdeal.Hand

end
-- ==== Proof.Data.lean ====
module

public import Idealize.ShloMosaic.Lib.WritesUnit
public import Idealize.ShloMosaic.Lib.Pointwise
public import proofs.«01_k».proof.Proof.Model

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-! ### A head's stores as data of the blocks it reads -/

/-- The five scale words of a head, from the array. -/
def scalesD (i : grid0.Coords) (d : S720.Idx → F .f32) : Fin 5 → F .f32 :=
  ![d ((Rect.unit (s := S720) (k0_off1 i 0#32) S1.size (k0_off1_inb i 0)).toLoadRect.idx (Shape.Idx.first (s := S1) (numel1_S1.symm ▸ Nat.one_pos))),
    d ((Rect.unit (s := S720) (k0_off1 i 1#32) S1.size (k0_off1_inb i 1)).toLoadRect.idx (Shape.Idx.first (s := S1) (numel1_S1.symm ▸ Nat.one_pos))),
    d ((Rect.unit (s := S720) (k0_off1 i 2#32) S1.size (k0_off1_inb i 2)).toLoadRect.idx (Shape.Idx.first (s := S1) (numel1_S1.symm ▸ Nat.one_pos))),
    d ((Rect.unit (s := S720) (k0_off1 i 3#32) S1.size (k0_off1_inb i 3)).toLoadRect.idx (Shape.Idx.first (s := S1) (numel1_S1.symm ▸ Nat.one_pos))),
    d ((Rect.unit (s := S720) (k0_off1 i 4#32) S1.size (k0_off1_inb i 4)).toLoadRect.idx (Shape.Idx.first (s := S1) (numel1_S1.symm ▸ Nat.one_pos)))]
/-- A head's codes, from the block. -/
def codesD (d : S1x1x72x1690.Idx → Elt F .fp8e4m3) : Vec F S1x1x72x1690 .fp8e4m3 :=
  fun j => d ((Rect.unit (s := S1x1x72x1690) ![0, 0, 0, 0] S1x1x72x1690.size inb_S1x1x72x1690_S1x1x72x1690_0_0_0_0).toLoadRect.idx j)
/-- One frame of a head's codes, from the block. -/
def codesFD (o : ℕ) (hb : ∀ a, (![0, 0, 0, o] : Fin 4 → Nat) a + S1x1x72x384.size a ≤ S1x1x72x1690.size a) (d : S1x1x72x1690.Idx → Elt F .fp8e4m3) : Vec F S1x1x72x384 .fp8e4m3 :=
  fun j => d ((Rect.unit (s := S1x1x72x1690) ![0, 0, 0, o] S1x1x72x384.size hb).toLoadRect.idx j)
/-- A head's kind word, from the array. -/
def wordD (i : grid0.Coords) (d : S24.Idx → Elt F .i32) : BitVec 32 :=
  d ((Rect.unit (s := S24) (k0_off8 i) S1.size (k0_off8_inb i)).toLoadRect.idx (Shape.Idx.first (s := S1) (numel1_S1.symm ▸ Nat.one_pos)))

/-- One column of a head's rows, by which store holds it. -/
def headCol {Val : EltTy → Type} {e : EltTy} (p0 p1 p2 p3 : S72x384.Idx → Val e) (pt : S72x160.Idx → Val e) (d : Fin 72) (n : Fin 1696) : Val e :=
  if h0 : n.val < 384 then p0 (ix2 d ⟨n.val, h0⟩)
  else if h1 : n.val < 768 then p1 (ix2 d ⟨n.val - 384, by omega⟩)
  else if h2 : n.val < 1152 then p2 (ix2 d ⟨n.val - 768, by omega⟩)
  else if h3 : n.val < 1536 then p3 (ix2 d ⟨n.val - 1152, by omega⟩)
  else pt (ix2 d ⟨n.val - 1536, by omega⟩)

/-- What a spatial head stores, by column. -/
def spatCol (i : grid0.Coords) (d3 d4 d5 : S720.Idx → F .f32) (d6 d7 d8 : S1x1x72x1690.Idx → Elt F .fp8e4m3) (d : Fin 72) (n : Fin 1696) : F .f32 :=
  headCol (Val := Elt F) (e := .f32) (spatP0 (codesD d6) (codesD d7) (codesD d8) (scalesD i d3) (scalesD i d4) (scalesD i d5))
    (spatP 1 384 inb_S1696x128_S384x128_384_0 inb_S128x1792_S128x384_0_384 inb_S72x1792_S72x384_0_384 (codesD d6) (codesD d7) (codesD d8) (scalesD i d3) (scalesD i d4) (scalesD i d5))
    (spatP 2 768 inb_S1696x128_S384x128_768_0 inb_S128x1792_S128x384_0_768 inb_S72x1792_S72x384_0_768 (codesD d6) (codesD d7) (codesD d8) (scalesD i d3) (scalesD i d4) (scalesD i d5))
    (spatP 3 1152 inb_S1696x128_S384x128_1152_0 inb_S128x1792_S128x384_0_1152 inb_S72x1792_S72x384_0_1152 (codesD d6) (codesD d7) (codesD d8) (scalesD i d3) (scalesD i d4) (scalesD i d5))
    (textP (codesD d6) (codesD d7) (codesD d8) (scalesD i d3) (scalesD i d4) (scalesD i d5)) d n
/-- What a temporal head stores, by column. -/
def tempCol (i : grid0.Coords) (d3 d4 d5 : S720.Idx → F .f32) (d6 d7 d8 : S1x1x72x1690.Idx → Elt F .fp8e4m3) (d : Fin 72) (n : Fin 1696) : F .f32 :=
  headCol (Val := Elt F) (e := .f32) (tempP 0 0 inb_S128x1792_S128x384_0_0 (codesD d6) (codesD d7) (codesD d8) (codesFD 0 inb_S1x1x72x1690_S1x1x72x384_0_0_0_0 d6) (codesFD 0 inb_S1x1x72x1690_S1x1x72x384_0_0_0_0 d7) (codesFD 384 inb_S1x1x72x1690_S1x1x72x384_0_0_0_384 d7) (codesFD 768 inb_S1x1x72x1690_S1x1x72x384_0_0_0_768 d7) (codesFD 1152 inb_S1x1x72x1690_S1x1x72x384_0_0_0_1152 d7) (scalesD i d3) (scalesD i d4) (scalesD i d5))
    (tempP 1 384 inb_S128x1792_S128x384_0_384 (codesD d6) (codesD d7) (codesD d8) (codesFD 384 inb_S1x1x72x1690_S1x1x72x384_0_0_0_384 d6) (codesFD 0 inb_S1x1x72x1690_S1x1x72x384_0_0_0_0 d7) (codesFD 384 inb_S1x1x72x1690_S1x1x72x384_0_0_0_384 d7) (codesFD 768 inb_S1x1x72x1690_S1x1x72x384_0_0_0_768 d7) (codesFD 1152 inb_S1x1x72x1690_S1x1x72x384_0_0_0_1152 d7) (scalesD i d3) (scalesD i d4) (scalesD i d5))
    (tempP 2 768 inb_S128x1792_S128x384_0_768 (codesD d6) (codesD d7) (codesD d8) (codesFD 768 inb_S1x1x72x1690_S1x1x72x384_0_0_0_768 d6) (codesFD 0 inb_S1x1x72x1690_S1x1x72x384_0_0_0_0 d7) (codesFD 384 inb_S1x1x72x1690_S1x1x72x384_0_0_0_384 d7) (codesFD 768 inb_S1x1x72x1690_S1x1x72x384_0_0_0_768 d7) (codesFD 1152 inb_S1x1x72x1690_S1x1x72x384_0_0_0_1152 d7) (scalesD i d3) (scalesD i d4) (scalesD i d5))
    (tempP 3 1152 inb_S128x1792_S128x384_0_1152 (codesD d6) (codesD d7) (codesD d8) (codesFD 1152 inb_S1x1x72x1690_S1x1x72x384_0_0_0_1152 d6) (codesFD 0 inb_S1x1x72x1690_S1x1x72x384_0_0_0_0 d7) (codesFD 384 inb_S1x1x72x1690_S1x1x72x384_0_0_0_384 d7) (codesFD 768 inb_S1x1x72x1690_S1x1x72x384_0_0_0_768 d7) (codesFD 1152 inb_S1x1x72x1690_S1x1x72x384_0_0_0_1152 d7) (scalesD i d3) (scalesD i d4) (scalesD i d5))
    (textP (codesD d6) (codesD d7) (codesD d8) (scalesD i d3) (scalesD i d4) (scalesD i d5)) d n
/-- What a head stores, by column. -/
def headD (i : grid0.Coords) (d2 : S24.Idx → Elt F .i32) (d3 d4 d5 : S720.Idx → F .f32) (d6 d7 d8 : S1x1x72x1690.Idx → Elt F .fp8e4m3) (d : Fin 72) (n : Fin 1696) : F .f32 :=
  if wordD i d2 = 0#32 then spatCol i d3 d4 d5 d6 d7 d8 d n else tempCol i d3 d4 d5 d6 d7 d8 d n

/-! ### Reading the output scratch after a head's stores -/

section Stores
variable {sg : RefSig} {κ : Kind} {sp : Space} {Val : EltTy → Type} {e : EltTy} (v : View sg κ sp S1792x1792 e) (f : v.ty.Contents Val) (h : ℕ) {o3 o2 o1 o0 ot : Fin 2 → ℕ}
  (i3 : ∀ a, o3 a + S72x384.size a ≤ S1792x1792.size a) (i2 : ∀ a, o2 a + S72x384.size a ≤ S1792x1792.size a)
  (i1 : ∀ a, o1 a + S72x384.size a ≤ S1792x1792.size a) (i0 : ∀ a, o0 a + S72x384.size a ≤ S1792x1792.size a)
  (it : ∀ a, ot a + S72x160.size a ≤ S1792x1792.size a)
  (e3 : o3 = ![72 * h, 1152]) (e2 : o2 = ![72 * h, 768]) (e1 : o1 = ![72 * h, 384]) (e0 : o0 = ![72 * h, 0]) (et : ot = ![72 * h, 1536])
  (p3 p2 p1 p0 : S72x384.Idx → Val e) (pt : S72x160.Idx → Val e)

include e3 e2 e1 e0 et

/-- Inside the head's rows the scratch holds the head's column. -/
theorem stores_hit (d : Fin 72) (n : Fin 1696) (y : S1792x1792.Idx) (h0 : (y 0).val = 72 * h + d.val) (h1 : (y 1).val = n.val) :
    v.read Val (v.writes Val f
      [⟨Rect.unit (s := S1792x1792) o3 S72x384.size i3, p3⟩, ⟨Rect.unit (s := S1792x1792) o2 S72x384.size i2, p2⟩,
       ⟨Rect.unit (s := S1792x1792) o1 S72x384.size i1, p1⟩, ⟨Rect.unit (s := S1792x1792) o0 S72x384.size i0, p0⟩,
       ⟨Rect.unit (s := S1792x1792) ot S72x160.size it, pt⟩]) y = headCol p0 p1 p2 p3 pt d n := by
  have hn := n.isLt
  by_cases c3 : 1152 ≤ n.val ∧ n.val < 1536
  · refine (View.read_writes_cons_unit_of_mem v f (size := S72x384.size) i3 p3 _ y (ix2 d ⟨n.val - 1152, by omega⟩) e3 (fun a => ?_)).trans ?_
    · refine Fin.cases ?_ (fun a => Fin.cases ?_ (fun a => a.elim0) a) a
      · show (y 0).val = 72 * h + d.val; exact h0
      · show (y 1).val = 1152 + (n.val - 1152); omega
    · unfold headCol; rw [dif_neg (by omega), dif_neg (by omega), dif_neg (by omega), dif_pos (by omega)]
  refine (View.read_writes_cons_unit_of_not_mem v f (size := S72x384.size) i3 p3 _ y e3 1 (by show (y 1).val < 1152 ∨ 1152 + 384 ≤ (y 1).val; omega)).trans ?_
  by_cases c2 : 768 ≤ n.val ∧ n.val < 1152
  · refine (View.read_writes_cons_unit_of_mem v f (size := S72x384.size) i2 p2 _ y (ix2 d ⟨n.val - 768, by omega⟩) e2 (fun a => ?_)).trans ?_
    · refine Fin.cases ?_ (fun a => Fin.cases ?_ (fun a => a.elim0) a) a
      · show (y 0).val = 72 * h + d.val; exact h0
      · show (y 1).val = 768 + (n.val - 768); omega
    · unfold headCol; rw [dif_neg (by omega), dif_neg (by omega), dif_pos (by omega)]
  refine (View.read_writes_cons_unit_of_not_mem v f (size := S72x384.size) i2 p2 _ y e2 1 (by show (y 1).val < 768 ∨ 768 + 384 ≤ (y 1).val; omega)).trans ?_
  by_cases c1 : 384 ≤ n.val ∧ n.val < 768
  · refine (View.read_writes_cons_unit_of_mem v f (size := S72x384.size) i1 p1 _ y (ix2 d ⟨n.val - 384, by omega⟩) e1 (fun a => ?_)).trans ?_
    · refine Fin.cases ?_ (fun a => Fin.cases ?_ (fun a => a.elim0) a) a
      · show (y 0).val = 72 * h + d.val; exact h0
      · show (y 1).val = 384 + (n.val - 384); omega
    · unfold headCol; rw [dif_neg (by omega), dif_pos (by omega)]
  refine (View.read_writes_cons_unit_of_not_mem v f (size := S72x384.size) i1 p1 _ y e1 1 (by show (y 1).val < 384 ∨ 384 + 384 ≤ (y 1).val; omega)).trans ?_
  by_cases c0 : n.val < 384
  · refine (View.read_writes_cons_unit_of_mem v f (size := S72x384.size) i0 p0 _ y (ix2 d ⟨n.val, by omega⟩) e0 (fun a => ?_)).trans ?_
    · refine Fin.cases ?_ (fun a => Fin.cases ?_ (fun a => a.elim0) a) a
      · show (y 0).val = 72 * h + d.val; exact h0
      · show (y 1).val = 0 + n.val; omega
    · unfold headCol; rw [dif_pos (by omega)]
  refine (View.read_writes_cons_unit_of_not_mem v f (size := S72x384.size) i0 p0 _ y e0 1 (by show (y 1).val < 0 ∨ 0 + 384 ≤ (y 1).val; omega)).trans ?_
  refine (View.read_writes_cons_unit_of_mem v f (size := S72x160.size) it pt _ y (ix2 d ⟨n.val - 1536, by omega⟩) et (fun a => ?_)).trans ?_
  · refine Fin.cases ?_ (fun a => Fin.cases ?_ (fun a => a.elim0) a) a
    · show (y 0).val = 72 * h + d.val; exact h0
    · show (y 1).val = 1536 + (n.val - 1536); omega
  · unfold headCol; rw [dif_neg (by omega), dif_neg (by omega), dif_neg (by omega), dif_neg (by omega)]

/-- Outside the head's rows the scratch holds what it held. -/
theorem stores_miss (y : S1792x1792.Idx) (hy : (y 0).val < 72 * h ∨ 72 * h + 72 ≤ (y 0).val) :
    v.read Val (v.writes Val f
      [⟨Rect.unit (s := S1792x1792) o3 S72x384.size i3, p3⟩, ⟨Rect.unit (s := S1792x1792) o2 S72x384.size i2, p2⟩,
       ⟨Rect.unit (s := S1792x1792) o1 S72x384.size i1, p1⟩, ⟨Rect.unit (s := S1792x1792) o0 S72x384.size i0, p0⟩,
       ⟨Rect.unit (s := S1792x1792) ot S72x160.size it, pt⟩]) y = v.read Val f y := by
  refine (View.read_writes_cons_unit_of_not_mem v f (size := S72x384.size) i3 p3 _ y e3 0 (by exact hy)).trans ?_
  refine (View.read_writes_cons_unit_of_not_mem v f (size := S72x384.size) i2 p2 _ y e2 0 (by exact hy)).trans ?_
  refine (View.read_writes_cons_unit_of_not_mem v f (size := S72x384.size) i1 p1 _ y e1 0 (by exact hy)).trans ?_
  refine (View.read_writes_cons_unit_of_not_mem v f (size := S72x384.size) i0 p0 _ y e0 0 (by exact hy)).trans ?_
  refine (View.read_writes_cons_unit_of_not_mem v f (size := S72x160.size) it pt _ y et 0 (by exact hy)).trans ?_
  rfl

end Stores

/-- A spatial head's rows after its stores. -/
theorem spat_hit (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f : cc0_scratch5.ty.Contents (Elt F)) (d : Fin 72) (n : Fin 1696) (y : S1792x1792.Idx) (h0 : (y 0).val = 72 * (i 1).val + d.val) (h1 : (y 1).val = n.val) :
    (Memref.whole cc0_scratch5).view.read (Elt F) ((Memref.whole cc0_scratch5).view.writes (Elt F) f (spatPieces c i arg3 arg4 arg5 arg6 arg7 arg8 f3 f4 f5 f6 f7 f8)) y = spatCol i (arg3.view.read (Elt F) f3) (arg4.view.read (Elt F) f4) (arg5.view.read (Elt F) f5) (arg6.view.read (Elt F) f6) (arg7.view.read (Elt F) f7) (arg8.view.read (Elt F) f8) d n :=
  stores_hit (Val := Elt F) (e := .f32) (Memref.whole cc0_scratch5).view f (i 1).val (k0_off7_inb i) (k0_off6_inb i) (k0_off5_inb i) (k0_off4_inb i) (k0_off2_inb i) (k0_off7_eq i) (k0_off6_eq i) (k0_off5_eq i) (k0_off4_eq i) (k0_off2_eq i) _ _ _ _ _ d n y h0 h1
/-- A spatial head leaves the other rows. -/
theorem spat_miss (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f : cc0_scratch5.ty.Contents (Elt F)) (y : S1792x1792.Idx) (hy : (y 0).val < 72 * (i 1).val ∨ 72 * (i 1).val + 72 ≤ (y 0).val) :
    (Memref.whole cc0_scratch5).view.read (Elt F) ((Memref.whole cc0_scratch5).view.writes (Elt F) f (spatPieces c i arg3 arg4 arg5 arg6 arg7 arg8 f3 f4 f5 f6 f7 f8)) y = (Memref.whole cc0_scratch5).view.read (Elt F) f y :=
  stores_miss (Val := Elt F) (e := .f32) (Memref.whole cc0_scratch5).view f (i 1).val (k0_off7_inb i) (k0_off6_inb i) (k0_off5_inb i) (k0_off4_inb i) (k0_off2_inb i) (k0_off7_eq i) (k0_off6_eq i) (k0_off5_eq i) (k0_off4_eq i) (k0_off2_eq i) _ _ _ _ _ y hy
/-- A temporal head's rows after its stores. -/
theorem temp_hit (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f : cc0_scratch5.ty.Contents (Elt F)) (d : Fin 72) (n : Fin 1696) (y : S1792x1792.Idx) (h0 : (y 0).val = 72 * (i 1).val + d.val) (h1 : (y 1).val = n.val) :
    (Memref.whole cc0_scratch5).view.read (Elt F) ((Memref.whole cc0_scratch5).view.writes (Elt F) f (tempPieces c i arg3 arg4 arg5 arg6 arg7 arg8 f3 f4 f5 f6 f7 f8)) y = tempCol i (arg3.view.read (Elt F) f3) (arg4.view.read (Elt F) f4) (arg5.view.read (Elt F) f5) (arg6.view.read (Elt F) f6) (arg7.view.read (Elt F) f7) (arg8.view.read (Elt F) f8) d n :=
  stores_hit (Val := Elt F) (e := .f32) (Memref.whole cc0_scratch5).view f (i 1).val (k0_off12_inb i) (k0_off11_inb i) (k0_off10_inb i) (k0_off9_inb i) (k0_off2_inb i) (k0_off12_eq i) (k0_off11_eq i) (k0_off10_eq i) (k0_off9_eq i) (k0_off2_eq i) _ _ _ _ _ d n y h0 h1
/-- A temporal head leaves the other rows. -/
theorem temp_miss (c : Dev nD) (i : grid0.Coords) (arg3 arg4 arg5 : Memref sig .tc .smem S720 .f32) (arg6 arg7 arg8 : Memref sig .tc .vmem S1x1x72x1690 .fp8e4m3) (f3 : Bf (F := F) c arg3) (f4 : Bf (F := F) c arg4) (f5 : Bf (F := F) c arg5) (f6 : Bf (F := F) c arg6) (f7 : Bf (F := F) c arg7) (f8 : Bf (F := F) c arg8) (f : cc0_scratch5.ty.Contents (Elt F)) (y : S1792x1792.Idx) (hy : (y 0).val < 72 * (i 1).val ∨ 72 * (i 1).val + 72 ≤ (y 0).val) :
    (Memref.whole cc0_scratch5).view.read (Elt F) ((Memref.whole cc0_scratch5).view.writes (Elt F) f (tempPieces c i arg3 arg4 arg5 arg6 arg7 arg8 f3 f4 f5 f6 f7 f8)) y = (Memref.whole cc0_scratch5).view.read (Elt F) f y :=
  stores_miss (Val := Elt F) (e := .f32) (Memref.whole cc0_scratch5).view f (i 1).val (k0_off12_inb i) (k0_off11_inb i) (k0_off10_inb i) (k0_off9_inb i) (k0_off2_inb i) (k0_off12_eq i) (k0_off11_eq i) (k0_off10_eq i) (k0_off9_eq i) (k0_off2_eq i) _ _ _ _ _ y hy

/-! ### Reading the output block after the last head's stores -/

/-- A rounding of one entry. -/
def rnd (x : F .f32) : F .bf16 := truncf .bf16 (fun _ : S1x1690x1728.Idx => x) bitsLt_bf16_f32 (ix3 0 0 0)

/-- A load of a unit rectangle at an index. -/
theorem readAt_unit2 {sg : RefSig} {κ : Kind} {sp : Space} {Val : EltTy → Type} {e : EltTy} (v : View sg κ sp S1792x1792 e) (f : v.ty.Contents Val) (o : ℕ)
    (hb : ∀ a, (![o, 0] : Fin 2 → Nat) a + S128x1792.size a ≤ S1792x1792.size a) (j : Fin 128) (n : Fin 1792) (j' : Fin 1792) (hj : j'.val = o + j.val) :
    v.readAt Val (Rect.unit (s := S1792x1792) ![o, 0] S128x1792.size hb).toLoadRect f (ix2 j n) = v.read Val f (ix2 j' n) := by
  refine congrArg (v.read Val f) (funext fun a => Fin.ext ?_)
  refine Fin.cases ?_ (fun a => Fin.cases ?_ (fun a => a.elim0) a) a
  · show o + 1 * j.val = j'.val; omega
  · show 0 + 1 * n.val = n.val; omega
/-- An output tile at an index. -/
theorem outTile_apply (o : ℕ) (hb : ∀ a, (![o, 0] : Fin 2 → Nat) a + S128x1792.size a ≤ S1792x1792.size a) (ho : o + 128 ≤ 1792) (f : cc0_scratch5.ty.Contents (Elt F)) (b : Fin 1) (n : Fin 1690) (j : Fin 128) :
    outTile o hb f (ix3 b n j) = rnd ((Memref.whole cc0_scratch5).view.read (Elt F) f (ix2 (⟨o + j.val, by omega⟩ : Fin 1792) (⟨n.val, by omega⟩ : Fin 1792))) := by
  pointwise [outTile, rnd]
  exact congrArg _ (readAt_unit2 (Val := Elt F) (e := .f32) (Memref.whole cc0_scratch5).view f o hb j ⟨n.val, by omega⟩ ⟨o + j.val, by omega⟩ rfl)
/-- The last output tile at an index. -/
theorem outHalf_apply (f : cc0_scratch5.ty.Contents (Elt F)) (b : Fin 1) (n : Fin 1690) (j : Fin 64) :
    outHalf f (ix3 b n j) = rnd ((Memref.whole cc0_scratch5).view.read (Elt F) f (ix2 (⟨1664 + j.val, by omega⟩ : Fin 1792) (⟨n.val, by omega⟩ : Fin 1792))) := by
  pointwise [outHalf, rnd]
  exact congrArg _ (readAt_unit2 (Val := Elt F) (e := .f32) (Memref.whole cc0_scratch5).view f 1664 inb_S1792x1792_S128x1792_1664_0 ⟨j.val, by omega⟩ ⟨n.val, by omega⟩ ⟨1664 + j.val, by omega⟩ rfl)

/-- The output block after the stores: the scratch transposed and rounded. -/
theorem out_apply {sg : RefSig} {κ : Kind} {sp : Space} (v : View sg κ sp S1x1690x1728 .bf16) (g : v.ty.Contents (Elt F)) (f : cc0_scratch5.ty.Contents (Elt F)) (y : S1x1690x1728.Idx) :
    v.read (Elt F) (v.writes (Elt F) g (outPieces f)) y
      = rnd ((Memref.whole cc0_scratch5).view.read (Elt F) f (ix2 (⟨(y 2).val, lt_of_lt_of_le (y 2).isLt (by decide)⟩ : Fin 1792) (⟨(y 1).val, lt_of_lt_of_le (y 1).isLt (by decide)⟩ : Fin 1792))) := by
  refine View.read_writes_apply_of_pieces v g (fun y => rnd ((Memref.whole cc0_scratch5).view.read (Elt F) f (ix2 (⟨(y 2).val, lt_of_lt_of_le (y 2).isLt (by decide)⟩ : Fin 1792) (⟨(y 1).val, lt_of_lt_of_le (y 1).isLt (by decide)⟩ : Fin 1792)))) (outPieces f) ?_ y ?_
  · intro p hp x
    simp only [outPieces, List.mem_cons, List.not_mem_nil, or_false] at hp
    rcases hp with rfl | rfl | rfl | rfl | rfl | rfl | rfl | rfl | rfl | rfl | rfl | rfl | rfl | rfl
    · obtain ⟨b, n, j, rfl⟩ : ∃ (b : Fin 1) (n : Fin 1690) (j : Fin 64), x = ix3 b n j := ⟨x 0, x 1, x 2, by funext a; refine Fin.cases rfl (fun a => Fin.cases rfl (fun a => Fin.cases rfl (fun a => a.elim0) a) a) a⟩
      refine (outHalf_apply f b n j).trans (congrArg (fun z => rnd ((Memref.whole cc0_scratch5).view.read (Elt F) f z)) (funext fun a => Fin.ext ?_))
      refine Fin.cases ?_ (fun a => Fin.cases ?_ (fun a => a.elim0) a) a
      · show 1664 + j.val = 1664 + 1 * j.val; omega
      · show n.val = 0 + 1 * n.val; omega
    all_goals
      obtain ⟨b, n, j, rfl⟩ : ∃ (b : Fin 1) (n : Fin 1690) (j : Fin 128), x = ix3 b n j := ⟨x 0, x 1, x 2, by funext a; refine Fin.cases rfl (fun a => Fin.cases rfl (fun a => Fin.cases rfl (fun a => a.elim0) a) a) a⟩
      refine (outTile_apply _ _ (by decide) f b n j).trans (congrArg (fun z => rnd ((Memref.whole cc0_scratch5).view.read (Elt F) f z)) (funext fun a => Fin.ext ?_))
      refine Fin.cases ?_ (fun a => Fin.cases ?_ (fun a => a.elim0) a) a
      · exact congrArg (_ + ·) (Nat.one_mul j.val).symm
      · show n.val = 0 + 1 * n.val; omega
  · have h2 : (y 2).val < 1728 := (y 2).isLt
    have h1 : (y 1).val < 1690 := (y 1).isLt
    have h0 : (y 0).val < 1 := (y 0).isLt
    obtain ⟨k, hk, hk2⟩ : ∃ k, k < 14 ∧ (y 2).val / 128 = k := ⟨_, by omega, rfl⟩
    have cov : ∀ (o z : ℕ) (hb : ∀ a, (![0, 0, o] : Fin 3 → Nat) a + (![1, 1690, z] : Fin 3 → Nat) a ≤ S1x1690x1728.size a) (w),
        (⟨Rect.unit (s := S1x1690x1728) ![0, 0, o] ![1, 1690, z] hb, w⟩ : View.Piece (Elt F) S1x1690x1728 .bf16) ∈ outPieces f →
        o ≤ (y 2).val → (y 2).val < o + z → ∃ p ∈ outPieces f, y ∈ p.1.set := by
      intro o z hb w hm hl hr
      refine ⟨_, hm, (Rect.mem_set_unit (inb := hb)).mpr fun a => ?_⟩
      refine Fin.cases ?_ (fun a => Fin.cases ?_ (fun a => Fin.cases ?_ (fun a => a.elim0) a) a) a
      · show 0 ≤ (y 0).val ∧ (y 0).val < 0 + 1; omega
      · show 0 ≤ (y 1).val ∧ (y 1).val < 0 + 1690; omega
      · exact ⟨hl, hr⟩
    interval_cases k
    · exact cov 0 128 inb_S1x1690x1728_S1x1690x128_0_0_0 _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))) (by omega) (by omega)
    · exact cov 128 128 inb_S1x1690x1728_S1x1690x128_0_0_128 _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))) (by omega) (by omega)
    · exact cov 256 128 inb_S1x1690x1728_S1x1690x128_0_0_256 _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))) (by omega) (by omega)
    · exact cov 384 128 inb_S1x1690x1728_S1x1690x128_0_0_384 _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))) (by omega) (by omega)
    · exact cov 512 128 inb_S1x1690x1728_S1x1690x128_0_0_512 _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))) (by omega) (by omega)
    · exact cov 640 128 inb_S1x1690x1728_S1x1690x128_0_0_640 _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))) (by omega) (by omega)
    · exact cov 768 128 inb_S1x1690x1728_S1x1690x128_0_0_768 _ (List.mem_cons_of_mem _ (List.mem_cons_of_mem _ (List.mem_cons_of_mem _ (List.mem_cons_of_mem _ (List.mem_cons_of_mem _ (List.mem_cons_of_mem _ (List.mem_cons_of_mem _ (List.mem_cons_self)))))))) (by omega) (by omega)
    · exact cov 896 128 inb_S1x1690x1728_S1x1690x128_0_0_896 _ (List.mem_cons_of_mem _ (List.mem_cons_of_mem _ (List.mem_cons_of_mem _ (List.mem_cons_of_mem _ (List.mem_cons_of_mem _ (List.mem_cons_of_mem _ (List.mem_cons_self))))))) (by omega) (by omega)
    · exact cov 1024 128 inb_S1x1690x1728_S1x1690x128_0_0_1024 _ (List.mem_cons_of_mem _ (List.mem_cons_of_mem _ (List.mem_cons_of_mem _ (List.mem_cons_of_mem _ (List.mem_cons_of_mem _ (List.mem_cons_self)))))) (by omega) (by omega)
    · exact cov 1152 128 inb_S1x1690x1728_S1x1690x128_0_0_1152 _ (List.mem_cons_of_mem _ (List.mem_cons_of_mem _ (List.mem_cons_of_mem _ (List.mem_cons_of_mem _ (List.mem_cons_self))))) (by omega) (by omega)
    · exact cov 1280 128 inb_S1x1690x1728_S1x1690x128_0_0_1280 _ (List.mem_cons_of_mem _ (List.mem_cons_of_mem _ (List.mem_cons_of_mem _ (List.mem_cons_self)))) (by omega) (by omega)
    · exact cov 1408 128 inb_S1x1690x1728_S1x1690x128_0_0_1408 _ (List.mem_cons_of_mem _ (List.mem_cons_of_mem _ (List.mem_cons_self))) (by omega) (by omega)
    · exact cov 1536 128 inb_S1x1690x1728_S1x1690x128_0_0_1536 _ (List.mem_cons_of_mem _ (List.mem_cons_self)) (by omega) (by omega)
    · exact cov 1664 64 inb_S1x1690x1728_S1x1690x64_0_0_1664 _ List.mem_cons_self (by omega) (by omega)

end Cert.KernelIdeal.Hand

end
-- ==== Proof.Body.lean ====
module

public import proofs.«01_k».proof.Proof.Gen.KernelIdeal.Frame
public import proofs.«01_k».proof.Proof.Gen.KernelIdeal.Skeleton
public import proofs.«01_k».proof.Proof.EqSpat
public import proofs.«01_k».proof.Proof.EqTemp
public import proofs.«01_k».proof.Proof.EqSpatLast
public import proofs.«01_k».proof.Proof.EqTempLast
public import proofs.«01_k».proof.Proof.Data
public import Idealize.ShloMosaic.Lib.Pipeline.Frame
public import Idealize.ShloMosaic.Lib.Pipeline.FrameBody
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A head that is not the last: its rows of the output scratch; the output block is left alone. -/
theorem run_mid (c : Dev nD) (i : grid0.Coords) (arg2 : Memref sig .tc .smem S24 .i32) (harg2 : arg2.IsWhole) (arg3 : Memref sig .tc .smem S720 .f32) (harg3 : arg3.IsWhole) (arg4 : Memref sig .tc .smem S720 .f32) (harg4 : arg4.IsWhole) (arg5 : Memref sig .tc .smem S720 .f32) (harg5 : arg5.IsWhole) (arg6 : Memref sig .tc .vmem S1x1x72x1690 .fp8e4m3) (harg6 : arg6.IsWhole) (arg7 : Memref sig .tc .vmem S1x1x72x1690 .fp8e4m3) (harg7 : arg7.IsWhole) (arg8 : Memref sig .tc .vmem S1x1x72x1690 .fp8e4m3) (harg8 : arg8.IsWhole) (arg9 : Memref sig .tc .vmem S1x1690x1728 .bf16) (harg9 : arg9.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8)
    (f15 : cc0_scratch5.ty.Contents (Elt F))
    (hh : ¬ k0_cond3 i = 1#1) :
    ∃ f' : cc0_scratch5.ty.Contents (Elt F),
      (∀ (d : Fin 72) (n : Fin 1696) (y : S1792x1792.Idx), (y 0).val = 72 * (i 1).val + d.val → (y 1).val = n.val →
        (Memref.whole cc0_scratch5).view.read (Elt F) f' y = headD i (arg2.view.read (Elt F) f2) (arg3.view.read (Elt F) f3) (arg4.view.read (Elt F) f4) (arg5.view.read (Elt F) f5) (arg6.view.read (Elt F) f6) (arg7.view.read (Elt F) f7) (arg8.view.read (Elt F) f8) d n)
      ∧ (∀ y : S1792x1792.Idx, (y 0).val < 72 * (i 1).val ∨ 72 * (i 1).val + 72 ≤ (y 0).val →
        (Memref.whole cc0_scratch5).view.read (Elt F) f' y = (Memref.whole cc0_scratch5).view.read (Elt F) f15 y)
      ∧ ∀ (f9 : Bf (F := F) c arg9) (Q : PUnit → sProp 𝕄),
        iprop(pt c arg2 f2 ∗ pt c arg3 f3 ∗ pt c arg4 f4 ∗ pt c arg5 f5 ∗ pt c arg6 f6 ∗ pt c arg7 f7 ∗ pt c arg8 f8 ∗ pt c arg9 f9 ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ pt c (Memref.whole cc0_scratch5) f15
          ∗ (iprop(pt c arg2 f2 ∗ pt c arg3 f3 ∗ pt c arg4 f4 ∗ pt c arg5 f5 ∗ pt c arg6 f6 ∗ pt c arg7 f7 ∗ pt c arg8 f8 ∗ pt c arg9 f9 ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ pt c (Memref.whole cc0_scratch5) f') -∗ Q ⟨⟩))
        ⊢ wp frame (wpE (defs₀ (F := F)) Variants.none c none) Set.univ (cc0_svg_attention i arg2 harg2 arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)) Q := by
  by_cases hk : word c i arg2 f2 = 0#32
  · refine ⟨(Memref.whole cc0_scratch5).view.writes (Elt F) f15 (spatPieces c i arg3 arg4 arg5 arg6 arg7 arg8 f3 f4 f5 f6 f7 f8), fun d n y h0 h1 => ?_, fun y hy => spat_miss c i arg3 arg4 arg5 arg6 arg7 arg8 f3 f4 f5 f6 f7 f8 f15 y hy, fun f9 Q => ?_⟩
    · unfold headD
      exact (spat_hit c i arg3 arg4 arg5 arg6 arg7 arg8 f3 f4 f5 f6 f7 f8 f15 d n y h0 h1).trans (if_pos hk).symm
    · have h := (runSpat c i arg2 harg2 arg3 harg3 arg4 harg4 arg5 harg5 arg6 harg6 arg7 harg7 arg8 harg8 arg9 harg9 f2 f3 f4 f5 f6 f7 f8 f15 hk hh).2 f9 Q
      rw [runSpat_eq c i arg2 harg2 arg3 harg3 arg4 harg4 arg5 harg5 arg6 harg6 arg7 harg7 arg8 harg8 arg9 harg9 f2 f3 f4 f5 f6 f7 f8 f15 hk hh] at h
      exact h
  · refine ⟨(Memref.whole cc0_scratch5).view.writes (Elt F) f15 (tempPieces c i arg3 arg4 arg5 arg6 arg7 arg8 f3 f4 f5 f6 f7 f8), fun d n y h0 h1 => ?_, fun y hy => temp_miss c i arg3 arg4 arg5 arg6 arg7 arg8 f3 f4 f5 f6 f7 f8 f15 y hy, fun f9 Q => ?_⟩
    · unfold headD
      exact (temp_hit c i arg3 arg4 arg5 arg6 arg7 arg8 f3 f4 f5 f6 f7 f8 f15 d n y h0 h1).trans (if_neg hk).symm
    · have h := (runTemp c i arg2 harg2 arg3 harg3 arg4 harg4 arg5 harg5 arg6 harg6 arg7 harg7 arg8 harg8 arg9 harg9 f2 f3 f4 f5 f6 f7 f8 f15 hk hh).2 f9 Q
      rw [runTemp_eq c i arg2 harg2 arg3 harg3 arg4 harg4 arg5 harg5 arg6 harg6 arg7 harg7 arg8 harg8 arg9 harg9 f2 f3 f4 f5 f6 f7 f8 f15 hk hh] at h
      exact h

/-- The last head of a batch: its rows of the output scratch, and the output block out of the whole scratch. -/
theorem run_last (c : Dev nD) (i : grid0.Coords) (arg2 : Memref sig .tc .smem S24 .i32) (harg2 : arg2.IsWhole) (arg3 : Memref sig .tc .smem S720 .f32) (harg3 : arg3.IsWhole) (arg4 : Memref sig .tc .smem S720 .f32) (harg4 : arg4.IsWhole) (arg5 : Memref sig .tc .smem S720 .f32) (harg5 : arg5.IsWhole) (arg6 : Memref sig .tc .vmem S1x1x72x1690 .fp8e4m3) (harg6 : arg6.IsWhole) (arg7 : Memref sig .tc .vmem S1x1x72x1690 .fp8e4m3) (harg7 : arg7.IsWhole) (arg8 : Memref sig .tc .vmem S1x1x72x1690 .fp8e4m3) (harg8 : arg8.IsWhole) (arg9 : Memref sig .tc .vmem S1x1690x1728 .bf16) (harg9 : arg9.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8)
    (f15 : cc0_scratch5.ty.Contents (Elt F))
    (hh : k0_cond3 i = 1#1) :
    ∃ f' : cc0_scratch5.ty.Contents (Elt F),
      (∀ (d : Fin 72) (n : Fin 1696) (y : S1792x1792.Idx), (y 0).val = 72 * (i 1).val + d.val → (y 1).val = n.val →
        (Memref.whole cc0_scratch5).view.read (Elt F) f' y = headD i (arg2.view.read (Elt F) f2) (arg3.view.read (Elt F) f3) (arg4.view.read (Elt F) f4) (arg5.view.read (Elt F) f5) (arg6.view.read (Elt F) f6) (arg7.view.read (Elt F) f7) (arg8.view.read (Elt F) f8) d n)
      ∧ (∀ y : S1792x1792.Idx, (y 0).val < 72 * (i 1).val ∨ 72 * (i 1).val + 72 ≤ (y 0).val →
        (Memref.whole cc0_scratch5).view.read (Elt F) f' y = (Memref.whole cc0_scratch5).view.read (Elt F) f15 y)
      ∧ ∀ (f9 : Bf (F := F) c arg9) (Q : PUnit → sProp 𝕄),
        iprop(pt c arg2 f2 ∗ pt c arg3 f3 ∗ pt c arg4 f4 ∗ pt c arg5 f5 ∗ pt c arg6 f6 ∗ pt c arg7 f7 ∗ pt c arg8 f8 ∗ pt c arg9 f9 ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ pt c (Memref.whole cc0_scratch5) f15
          ∗ (iprop(pt c arg2 f2 ∗ pt c arg3 f3 ∗ pt c arg4 f4 ∗ pt c arg5 f5 ∗ pt c arg6 f6 ∗ pt c arg7 f7 ∗ pt c arg8 f8 ∗ pt c arg9 (arg9.view.writes (Elt F) arg9.view.junk (outPieces f')) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ pt c (Memref.whole cc0_scratch5) f') -∗ Q ⟨⟩))
        ⊢ wp frame (wpE (defs₀ (F := F)) Variants.none c none) Set.univ (cc0_svg_attention i arg2 harg2 arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)) Q := by
  by_cases hk : word c i arg2 f2 = 0#32
  · refine ⟨(Memref.whole cc0_scratch5).view.writes (Elt F) f15 (spatPieces c i arg3 arg4 arg5 arg6 arg7 arg8 f3 f4 f5 f6 f7 f8), fun d n y h0 h1 => ?_, fun y hy => spat_miss c i arg3 arg4 arg5 arg6 arg7 arg8 f3 f4 f5 f6 f7 f8 f15 y hy, fun f9 Q => ?_⟩
    · unfold headD
      exact (spat_hit c i arg3 arg4 arg5 arg6 arg7 arg8 f3 f4 f5 f6 f7 f8 f15 d n y h0 h1).trans (if_pos hk).symm
    · have h := (runSpatLast c i arg2 harg2 arg3 harg3 arg4 harg4 arg5 harg5 arg6 harg6 arg7 harg7 arg8 harg8 arg9 harg9 f2 f3 f4 f5 f6 f7 f8 f15 hk hh).2 f9 Q
      rw [runSpatLast_eq1 c i arg2 harg2 arg3 harg3 arg4 harg4 arg5 harg5 arg6 harg6 arg7 harg7 arg8 harg8 arg9 harg9 f2 f3 f4 f5 f6 f7 f8 f15 hk hh, runSpatLast_eq2 c i arg2 harg2 arg3 harg3 arg4 harg4 arg5 harg5 arg6 harg6 arg7 harg7 arg8 harg8 arg9 harg9 f2 f3 f4 f5 f6 f7 f8 f15 hk hh] at h
      exact h
  · refine ⟨(Memref.whole cc0_scratch5).view.writes (Elt F) f15 (tempPieces c i arg3 arg4 arg5 arg6 arg7 arg8 f3 f4 f5 f6 f7 f8), fun d n y h0 h1 => ?_, fun y hy => temp_miss c i arg3 arg4 arg5 arg6 arg7 arg8 f3 f4 f5 f6 f7 f8 f15 y hy, fun f9 Q => ?_⟩
    · unfold headD
      exact (temp_hit c i arg3 arg4 arg5 arg6 arg7 arg8 f3 f4 f5 f6 f7 f8 f15 d n y h0 h1).trans (if_neg hk).symm
    · have h := (runTempLast c i arg2 harg2 arg3 harg3 arg4 harg4 arg5 harg5 arg6 harg6 arg7 harg7 arg8 harg8 arg9 harg9 f2 f3 f4 f5 f6 f7 f8 f15 hk hh).2 f9 Q
      rw [runTempLast_eq1 c i arg2 harg2 arg3 harg3 arg4 harg4 arg5 harg5 arg6 harg6 arg7 harg7 arg8 harg8 arg9 harg9 f2 f3 f4 f5 f6 f7 f8 f15 hk hh, runTempLast_eq2 c i arg2 harg2 arg3 harg3 arg4 harg4 arg5 harg5 arg6 harg6 arg7 harg7 arg8 harg8 arg9 harg9 f2 f3 f4 f5 f6 f7 f8 f15 hk hh] at h
      exact h

/-! ### The proof data -/

/-- A whole memref's ownership is the buffer held at contents it reads as. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

variable (m : (ℓ : Loc nD τ sig) → Buf (Elt F) ℓ) (ρ : Dev nD → PrngReg)

/-- What the head at point `s` computes, by column, from the blocks of its point. -/
def hcol (c : Dev nD) (s : Fin cfg0.N) (d : Fin 72) (n : Fin 1696) : F .f32 :=
  headD (grid0.coords s) (iblk m c 0 s) (iblk m c 1 s) (iblk m c 2 s) (iblk m c 3 s) (iblk m c 4 s) (iblk m c 5 s) (iblk m c 6 s) d n

/-- The point of head `h` in the batch of point `t`. -/
def pnt (t : Fin cfg0.N) (h : ℕ) (hh : h < 24) : Fin cfg0.N := ⟨24 * (t.val / 24) + h, by have := t.isLt; have hN : cfg0.N = 144 := N_0; omega⟩

/-- What the output block of a batch holds after its last head. -/
def outB (c : Dev nD) (t : Fin cfg0.N) : S1x1690x1728.Idx → Elt F .bf16 := fun y =>
  rnd (hcol m c (pnt t ((y 2).val / 72) (by have : (y 2).val < 1728 := (y 2).isLt; omega)) ⟨(y 2).val % 72, Nat.mod_lt _ (by omega)⟩
    ⟨(y 1).val, lt_of_lt_of_le (y 1).isLt (by decide)⟩)

/-- The output scratch holds the rows of every head of point `k`'s batch before `k`. -/
def Inv (c : Dev nD) (k : ℕ) (f : cc0_scratch5.ty.Contents (Elt F)) : Prop :=
  ∀ s : Fin cfg0.N, s.val < k → s.val / 24 = k / 24 → ∀ (d : Fin 72) (n : Fin 1696) (y : S1792x1792.Idx),
    (y 0).val = 72 * (s.val % 24) + d.val → (y 1).val = n.val → (Memref.whole cc0_scratch5).view.read (Elt F) f y = hcol m c s d n

/-- The proof data: the inputs' blocks stay, the output block is the batch's, the output scratch follows `Inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t
    | ⟨4, _⟩ => iblk m c 4 t | ⟨5, _⟩ => iblk m c 5 t | ⟨6, _⟩ => iblk m c 6 t | ⟨7, _⟩ => outB m c t
  Φ t := iprop(((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ ∃ f, ⌜Inv m c t.val f⌝ ∗ pt c (Memref.whole cc0_scratch5) f) ∗ ∃ r, prngReg c r)
  q _ := fullShare
  owed _ := 0

/-- The tracked contents of a window's array before the launch are what the host lines leave. -/
theorem A_eq (c : Dev nD) (w : Fin cfg0.W) : (dats m 0 c).A w = V m c (Pipeline.arrRef spec0 w) := by dsimp only [dats]

/-- Before a point, window 0 holds its block of the array. -/
theorem before0 (c : Dev nD) (t : Fin cfg0.N) (d) : (dats m 0 c).before 0 t d = iblk m c 0 t := before0_0_of m (dats m 0 c) (A_eq m c 0) (fun _ => rfl) t d
/-- Before a point, window 1 holds its block of the array. -/
theorem before1 (c : Dev nD) (t : Fin cfg0.N) (d) : (dats m 0 c).before 1 t d = iblk m c 1 t := before0_1_of m (dats m 0 c) (A_eq m c 1) (fun _ => rfl) t d
/-- Before a point, window 2 holds its block of the array. -/
theorem before2 (c : Dev nD) (t : Fin cfg0.N) (d) : (dats m 0 c).before 2 t d = iblk m c 2 t := before0_2_of m (dats m 0 c) (A_eq m c 2) (fun _ => rfl) t d
/-- Before a point, window 3 holds its block of the array. -/
theorem before3 (c : Dev nD) (t : Fin cfg0.N) (d) : (dats m 0 c).before 3 t d = iblk m c 3 t := before0_3_of m (dats m 0 c) (A_eq m c 3) (fun _ => rfl) t d
/-- Before a point, window 4 holds its block of the array. -/
theorem before4 (c : Dev nD) (t : Fin cfg0.N) (d) : (dats m 0 c).before 4 t d = iblk m c 4 t := before0_4_of m (dats m 0 c) (A_eq m c 4) (fun _ => rfl) t d
/-- Before a point, window 5 holds its block of the array. -/
theorem before5 (c : Dev nD) (t : Fin cfg0.N) (d) : (dats m 0 c).before 5 t d = iblk m c 5 t := before0_5_of m (dats m 0 c) (A_eq m c 5) (fun _ => rfl) t d
/-- Before a point, window 6 holds its block of the array. -/
theorem before6 (c : Dev nD) (t : Fin cfg0.N) (d) : (dats m 0 c).before 6 t d = iblk m c 6 t := before0_6_of m (dats m 0 c) (A_eq m c 6) (fun _ => rfl) t d

/-- The last-head condition over the points. -/
theorem cond3_iff (t : Fin cfg0.N) : k0_cond3 (grid0.coords t) = 1#1 ↔ t.val % 24 = 23 := by
  have h : ∀ n : Fin 24, (Scalar.cmpi .ne (Scalar.extui (Scalar.cmpi .eq (BitVec.ofNat 32 n.val) 23#32) : BitVec 32) 0#32 = 1#1 ↔ n.val = 23) := by decide
  have hc : (grid0.coords t 1).val = t.val % 24 := by
    have := Pipeline.Grid.coords_val (G := grid0) t 1 (S := 1) (B := 24) (by decide) rfl
    rw [this, Nat.div_one]
  rw [← hc]
  exact h (grid0.coords t 1)
/-- The head of a point. -/
theorem coord1 (t : Fin cfg0.N) : (grid0.coords t 1).val = t.val % 24 := by
  have := Pipeline.Grid.coords_val (G := grid0) t 1 (S := 1) (B := 24) (by decide) rfl
  rw [this, Nat.div_one]
/-- The batch of a point. -/
theorem coord0 (t : Fin cfg0.N) : (grid0.coords t 0).val = t.val / 24 := by
  have := Pipeline.Grid.coords_val (G := grid0) t 0 (S := 24) (B := 6) (by decide) rfl
  have hN : cfg0.N = 144 := N_0
  have := t.isLt
  omega

/-- One head's stores carry the invariant on, in the form read at the last head. -/
theorem inv_step (c : Dev nD) (t : Fin cfg0.N) (f f' : cc0_scratch5.ty.Contents (Elt F)) (hi : Inv m c t.val f)
    (hit : ∀ (d : Fin 72) (n : Fin 1696) (y : S1792x1792.Idx), (y 0).val = 72 * (grid0.coords t 1).val + d.val → (y 1).val = n.val →
      (Memref.whole cc0_scratch5).view.read (Elt F) f' y = hcol m c t d n)
    (miss : ∀ y : S1792x1792.Idx, (y 0).val < 72 * (grid0.coords t 1).val ∨ 72 * (grid0.coords t 1).val + 72 ≤ (y 0).val →
      (Memref.whole cc0_scratch5).view.read (Elt F) f' y = (Memref.whole cc0_scratch5).view.read (Elt F) f y)
    (s : Fin cfg0.N) (hs : s.val ≤ t.val) (hb : s.val / 24 = t.val / 24) (d : Fin 72) (n : Fin 1696) (y : S1792x1792.Idx)
    (h0 : (y 0).val = 72 * (s.val % 24) + d.val) (h1 : (y 1).val = n.val) :
    (Memref.whole cc0_scratch5).view.read (Elt F) f' y = hcol m c s d n := by
  rw [coord1] at hit miss
  have hd := d.isLt
  rcases Nat.lt_or_ge s.val t.val with h | h
  · rw [miss y (by omega)]; exact hi s h hb d n y h0 h1
  · obtain rfl : s = t := Fin.ext (by omega)
    exact hit d n y h0 h1

/-- The invariant at the next point. -/
theorem inv_next (c : Dev nD) (t : Fin cfg0.N) (f' : cc0_scratch5.ty.Contents (Elt F))
    (h : ∀ (s : Fin cfg0.N) (_ : s.val ≤ t.val) (_ : s.val / 24 = t.val / 24) (d : Fin 72) (n : Fin 1696) (y : S1792x1792.Idx)
      (_ : (y 0).val = 72 * (s.val % 24) + d.val) (_ : (y 1).val = n.val), (Memref.whole cc0_scratch5).view.read (Elt F) f' y = hcol m c s d n) :
    Inv m c (t.val + 1) f' := fun s hs hb d n y h0 h1 => h s (by omega) (by omega) d n y h0 h1

/-- The output block read out of the scratch after the last head. -/
theorem out_eq (c : Dev nD) (t : Fin cfg0.N) (ht : t.val % 24 = 23) (f' : cc0_scratch5.ty.Contents (Elt F))
    (h : ∀ (s : Fin cfg0.N) (_ : s.val ≤ t.val) (_ : s.val / 24 = t.val / 24) (d : Fin 72) (n : Fin 1696) (y : S1792x1792.Idx)
      (_ : (y 0).val = 72 * (s.val % 24) + d.val) (_ : (y 1).val = n.val), (Memref.whole cc0_scratch5).view.read (Elt F) f' y = hcol m c s d n)
    (M : Memref sig .tc .vmem S1x1690x1728 .bf16) :
    M.view.read (Elt F) (M.view.writes (Elt F) M.view.junk (outPieces f')) = outB m c t := by
  funext y
  rw [out_apply]
  have h2 : (y 2).val < 1728 := (y 2).isLt
  have hp : (pnt t ((y 2).val / 72) (by omega)).val = 24 * (t.val / 24) + (y 2).val / 72 := rfl
  unfold outB
  refine congrArg rnd (h _ (by rw [hp]; omega) (by rw [hp]; omega) _ _ _ ?_ rfl)
  rw [hp]
  show (y 2).val = _
  show (y 2).val = 72 * ((24 * (t.val / 24) + (y 2).val / 72) % 24) + (y 2).val % 72
  omega

/-! ### The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)))
/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ (dats m 0 c).leavesExact 7 t)

set_option maxHeartbeats 1000000 in
/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.castSucc = iprop(((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ ∃ f, ⌜Inv m c t.val f⌝ ∗ pt c (Memref.whole cc0_scratch5) f) ∗ ∃ r, prngReg c r) from rfl,
    show (dats m 0 c).Φ t.succ = iprop(((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ ∃ f, ⌜Inv m c (t.val + 1) f⌝ ∗ pt c (Memref.whole cc0_scratch5) f) ∗ ∃ r, prngReg c r) from rfl,
    show (dats m 0 c).owesAt () t.succ = (dats m 0 c).owesAt () t.castSucc from rfl]
  unfold Dat.owesAt Pipeline.owesWithin
  rw [show (dats m 0 c).owed t.castSucc = 0 from rfl]
  rw [owns_pt c (win0_0.stage (cfg0.slots t 0)) (hstage0_0 ((cfg0.slots t 0).cast nbuf0_0)), owns_pt c (win0_1.stage (cfg0.slots t 1)) (hstage0_1 ((cfg0.slots t 1).cast nbuf0_1)), owns_pt c (win0_2.stage (cfg0.slots t 2)) (hstage0_2 ((cfg0.slots t 2).cast nbuf0_2)), owns_pt c (win0_3.stage (cfg0.slots t 3)) (hstage0_3 ((cfg0.slots t 3).cast nbuf0_3)), owns_pt c (win0_4.stage (cfg0.slots t 4)) (hstage0_4 ((cfg0.slots t 4).cast nbuf0_4)), owns_pt c (win0_5.stage (cfg0.slots t 5)) (hstage0_5 ((cfg0.slots t 5).cast nbuf0_5)), owns_pt c (win0_6.stage (cfg0.slots t 6)) (hstage0_6 ((cfg0.slots t 6).cast nbuf0_6))]
  by_cases hh : k0_cond3 (grid0.coords t) = 1#1
  · have hidle : cfg0.idle 7 (cfg0.grid.coords t) = false := by
      show (!(k0_cond3 (grid0.coords t) == 1#1)) = false
      rw [hh]; rfl
    have hl : (dats m 0 c).leavesExact 7 t = owns (c : Thread nD τ) (win0_7.stage (cfg0.slots t 7)) fullShare (outB m c t) := by
      unfold Dat.leavesExact; rw [hidle]; rfl
    rw [hl]; simp only [owns_pt c (win0_7.stage (cfg0.slots t 7)) (hstage0_7 ((cfg0.slots t 7).cast nbuf0_7))]
    iintro ⟨⟨⟨S0, S1, S2, S3, S4, ⟨%f15, %hi, S5⟩⟩, Hg⟩, ⟨%W, %hW, HO⟩, ⟨%e0, %f0, %h0, H0⟩, ⟨%e1, %f1, %h1, H1⟩, ⟨%e2, %f2, %h2, H2⟩, ⟨%e3, %f3, %h3, H3⟩, ⟨%e4, %f4, %h4, H4⟩, ⟨%e5, %f5, %h5, H5⟩, ⟨%e6, %f6, %h6, H6⟩, ⟨%e7, %f9, -, H7⟩⟩
    obtain ⟨f', hit, miss, hrun⟩ := run_last c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) f0 f1 f2 f3 f4 f5 f6 f15 hh
    iapply (hrun f9 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, H6, H7, S0, S1, S2, S3, S4, S5⟩
    have hs := inv_step m c t f15 f' hi (by rw [h0, h1, h2, h3, h4, h5, h6] at hit; exact hit) miss
    isplitl [S0 S1 S2 S3 S4 S5 Hg]
    · isplitl [S0 S1 S2 S3 S4 S5]
      · isplitl [S0]; · iexact S0
        isplitl [S1]; · iexact S1
        isplitl [S2]; · iexact S2
        isplitl [S3]; · iexact S3
        isplitl [S4]; · iexact S4
        iexists f'; isplitr; · ipureintro; exact inv_next m c t f' hs
        iexact S5
      iexact Hg
    isplitl [HO]
    · iexists W; isplitr; · ipureintro; exact fun _ _ => Or.inl trivial
      iexact HO
    isplitl [H0]
    · iexists f0; isplitr; · ipureintro; exact h0
      iexact H0
    isplitl [H1]
    · iexists f1; isplitr; · ipureintro; exact h1
      iexact H1
    isplitl [H2]
    · iexists f2; isplitr; · ipureintro; exact h2
      iexact H2
    isplitl [H3]
    · iexists f3; isplitr; · ipureintro; exact h3
      iexact H3
    isplitl [H4]
    · iexists f4; isplitr; · ipureintro; exact h4
      iexact H4
    isplitl [H5]
    · iexists f5; isplitr; · ipureintro; exact h5
      iexact H5
    isplitl [H6]
    · iexists f6; isplitr; · ipureintro; exact h6
      iexact H6
    · iexists _; isplitr; · ipureintro; exact out_eq m c t ((cond3_iff t).1 hh) f' hs _
      iexact H7
  · have hidle : cfg0.idle 7 (cfg0.grid.coords t) = true := by
      show (!(k0_cond3 (grid0.coords t) == 1#1)) = true
      rw [beq_eq_false_iff_ne.2 hh]; rfl
    have hfl : (cfg0.win 7).flush t = false := by
      rw [Bool.eq_false_iff]; intro h; exact hh ((cond3_iff t).2 ((flush0_7 t).1 h))
    have hl : (dats m 0 c).leavesExact 7 t = iprop(∃ d, owns (c : Thread nD τ) (win0_7.stage (cfg0.slots t 7)) fullShare ((dats m 0 c).before 7 t d)) :=
      Dat.leavesExact_idle _ _ _ hidle hfl
    rw [hl]; simp only [owns_pt c (win0_7.stage (cfg0.slots t 7)) (hstage0_7 ((cfg0.slots t 7).cast nbuf0_7))]
    iintro ⟨⟨⟨S0, S1, S2, S3, S4, ⟨%f15, %hi, S5⟩⟩, Hg⟩, ⟨%W, %hW, HO⟩, ⟨%e0, %f0, %h0, H0⟩, ⟨%e1, %f1, %h1, H1⟩, ⟨%e2, %f2, %h2, H2⟩, ⟨%e3, %f3, %h3, H3⟩, ⟨%e4, %f4, %h4, H4⟩, ⟨%e5, %f5, %h5, H5⟩, ⟨%e6, %f6, %h6, H6⟩, ⟨%e7, %f9, %h9, H7⟩⟩
    obtain ⟨f', hit, miss, hrun⟩ := run_mid c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) f0 f1 f2 f3 f4 f5 f6 f15 hh
    iapply (hrun f9 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, H6, H7, S0, S1, S2, S3, S4, S5⟩
    have hs := inv_step m c t f15 f' hi (by rw [h0, h1, h2, h3, h4, h5, h6] at hit; exact hit) miss
    isplitl [S0 S1 S2 S3 S4 S5 Hg]
    · isplitl [S0 S1 S2 S3 S4 S5]
      · isplitl [S0]; · iexact S0
        isplitl [S1]; · iexact S1
        isplitl [S2]; · iexact S2
        isplitl [S3]; · iexact S3
        isplitl [S4]; · iexact S4
        iexists f'; isplitr; · ipureintro; exact inv_next m c t f' hs
        iexact S5
      iexact Hg
    isplitl [HO]
    · iexists W; isplitr; · ipureintro; exact fun _ _ => Or.inl trivial
      iexact HO
    isplitl [H0]
    · iexists f0; isplitr; · ipureintro; exact h0
      iexact H0
    isplitl [H1]
    · iexists f1; isplitr; · ipureintro; exact h1
      iexact H1
    isplitl [H2]
    · iexists f2; isplitr; · ipureintro; exact h2
      iexact H2
    isplitl [H3]
    · iexists f3; isplitr; · ipureintro; exact h3
      iexact H3
    isplitl [H4]
    · iexists f4; isplitr; · ipureintro; exact h4
      iexact H4
    isplitl [H5]
    · iexists f5; isplitr; · ipureintro; exact h5
      iexact H5
    isplitl [H6]
    · iexists f6; isplitr; · ipureintro; exact h6
      iexact H6
    · iexists e7; iexists f9; isplitr; · ipureintro; exact h9
      iexact H7

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body's obligation to the launch: the triple restated. -/
theorem body_obligation (c : Dev nD) : BodyObligation (dats (F := F) m 0 c) (defs₀ (F := F)) Variants.none () Set.univ (fun _ => false) := fun t => by
  rw [bigSep_W0, bigSep_W0, defs₀_row]
  exact triple_restated (sound_body m c t) rfl .rfl fun _ => .rfl

/-! ### The launch -/

/-- At the start the scratch buffers hold something: the invariant before the first point. -/
theorem hin (c : Dev nD) : Pipeline.ΦA spec0 c ⊢ ((dats (F := F) m 0 c).Φ 0 : sProp 𝕄) := by
  rw [show (dats m 0 c).Φ 0 = iprop(((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ ∃ f, ⌜Inv m c 0 f⌝ ∗ pt c (Memref.whole cc0_scratch5) f) ∗ ∃ r, prngReg c r) from rfl]
  unfold Pipeline.ΦA
  rw [scopedRest0_eq c]
  iintro ⟨⟨S0, S1, S2, S3, S4, ⟨%f, S5⟩⟩, Hg⟩
  isplitl [S0 S1 S2 S3 S4 S5]
  · isplitl [S0]; · iexact S0
    isplitl [S1]; · iexact S1
    isplitl [S2]; · iexact S2
    isplitl [S3]; · iexact S3
    isplitl [S4]; · iexact S4
    iexists f; isplitr; · ipureintro; exact fun s hs => absurd hs (Nat.not_lt_zero _)
    iexact S5
  iexact Hg

/-- After the last point the invariant gives the scratch buffers back. -/
theorem hout (c : Dev nD) : ((dats (F := F) m 0 c).Φ (Fin.last cfg0.N) : sProp 𝕄) ⊢ Pipeline.ΦA spec0 c := by
  rw [show (dats m 0 c).Φ (Fin.last cfg0.N) = iprop(((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ ∃ f, ⌜Inv m c cfg0.N f⌝ ∗ pt c (Memref.whole cc0_scratch5) f) ∗ ∃ r, prngReg c r) from rfl]
  unfold Pipeline.ΦA
  rw [scopedRest0_eq c]
  iintro ⟨⟨S0, S1, S2, S3, S4, ⟨%f, -, S5⟩⟩, Hg⟩
  isplitl [S0 S1 S2 S3 S4 S5]
  · isplitl [S0]; · iexact S0
    isplitl [S1]; · iexact S1
    isplitl [S2]; · iexact S2
    isplitl [S3]; · iexact S3
    isplitl [S4]; · iexact S4
    iexists f
    iexact S5
  iexact Hg

set_option backward.isDefEq.respectTransparency.types false in
/-- Every run of the program terminates with the arrays its proof data names and every counter at zero. -/
theorem run_main :
    θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- Every run of the program leaves its arguments unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  θ_run_with_sems (frame_of m ρ (dats m) (A_eq m)) (run_main m ρ)

end Cert.KernelIdeal.Hand

end
-- ==== Proof.Soft.lean ====
module

public import Idealize.ShloMosaic.PureOps.Ideal
public import Idealize.ShloMosaic.Lib.IdealHost

@[expose] public section

noncomputable section

namespace Cert.Soft

open Idealize.ShloMosaic

/-! ### Weighted softmax sums over the extended reals -/

/-- The natural logarithm of two. -/
def L : EReal := ((Real.log 2 : ℝ) : EReal)

/-- ln 2 is positive. -/
theorem log_two_pos : 0 < Real.log 2 := Real.log_pos (by norm_num)
/-- ln 2 is positive as an extended real. -/
theorem L_pos : 0 < L := EReal.coe_pos.mpr log_two_pos

/-- A power of two as an exponential. -/
theorem exp2_eq (x : EReal) : Ideal.exp2 x = Ideal.exp (x * L) := by
  induction x with
  | bot => rw [show (⊥ : EReal) * L = ⊥ from EReal.bot_mul_coe_of_pos log_two_pos]; rfl
  | top => rw [show (⊤ : EReal) * L = ⊤ from EReal.top_mul_coe_of_pos log_two_pos]; rfl
  | coe r =>
    show ((Real.rpow 2 r : ℝ) : EReal) = Ideal.exp ((r : EReal) * ((Real.log 2 : ℝ) : EReal))
    rw [← EReal.coe_mul]
    show ((Real.rpow 2 r : ℝ) : EReal) = ((Real.exp (r * Real.log 2) : ℝ) : EReal)
    congr 1
    rw [mul_comm]
    exact Real.rpow_def_of_pos (by norm_num) r

/-- A difference times the logarithm. -/
theorem sub_mul_L (a b : EReal) : (a - b) * L = a * L - b * L := by
  have hp := log_two_pos
  induction a <;> induction b <;>
    simp only [L, EReal.bot_mul_coe_of_pos hp, EReal.top_mul_coe_of_pos hp, EReal.bot_sub, EReal.top_sub_bot, EReal.sub_top, EReal.coe_sub_bot, EReal.top_sub_coe, ← EReal.coe_mul, ← EReal.coe_sub, sub_mul]

/-- A shifted power of two, from the scaled scores. -/
theorem exp2_sub (a b α β : EReal) (ha : a * L = α) (hb : b * L = β) : Ideal.exp2 (a - b) = Ideal.exp (α - β) := by
  rw [exp2_eq, sub_mul_L, ha, hb]

/-- An exponential is nonnegative. -/
theorem exp_nonneg (x : EReal) : 0 ≤ Ideal.exp x := by
  induction x with
  | bot => exact le_refl _
  | top => exact le_top
  | coe r => exact EReal.coe_nonneg.mpr (Real.exp_pos r).le
/-- Minus infinity less anything is minus infinity. -/
theorem bot_sub' (x : EReal) : (⊥ : EReal) - x = ⊥ := EReal.bot_sub x
/-- A score of minus infinity has weight zero. -/
theorem exp_bot_sub (x : EReal) : Ideal.exp (⊥ - x) = 0 := by rw [bot_sub']; rfl
/-- A score of minus infinity has weight zero, as a power of two. -/
theorem exp2_bot_sub (x : EReal) : Ideal.exp2 (⊥ - x) = 0 := by rw [bot_sub']; rfl

/-- A multiple by a positive factor is monotone and keeps the least element. -/
theorem mul_mono (c : EReal) (hc : 0 < c) : Monotone fun x : EReal => x * c := fun _ _ h => mul_le_mul_of_nonneg_right h hc.le
/-- Minus infinity times a positive factor is minus infinity. -/
theorem bot_mul_pos (c : EReal) (hc : 0 < c) : (⊥ : EReal) * c = ⊥ := EReal.bot_mul_of_pos hc

/-- The largest of finitely many, times a positive factor. -/
theorem sup_mul {J : Type} [Fintype J] (s : J → EReal) (c : EReal) (hc : 0 < c) :
    (Finset.univ.sup s) * c = Finset.univ.sup fun j => s j * c :=
  Finset.comp_sup_eq_sup_comp_of_is_total (s := Finset.univ) (f := s) (fun x : EReal => x * c) (mul_mono c hc) (bot_mul_pos c hc)
/-- The larger of two, times a positive factor. -/
theorem max_mul (a b c : EReal) (hc : 0 < c) : max a b * c = max (a * c) (b * c) := (mul_mono c hc).map_max

/-- A maximum read as a fold is the supremum. -/
theorem fold_max {J : Type} [Fintype J] (s : J → EReal) : Finset.univ.fold max ⊥ s = Finset.univ.sup s := rfl

/-- A reciprocal distributes over a sum of multiples of the nonnegative weights it is the reciprocal of the sum of. -/
theorem factor {J : Type} [Fintype J] (a e : J → EReal) (he : ∀ j, 0 ≤ e j) :
    (∑ j, a j * e j) * Ideal.div 1 (∑ j, e j) = ∑ j, a j * (e j * Ideal.div 1 (∑ j, e j)) := by
  by_cases h : ∑ j, e j = 0
  · have hz : ∀ j, e j = 0 := fun j => (Finset.sum_eq_zero_iff_of_nonneg fun j _ => he j).mp h j (Finset.mem_univ j)
    simp only [hz, mul_zero, zero_mul, Finset.sum_const_zero]
  · have hpos : 0 ≤ ∑ j, e j := Finset.sum_nonneg fun j _ => he j
    have hd : Ideal.div 1 (∑ j, e j) = (∑ j, e j)⁻¹ := by rw [Ideal.div, if_neg h, one_mul]
    have h0 : 0 ≤ (∑ j, e j)⁻¹ := EReal.inv_nonneg_of_nonneg hpos
    have ht : (∑ j, e j)⁻¹ ≠ ⊤ := by
      intro hc
      generalize (∑ j, e j) = x at *
      induction x with
      | bot => exact absurd hpos (by simp)
      | top => simp at hc
      | coe r => rw [← EReal.coe_inv] at hc; exact EReal.coe_ne_top _ hc
    rw [hd]
    generalize (∑ j, e j)⁻¹ = x at *
    induction (Finset.univ : Finset J) using Finset.cons_induction with
    | empty => simp
    | cons j S hj ih => rw [Finset.sum_cons, Finset.sum_cons, EReal.right_distrib_of_nonneg_of_ne_top h0 ht, ih, mul_assoc]

/-- The same over two families. -/
theorem factor2 {J K : Type} [Fintype J] [Fintype K] (a e : J → EReal) (b f : K → EReal) (he : ∀ j, 0 ≤ e j) (hf : ∀ j, 0 ≤ f j) :
    (∑ j, a j * e j + ∑ j, b j * f j) * Ideal.div 1 (∑ j, e j + ∑ j, f j)
      = ∑ j, a j * (e j * Ideal.div 1 (∑ j, e j + ∑ j, f j)) + ∑ j, b j * (f j * Ideal.div 1 (∑ j, e j + ∑ j, f j)) := by
  have := factor (J := J ⊕ K) (Sum.elim a b) (Sum.elim e f) (fun j => by cases j <;> simp [he, hf])
  simpa only [Fintype.sum_sum_type, Sum.elim_inl, Sum.elim_inr] using this
/-- The same over three families. -/
theorem factor3 {J K M : Type} [Fintype J] [Fintype K] [Fintype M] (a e : J → EReal) (b f : K → EReal) (c g : M → EReal)
    (he : ∀ j, 0 ≤ e j) (hf : ∀ j, 0 ≤ f j) (hg : ∀ j, 0 ≤ g j) :
    (∑ j, a j * e j + ∑ j, b j * f j + ∑ j, c j * g j) * Ideal.div 1 (∑ j, e j + ∑ j, f j + ∑ j, g j)
      = ∑ j, a j * (e j * Ideal.div 1 (∑ j, e j + ∑ j, f j + ∑ j, g j)) + ∑ j, b j * (f j * Ideal.div 1 (∑ j, e j + ∑ j, f j + ∑ j, g j))
        + ∑ j, c j * (g j * Ideal.div 1 (∑ j, e j + ∑ j, f j + ∑ j, g j)) := by
  have := factor2 (J := J ⊕ K) (K := M) (Sum.elim a b) (Sum.elim e f) c g (fun j => by cases j <;> simp [he, hf]) hg
  simpa only [Fintype.sum_sum_type, Sum.elim_inl, Sum.elim_inr] using this

/-- The word of minus infinity. -/
theorem ofBits_bot : Ideal.ofBits .f32 4286578688#32 = ⊥ := by simp [Ideal.ofBits, Ideal.ieee]
/-- The score scale, and what the kernel folds into its exponent. -/
def S : EReal := ((15817711 / 134217728 : ℝ) : EReal)
def X : EReal := (((15817711 / 134217728) * (Real.log 2)⁻¹ : ℝ) : EReal)
/-- The word of the reference's score scale denotes the rational number S. -/
theorem ofBits_S : Ideal.ofBits .f32 1039227887#32 = S := by
  simp [Ideal.ofBits, Ideal.ieee, S]
  rw [← EReal.coe_mul]
  norm_num
/-- The score scale is positive. -/
theorem S_pos : 0 < S := EReal.coe_pos.mpr (by norm_num)
/-- The named constant is positive. -/
theorem X_pos : 0 < X := EReal.coe_pos.mpr (mul_pos (by norm_num) (inv_pos.mpr log_two_pos))
/-- The named constant times ln 2 is the score scale. -/
theorem X_mul_L : X * L = S := by
  rw [X, L, ← EReal.coe_mul, mul_assoc, inv_mul_cancel₀ log_two_pos.ne', mul_one]; rfl

/-! ### Padded families -/

/-- A sum whose tail is zero. -/
theorem sum_pad (m n : ℕ) (hm : m ≤ n) (f : Fin n → EReal) (hf : ∀ j : Fin n, m ≤ j.val → f j = 0) :
    ∑ j, f j = ∑ j : Fin m, f ⟨j.val, lt_of_lt_of_le j.isLt hm⟩ := by
  obtain ⟨k, rfl⟩ := Nat.exists_eq_add_of_le hm
  rw [Fin.sum_univ_add]
  rw [Finset.sum_eq_zero (s := Finset.univ) (f := fun i : Fin k => f (Fin.natAdd m i)) (fun i _ => hf _ (by simp)), add_zero]
  rfl
/-- A supremum whose tail is least. -/
theorem sup_pad (m n : ℕ) (hm : m ≤ n) (f : Fin n → EReal) (hf : ∀ j : Fin n, m ≤ j.val → f j = ⊥) :
    Finset.univ.sup f = Finset.univ.sup fun j : Fin m => f ⟨j.val, lt_of_lt_of_le j.isLt hm⟩ := by
  apply le_antisymm
  · refine Finset.sup_le fun j _ => ?_
    by_cases h : j.val < m
    · exact Finset.le_sup (f := fun j : Fin m => f ⟨j.val, lt_of_lt_of_le j.isLt hm⟩) (Finset.mem_univ (⟨j.val, h⟩ : Fin m))
    · rw [hf j (by omega)]; exact bot_le
  · exact Finset.sup_le fun j _ => Finset.le_sup (f := f) (Finset.mem_univ _)
/-- A product sum whose factors vanish past a point. -/
theorem sum_dite (m n : ℕ) (hm : m ≤ n) (f g : Fin m → EReal) :
    ∑ j : Fin n, (if h : j.val < m then f ⟨j.val, h⟩ else 0) * (if h : j.val < m then g ⟨j.val, h⟩ else 0) = ∑ j, f j * g j := by
  rw [sum_pad m n hm _ (fun j hj => by rw [dif_neg (by omega), zero_mul])]
  exact Finset.sum_congr rfl fun j _ => by rw [dif_pos j.isLt, dif_pos j.isLt]

/-! ### The three kinds of attention: the kernel's form against the plain one -/

/-- The weight of one key. -/
theorem weight_eq (e i w v : EReal) : v * w * (e * i) = e * i * w * v := by
  rw [mul_comm (v * w), mul_assoc, mul_assoc, mul_comm v w]; simp only [mul_assoc]

/-- Attention over keys padded with masked ones, the reciprocal taken on the weights. -/
theorem text_eq (m n : ℕ) (hm : m ≤ n) (s a : Fin n → EReal) (σ w v : Fin m → EReal)
    (hs : ∀ j : Fin m, s ⟨j.val, lt_of_lt_of_le j.isLt hm⟩ * L = σ j) (hb : ∀ j : Fin n, m ≤ j.val → s j = ⊥)
    (ha : ∀ j : Fin m, a ⟨j.val, lt_of_lt_of_le j.isLt hm⟩ = v j * w j) :
    ∑ j, a j * (Ideal.exp2 (s j - Finset.univ.sup s) * Ideal.div 1 (∑ j, Ideal.exp2 (s j - Finset.univ.sup s)))
      = ∑ j, Ideal.exp (σ j - Finset.univ.sup σ) * Ideal.div 1 (∑ j, Ideal.exp (σ j - Finset.univ.sup σ)) * w j * v j := by
  have hM : Finset.univ.sup s * L = Finset.univ.sup σ := by
    rw [sup_mul _ _ L_pos, sup_pad m n hm _ (fun j hj => by rw [hb j hj, bot_mul_pos _ L_pos])]
    exact congrArg _ (funext hs)
  have he : ∀ j : Fin m, Ideal.exp2 (s ⟨j.val, lt_of_lt_of_le j.isLt hm⟩ - Finset.univ.sup s) = Ideal.exp (σ j - Finset.univ.sup σ) :=
    fun j => exp2_sub _ _ _ _ (hs j) hM
  have hz : ∀ j : Fin n, m ≤ j.val → Ideal.exp2 (s j - Finset.univ.sup s) = 0 := fun j hj => by rw [hb j hj, exp2_bot_sub]
  rw [sum_pad m n hm (fun j => Ideal.exp2 (s j - Finset.univ.sup s)) hz, sum_pad m n hm _ (fun j hj => by rw [hz j hj, zero_mul, mul_zero])]
  simp only [he, ha, weight_eq]

/-- Attention over a first family, a padded family and a third, the reciprocal taken on the sum. -/
theorem spat_eq {J K : Type} [Fintype J] [Fintype K] (m n : ℕ) (hm : m ≤ n) (ro ao σo wo vo : J → EReal) (rt at' : Fin n → EReal) (σt wt vt : Fin m → EReal)
    (r0 a0 σ0 w0 v0 : K → EReal) (c ct c0 M : EReal) (hc : 0 < c) (hct : 0 < ct) (hc0 : 0 < c0)
    (ho : ∀ j, ro j * c * L = σo j) (ht : ∀ j : Fin m, rt ⟨j.val, lt_of_lt_of_le j.isLt hm⟩ * ct * L = σt j) (h0 : ∀ j, r0 j * c0 * L = σ0 j)
    (hb : ∀ j : Fin n, m ≤ j.val → rt j = ⊥)
    (hao : ∀ j, ao j = vo j * wo j) (hat : ∀ j : Fin m, at' ⟨j.val, lt_of_lt_of_le j.isLt hm⟩ = vt j * wt j) (ha0 : ∀ j, a0 j = v0 j * w0 j)
    (hM : M = max (max (Finset.univ.sup ro * c) (Finset.univ.sup rt * ct)) (Finset.univ.sup r0 * c0)) (μ D : EReal)
    (hμ : μ = max (max (Finset.univ.sup σo) (Finset.univ.sup σ0)) (Finset.univ.sup σt))
    (hD : D = ∑ j, Ideal.exp (σo j - μ) + ∑ j, Ideal.exp (σ0 j - μ) + ∑ j, Ideal.exp (σt j - μ)) :
    (∑ j, ao j * Ideal.exp2 (ro j * c - M) + ∑ j, at' j * Ideal.exp2 (rt j * ct - M) + ∑ j, a0 j * Ideal.exp2 (r0 j * c0 - M))
        * Ideal.div 1 (∑ j, Ideal.exp2 (ro j * c - M) + ∑ j, Ideal.exp2 (rt j * ct - M) + ∑ j, Ideal.exp2 (r0 j * c0 - M))
      = ∑ j, Ideal.exp (σo j - μ) * Ideal.div 1 D * wo j * vo j + ∑ j, Ideal.exp (σ0 j - μ) * Ideal.div 1 D * w0 j * v0 j
        + ∑ j, Ideal.exp (σt j - μ) * Ideal.div 1 D * wt j * vt j := by
  have hbt : ∀ j : Fin n, m ≤ j.val → rt j * ct = ⊥ := fun j hj => by rw [hb j hj, bot_mul_pos _ hct]
  have hML : M * L = μ := by
    rw [hM, hμ, max_mul _ _ _ L_pos, max_mul _ _ _ L_pos, sup_mul _ _ hc, sup_mul _ _ hct, sup_mul _ _ hc0, sup_mul _ _ L_pos, sup_mul _ _ L_pos, sup_mul _ _ L_pos,
      sup_pad m n hm (fun j => rt j * ct * L) (fun j hj => by rw [hbt j hj, bot_mul_pos _ L_pos])]
    simp only [ho, ht, h0]
    exact max_right_comm _ _ _
  have eo : ∀ j, Ideal.exp2 (ro j * c - M) = Ideal.exp (σo j - μ) := fun j => exp2_sub _ _ _ _ (ho j) hML
  have e0 : ∀ j, Ideal.exp2 (r0 j * c0 - M) = Ideal.exp (σ0 j - μ) := fun j => exp2_sub _ _ _ _ (h0 j) hML
  have et : ∀ j : Fin m, Ideal.exp2 (rt ⟨j.val, lt_of_lt_of_le j.isLt hm⟩ * ct - M) = Ideal.exp (σt j - μ) := fun j => exp2_sub _ _ _ _ (ht j) hML
  have hz : ∀ j : Fin n, m ≤ j.val → Ideal.exp2 (rt j * ct - M) = 0 := fun j hj => by rw [hbt j hj, exp2_bot_sub]
  rw [sum_pad m n hm (fun j => Ideal.exp2 (rt j * ct - M)) hz, sum_pad m n hm (fun j => at' j * Ideal.exp2 (rt j * ct - M)) (fun j hj => by rw [hz j hj, mul_zero])]
  simp only [eo, e0, et, hao, hat, ha0]
  rw [factor3 _ _ _ _ _ _ (fun j => exp_nonneg _) (fun j => exp_nonneg _) (fun j => exp_nonneg _)]
  rw [add_right_comm (∑ j, Ideal.exp (σo j - μ)), ← hD]
  simp only [weight_eq]
  exact add_right_comm _ _ _
/-- Attention over a first family and a padded one, against the plain form with a third family masked. -/
theorem spat0_eq {J K : Type} [Fintype J] [Fintype K] (m n : ℕ) (hm : m ≤ n) (ro ao σo wo vo : J → EReal) (rt at' : Fin n → EReal) (σt wt vt : Fin m → EReal)
    (σ0 w0 v0 : K → EReal) (c ct M : EReal) (hc : 0 < c) (hct : 0 < ct)
    (ho : ∀ j, ro j * c * L = σo j) (ht : ∀ j : Fin m, rt ⟨j.val, lt_of_lt_of_le j.isLt hm⟩ * ct * L = σt j) (h0 : ∀ j, σ0 j = ⊥)
    (hb : ∀ j : Fin n, m ≤ j.val → rt j = ⊥)
    (hao : ∀ j, ao j = vo j * wo j) (hat : ∀ j : Fin m, at' ⟨j.val, lt_of_lt_of_le j.isLt hm⟩ = vt j * wt j)
    (hM : M = max (Finset.univ.sup ro * c) (Finset.univ.sup rt * ct)) (μ D : EReal)
    (hμ : μ = max (max (Finset.univ.sup σo) (Finset.univ.sup σ0)) (Finset.univ.sup σt))
    (hD : D = ∑ j, Ideal.exp (σo j - μ) + ∑ j, Ideal.exp (σ0 j - μ) + ∑ j, Ideal.exp (σt j - μ)) :
    (∑ j, ao j * Ideal.exp2 (ro j * c - M) + ∑ j, at' j * Ideal.exp2 (rt j * ct - M))
        * Ideal.div 1 (∑ j, Ideal.exp2 (ro j * c - M) + ∑ j, Ideal.exp2 (rt j * ct - M))
      = ∑ j, Ideal.exp (σo j - μ) * Ideal.div 1 D * wo j * vo j + ∑ j, Ideal.exp (σ0 j - μ) * Ideal.div 1 D * w0 j * v0 j
        + ∑ j, Ideal.exp (σt j - μ) * Ideal.div 1 D * wt j * vt j := by
  have e := spat_eq m n hm ro ao σo wo vo rt at' σt wt vt (fun j : Empty => 0) (fun _ => 0) (fun _ => 0) (fun _ => 0) (fun _ => 0) c ct 1 M hc hct one_pos ho ht
    (fun j => j.elim) hb hao hat (fun j => j.elim)
    (by rw [hM]; simp only [Finset.univ_eq_empty, Finset.sup_empty]; rw [bot_mul_pos 1 one_pos, max_bot_right]) μ D
    (by rw [hμ, Finset.univ_eq_empty (α := Empty), Finset.sup_empty, show Finset.univ.sup σ0 = ⊥ from (Finset.sup_congr rfl fun j _ => h0 j).trans (Finset.sup_bot _)])
    (by rw [hD]; simp only [h0, exp_bot_sub, Finset.univ_eq_empty, Finset.sum_empty, Finset.sum_const_zero])
  simp only [Finset.univ_eq_empty, Finset.sum_empty, add_zero] at e
  rw [e]
  simp only [h0, exp_bot_sub, zero_mul, Finset.sum_const_zero, add_zero]
/-- Attention over a padded family and four single keys. -/
theorem temp_eq (m n : ℕ) (hm : m ≤ n) (s a σ w v : Fin 4 → EReal) (rt at' : Fin n → EReal) (σt wt vt : Fin m → EReal)
    (ct M : EReal) (hct : 0 < ct)
    (hs : ∀ j, s j * L = σ j) (ht : ∀ j : Fin m, rt ⟨j.val, lt_of_lt_of_le j.isLt hm⟩ * ct * L = σt j)
    (hb : ∀ j : Fin n, m ≤ j.val → rt j = ⊥)
    (ha : ∀ j, a j = v j * w j) (hat : ∀ j : Fin m, at' ⟨j.val, lt_of_lt_of_le j.isLt hm⟩ = vt j * wt j)
    (hM : M = max (max (max (max (Finset.univ.sup rt * ct) (s 0)) (s 1)) (s 2)) (s 3)) (μ D : EReal)
    (hμ : μ = max (Finset.univ.sup σ) (Finset.univ.sup σt))
    (hD : D = ∑ j, Ideal.exp (σ j - μ) + ∑ j, Ideal.exp (σt j - μ)) :
    (∑ j, at' j * Ideal.exp2 (rt j * ct - M) + Ideal.exp2 (s 0 - M) * a 0 + Ideal.exp2 (s 1 - M) * a 1 + Ideal.exp2 (s 2 - M) * a 2 + Ideal.exp2 (s 3 - M) * a 3)
        * Ideal.div 1 (∑ j, Ideal.exp2 (rt j * ct - M) + Ideal.exp2 (s 0 - M) + Ideal.exp2 (s 1 - M) + Ideal.exp2 (s 2 - M) + Ideal.exp2 (s 3 - M))
      = ∑ j, Ideal.exp (σ j - μ) * Ideal.div 1 D * w j * v j + ∑ j, Ideal.exp (σt j - μ) * Ideal.div 1 D * wt j * vt j := by
  have hbt : ∀ j : Fin n, m ≤ j.val → rt j * ct = ⊥ := fun j hj => by rw [hb j hj, bot_mul_pos _ hct]
  have h4 : ∀ f : Fin 4 → EReal, Finset.univ.sup f = max (max (max (f 0) (f 1)) (f 2)) (f 3) := fun f => by
    simp [Fin.univ_succ, Finset.sup_insert, sup_assoc]
  have hM' : M = max (Finset.univ.sup s) (Finset.univ.sup rt * ct) := by
    rw [hM, h4]; simp only [max_assoc]
    rw [max_comm (Finset.univ.sup rt * ct)]; simp only [max_assoc]
  have hML : M * L = μ := by
    rw [hM', hμ, max_mul _ _ _ L_pos, sup_mul _ _ hct, sup_mul _ _ L_pos, sup_mul _ _ L_pos,
      sup_pad m n hm (fun j => rt j * ct * L) (fun j hj => by rw [hbt j hj, bot_mul_pos _ L_pos])]
    simp only [hs, ht]
  have es : ∀ j, Ideal.exp2 (s j - M) = Ideal.exp (σ j - μ) := fun j => exp2_sub _ _ _ _ (hs j) hML
  have et : ∀ j : Fin m, Ideal.exp2 (rt ⟨j.val, lt_of_lt_of_le j.isLt hm⟩ * ct - M) = Ideal.exp (σt j - μ) := fun j => exp2_sub _ _ _ _ (ht j) hML
  have hz : ∀ j : Fin n, m ≤ j.val → Ideal.exp2 (rt j * ct - M) = 0 := fun j hj => by rw [hbt j hj, exp2_bot_sub]
  rw [sum_pad m n hm (fun j => Ideal.exp2 (rt j * ct - M)) hz, sum_pad m n hm (fun j => at' j * Ideal.exp2 (rt j * ct - M)) (fun j hj => by rw [hz j hj, mul_zero])]
  simp only [es, et, ha, hat]
  have f := factor2 (fun j => v j * w j) (fun j => Ideal.exp (σ j - μ)) (fun j => vt j * wt j) (fun j => Ideal.exp (σt j - μ)) (fun _ => exp_nonneg _) (fun _ => exp_nonneg _)
  rw [← hD] at f
  simp only [weight_eq] at f
  rw [← f, hD]
  simp only [Fin.sum_univ_four]
  congr 1
  · simp only [mul_comm (Ideal.exp (σ _ - μ)), ← add_assoc]
    rw [add_comm (v 0 * w 0 * _ + _ + _ + _)]; simp only [add_assoc]
  · congr 1
    rw [add_comm (Ideal.exp (σ 0 - μ) + _ + _ + _)]; simp only [add_assoc]

end Cert.Soft
-- ==== Proof.Spec.lean ====
module

public import proofs.«01_k».proof.Proof.Soft

@[expose] public section

noncomputable section

namespace Cert.Spec

open Idealize.ShloMosaic

/-! ### One head's attention as plain mathematics: codes by row and lane, one scale per group -/

/-- Row `j` of frame `g`. -/
abbrev fr (g : Fin 4) (j : Fin 384) : Fin 1690 := ⟨g.val * 384 + j.val, by omega⟩
/-- Row `j` of the text. -/
abbrev tx (j : Fin 154) : Fin 1690 := ⟨1536 + j.val, by omega⟩
/-- A frame's group. -/
abbrev f5 (g : Fin 4) : Fin 5 := ⟨g.val, by omega⟩
/-- A row's group. -/
abbrev g5 (j : Fin 1690) : Fin 5 := ⟨j.val / 384, by omega⟩

/-- The rows before the text take their frame's entry and the text's rows take entry 4: a row's group's entry. -/
theorem gsel {α : Type} (x : Fin 5 → α) (j : Fin 1690) : (if h : j.val < 1536 then x ⟨j.val / 384, by omega⟩ else x 4) = x (g5 j) := by
  by_cases h : j.val < 1536
  · rw [dif_pos h]
  · rw [dif_neg h]; exact congrArg x (Fin.ext (by show 4 = j.val / 384; omega))

/-- A softmax over the whole row, each weight times its group's scale and its key's value. -/
def soft1 {J : Type} [Fintype J] (σ w v : J → EReal) : EReal :=
  ∑ j, Ideal.exp (σ j - Finset.univ.sup σ) * Ideal.div 1 (∑ j, Ideal.exp (σ j - Finset.univ.sup σ)) * w j * v j

variable (q k v : Fin 1690 → Fin 72 → EReal) (qs ks vs : Fin 5 → EReal)

/-- The product of query row `a` and key row `b`. -/
def dt (a b : Fin 1690) : EReal := ∑ x : Fin 72, q a x * k b x
/-- Scores of a text query. -/
def sT (r : Fin 154) (j : Fin 1690) : EReal := dt q k (tx r) j * (qs 4 * Soft.S) * ks (g5 j)
/-- A text row's output. -/
def textO (r : Fin 154) (d : Fin 72) : EReal := soft1 (sT q k qs ks r) (fun j => vs (g5 j)) (fun j => v j d)

/-- Scores of a query against its own frame. -/
def sOwn (f : Fin 4) (a j : Fin 384) : EReal := dt q k (fr f a) (fr f j) * (qs (f5 f) * ks (f5 f) * Soft.S)
/-- Scores against frame 0, absent for frame 0's queries. -/
def sF0 (f : Fin 4) (a j : Fin 384) : EReal := if f = 0 then ⊥ else dt q k (fr f a) (fr 0 j) * (qs (f5 f) * ks 0 * Soft.S)
/-- Scores against the text. -/
def sTx (f : Fin 4) (a : Fin 384) (j : Fin 154) : EReal := dt q k (fr f a) (tx j) * (qs (f5 f) * ks 4 * Soft.S)
/-- The largest score of a spatial query. -/
def mS (f : Fin 4) (a : Fin 384) : EReal :=
  max (max (Finset.univ.sup (sOwn q k qs ks f a)) (Finset.univ.sup (sF0 q k qs ks f a))) (Finset.univ.sup (sTx q k qs ks f a))
/-- The sum of a spatial query's exponentials. -/
def dS (f : Fin 4) (a : Fin 384) : EReal :=
  ∑ j, Ideal.exp (sOwn q k qs ks f a j - mS q k qs ks f a) + ∑ j, Ideal.exp (sF0 q k qs ks f a j - mS q k qs ks f a)
    + ∑ j, Ideal.exp (sTx q k qs ks f a j - mS q k qs ks f a)
/-- A spatial row's output. -/
def spatO (f : Fin 4) (a : Fin 384) (d : Fin 72) : EReal :=
  ∑ j, Ideal.exp (sOwn q k qs ks f a j - mS q k qs ks f a) * Ideal.div 1 (dS q k qs ks f a) * vs (f5 f) * v (fr f j) d
    + ∑ j : Fin 384, Ideal.exp (sF0 q k qs ks f a j - mS q k qs ks f a) * Ideal.div 1 (dS q k qs ks f a) * vs 0 * v (fr 0 j) d
    + ∑ j, Ideal.exp (sTx q k qs ks f a j - mS q k qs ks f a) * Ideal.div 1 (dS q k qs ks f a) * vs 4 * v (tx j) d

/-- Scores of a query against the key at its own place of each frame. -/
def sV (f : Fin 4) (a : Fin 384) (g : Fin 4) : EReal := dt q k (fr f a) (fr g a) * (qs (f5 f) * ks (f5 g) * Soft.S)
/-- The largest score of a temporal query. -/
def mT (f : Fin 4) (a : Fin 384) : EReal := max (Finset.univ.sup (sV q k qs ks f a)) (Finset.univ.sup (sTx q k qs ks f a))
/-- The sum of a temporal query's exponentials. -/
def dT (f : Fin 4) (a : Fin 384) : EReal :=
  ∑ j, Ideal.exp (sV q k qs ks f a j - mT q k qs ks f a) + ∑ j, Ideal.exp (sTx q k qs ks f a j - mT q k qs ks f a)
/-- A temporal row's output. -/
def tempO (f : Fin 4) (a : Fin 384) (d : Fin 72) : EReal :=
  ∑ g, Ideal.exp (sV q k qs ks f a g - mT q k qs ks f a) * Ideal.div 1 (dT q k qs ks f a) * vs (f5 g) * v (fr g a) d
    + ∑ j, Ideal.exp (sTx q k qs ks f a j - mT q k qs ks f a) * Ideal.div 1 (dT q k qs ks f a) * vs 4 * v (tx j) d

end Cert.Spec
-- ==== Proof.Sorts.lean ====
module

public import proofs.«01_k».proof.Proof.Spec
public import Idealize.ShloMosaic.Lib.SortFacts
public import Idealize.ShloMosaic.Lib.Pointwise

@[expose] public section

noncomputable section

namespace Cert.Spec

open Idealize.ShloMosaic

/-! ### The heads and their order -/

/-- What a head holds (a spatial head where `w`) at a row and a feature, of its codes and scales. -/
def headSpec (q k v : Fin 1690 → Fin 72 → EReal) (qs ks vs : Fin 5 → EReal) (w : Prop) [Decidable w] (n : Fin 1690) (d : Fin 72) : EReal :=
  if hn : n.val < 1536 then
    if w then spatO q k v qs ks vs ⟨n.val / 384, by omega⟩ ⟨n.val % 384, Nat.mod_lt _ (by omega)⟩ d
    else tempO q k v qs ks vs ⟨n.val / 384, by omega⟩ ⟨n.val % 384, Nat.mod_lt _ (by omega)⟩ d
  else textO q k v qs ks vs ⟨n.val - 1536, by omega⟩ d

/-- The position along the fiber of heads whose word a stable signed sort of the words `w` puts at place `h`. -/
def place (w : Fin 24 → BitVec 32) (h : Fin 24) : Fin 24 :=
  sortedFrom (fun k k' => IntOp.cmpi .slt (w k) (w k') == 1#1) h

/-- A word that names a head, clamped into range as a gather clamps it. -/
def hd (w : BitVec 32) : Fin 24 := ⟨min w.toInt.toNat 23, by omega⟩

/-- The word of a head's number names that head. -/
theorem hd_ofNat (p : Fin 24) : hd (BitVec.ofNat 32 p.val) = p := by
  revert p; decide +kernel

/-- The word of a place is at least fifteen, signed, exactly when the place is: the kind word tested by the kernel. -/
theorem kind_ofNat (p : Fin 24) :
    (BitVec.setWidth 32 (IntOp.cmpi .sge (BitVec.ofNat 32 p.val) 15#32) = 0#32) ↔ p.val < 15 := by
  revert p; decide +kernel

/-- A fiber position, read as an index. -/
theorem ofFin_eq (k : Fin 24) : (Shape.Idx.ofFin k : (⟨1, ![24]⟩ : Shape).Idx) = ix1 k := by
  funext a; match a with | 0 => rfl

/-- The identity table at a position. -/
theorem iotaInDim_ofNat (k : Fin 24) : iotaInDim ⟨1, ![24]⟩ 32 0 (ix1 k) = BitVec.ofNat 32 k.val := by
  unfold iotaInDim; rfl

/-- On a rank-1 shape, the second result of a two-operand sort reads its operand through one self-map of the positions. -/
theorem sort2_rank1 {n : ℕ} {α β : Type} (cmp : α × β → α × β → BitVec 1) (x : (⟨1, ![n]⟩ : Shape).Idx → α) (y : (⟨1, ![n]⟩ : Shape).Idx → β)
    (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k)) (x (Shape.Idx.ofFin k'), y (Shape.Idx.ofFin k')) == 1#1) (j 0))) := by
  unfold Host.sort2
  simp

/-- The argument sort carries the places. -/
theorem argsort_at (cmp : BitVec 32 × BitVec 32 → BitVec 32 × BitVec 32 → BitVec 1)
    (hc : ∀ l r, cmp l r = IntOp.cmpi .slt l.1 r.1) (x : IVec ⟨1, ![24]⟩ 32) (h : Fin 24) :
    (Host.sort2 ⟨1, ![24]⟩ 0 cmp x (iotaInDim ⟨1, ![24]⟩ 32 0)).2 (ix1 h)
      = BitVec.ofNat 32 (place (fun k => x (ix1 k)) h).val := by
  rw [sort2_rank1]
  simp only [hc, ofFin_eq]
  exact iotaInDim_ofNat _

/-- Where the sorted words are `0, 1, …, 23`, the word at the place of head `h` is `h`. -/
theorem word_place (cmp : BitVec 32 → BitVec 32 → BitVec 1) (hc : ∀ l r, cmp l r = IntOp.cmpi .slt l r)
    (x : IVec ⟨1, ![24]⟩ 32) (h : Fin 24)
    (hx : Host.sort ⟨1, ![24]⟩ 0 cmp x (ix1 h) = iotaInDim ⟨1, ![24]⟩ 32 0 (ix1 h)) :
    x (ix1 (place (fun k => x (ix1 k)) h)) = BitVec.ofNat 32 h.val := by
  rw [Host.sort_rank1] at hx
  simp only [hc, ofFin_eq] at hx
  exact hx.trans (iotaInDim_ofNat h)

end Cert.Spec
-- ==== Proof.PreDom.lean ====
module

public import proofs.«01_k».proof.Pre_domain
public import Idealize.ShloMosaic.Lib.Pointwise
public import proofs.«01_k».proof.Proof.Sorts

@[expose] public section

noncomputable section

namespace Cert.Pre_domain.Hand

open Cert.Pre_domain
open Idealize.ShloMosaic Idealize.ShloMosaic.Tactic

/-- The shapes the predicate broadcasts fit. -/
theorem facts : Facts where
  bcast_S_S6x5x24 := by decide
  bcast_S24_S1x1x24_2 := by decide
  bcast_S1x1x24_S6x5x24_0_1_2 := by decide

instance : Facts := facts

/-- A conjunction of bits is one exactly when both are. -/
theorem and_one : ∀ x y : BitVec 1, x &&& y = 1#1 → x = 1#1 ∧ y = 1#1 := by decide

/-- A bit that a decision sets. -/
theorem ofBool_one : ∀ b : Bool, BitVec.ofBool b = 1#1 → b = true := by decide

/-- The predicate at an index: two signs and one entry of the sorted order. -/
theorem fn_at (a0 a1 a2 : FVec Ideal S6x1690x24x72 .fp8e4m3) (a3 a4 a5 : FVec Ideal S6x5x24 .f32) (a6 : IVec S24 32) (b : Fin 6) (g : Fin 5) (h : Fin 24) :
    fn (F := Ideal) a0 a1 a2 a3 a4 a5 a6 (ix3 b g h)
      = (BitVec.ofBool (decide (@LT.lt EReal _ 0 (a3 (ix3 b g h)))) &&& BitVec.ofBool (decide (@LT.lt EReal _ 0 (a4 (ix3 b g h)))))
        &&& IntOp.cmpi .eq (Host.sort S24 0 comparator_i32_d0 a6 (ix1 h)) (BitVec.ofNat 32 h.val) := by
  unfold fn fn_sort
  pointwise
  rfl

/-- What the precondition says: the scales of queries and keys are positive, and the head order sorts to the places in order. -/
theorem decode (a0 a1 a2 : FVec Ideal S6x1690x24x72 .fp8e4m3) (a3 a4 a5 : FVec Ideal S6x5x24 .f32) (a6 : IVec S24 32)
    (H : fn (F := Ideal) a0 a1 a2 a3 a4 a5 a6 = fun _ => 1#1) :
    (∀ x : S6x5x24.Idx, @LT.lt EReal _ 0 (a3 x)) ∧ (∀ x : S6x5x24.Idx, @LT.lt EReal _ 0 (a4 x))
      ∧ ∀ h : Fin 24, Host.sort S24 0 comparator_i32_d0 a6 (ix1 h) = iotaInDim S24 32 0 (ix1 h) := by
  have key := fun b g h => and_one _ _ ((fn_at a0 a1 a2 a3 a4 a5 a6 b g h).symm.trans (congrFun H (ix3 b g h)))
  refine ⟨fun x => ?_, fun x => ?_, fun h => ?_⟩
  · rw [eq_ix3 x]
    exact of_decide_eq_true (ofBool_one _ (and_one _ _ (key (x 0) (x 1) (x 2)).1).1)
  · rw [eq_ix3 x]
    exact of_decide_eq_true (ofBool_one _ (and_one _ _ (key (x 0) (x 1) (x 2)).1).2)
  · have e := ofBool_one _ (key 0 0 h).2
    exact (eq_of_beq e).trans (by pointwise)

end Cert.Pre_domain.Hand

end
-- ==== Proof.KIn.lean ====
module

public import proofs.«01_k».proof.Proof.Gen.KernelIdeal.Frame
public import Idealize.ShloMosaic.Lib.StableHlo.ReadAt
public import Idealize.ShloMosaic.Lib.StableHlo.RunRead
public import Idealize.ShloMosaic.Lib.Pointwise
public import Idealize.ShloMosaic.PureOps.Ideal

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo

variable (W : Valuation τ sig (Elt Ideal))

/-- The host's operations before the kernel. -/
def pre : List (HloOp τ sig (Elt Ideal)) := [hostOps0, hostOps0_1].flatten

/-- The queries, head first. -/
theorem v4_at (b : Fin 6) (h : Fin 24) (d : Fin 72) (n : Fin 1690) : after pre W (Proc.devRef .tc main_v4) (ix4 b h d n) = W (Proc.devRef .tc main_arg0) (ix4 b n h d) := by
  simp only [pre, hostOps0, hostOps0_1, List.flatten_cons, List.flatten_nil, List.append_nil, List.cons_append, List.nil_append]
  repeat after_reads_at
/-- The keys, head first. -/
theorem v5_at (b : Fin 6) (h : Fin 24) (d : Fin 72) (n : Fin 1690) : after pre W (Proc.devRef .tc main_v5) (ix4 b h d n) = W (Proc.devRef .tc main_arg1) (ix4 b n h d) := by
  simp only [pre, hostOps0, hostOps0_1, List.flatten_cons, List.flatten_nil, List.append_nil, List.cons_append, List.nil_append]
  repeat after_reads_at
/-- The values, head first. -/
theorem v6_at (b : Fin 6) (h : Fin 24) (d : Fin 72) (n : Fin 1690) : after pre W (Proc.devRef .tc main_v6) (ix4 b h d n) = W (Proc.devRef .tc main_arg2) (ix4 b n h d) := by
  simp only [pre, hostOps0, hostOps0_1, List.flatten_cons, List.flatten_nil, List.append_nil, List.cons_append, List.nil_append]
  repeat after_reads_at
/-- The query scales in one row. -/
theorem v7_at (x : Fin 720) : after pre W (Proc.devRef .tc main_v7) (ix1 x) = W (Proc.devRef .tc main_arg3) (ix3 ⟨x.val / 120, by omega⟩ ⟨x.val / 24 % 5, by omega⟩ ⟨x.val % 24, by omega⟩) := by
  simp only [pre, hostOps0, hostOps0_1, List.flatten_cons, List.flatten_nil, List.append_nil, List.cons_append, List.nil_append]
  repeat after_reads_at
/-- The key scales in one row. -/
theorem v8_at (x : Fin 720) : after pre W (Proc.devRef .tc main_v8) (ix1 x) = W (Proc.devRef .tc main_arg4) (ix3 ⟨x.val / 120, by omega⟩ ⟨x.val / 24 % 5, by omega⟩ ⟨x.val % 24, by omega⟩) := by
  simp only [pre, hostOps0, hostOps0_1, List.flatten_cons, List.flatten_nil, List.append_nil, List.cons_append, List.nil_append]
  repeat after_reads_at
/-- The value scales in one row. -/
theorem v9_at (x : Fin 720) : after pre W (Proc.devRef .tc main_v9) (ix1 x) = W (Proc.devRef .tc main_arg5) (ix3 ⟨x.val / 120, by omega⟩ ⟨x.val / 24 % 5, by omega⟩ ⟨x.val % 24, by omega⟩) := by
  simp only [pre, hostOps0, hostOps0_1, List.flatten_cons, List.flatten_nil, List.append_nil, List.cons_append, List.nil_append]
  repeat after_reads_at
/-- Where a head sits in the order, against the number of spatial heads. -/
theorem v3_at (x : Fin 24) : after pre W (Proc.devRef .tc main_v3) (ix1 x)
    = BitVec.setWidth 32 (IntOp.cmpi CmpIPredicate.sge ((Host.sort2 S24 0 comparator_i32_i32_d0 (W (Proc.devRef .tc main_arg6)) (iotaInDim S24 32 0)).2 (ix1 x)) 15#32) := by
  simp only [pre, hostOps0, hostOps0_1, List.flatten_cons, List.flatten_nil, List.append_nil, List.cons_append, List.nil_append]
  repeat after_reads_at

end Cert.KernelIdeal.Hand
-- ==== Proof.Reads.lean ====
module

public import proofs.«01_k».proof.Proof.Data
public import Idealize.ShloMosaic.Lib.Pipeline.ReadBack
public import Idealize.ShloMosaic.Lib.Pointwise
public import Idealize.ShloMosaic.PureOps.Ideal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ### The staged buffers at an index, over the extended reals -/

/-- A code block's entry. -/
abbrev cd (x : Vec Ideal S1x1x72x1690 .fp8e4m3) (d : Fin 72) (n : Fin 1690) : EReal := x (ix4 0 0 d n)

/-- Two indices of a matrix agree when their coordinates do. -/
theorem ix2_ext {a b : ℕ} (y : (⟨2, ![a, b]⟩ : Shape).Idx) (i : Fin a) (j : Fin b) (h0 : (y 0).val = i.val) (h1 : (y 1).val = j.val) : y = ix2 i j :=
  funext fun k => Fin.cases (Fin.ext h0) (fun k => Fin.cases (Fin.ext h1) (fun k => k.elim0) k) k

/-- The padded codes. -/
theorem pad72_at (x : Vec Ideal S1x1x72x1690 .fp8e4m3) (d : Fin 72) (n : Fin 1792) :
    pad72 (F := Ideal) x (ix2 d n) = if h : n.val < 1690 then cd x d ⟨n.val, h⟩ else 0 := by
  pointwise [pad72]
/-- The padded codes as stored, inside the features. -/
theorem wq_at (x : Vec Ideal S1x1x72x1690 .fp8e4m3) (d : Fin 128) (n : Fin 1792) :
    wq (F := Ideal) x (ix2 d n) = if h : d.val < 72 then pad72 (F := Ideal) x (ix2 ⟨d.val, h⟩ n) else 0 := by
  pointwise [wq, pad128]
/-- The padded codes as stored, tokens by features. -/
theorem wkn_at (x : Vec Ideal S1x1x72x1690 .fp8e4m3) (n : Fin 1696) (d : Fin 128) :
    wkn (F := Ideal) x (ix2 n d) = if h : d.val < 72 then pad72 (F := Ideal) x (ix2 ⟨d.val, h⟩ ⟨n.val, by omega⟩) else 0 := by
  pointwise [wkn, pad128]
/-- The padded codes of the text tokens. -/
theorem wqt_at (x : Vec Ideal S1x1x72x1690 .fp8e4m3) (n : Fin 160) (d : Fin 128) :
    wqt (F := Ideal) x (ix2 n d) = if h : d.val < 72 then pad72 (F := Ideal) x (ix2 ⟨d.val, h⟩ ⟨1536 + n.val, by omega⟩) else 0 := by
  pointwise [wqt, pad128]

/-- A load that stored pieces cover reads what the pieces are blocks of. -/
theorem readCov_pieces_at {sg : RefSig} {κ : Kind} {sp : Space} {a b : ℕ} {e : EltTy} (v : View sg κ sp (⟨2, ![a, b]⟩ : Shape) e)
    (G : (⟨2, ![a, b]⟩ : Shape).Idx → Elt Ideal e) (L : List (View.Piece (Elt Ideal) (⟨2, ![a, b]⟩ : Shape) e)) (B : LoadRect (⟨2, ![a, b]⟩ : Shape)) (j : B.shape.Idx)
    (hp : ∀ p ∈ L, ∀ x : p.1.shape.Idx, p.2 x = G (p.1.emb x)) (hc : ∃ p ∈ L, B.idx j ∈ p.1.set) :
    v.readCov (Val := Elt Ideal) L B j = G (B.idx j) :=
  View.read_writes_apply_of_pieces v v.junk G L hp _ hc
/-- A load after a store of the whole buffer reads what was stored. -/
theorem readCov_whole_at {sg : RefSig} {κ : Kind} {sp : Space} {a b : ℕ} {e : EltTy} (v : View sg κ sp (⟨2, ![a, b]⟩ : Shape) e)
    (inb : ∀ k, (![0, 0] : Fin 2 → ℕ) k + (⟨2, ![a, b]⟩ : Shape).size k ≤ (⟨2, ![a, b]⟩ : Shape).size k) (Z : (⟨2, ![a, b]⟩ : Shape).Idx → Elt Ideal e)
    (B : LoadRect (⟨2, ![a, b]⟩ : Shape)) (j : B.shape.Idx) :
    v.readCov (Val := Elt Ideal) [⟨Rect.unit (s := ⟨2, ![a, b]⟩) ![0, 0] (⟨2, ![a, b]⟩ : Shape).size inb, Z⟩] B j = Z (B.idx j) := by
  refine readCov_pieces_at v Z _ B j (fun p hp x => ?_) ⟨_, List.mem_singleton.mpr rfl, (Rect.mem_set_unit (inb := inb)).mpr fun k => ?_⟩
  · obtain rfl := List.mem_singleton.mp hp
    refine congrArg Z (funext fun k => Fin.ext ?_)
    exact Fin.cases (by show _ = 0 + 1 * _; omega) (fun k => Fin.cases (by show _ = 0 + 1 * _; omega) (fun k => k.elim0) k) k
  · have := (B.idx j k).isLt
    exact Fin.cases (motive := fun k => (B.idx j k).val < (⟨2, ![a, b]⟩ : Shape).size k → (![0, 0] : Fin 2 → ℕ) k ≤ (B.idx j k).val ∧ (B.idx j k).val < (![0, 0] : Fin 2 → ℕ) k + (⟨2, ![a, b]⟩ : Shape).size k)
      (fun h => ⟨Nat.zero_le _, by show _ < 0 + _; omega⟩) (fun k => Fin.cases (fun h => ⟨Nat.zero_le _, by show _ < 0 + _; omega⟩) (fun k => k.elim0) k) k this

/-- Token lanes `o ..` of the staged querie, at an index. -/
theorem rq_at (o : ℕ) (hb) (x : Vec Ideal S1x1x72x1690 .fp8e4m3) (d : Fin 128) (n : Fin 384) (hn : o + n.val < 1792) :
    rq (F := Ideal) o hb x (ix2 d n) = wq (F := Ideal) x (ix2 d ⟨o + n.val, hn⟩) := by
  unfold rq
  exact (readCov_whole_at (a := 128) (b := 1792) (Memref.whole cc0_scratch0).view inb_S128x1792_S128x1792_0_0 (wq (F := Ideal) x) (Rect.unit (s := S128x1792) ![0, o] S128x384.size hb).toLoadRect _).trans (congrArg (wq (F := Ideal) x) (ix2_ext _ _ _ (by show 0 + 1 * d.val = d.val; omega) (by show o + 1 * n.val = o + n.val; omega)))
/-- Token lanes `o ..` of the staged key, at an index. -/
theorem rk_at (o : ℕ) (hb) (x : Vec Ideal S1x1x72x1690 .fp8e4m3) (d : Fin 128) (n : Fin 384) (hn : o + n.val < 1792) :
    rk (F := Ideal) o hb x (ix2 d n) = wq (F := Ideal) x (ix2 d ⟨o + n.val, hn⟩) := by
  unfold rk
  exact (readCov_whole_at (a := 128) (b := 1792) (Memref.whole cc0_scratch1).view inb_S128x1792_S128x1792_0_0 (wq (F := Ideal) x) (Rect.unit (s := S128x1792) ![0, o] S128x384.size hb).toLoadRect _).trans (congrArg (wq (F := Ideal) x) (ix2_ext _ _ _ (by show 0 + 1 * d.val = d.val; omega) (by show o + 1 * n.val = o + n.val; omega)))
/-- The text lanes of the staged key, at an index. -/
theorem rkt_at (x : Vec Ideal S1x1x72x1690 .fp8e4m3) (d : Fin 128) (n : Fin 256) :
    rkt (F := Ideal) x (ix2 d n) = wq (F := Ideal) x (ix2 d ⟨1536 + n.val, by omega⟩) := by
  unfold rkt
  exact (readCov_whole_at (a := 128) (b := 1792) (Memref.whole cc0_scratch1).view inb_S128x1792_S128x1792_0_0 (wq (F := Ideal) x) (Rect.unit (s := S128x1792) ![0, 1536] S128x256.size inb_S128x1792_S128x256_0_1536).toLoadRect _).trans (congrArg (wq (F := Ideal) x) (ix2_ext _ _ _ (by show 0 + 1 * d.val = d.val; omega) (by show 1536 + 1 * n.val = 1536 + n.val; omega)))
/-- Token rows `o ..` of the staged key, at an index. -/
theorem rkn_at (o : ℕ) (hb) (x : Vec Ideal S1x1x72x1690 .fp8e4m3) (n : Fin 384) (d : Fin 128) (hn : o + n.val < 1696) :
    rkn (F := Ideal) o hb x (ix2 n d) = wkn (F := Ideal) x (ix2 ⟨o + n.val, hn⟩ d) := by
  unfold rkn
  exact (readCov_whole_at (a := 1696) (b := 128) (Memref.whole cc0_scratch2).view inb_S1696x128_S1696x128_0_0 (wkn (F := Ideal) x) (Rect.unit (s := S1696x128) ![o, 0] S384x128.size hb).toLoadRect _).trans (congrArg (wkn (F := Ideal) x) (ix2_ext _ _ _ (by show o + 1 * n.val = o + n.val; omega) (by show 0 + 1 * d.val = d.val; omega)))
/-- The text rows of the staged key, at an index. -/
theorem rknt_at (x : Vec Ideal S1x1x72x1690 .fp8e4m3) (n : Fin 160) (d : Fin 128) :
    rknt (F := Ideal) x (ix2 n d) = wkn (F := Ideal) x (ix2 ⟨1536 + n.val, by omega⟩ d) := by
  unfold rknt
  exact (readCov_whole_at (a := 1696) (b := 128) (Memref.whole cc0_scratch2).view inb_S1696x128_S1696x128_0_0 (wkn (F := Ideal) x) (Rect.unit (s := S1696x128) ![1536, 0] S160x128.size inb_S1696x128_S160x128_1536_0).toLoadRect _).trans (congrArg (wkn (F := Ideal) x) (ix2_ext _ _ _ (by show 1536 + 1 * n.val = 1536 + n.val; omega) (by show 0 + 1 * d.val = d.val; omega)))
/-- The staged text querie, at an index. -/
theorem rqt_at (x : Vec Ideal S1x1x72x1690 .fp8e4m3) (n : Fin 160) (d : Fin 128) :
    rqt (F := Ideal) x (ix2 n d) = wqt (F := Ideal) x (ix2 n d) := by
  unfold rqt
  exact (readCov_whole_at (a := 160) (b := 128) (Memref.whole cc0_scratch3).view inb_S160x128_S160x128_0_0 (wqt (F := Ideal) x) (Rect.unit (s := S160x128) ![0, 0] S160x128.size inb_S160x128_S160x128_0_0).toLoadRect _).trans (congrArg (wqt (F := Ideal) x) (ix2_ext _ _ _ (by show 0 + 1 * n.val = n.val; omega) (by show 0 + 1 * d.val = d.val; omega)))

/-- The staged values: the padded codes times the scale of their frame. -/
def vG (x : Vec Ideal S1x1x72x1690 .fp8e4m3) (s : Fin 5 → EReal) (y : S72x1792.Idx) : EReal :=
  pad72 (F := Ideal) x y * s ⟨(y 1).val / 384, by have : (y 1).val < 1792 := (y 1).isLt; omega⟩

/-- One frame of the values times the frame's scal, at an index. -/
theorem wv_at (o : ℕ) (hs) (x : Vec Ideal S1x1x72x1690 .fp8e4m3) (s : EReal) (d : Fin 72) (n : Fin 384) (hn : o + n.val < 1792) :
    wv (F := Ideal) o hs x s (ix2 d n) = pad72 (F := Ideal) x (ix2 d ⟨o + n.val, hn⟩) * s := by
  pointwise [wv]
/-- The text tokens of the values times the text's scal, at an index. -/
theorem wvt_at (x : Vec Ideal S1x1x72x1690 .fp8e4m3) (s : EReal) (d : Fin 72) (n : Fin 256) :
    wvt (F := Ideal) x s (ix2 d n) = pad72 (F := Ideal) x (ix2 d ⟨1536 + n.val, by omega⟩) * s := by
  pointwise [wvt]

/-- The stores that stage the values are blocks of them. -/
theorem vPieces_of (x : Vec Ideal S1x1x72x1690 .fp8e4m3) (s : Fin 5 → EReal) : ∀ p ∈ vPieces (F := Ideal) x s, ∀ y : p.1.shape.Idx, p.2 y = vG x s (p.1.emb y) := by
  intro p hp y
  have key : ∀ (o : ℕ) (hs) (g : Fin 5) (inb) (y : S72x384.Idx), o = 384 * g.val → o + 384 ≤ 1792 →
      wv (F := Ideal) o hs x (s g) y = vG x s ((Rect.unit (s := S72x1792) ![0, o] S72x384.size inb).emb y) := by
    intro o hs g inb y ho hle
    obtain ⟨d, n, rfl⟩ : ∃ (d : Fin 72) (n : Fin 384), y = ix2 d n := ⟨y 0, y 1, ix2_ext _ _ _ rfl rfl⟩
    have hn := n.isLt
    refine (wv_at o hs x (s g) d n (by omega)).trans ?_
    have e : (Rect.unit (s := S72x1792) ![0, o] S72x384.size inb).emb (ix2 d n) = ix2 d (⟨o + n.val, by omega⟩ : Fin 1792) :=
      ix2_ext _ _ _ (by show 0 + 1 * d.val = d.val; omega) (by show o + 1 * n.val = o + n.val; omega)
    rw [e]
    exact congrArg (fun g => _ * s g) (Fin.ext (by show g.val = (o + n.val) / 384; omega))
  simp only [vPieces, List.mem_cons, List.not_mem_nil, or_false] at hp
  rcases hp with rfl | rfl | rfl | rfl | rfl
  · obtain ⟨d, n, rfl⟩ : ∃ (d : Fin 72) (n : Fin 256), y = ix2 d n := ⟨y 0, y 1, ix2_ext _ _ _ rfl rfl⟩
    have hn := n.isLt
    refine (wvt_at x (s 4) d n).trans ?_
    have e : (Rect.unit (s := S72x1792) ![0, 1536] S72x256.size inb_S72x1792_S72x256_0_1536).emb (ix2 d n) = ix2 d (⟨1536 + n.val, by omega⟩ : Fin 1792) :=
      ix2_ext _ _ _ (by show 0 + 1 * d.val = d.val; omega) (by show 1536 + 1 * n.val = 1536 + n.val; omega)
    refine Eq.trans ?_ (congrArg (vG x s) e.symm)
    exact congrArg (fun g => _ * s g) (Fin.ext (by show 4 = (1536 + n.val) / 384; omega))
  · exact key 1152 slices_S72x1792_o0_1152_S72x384 3 inb_S72x1792_S72x384_0_1152 y rfl (by decide)
  · exact key 768 slices_S72x1792_o0_768_S72x384 2 inb_S72x1792_S72x384_0_768 y rfl (by decide)
  · exact key 384 slices_S72x1792_o0_384_S72x384 1 inb_S72x1792_S72x384_0_384 y rfl (by decide)
  · exact key 0 slices_S72x1792_o0_0_S72x384 0 inb_S72x1792_S72x384_0_0 y rfl (by decide)
/-- The stores that stage the values cover them. -/
theorem vPieces_cover (x : Vec Ideal S1x1x72x1690 .fp8e4m3) (s : Fin 5 → EReal) (y : S72x1792.Idx) : ∃ p ∈ vPieces (F := Ideal) x s, y ∈ p.1.set := by
  have h0 : (y 0).val < 72 := (y 0).isLt
  have h1 : (y 1).val < 1792 := (y 1).isLt
  have cov : ∀ (o z : ℕ) (hb : ∀ a, (![0, o] : Fin 2 → Nat) a + (![72, z] : Fin 2 → Nat) a ≤ S72x1792.size a), o ≤ (y 1).val → (y 1).val < o + z →
      y ∈ (Rect.unit (s := S72x1792) ![0, o] ![72, z] hb).set := fun o z hb h h' =>
    Rect.mem_set_unit.mpr fun a => Fin.cases ⟨Nat.zero_le _, by show _ < 0 + 72; omega⟩ (fun a => Fin.cases ⟨h, h'⟩ (fun a => a.elim0) a) a
  by_cases c0 : (y 1).val < 384
  · exact ⟨_, List.mem_cons_of_mem _ (List.mem_cons_of_mem _ (List.mem_cons_of_mem _ (List.mem_cons_of_mem _ (List.mem_singleton.mpr rfl)))), cov 0 384 inb_S72x1792_S72x384_0_0 (by omega) (by omega)⟩
  by_cases c1 : (y 1).val < 768
  · exact ⟨_, List.mem_cons_of_mem _ (List.mem_cons_of_mem _ (List.mem_cons_of_mem _ List.mem_cons_self)), cov 384 384 inb_S72x1792_S72x384_0_384 (by omega) (by omega)⟩
  by_cases c2 : (y 1).val < 1152
  · exact ⟨_, List.mem_cons_of_mem _ (List.mem_cons_of_mem _ List.mem_cons_self), cov 768 384 inb_S72x1792_S72x384_0_768 (by omega) (by omega)⟩
  by_cases c3 : (y 1).val < 1536
  · exact ⟨_, List.mem_cons_of_mem _ List.mem_cons_self, cov 1152 384 inb_S72x1792_S72x384_0_1152 (by omega) (by omega)⟩
  · exact ⟨_, List.mem_cons_self, cov 1536 256 inb_S72x1792_S72x256_0_1536 (by omega) (by omega)⟩

/-- Token lanes `o ..` of the staged value, at an index. -/
theorem rv_at (o : ℕ) (hb) (x : Vec Ideal S1x1x72x1690 .fp8e4m3) (s : Fin 5 → EReal) (d : Fin 72) (n : Fin 384) (hn : o + n.val < 1792) :
    rv (F := Ideal) o hb x s (ix2 d n) = vG x s (ix2 d ⟨o + n.val, hn⟩) :=
  (readCov_pieces_at _ (vG x s) _ _ _ (vPieces_of x s) (vPieces_cover x s _)).trans
    (congrArg (vG x s) (ix2_ext _ _ _ (by show 0 + 1 * d.val = d.val; omega) (by show o + 1 * n.val = o + n.val; omega)))
/-- The text lanes of the staged value, at an index. -/
theorem rvt_at (x : Vec Ideal S1x1x72x1690 .fp8e4m3) (s : Fin 5 → EReal) (d : Fin 72) (n : Fin 160) :
    rvt (F := Ideal) x s (ix2 d n) = vG x s (ix2 d ⟨1536 + n.val, by omega⟩) :=
  (readCov_pieces_at _ (vG x s) _ _ _ (vPieces_of x s) (vPieces_cover x s _)).trans
    (congrArg (vG x s) (ix2_ext _ _ _ (by show 0 + 1 * d.val = d.val; omega) (by show 1536 + 1 * n.val = 1536 + n.val; omega)))
/-- All lanes of the staged value, at an index. -/
theorem rvall_at (x : Vec Ideal S1x1x72x1690 .fp8e4m3) (s : Fin 5 → EReal) (d : Fin 72) (n : Fin 1792) :
    rvall (F := Ideal) x s (ix2 d n) = vG x s (ix2 d n) :=
  (readCov_pieces_at _ (vG x s) _ _ _ (vPieces_of x s) (vPieces_cover x s _)).trans
    (congrArg (vG x s) (ix2_ext _ _ _ (by show 0 + 1 * d.val = d.val; omega) (by show 0 + 1 * n.val = n.val; omega)))

end Cert.KernelIdeal.Hand
-- ==== Proof.KVals.lean ====
module

public import proofs.«01_k».proof.Proof.Reads
public import proofs.«01_k».proof.Proof.Soft

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ### The three kinds of attention at an index, over the extended reals -/

/-- The product of two tokens' codes. -/
def dotp (x y : Vec Ideal S1x1x72x1690 .fp8e4m3) (a b : Fin 1792) : EReal :=
  ∑ d : Fin 72, pad72 (F := Ideal) x (ix2 d a) * pad72 (F := Ideal) y (ix2 d b)

/-- Scores of one frame's keys against one frame's querie, at an index. -/
theorem sScore_at (o o' : ℕ) (hb hb') (x y : Vec Ideal S1x1x72x1690 .fp8e4m3) (i j : Fin 384) (ho : o + 384 ≤ 1690) (ho' : o' + 384 ≤ 1690) :
    sScore (F := Ideal) (rkn o hb x) (rq o' hb' y) (ix2 i j) = dotp x y ⟨o + i.val, by omega⟩ ⟨o' + j.val, by omega⟩ := by
  have e : ∀ (k : FVec Ideal S384x128 .fp8e4m3) (q : FVec Ideal S128x384 .fp8e4m3), sScore (F := Ideal) k q (ix2 i j) = ∑ d : Fin 128, k (ix2 i d) * q (ix2 d j) := by
    intro k q
    pointwise [sScore]
  refine (e _ _).trans ?_
  refine (Finset.sum_congr rfl fun d _ => ?_).trans (Soft.sum_dite 72 128 (by decide) (fun d => pad72 (F := Ideal) x (ix2 d ⟨o + i.val, by omega⟩)) (fun d => pad72 (F := Ideal) y (ix2 d ⟨o' + j.val, by omega⟩)))
  rw [rkn_at o hb x i d (by omega), wkn_at, rq_at o' hb' y d j (by omega), wq_at]
/-- Scores of the text keys against one frame's querie, at an index. -/
theorem sText_at (o' : ℕ) (hb') (x y : Vec Ideal S1x1x72x1690 .fp8e4m3) (i : Fin 160) (j : Fin 384) (ho' : o' + 384 ≤ 1690) :
    sText (F := Ideal) (rknt x) (rq o' hb' y) (ix2 i j) = dotp x y ⟨1536 + i.val, by omega⟩ ⟨o' + j.val, by omega⟩ := by
  have e : ∀ (k : FVec Ideal S160x128 .fp8e4m3) (q : FVec Ideal S128x384 .fp8e4m3), sText (F := Ideal) k q (ix2 i j) = ∑ d : Fin 128, k (ix2 i d) * q (ix2 d j) := by
    intro k q
    pointwise [sText]
  refine (e _ _).trans ?_
  refine (Finset.sum_congr rfl fun d _ => ?_).trans (Soft.sum_dite 72 128 (by decide) (fun d => pad72 (F := Ideal) x (ix2 d ⟨1536 + i.val, by omega⟩)) (fun d => pad72 (F := Ideal) y (ix2 d ⟨o' + j.val, by omega⟩)))
  rw [rknt_at, wkn_at, rq_at o' hb' y d j (by omega), wq_at]

/-- A select on a comparison of small numbers. -/
theorem sel_slt (n k : ℕ) (hn : n < 2 ^ 31) (hk : k < 2 ^ 31) {a b : EReal} :
    Scalar.select (IntOp.cmpi CmpIPredicate.slt (BitVec.ofNat 32 n) (BitVec.ofNat 32 k)) a b = if n < k then a else b := by
  have h : ∀ m : ℕ, m < 2 ^ 31 → (BitVec.ofNat 32 m).toInt = m := fun m hm => by
    rw [BitVec.toInt_eq_toNat_of_lt (by rw [BitVec.toNat_ofNat]; omega), BitVec.toNat_ofNat, Nat.mod_eq_of_lt (by omega)]
  have e : IntOp.cmpi CmpIPredicate.slt (BitVec.ofNat 32 n) (BitVec.ofNat 32 k) = BitVec.ofBool (decide (n < k)) := by
    show BitVec.ofBool (BitVec.slt _ _) = _
    rw [BitVec.slt, h n hn, h k hk]
    simp
  rw [e]
  by_cases hh : n < k
  · rw [if_pos hh, decide_eq_true hh]; rfl
  · rw [if_neg hh, decide_eq_false hh]; rfl

/-- The padding rows of the text scores maske, at an index. -/
theorem maskT_at (s : FVec Ideal S160x384 .f32) (t : Fin 160) (j : Fin 384) :
    maskT (F := Ideal) s (ix2 t j) = if t.val < 154 then s (ix2 t j) else ⊥ := by
  pointwise [maskT]
  have ht := t.isLt
  by_cases h : t.val < 152
  · rw [dif_pos h, if_pos (by omega)]
  · rw [dif_neg h]
    refine (sel_slt _ _ (by omega) (by decide)).trans ?_
    by_cases h' : t.val < 154
    · rw [if_pos h']
      refine (if_pos (by omega)).trans (congrArg s (ix2_ext _ _ _ (by show 152 + (t.val - 152) = t.val; omega) rfl))
    · rw [if_neg h']
      exact (if_neg (by omega)).trans Soft.ofBits_bot
/-- The text's column maxima times its coefficien, at an index. -/
theorem cmaxT_at (s : FVec Ideal S160x384 .f32) (c : EReal) (j : Fin 384) :
    cmaxT (F := Ideal) s c (ix2 0 j) = (Finset.univ.sup fun i : Fin 160 => s (ix2 i j)) * c := by
  pointwise [cmaxT]
  rw [Soft.ofBits_bot]; rfl
/-- Column sums of the text's exponential, at an index. -/
theorem csumT_at (s : FVec Ideal S160x384 .f32) (j : Fin 384) :
    csumT (F := Ideal) s (ix2 0 j) = ∑ i : Fin 160, s (ix2 i j) := by
  pointwise [csumT]
/-- The text's exponential, at an index. -/
theorem cexpT_at (s : FVec Ideal S160x384 .f32) (c : EReal) (m : FVec Ideal S1x384 .f32) (i : Fin 160) (j : Fin 384) :
    cexpT (F := Ideal) s c m (ix2 i j) = Ideal.exp2 (s (ix2 i j) * c - m (ix2 0 j)) := by
  pointwise [cexpT]
  rfl
/-- The text's values times its exponential, at an index. -/
theorem vdotT_at (v : FVec Ideal S72x160 .bf16) (e : FVec Ideal S160x384 .f32) (d : Fin 72) (j : Fin 384) :
    vdotT (F := Ideal) v e (ix2 d j) = ∑ i : Fin 160, v (ix2 d i) * e (ix2 i j) := by
  pointwise [vdotT]

/-- A weighted sum times the reciprocal of the sum of the weight, at an index. -/
theorem fin_at (o : FVec Ideal S72x384 .f32) (D : FVec Ideal S1x384 .f32) (d : Fin 72) (j : Fin 384) :
    fin (F := Ideal) o D (ix2 d j) = o (ix2 d j) * Ideal.div 1 (D (ix2 0 j)) := by
  pointwise [fin]
/-- A frame's column maxima times its coefficien, at an index. -/
theorem cmax_at (s : FVec Ideal S384x384 .f32) (c : EReal) (j : Fin 384) :
    cmax (F := Ideal) s c (ix2 0 j) = (Finset.univ.sup fun i : Fin 384 => s (ix2 i j)) * c := by
  pointwise [cmax]
  rw [Soft.ofBits_bot]; rfl
/-- Column sums of a frame's exponential, at an index. -/
theorem csum_at (s : FVec Ideal S384x384 .f32) (j : Fin 384) :
    csum (F := Ideal) s (ix2 0 j) = ∑ i : Fin 384, s (ix2 i j) := by
  pointwise [csum]
/-- A frame's exponential, at an index. -/
theorem cexp_at (s : FVec Ideal S384x384 .f32) (c : EReal) (m : FVec Ideal S1x384 .f32) (i j : Fin 384) :
    cexp (F := Ideal) s c m (ix2 i j) = Ideal.exp2 (s (ix2 i j) * c - m (ix2 0 j)) := by
  pointwise [cexp]
  rfl
/-- A frame's values times its exponential, at an index. -/
theorem vdot_at (v : FVec Ideal S72x384 .bf16) (e : FVec Ideal S384x384 .f32) (d : Fin 72) (j : Fin 384) :
    vdot (F := Ideal) v e (ix2 d j) = ∑ i : Fin 384, v (ix2 d i) * e (ix2 i j) := by
  pointwise [vdot]
/-- A query scale times the named constant. -/
theorem pay_at (q : EReal) : k0_pay126 (F := Ideal) q = q * Soft.X := rfl
/-- The text attention from its exponentials and the value, at an index. -/
theorem tOut_at (e : FVec Ideal S160x1792 .f32) (v : FVec Ideal S72x1792 .bf16) (d : Fin 72) (r : Fin 160) :
    tOut (F := Ideal) e v (ix2 d r) = ∑ j : Fin 1792, v (ix2 d j) * (e (ix2 r j) * Ideal.div 1 (∑ j : Fin 1792, e (ix2 r j))) := by
  pointwise [tOut]
/-- The exponentials of scores shifted by their row maximu, at an index. -/
theorem tExp_at (s : FVec Ideal S160x1792 .f32) (r : Fin 160) (j : Fin 1792) :
    tExp (F := Ideal) s (ix2 r j) = Ideal.exp2 (s (ix2 r j) - Finset.univ.sup fun j : Fin 1792 => s (ix2 r j)) := by
  pointwise [tExp]
  rw [Soft.ofBits_bot]; rfl
/-- A product of a staged text query and a staged key is the product of their codes: the padded features add nothing. -/
theorem tDot_at (o : ℕ) (hb) (x y : Vec Ideal S1x1x72x1690 .fp8e4m3) (r : Fin 160) (j : Fin 384) (ho : o + 384 ≤ 1690) :
    ∑ d : Fin 128, rqt (F := Ideal) x (ix2 r d) * rk (F := Ideal) o hb y (ix2 d j) = dotp x y ⟨1536 + r.val, by omega⟩ ⟨o + j.val, by omega⟩ := by
  refine (Finset.sum_congr rfl fun d _ => ?_).trans (Soft.sum_dite 72 128 (by decide) (fun d => pad72 (F := Ideal) x (ix2 d ⟨1536 + r.val, by omega⟩)) (fun d => pad72 (F := Ideal) y (ix2 d ⟨o + j.val, by omega⟩)))
  rw [rqt_at, wqt_at, rk_at o hb y d j (by omega), wq_at]
/-- A product of a staged text query and a staged text key is the product of their codes. -/
theorem tDotT_at (x y : Vec Ideal S1x1x72x1690 .fp8e4m3) (r : Fin 160) (j : Fin 256) :
    ∑ d : Fin 128, rqt (F := Ideal) x (ix2 r d) * rkt (F := Ideal) y (ix2 d j) = dotp x y ⟨1536 + r.val, by omega⟩ ⟨1536 + j.val, by omega⟩ := by
  refine (Finset.sum_congr rfl fun d _ => ?_).trans (Soft.sum_dite 72 128 (by decide) (fun d => pad72 (F := Ideal) x (ix2 d ⟨1536 + r.val, by omega⟩)) (fun d => pad72 (F := Ideal) y (ix2 d ⟨1536 + j.val, by omega⟩)))
  rw [rqt_at, wqt_at, rkt_at, wq_at]
/-- Scaled scores of the text queries against one frame's key, at an index. -/
theorem tScore_at (q : Vec Ideal S160x128 .fp8e4m3) (k : Vec Ideal S128x384 .fp8e4m3) (c : EReal) (r : Fin 160) (j : Fin 384) :
    tScore (F := Ideal) q k c (ix2 r j) = (∑ d : Fin 128, q (ix2 r d) * k (ix2 d j)) * c := by
  pointwise [tScore]
/-- Scaled and masked scores of the text queries against the text key, at an index. -/
theorem tScoreT_at (q : Vec Ideal S160x128 .fp8e4m3) (k : Vec Ideal S128x256 .fp8e4m3) (c : EReal) (r : Fin 160) (j : Fin 256) :
    tScoreT (F := Ideal) q k c (ix2 r j) = if j.val < 154 then (∑ d : Fin 128, q (ix2 r d) * k (ix2 d j)) * c else ⊥ := by
  pointwise [tScoreT]
  rw [Soft.ofBits_bot, sel_slt _ _ (by omega) (by decide)]
/-- The text queries' scores against all key, at an index. -/
theorem tAll_at (x y : Vec Ideal S1x1x72x1690 .fp8e4m3) (c : Fin 5 → EReal) (r : Fin 160) (j : Fin 1792) :
    tAll (F := Ideal) (rqt x) (rk 0 inb_S128x1792_S128x384_0_0 y) (rk 384 inb_S128x1792_S128x384_0_384 y) (rk 768 inb_S128x1792_S128x384_0_768 y) (rk 1152 inb_S128x1792_S128x384_0_1152 y) (rkt y)
        (c 0) (c 1) (c 2) (c 3) (c 4) (ix2 r j)
      = if j.val < 1690 then dotp x y ⟨1536 + r.val, by omega⟩ j * c ⟨j.val / 384, by omega⟩ else ⊥ := by
  have hj := j.isLt
  have hc : ∀ (g : Fin 5), g.val = j.val / 384 → c g = c ⟨j.val / 384, by omega⟩ := fun g h => congrArg c (Fin.ext h)
  have hd : ∀ n : Fin 1792, n.val = j.val → dotp x y ⟨1536 + r.val, by omega⟩ n = dotp x y ⟨1536 + r.val, by omega⟩ j := fun n h => congrArg _ (Fin.ext h)
  pointwise [tAll]
  simp only [tScore_at, tScoreT_at]
  by_cases h0 : j.val < 384
  · rw [dif_pos h0, if_pos (show j.val < 1690 by omega), tDot_at 0 _ x y r _ (by decide), hd _ (by show 0 + j.val = j.val; omega), hc 0 (by show 0 = _; omega)]
  rw [dif_neg h0]
  by_cases h1 : j.val - 384 < 384
  · rw [dif_pos h1, if_pos (show j.val < 1690 by omega), tDot_at 384 _ x y r _ (by decide), hd _ (by show 384 + (j.val - 384) = j.val; omega), hc 1 (by show 1 = _; omega)]
  rw [dif_neg h1]
  by_cases h2 : j.val - 384 - 384 < 384
  · rw [dif_pos h2, if_pos (show j.val < 1690 by omega), tDot_at 768 _ x y r _ (by decide), hd _ (by show 768 + (j.val - 384 - 384) = j.val; omega), hc 2 (by show 2 = _; omega)]
  rw [dif_neg h2]
  by_cases h3 : j.val - 384 - 384 - 384 < 384
  · rw [dif_pos h3, if_pos (show j.val < 1690 by omega), tDot_at 1152 _ x y r _ (by decide), hd _ (by show 1152 + (j.val - 384 - 384 - 384) = j.val; omega), hc 3 (by show 3 = _; omega)]
  rw [dif_neg h3]
  by_cases h4 : j.val < 1690
  · rw [if_pos h4, if_pos (show j.val - 384 - 384 - 384 - 384 < 154 by omega), tDotT_at x y r, hd _ (by show 1536 + (j.val - 384 - 384 - 384 - 384) = j.val; omega), hc 4 (by show 4 = _; omega)]
  · rw [if_neg h4, if_neg (show ¬ j.val - 384 - 384 - 384 - 384 < 154 by omega)]
/-- Scaled scores of each query against the key at its own place in another fram, at an index. -/
theorem pScore_at (q k : FVec Ideal S72x384 .f32) (c : EReal) (j : Fin 384) :
    pScore (F := Ideal) q k c (ix2 0 j) = (∑ d : Fin 72, q (ix2 d j) * k (ix2 d j)) * c := by
  pointwise [pScore]
/-- One key's exponentials times its value, at an index. -/
theorem pdot_at (e : FVec Ideal S1x384 .f32) (v : FVec Ideal S72x384 .bf16) (d : Fin 72) (j : Fin 384) :
    pdot (F := Ideal) e v (ix2 d j) = e (ix2 0 j) * v (ix2 d j) := by
  pointwise [pdot]
/-- One frame of a head's codes, widene, at an index. -/
theorem xf_at (y : Vec Ideal S1x1x72x384 .fp8e4m3) (d : Fin 72) (j : Fin 384) : xf (F := Ideal) y (ix2 d j) = y (ix4 0 0 d j) := by
  pointwise [xf]

end Cert.KernelIdeal.Hand
-- ==== Proof.KOut.lean ====
module

public import proofs.«01_k».proof.Proof.KVals
public import proofs.«01_k».proof.Proof.Spec

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.Tactic

/-! ### A head's closed forms are its attention as plain mathematics -/

/-- A block's codes by row and lane. -/
def rows (x : Vec Ideal S1x1x72x1690 .fp8e4m3) : Fin 1690 → Fin 72 → EReal := fun n d => cd x d n

/-- A staged code of a row that exists. -/
theorem pad72_lt (x : Vec Ideal S1x1x72x1690 .fp8e4m3) (d : Fin 72) (n : Fin 1792) (h : n.val < 1690) : pad72 (F := Ideal) x (ix2 d n) = rows x ⟨n.val, h⟩ d :=
  (pad72_at x d n).trans (dif_pos h)

/-- A product of two staged rows. -/
theorem dotp_eq (x y : Vec Ideal S1x1x72x1690 .fp8e4m3) (a b : Fin 1792) (ha : a.val < 1690) (hb : b.val < 1690) :
    dotp x y a b = dt (rows x) (rows y) ⟨a.val, ha⟩ ⟨b.val, hb⟩ := by
  unfold dotp dt
  exact Finset.sum_congr rfl fun d _ => by rw [pad72_lt x d a ha, pad72_lt y d b hb]
/-- The same with the second row as the query. -/
theorem dotp_eq' (x y : Vec Ideal S1x1x72x1690 .fp8e4m3) (a b : Fin 1792) (ha : a.val < 1690) (hb : b.val < 1690) :
    dotp x y a b = dt (rows y) (rows x) ⟨b.val, hb⟩ ⟨a.val, ha⟩ := by
  rw [dotp_eq x y a b ha hb]; unfold dt
  exact Finset.sum_congr rfl fun d _ => mul_comm _ _
/-- A staged value of a row that exists. -/
theorem vG_lt (x : Vec Ideal S1x1x72x1690 .fp8e4m3) (s : Fin 5 → EReal) (d : Fin 72) (n : Fin 1792) (h : n.val < 1690) :
    vG x s (ix2 d n) = rows x ⟨n.val, h⟩ d * s (g5 ⟨n.val, h⟩) := by
  unfold vG; rw [pad72_lt x d n h]; rfl

/-- The scale the kernel folds in, against the one the scores take. -/
theorem sc1 (D a b : EReal) : D * (a * Soft.X * b) * Soft.L = D * (a * Soft.S) * b := by
  rw [← Soft.X_mul_L]; ac_rfl
/-- Scaling by the named constant and then by ln 2 is scaling by the f32 value of 72^(-1/2). -/
theorem sc2 (D a b : EReal) : D * (a * Soft.X * b) * Soft.L = D * (a * b * Soft.S) := by
  rw [← Soft.X_mul_L]; ac_rfl
/-- A product of positive scales and the named constant is positive. -/
theorem sc_pos {a b : EReal} (ha : 0 < a) (hb : 0 < b) : 0 < a * Soft.X * b := EReal.mul_pos (EReal.mul_pos ha Soft.X_pos) hb

variable (x6 x7 x8 : Vec Ideal S1x1x72x1690 .fp8e4m3) (q k v : Fin 5 → EReal)

/-- The text rows. -/
theorem textP_at (r : Fin 154) (d : Fin 72) :
    textP (F := Ideal) x6 x7 x8 q k v (ix2 d ⟨r.val, by omega⟩) = textO (rows x6) (rows x7) (rows x8) q k v r d := by
  unfold textP textO soft1
  rw [tOut_at]
  simp only [tExp_at]
  have e := tAll_at x6 x7 (fun g => q 4 * Soft.X * k g) ⟨r.val, by omega⟩
  refine Soft.text_eq 1690 1792 (by decide) _ _ _ _ _ (fun j => ?_) (fun j hj => ?_) (fun j => ?_)
  · refine (congrArg (· * Soft.L) ((e ⟨j.val, by omega⟩).trans (if_pos j.isLt))).trans ?_
    rw [dotp_eq _ _ _ _ (by show 1536 + r.val < 1690; omega) j.isLt]
    exact sc1 _ _ _
  · exact (e j).trans (if_neg (by omega))
  · show rvall (F := Ideal) x8 v (ix2 d ⟨j.val, _⟩) = _
    rw [rvall_at, vG_lt _ _ _ _ j.isLt]

/-- The zero accumulator, at an index. -/
theorem z72_at (d : Fin 72) (j : Fin 384) : z72 (F := Ideal) (ix2 d j) = 0 := by pointwise [z72]

/-- A later frame's spatial attention at an index. -/
theorem spat1_at (s : FVec Ideal S384x384 .f32) (st : FVec Ideal S160x384 .f32) (s0 : FVec Ideal S384x384 .f32) (c ct c0 : EReal) (w : Vec Ideal S72x384 .bf16) (wt : Vec Ideal S72x160 .bf16) (w0 : Vec Ideal S72x384 .bf16) (d : Fin 72) (j : Fin 384) (M : EReal)
    (hM : M = max (max ((Finset.univ.sup fun i : Fin 384 => s (ix2 i j)) * c) ((Finset.univ.sup fun i : Fin 160 => st (ix2 i j)) * ct)) ((Finset.univ.sup fun i : Fin 384 => s0 (ix2 i j)) * c0)) :
    spat1 (F := Ideal) s st s0 c ct c0 w wt w0 (ix2 d j)
      = (∑ i : Fin 384, w (ix2 d i) * Ideal.exp2 (s (ix2 i j) * c - M) + ∑ i : Fin 160, wt (ix2 d i) * Ideal.exp2 (st (ix2 i j) * ct - M) + ∑ i : Fin 384, w0 (ix2 d i) * Ideal.exp2 (s0 (ix2 i j) * c0 - M))
        * Ideal.div 1 (∑ i : Fin 384, Ideal.exp2 (s (ix2 i j) * c - M) + ∑ i : Fin 160, Ideal.exp2 (st (ix2 i j) * ct - M) + ∑ i : Fin 384, Ideal.exp2 (s0 (ix2 i j) * c0 - M)) := by
  unfold spat1
  generalize hm : maximumf (maximumf (cmax (F := Ideal) s c) (cmaxT (F := Ideal) st ct)) (cmax (F := Ideal) s0 c0) = m
  have e : m (ix2 0 j) = M := by
    rw [← hm, hM, ← cmax_at, ← cmaxT_at, ← cmax_at]; rfl
  unfold spat1F
  rw [fin_at]
  show (((z72 (F := Ideal) (ix2 d j) + vdot (F := Ideal) w _ (ix2 d j)) + vdotT (F := Ideal) wt _ (ix2 d j)) + vdot (F := Ideal) w0 _ (ix2 d j)) * Ideal.div 1 ((csum (F := Ideal) _ (ix2 0 j) + csumT (F := Ideal) _ (ix2 0 j)) + csum (F := Ideal) _ (ix2 0 j)) = _
  simp only [z72_at, zero_add, vdot_at, vdotT_at, csum_at, csumT_at, cexp_at, cexpT_at, e]

/-- Frame 0's spatial attention at an index. -/
theorem spat0_at (s : FVec Ideal S384x384 .f32) (st : FVec Ideal S160x384 .f32) (c ct : EReal) (w : Vec Ideal S72x384 .bf16) (wt : Vec Ideal S72x160 .bf16) (d : Fin 72) (j : Fin 384) (M : EReal)
    (hM : M = max ((Finset.univ.sup fun i : Fin 384 => s (ix2 i j)) * c) ((Finset.univ.sup fun i : Fin 160 => st (ix2 i j)) * ct)) :
    spat0 (F := Ideal) s st c ct w wt (ix2 d j)
      = (∑ i : Fin 384, w (ix2 d i) * Ideal.exp2 (s (ix2 i j) * c - M) + ∑ i : Fin 160, wt (ix2 d i) * Ideal.exp2 (st (ix2 i j) * ct - M))
        * Ideal.div 1 (∑ i : Fin 384, Ideal.exp2 (s (ix2 i j) * c - M) + ∑ i : Fin 160, Ideal.exp2 (st (ix2 i j) * ct - M)) := by
  unfold spat0
  generalize hm : maximumf (cmax (F := Ideal) s c) (cmaxT (F := Ideal) st ct) = m
  have e : m (ix2 0 j) = M := by
    rw [← hm, hM, ← cmax_at, ← cmaxT_at]; rfl
  unfold spat0F
  rw [fin_at]
  show ((z72 (F := Ideal) (ix2 d j) + vdot (F := Ideal) w _ (ix2 d j)) + vdotT (F := Ideal) wt _ (ix2 d j)) * Ideal.div 1 (csum (F := Ideal) _ (ix2 0 j) + csumT (F := Ideal) _ (ix2 0 j)) = _
  simp only [z72_at, zero_add, vdot_at, vdotT_at, csum_at, csumT_at, cexp_at, cexpT_at, e]

/-- A temporal frame's attention at an index. -/
theorem temp_at (st : FVec Ideal S160x384 .f32) (s0 s1 s2 s3 : FVec Ideal S1x384 .f32) (ct : EReal) (wt : Vec Ideal S72x160 .bf16) (w0 w1 w2 w3 : Vec Ideal S72x384 .bf16) (d : Fin 72) (j : Fin 384) (M : EReal)
    (hM : M = max (max (max (max ((Finset.univ.sup fun i : Fin 160 => st (ix2 i j)) * ct) (s0 (ix2 0 j))) (s1 (ix2 0 j))) (s2 (ix2 0 j))) (s3 (ix2 0 j))) :
    temp (F := Ideal) st s0 s1 s2 s3 ct wt w0 w1 w2 w3 (ix2 d j)
      = (∑ i : Fin 160, wt (ix2 d i) * Ideal.exp2 (st (ix2 i j) * ct - M) + Ideal.exp2 (s0 (ix2 0 j) - M) * w0 (ix2 d j) + Ideal.exp2 (s1 (ix2 0 j) - M) * w1 (ix2 d j) + Ideal.exp2 (s2 (ix2 0 j) - M) * w2 (ix2 d j) + Ideal.exp2 (s3 (ix2 0 j) - M) * w3 (ix2 d j))
        * Ideal.div 1 (∑ i : Fin 160, Ideal.exp2 (st (ix2 i j) * ct - M) + Ideal.exp2 (s0 (ix2 0 j) - M) + Ideal.exp2 (s1 (ix2 0 j) - M) + Ideal.exp2 (s2 (ix2 0 j) - M) + Ideal.exp2 (s3 (ix2 0 j) - M)) := by
  unfold temp
  generalize hm : tempM (F := Ideal) st s0 s1 s2 s3 ct = m
  have e : m (ix2 0 j) = M := by
    rw [← hm, hM, ← cmaxT_at]; rfl
  unfold tempF
  rw [fin_at]
  show ((((vdotT (F := Ideal) wt _ (ix2 d j) + pdot (F := Ideal) _ w0 (ix2 d j)) + pdot (F := Ideal) _ w1 (ix2 d j)) + pdot (F := Ideal) _ w2 (ix2 d j)) + pdot (F := Ideal) _ w3 (ix2 d j)) * Ideal.div 1 ((((csumT (F := Ideal) _ (ix2 0 j) + Ideal.exp2 (s0 (ix2 0 j) - m (ix2 0 j))) + Ideal.exp2 (s1 (ix2 0 j) - m (ix2 0 j))) + Ideal.exp2 (s2 (ix2 0 j) - m (ix2 0 j))) + Ideal.exp2 (s3 (ix2 0 j) - m (ix2 0 j))) = _
  have p : ∀ (a : FVec Ideal S1x384 .f32) (w : Vec Ideal S72x384 .bf16), pdot (F := Ideal) (exp2 (subf a m)) w (ix2 d j) = Ideal.exp2 (a (ix2 0 j) - M) * w (ix2 d j) := fun a w => by
    rw [pdot_at, ← e]; rfl
  simp only [vdotT_at, csumT_at, cexpT_at, p, e]

/-- The masked text scores: beyond the text's rows there is none. -/
theorem text_hb (o : ℕ) (hq) (a : Fin 384) (i : Fin 160) (hi : 154 ≤ i.val) : maskT (F := Ideal) (sText (rknt x7) (rq o hq x6)) (ix2 i a) = ⊥ := by
  rw [maskT_at, if_neg (by omega)]

section Frame
variable (f : Fin 4) (a : Fin 384) (d : Fin 72)

/-- A frame's text scores. -/
theorem text_ht (hq) (j : Fin 154) :
    maskT (F := Ideal) (sText (rknt x7) (rq (f.val * 384) hq x6)) (ix2 ⟨j.val, by omega⟩ a) * (q (f5 f) * Soft.X * k 4) * Soft.L = sTx (rows x6) (rows x7) q k f a j := by
  rw [maskT_at, if_pos (show j.val < 154 from j.isLt), sText_at _ _ _ _ _ _ (by omega), dotp_eq' _ _ _ _ (by show 1536 + j.val < 1690; omega) (by show f.val * 384 + a.val < 1690; omega)]
  exact sc2 _ _ _
/-- The text's values. -/
theorem text_ha (j : Fin 154) : rvt (F := Ideal) x8 v (ix2 d ⟨j.val, by omega⟩) = rows x8 (tx j) d * v 4 := by
  rw [rvt_at, vG_lt _ _ _ _ (by show 1536 + j.val < 1690; omega)]
  exact congrArg (fun g => _ * v g) (Fin.ext (by show (1536 + j.val) / 384 = 4; omega))
/-- A frame's values. -/
theorem frame_ha (hv) (j : Fin 384) : rv (F := Ideal) (f.val * 384) hv x8 v (ix2 d j) = rows x8 (fr f j) d * v (f5 f) := by
  rw [rv_at _ _ _ _ _ _ (by omega), vG_lt _ _ _ _ (by show f.val * 384 + j.val < 1690; omega)]
  exact congrArg (fun g => _ * v g) (Fin.ext (by show (f.val * 384 + j.val) / 384 = f.val; omega))
/-- Scores of one frame's queries against another's keys. -/
theorem frame_hs (g : Fin 4) (hk hq) (j : Fin 384) :
    sScore (F := Ideal) (rkn (g.val * 384) hk x7) (rq (f.val * 384) hq x6) (ix2 j a) * (q (f5 f) * Soft.X * k (f5 g)) * Soft.L = dt (rows x6) (rows x7) (fr f a) (fr g j) * (q (f5 f) * k (f5 g) * Soft.S) := by
  rw [sScore_at _ _ _ _ _ _ _ _ (by omega) (by omega), dotp_eq' _ _ _ _ (by show g.val * 384 + j.val < 1690; omega) (by show f.val * 384 + a.val < 1690; omega)]
  exact sc2 _ _ _

variable (hpq : ∀ g, 0 < q g) (hpk : ∀ g, 0 < k g)
include hpq hpk

/-- A later frame of a spatial head. -/
theorem spatP_at (hf : f ≠ 0) (o : ℕ) (ho : o = f.val * 384) (hk hq hv) :
    spatP (F := Ideal) (f5 f) o hk hq hv x6 x7 x8 q k v (ix2 d a) = spatO (rows x6) (rows x7) (rows x8) q k v f a d := by
  subst ho
  unfold spatP spatO
  rw [spat1_at _ _ _ _ _ _ _ _ _ _ _ _ rfl]
  exact Soft.spat_eq 154 160 (by decide) _ _ (sOwn (rows x6) (rows x7) q k f a) (fun _ => v (f5 f)) (fun j => rows x8 (fr f j) d) _ _ (sTx (rows x6) (rows x7) q k f a) (fun _ => v 4) (fun j => rows x8 (tx j) d)
    _ _ (sF0 (rows x6) (rows x7) q k f a) (fun _ => v 0) (fun j => rows x8 (fr 0 j) d) _ _ _ _ (sc_pos (hpq _) (hpk _)) (sc_pos (hpq _) (hpk _)) (sc_pos (hpq _) (hpk _))
    (fun j => frame_hs x6 x7 q k f a f _ _ j) (fun j => text_ht x6 x7 q k f a _ j) (fun j => (frame_hs x6 x7 q k f a 0 _ _ j).trans (if_neg hf).symm)
    (fun i hi => text_hb x6 x7 _ _ a i hi) (fun j => frame_ha x8 v f d _ j) (fun j => text_ha x8 v d j) (fun j => frame_ha x8 v 0 d _ j) rfl _ _ rfl rfl

/-- Frame 0 of a spatial head. -/
theorem spatP0_at : spatP0 (F := Ideal) x6 x7 x8 q k v (ix2 d a) = spatO (rows x6) (rows x7) (rows x8) q k v 0 a d := by
  unfold spatP0 spatO
  rw [spat0_at _ _ _ _ _ _ _ _ _ rfl]
  exact Soft.spat0_eq 154 160 (by decide) _ _ (sOwn (rows x6) (rows x7) q k 0 a) (fun _ => v (f5 0)) (fun j => rows x8 (fr 0 j) d) _ _ (sTx (rows x6) (rows x7) q k 0 a) (fun _ => v 4) (fun j => rows x8 (tx j) d)
    (sF0 (rows x6) (rows x7) q k 0 a) (fun _ => v 0) (fun j => rows x8 (fr 0 j) d) _ _ _ (sc_pos (hpq _) (hpk _)) (sc_pos (hpq _) (hpk _))
    (fun j => frame_hs x6 x7 q k 0 a 0 _ _ j) (fun j => text_ht x6 x7 q k 0 a _ j) (fun j => if_pos rfl)
    (fun i hi => text_hb x6 x7 _ _ a i hi) (fun j => frame_ha x8 v 0 d _ j) (fun j => text_ha x8 v d j) rfl _ _ rfl rfl

omit hpq hpk in
/-- The score of a query against the key at its own place of another frame. -/
theorem place_hs (g : Fin 4) (y6 y : Vec Ideal S1x1x72x384 .fp8e4m3) (h6 : ∀ d, y6 (ix4 0 0 d a) = rows x6 (fr f a) d) (h : ∀ d, y (ix4 0 0 d a) = rows x7 (fr g a) d) :
    pScore (F := Ideal) (xf y6) (xf y) (q (f5 f) * Soft.X * k (f5 g)) (ix2 0 a) * Soft.L = sV (rows x6) (rows x7) q k f a g := by
  rw [pScore_at]
  simp only [xf_at, h6, h]
  exact sc2 _ _ _

omit hpk in
set_option maxHeartbeats 4000000 in
/-- A frame of a temporal head. -/
theorem tempP_at (hpk4 : 0 < k 4) (o : ℕ) (ho : o = f.val * 384) (hq) (y6 y0 y1 y2 y3 : Vec Ideal S1x1x72x384 .fp8e4m3) (h6 : ∀ d, y6 (ix4 0 0 d a) = rows x6 (fr f a) d)
    (h0 : ∀ d, y0 (ix4 0 0 d a) = rows x7 (fr 0 a) d) (h1 : ∀ d, y1 (ix4 0 0 d a) = rows x7 (fr 1 a) d) (h2 : ∀ d, y2 (ix4 0 0 d a) = rows x7 (fr 2 a) d) (h3 : ∀ d, y3 (ix4 0 0 d a) = rows x7 (fr 3 a) d) :
    tempP (F := Ideal) (f5 f) o hq x6 x7 x8 y6 y0 y1 y2 y3 q k v (ix2 d a) = tempO (rows x6) (rows x7) (rows x8) q k v f a d := by
  subst ho
  unfold tempP tempO
  rw [temp_at _ _ _ _ _ _ _ _ _ _ _ _ _ _ rfl]
  exact Soft.temp_eq 154 160 (by decide)
    ![pScore (F := Ideal) (xf y6) (xf y0) (q (f5 f) * Soft.X * k 0) (ix2 0 a), pScore (F := Ideal) (xf y6) (xf y1) (q (f5 f) * Soft.X * k 1) (ix2 0 a), pScore (F := Ideal) (xf y6) (xf y2) (q (f5 f) * Soft.X * k 2) (ix2 0 a), pScore (F := Ideal) (xf y6) (xf y3) (q (f5 f) * Soft.X * k 3) (ix2 0 a)]
    ![rv (F := Ideal) 0 inb_S72x1792_S72x384_0_0 x8 v (ix2 d a), rv (F := Ideal) 384 inb_S72x1792_S72x384_0_384 x8 v (ix2 d a), rv (F := Ideal) 768 inb_S72x1792_S72x384_0_768 x8 v (ix2 d a), rv (F := Ideal) 1152 inb_S72x1792_S72x384_0_1152 x8 v (ix2 d a)]
    (sV (rows x6) (rows x7) q k f a) (fun g => v (f5 g)) (fun g => rows x8 (fr g a) d) _ _ (sTx (rows x6) (rows x7) q k f a) (fun _ => v 4) (fun j => rows x8 (tx j) d) _ _ (sc_pos (hpq _) hpk4)
    (fun g => match g with
      | 0 => place_hs x6 x7 q k f a 0 y6 y0 h6 h0 | 1 => place_hs x6 x7 q k f a 1 y6 y1 h6 h1 | 2 => place_hs x6 x7 q k f a 2 y6 y2 h6 h2 | 3 => place_hs x6 x7 q k f a 3 y6 y3 h6 h3)
    (fun j => text_ht x6 x7 q k f a _ j) (fun i hi => text_hb x6 x7 _ _ a i hi)
    (fun g => match g with
      | 0 => frame_ha x8 v 0 d inb_S72x1792_S72x384_0_0 a | 1 => frame_ha x8 v 1 d inb_S72x1792_S72x384_0_384 a | 2 => frame_ha x8 v 2 d inb_S72x1792_S72x384_0_768 a | 3 => frame_ha x8 v 3 d inb_S72x1792_S72x384_0_1152 a)
    (fun j => text_ha x8 v d j) rfl _ _ rfl rfl

end Frame

end Cert.KernelIdeal.Hand
-- ==== Proof.KArr.lean ====
module

public import proofs.«01_k».proof.Proof.Body
public import proofs.«01_k».proof.Proof.KIn
public import proofs.«01_k».proof.Proof.KOut
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline

/-! ### What the kernel's array ends at, from the arguments -/

/-- The point of head `h` of batch `b`. -/
def pt2 (b : Fin 6) (h : Fin 24) : Fin cfg0.N := ⟨24 * b.val + h.val, by have hN : cfg0.N = 144 := N_0; omega⟩

/-- The block index of window 7. -/
theorem idx7 : ∀ t : Fin cfg0.N, win0_7.index t = ![t.val / 24, 0, 0] := by decide +kernel
/-- The block index of window 4. -/
theorem idx4 : ∀ t : Fin cfg0.N, win0_4.index t = ![t.val / 24, t.val % 24, 0, 0] := by decide +kernel
/-- The block index of window 5. -/
theorem idx5 : ∀ t : Fin cfg0.N, win0_5.index t = ![t.val / 24, t.val % 24, 0, 0] := by decide +kernel
/-- The block index of window 6. -/
theorem idx6 : ∀ t : Fin cfg0.N, win0_6.index t = ![t.val / 24, t.val % 24, 0, 0] := by decide +kernel
/-- The block index of window 0. -/
theorem idx0 : ∀ t : Fin cfg0.N, win0_0.index t = ![0] := by decide +kernel
/-- The block index of window 1. -/
theorem idx1 : ∀ t : Fin cfg0.N, win0_1.index t = ![0] := by decide +kernel
/-- The block index of window 2. -/
theorem idx2 : ∀ t : Fin cfg0.N, win0_2.index t = ![0] := by decide +kernel
/-- The block index of window 3. -/
theorem idx3 : ∀ t : Fin cfg0.N, win0_3.index t = ![0] := by decide +kernel

variable (m : (ℓ : Loc nD τ sig) → Buf (Elt Ideal) ℓ) (c : Dev nD)

/-- Rounding to the output's format changes nothing over the extended reals. -/
theorem rnd_id (x : EReal) : rnd (F := Ideal) x = x := rfl
/-- Equal points, features and rows hold equal entries. -/
theorem hcol_congr {s s' : Fin cfg0.N} {d d' : Fin 72} {n n' : Fin 1696} (hs : s.val = s'.val) (hd : d.val = d'.val) (hn : n.val = n'.val) :
    hcol m c s d n = hcol m c s' d' n' := by
  rw [Fin.ext hs, Fin.ext hd, Fin.ext hn]
/-- The output block at an index. -/
theorem outB_at (t : Fin cfg0.N) (y : S1x1690x1728.Idx) (s : Fin cfg0.N) (d : Fin 72) (n : Fin 1696) (hs : 24 * (t.val / 24) + (y 2).val / 72 = s.val) (hd : (y 2).val % 72 = d.val) (hn : (y 1).val = n.val) :
    outB m c t y = hcol m c s d n := by
  unfold outB
  rw [rnd_id]
  exact hcol_congr m c hs hd hn
/-- What the output window holds after a point. -/
theorem after7 (t : Fin cfg0.N) : (dats m 0 c).after 7 t = outB m c t := by dsimp only [dats]

/-- The output array: row `n`, feature `72 h + d` of batch `b` is what head `h` of that batch stores. -/
theorem arr_eq : (dats m 0 c).arrAt 7 cfg0.N = fun y : S6x1690x1728.Idx =>
    hcol m c (pt2 (y 0) ⟨(y 2).val / 72, by have : (y 2).val < 1728 := (y 2).isLt; omega⟩) ⟨(y 2).val % 72, Nat.mod_lt _ (by omega)⟩ ⟨(y 1).val, lt_of_lt_of_le (y 1).isLt (by decide)⟩ := by
  refine (dats m 0 c).arrAt_eq_of_covers 7 _ (by decide +kernel) fun t hf y => ?_
  have e0 : (((cfg0.win 7).blk t).view.emb y 0).val = t.val / 24 := by
    blk_simp
    have h := congrFun (idx7 t) 0
    have hy : (y 0).val < 1 := (y 0).isLt
    rw [h]; rfl
  blk_simp
  rw [after7]
  have i1 := congrFun (idx7 t) 1
  have i2 := congrFun (idx7 t) 2
  refine outB_at m c t y _ _ _ ?_ ?_ ?_
  · show 24 * (t.val / 24) + (y 2).val / 72 = 24 * (((cfg0.win 7).blk t).view.emb y 0).val + (win0_7.index t 2 * 1728 + (y 2).val) / 72
    rw [e0, i2]; show _ = 24 * (t.val / 24) + (0 * 1728 + (y 2).val) / 72; omega
  · show (y 2).val % 72 = (win0_7.index t 2 * 1728 + (y 2).val) % 72
    rw [i2]; show _ = (0 * 1728 + (y 2).val) % 72; omega
  · show (y 1).val = win0_7.index t 1 * 1690 + (y 1).val
    rw [i1]; show _ = 0 * 1690 + (y 1).val; omega

/-- Where a point's block of codes sits: its batch, its head. -/
theorem codes_idx (W : S6x24x72x1690.Idx → EReal) (e : S6x24x72x1690.Idx) (b : Fin 6) (h : Fin 24) (d : Fin 72) (n : Fin 1690)
    (e0 : (e 0).val = (24 * b.val + h.val) / 24) (e1 : (e 1).val = (24 * b.val + h.val) % 24) (e2 : (e 2).val = 0 * 72 + d.val) (e3 : (e 3).val = 0 * 1690 + n.val) :
    W e = W (ix4 b h d n) := by
  refine congrArg W (funext fun a => Fin.ext ?_)
  match a with
  | ⟨0, _⟩ => exact e0.trans (by show _ = b.val; omega)
  | ⟨1, _⟩ => exact e1.trans (by show _ = h.val; omega)
  | ⟨2, _⟩ => exact e2.trans (by show _ = d.val; omega)
  | ⟨3, _⟩ => exact e3.trans (by show _ = n.val; omega)

/-- The query codes a point's block holds. -/
theorem codes4_at (b : Fin 6) (h : Fin 24) (d : Fin 72) (n : Fin 1690) : (iblk m c 4 (pt2 b h) : S1x1x72x1690.Idx → EReal) (ix4 0 0 d n) = m ((c.tc : Thread nD τ).loc main_arg0) (ix4 b n h d) := by
  refine Eq.trans ?_ (v4_at (fun r => m (c, r)) b h d n)
  have e := idx4 (pt2 b h)
  refine codes_idx (V m c main_v4) (((cfg0.win 4).blk (pt2 b h)).view.emb (ix4 0 0 d n)) b h d n ?_ ?_ ?_ ?_
  · blk_simp; rw [congrFun e 0]; rfl
  · blk_simp; rw [congrFun e 1]; rfl
  · blk_simp; rw [congrFun e 2]; show 0 * 72 + d.val = d.val; omega
  · blk_simp; rw [congrFun e 3]; show 0 * 1690 + n.val = n.val; omega

/-- The key codes a point's block holds. -/
theorem codes5_at (b : Fin 6) (h : Fin 24) (d : Fin 72) (n : Fin 1690) : (iblk m c 5 (pt2 b h) : S1x1x72x1690.Idx → EReal) (ix4 0 0 d n) = m ((c.tc : Thread nD τ).loc main_arg1) (ix4 b n h d) := by
  refine Eq.trans ?_ (v5_at (fun r => m (c, r)) b h d n)
  have e := idx5 (pt2 b h)
  refine codes_idx (V m c main_v5) (((cfg0.win 5).blk (pt2 b h)).view.emb (ix4 0 0 d n)) b h d n ?_ ?_ ?_ ?_
  · blk_simp; rw [congrFun e 0]; rfl
  · blk_simp; rw [congrFun e 1]; rfl
  · blk_simp; rw [congrFun e 2]; show 0 * 72 + d.val = d.val; omega
  · blk_simp; rw [congrFun e 3]; show 0 * 1690 + n.val = n.val; omega

/-- The value codes a point's block holds. -/
theorem codes6_at (b : Fin 6) (h : Fin 24) (d : Fin 72) (n : Fin 1690) : (iblk m c 6 (pt2 b h) : S1x1x72x1690.Idx → EReal) (ix4 0 0 d n) = m ((c.tc : Thread nD τ).loc main_arg2) (ix4 b n h d) := by
  refine Eq.trans ?_ (v6_at (fun r => m (c, r)) b h d n)
  have e := idx6 (pt2 b h)
  refine codes_idx (V m c main_v6) (((cfg0.win 6).blk (pt2 b h)).view.emb (ix4 0 0 d n)) b h d n ?_ ?_ ?_ ?_
  · blk_simp; rw [congrFun e 0]; rfl
  · blk_simp; rw [congrFun e 1]; rfl
  · blk_simp; rw [congrFun e 2]; show 0 * 72 + d.val = d.val; omega
  · blk_simp; rw [congrFun e 3]; show 0 * 1690 + n.val = n.val; omega

/-- Where a point reads a scale. -/
theorem scale_idx (b : Fin 6) (h : Fin 24) (g : Fin 5) (inb) (hn) (d : S720.Idx → EReal) :
    d ((Rect.unit (s := S720) (k0_off1 (grid0.coords (pt2 b h)) (BitVec.ofNat 32 g.val)) S1.size inb).toLoadRect.idx (Shape.Idx.first (s := S1) hn)) = d (ix1 ⟨120 * b.val + 24 * g.val + h.val, by omega⟩) := by
  refine congrArg d (funext fun a => Fin.ext ?_)
  match a with
  | ⟨0, _⟩ =>
    show k0_off1 (grid0.coords (pt2 b h)) (BitVec.ofNat 32 g.val) 0 + 1 * 0 = _
    rw [k0_off1_eq]
    show 120 * (grid0.coords (pt2 b h) 0).val + 24 * g.val + (grid0.coords (pt2 b h) 1).val + 1 * 0 = 120 * b.val + 24 * g.val + h.val
    rw [coord0, coord1]
    show 120 * ((24 * b.val + h.val) / 24) + 24 * g.val + (24 * b.val + h.val) % 24 + 1 * 0 = _
    omega

/-- The five scales a point reads. -/
theorem scalesD_at (b : Fin 6) (h : Fin 24) (g : Fin 5) (d : S720.Idx → EReal) :
    scalesD (F := Ideal) (grid0.coords (pt2 b h)) d g = d (ix1 ⟨120 * b.val + 24 * g.val + h.val, by omega⟩) := by
  match g with
  | 0 => exact scale_idx b h 0 _ _ d
  | 1 => exact scale_idx b h 1 _ _ d
  | 2 => exact scale_idx b h 2 _ _ d
  | 3 => exact scale_idx b h 3 _ _ d
  | 4 => exact scale_idx b h 4 _ _ d

/-- A scale at its place in the flat array. -/
theorem scale_flat (A : S6x5x24.Idx → EReal) (b : Fin 6) (h : Fin 24) (g : Fin 5) (p0 p1 p2) :
    A (ix3 ⟨(120 * b.val + 24 * g.val + h.val) / 120, p0⟩ ⟨(120 * b.val + 24 * g.val + h.val) / 24 % 5, p1⟩ ⟨(120 * b.val + 24 * g.val + h.val) % 24, p2⟩) = A (ix3 b g h) := by
  refine congrArg A (funext fun a => Fin.ext ?_)
  match a with
  | ⟨0, _⟩ => show (120 * b.val + 24 * g.val + h.val) / 120 = b.val; omega
  | ⟨1, _⟩ => show (120 * b.val + 24 * g.val + h.val) / 24 % 5 = g.val; omega
  | ⟨2, _⟩ => show (120 * b.val + 24 * g.val + h.val) % 24 = h.val; omega

/-- The query scales a point reads. -/
theorem scale1_at (b : Fin 6) (h : Fin 24) (g : Fin 5) : scalesD (F := Ideal) (grid0.coords (pt2 b h)) (iblk m c 1 (pt2 b h)) g = m ((c.tc : Thread nD τ).loc main_arg3) (ix3 b g h) := by
  rw [scalesD_at]
  refine Eq.trans ?_ ((v7_at (fun r => m (c, r)) ⟨120 * b.val + 24 * g.val + h.val, by omega⟩).trans (scale_flat (m (c, Proc.devRef .tc main_arg3)) b h g _ _ _))
  refine congrArg (V m c main_v7) (funext fun a => Fin.ext ?_)
  match a with
  | ⟨0, _⟩ => blk_simp; rw [congrFun (idx1 _) 0]; show 0 * 720 + _ = _; omega

/-- The key scales a point reads. -/
theorem scale2_at (b : Fin 6) (h : Fin 24) (g : Fin 5) : scalesD (F := Ideal) (grid0.coords (pt2 b h)) (iblk m c 2 (pt2 b h)) g = m ((c.tc : Thread nD τ).loc main_arg4) (ix3 b g h) := by
  rw [scalesD_at]
  refine Eq.trans ?_ ((v8_at (fun r => m (c, r)) ⟨120 * b.val + 24 * g.val + h.val, by omega⟩).trans (scale_flat (m (c, Proc.devRef .tc main_arg4)) b h g _ _ _))
  refine congrArg (V m c main_v8) (funext fun a => Fin.ext ?_)
  match a with
  | ⟨0, _⟩ => blk_simp; rw [congrFun (idx2 _) 0]; show 0 * 720 + _ = _; omega

/-- The value scales a point reads. -/
theorem scale3_at (b : Fin 6) (h : Fin 24) (g : Fin 5) : scalesD (F := Ideal) (grid0.coords (pt2 b h)) (iblk m c 3 (pt2 b h)) g = m ((c.tc : Thread nD τ).loc main_arg5) (ix3 b g h) := by
  rw [scalesD_at]
  refine Eq.trans ?_ ((v9_at (fun r => m (c, r)) ⟨120 * b.val + 24 * g.val + h.val, by omega⟩).trans (scale_flat (m (c, Proc.devRef .tc main_arg5)) b h g _ _ _))
  refine congrArg (V m c main_v9) (funext fun a => Fin.ext ?_)
  match a with
  | ⟨0, _⟩ => blk_simp; rw [congrFun (idx3 _) 0]; show 0 * 720 + _ = _; omega

/-- The kind word a point reads. -/
theorem word_at (b : Fin 6) (h : Fin 24) : wordD (F := Ideal) (grid0.coords (pt2 b h)) (iblk m c 0 (pt2 b h)) = StableHlo.after pre (fun r => m (c, r)) (Proc.devRef .tc main_v3) (ix1 h) := by
  unfold wordD
  refine congrArg (V m c main_v3) (funext fun a => Fin.ext ?_)
  match a with
  | ⟨0, _⟩ =>
    blk_simp; rw [congrFun (idx0 _) 0]; show 0 * 24 + (k0_off8 (grid0.coords (pt2 b h)) 0 + 1 * 0) = h.val
    rw [k0_off8_eq]; show 0 * 24 + ((grid0.coords (pt2 b h) 1).val + 1 * 0) = h.val
    rw [coord1]; show 0 * 24 + ((24 * b.val + h.val) % 24 + 1 * 0) = h.val; omega

end Cert.KernelIdeal.Hand
-- ==== Proof.KHead.lean ====
module

public import proofs.«01_k».proof.Proof.KArr
public import proofs.«01_k».proof.Proof.Sorts

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.Tactic
open Idealize.ShloMosaic.Pipeline

/-! ### What a point stores, from the arguments -/

/-- A column of a frame. -/
theorem headCol_frame (p0 p1 p2 p3 : S72x384.Idx → EReal) (pt : S72x160.Idx → EReal) (d : Fin 72) (n : Fin 1696) (hn : n.val < 1536) (G : Fin 4 → Fin 384 → EReal)
    (h0 : ∀ a, p0 (ix2 d a) = G 0 a) (h1 : ∀ a, p1 (ix2 d a) = G 1 a) (h2 : ∀ a, p2 (ix2 d a) = G 2 a) (h3 : ∀ a, p3 (ix2 d a) = G 3 a) :
    headCol (Val := Elt Ideal) (e := .f32) p0 p1 p2 p3 pt d n = G ⟨n.val / 384, by omega⟩ ⟨n.val % 384, Nat.mod_lt _ (by omega)⟩ := by
  have hG : ∀ (f f' : Fin 4) (a a' : Fin 384), f.val = f'.val → a.val = a'.val → G f a = G f' a' := fun f f' a a' hf ha => by rw [Fin.ext hf, Fin.ext ha]
  unfold headCol
  split_ifs with c0 c1 c2
  · exact (h0 _).trans (hG _ _ _ _ (by show 0 = n.val / 384; omega) (by show n.val = n.val % 384; omega))
  · exact (h1 _).trans (hG _ _ _ _ (by show 1 = n.val / 384; omega) (by show n.val - 384 = n.val % 384; omega))
  · exact (h2 _).trans (hG _ _ _ _ (by show 2 = n.val / 384; omega) (by show n.val - 768 = n.val % 384; omega))
  · exact (h3 _).trans (hG _ _ _ _ (by show 3 = n.val / 384; omega) (by show n.val - 1152 = n.val % 384; omega))

/-- A column of the text. -/
theorem headCol_text (p0 p1 p2 p3 : S72x384.Idx → EReal) (pt : S72x160.Idx → EReal) (d : Fin 72) (n : Fin 1696) (hn : ¬ n.val < 1536) :
    headCol (Val := Elt Ideal) (e := .f32) p0 p1 p2 p3 pt d n = pt (ix2 d ⟨n.val - 1536, by omega⟩) := by
  unfold headCol
  rw [dif_neg (by omega), dif_neg (by omega), dif_neg (by omega), dif_neg hn]

/-- A block's codes, by row. -/
theorem rows_codesD (x : S1x1x72x1690.Idx → EReal) (n : Fin 1690) (d : Fin 72) : rows (codesD (F := Ideal) x) n d = x (ix4 0 0 d n) := by
  refine congrArg x (funext fun a => Fin.ext ?_)
  match a with
  | ⟨0, _⟩ => rfl
  | ⟨1, _⟩ => rfl
  | ⟨2, _⟩ => show 0 + 1 * d.val = d.val; omega
  | ⟨3, _⟩ => show 0 + 1 * n.val = n.val; omega

/-- One frame of a block's codes, by row. -/
theorem codesFD_at (f : Fin 4) (o : ℕ) (ho : o = f.val * 384) (hb) (x : S1x1x72x1690.Idx → EReal) (a : Fin 384) (d : Fin 72) :
    codesFD (F := Ideal) o hb x (ix4 0 0 d a) = rows (codesD (F := Ideal) x) (fr f a) d := by
  rw [rows_codesD]
  subst ho
  refine congrArg x (funext fun i => Fin.ext ?_)
  match i with
  | ⟨0, _⟩ => rfl
  | ⟨1, _⟩ => rfl
  | ⟨2, _⟩ => show 0 + 1 * d.val = d.val; omega
  | ⟨3, _⟩ => show f.val * 384 + 1 * a.val = f.val * 384 + a.val; omega

section
variable (i : grid0.Coords) (d2 : S24.Idx → BitVec 32) (d3 d4 d5 : S720.Idx → EReal) (d6 d7 d8 : S1x1x72x1690.Idx → EReal)
  (hq : ∀ g, 0 < scalesD (F := Ideal) i d3 g) (hk : ∀ g, 0 < scalesD (F := Ideal) i d4 g) (d : Fin 72) (n : Fin 1696)

include hq hk in
set_option maxHeartbeats 4000000 in
/-- What a point stores is its head's attention. -/
theorem headD_at (hn : n.val < 1690) :
    headD (F := Ideal) i d2 d3 d4 d5 d6 d7 d8 d n
      = headSpec (rows (codesD (F := Ideal) d6)) (rows (codesD (F := Ideal) d7)) (rows (codesD (F := Ideal) d8)) (scalesD (F := Ideal) i d3) (scalesD (F := Ideal) i d4) (scalesD (F := Ideal) i d5)
        (wordD (F := Ideal) i d2 = 0#32) ⟨n.val, hn⟩ d := by
  unfold headD headSpec
  by_cases h : n.val < 1536
  · rw [dif_pos h]
    refine if_congr Iff.rfl ?_ ?_
    · unfold spatCol
      exact headCol_frame _ _ _ _ _ d n h (fun f a => spatO (rows (codesD (F := Ideal) d6)) (rows (codesD (F := Ideal) d7)) (rows (codesD (F := Ideal) d8)) (scalesD (F := Ideal) i d3) (scalesD (F := Ideal) i d4) (scalesD (F := Ideal) i d5) f a d)
        (fun a => spatP0_at _ _ _ _ _ _ a d hq hk)
        (fun a => spatP_at _ _ _ _ _ _ 1 a d hq hk (by decide) 384 rfl _ _ _)
        (fun a => spatP_at _ _ _ _ _ _ 2 a d hq hk (by decide) 768 rfl _ _ _)
        (fun a => spatP_at _ _ _ _ _ _ 3 a d hq hk (by decide) 1152 rfl _ _ _)
    · unfold tempCol
      exact headCol_frame _ _ _ _ _ d n h (fun f a => tempO (rows (codesD (F := Ideal) d6)) (rows (codesD (F := Ideal) d7)) (rows (codesD (F := Ideal) d8)) (scalesD (F := Ideal) i d3) (scalesD (F := Ideal) i d4) (scalesD (F := Ideal) i d5) f a d)
        (fun a => tempP_at _ _ _ _ _ _ 0 a d hq (hk 4) 0 rfl _ _ _ _ _ _ (codesFD_at 0 0 rfl _ d6 a) (codesFD_at 0 0 rfl _ d7 a) (codesFD_at 1 384 rfl _ d7 a) (codesFD_at 2 768 rfl _ d7 a) (codesFD_at 3 1152 rfl _ d7 a))
        (fun a => tempP_at _ _ _ _ _ _ 1 a d hq (hk 4) 384 rfl _ _ _ _ _ _ (codesFD_at 1 384 rfl _ d6 a) (codesFD_at 0 0 rfl _ d7 a) (codesFD_at 1 384 rfl _ d7 a) (codesFD_at 2 768 rfl _ d7 a) (codesFD_at 3 1152 rfl _ d7 a))
        (fun a => tempP_at _ _ _ _ _ _ 2 a d hq (hk 4) 768 rfl _ _ _ _ _ _ (codesFD_at 2 768 rfl _ d6 a) (codesFD_at 0 0 rfl _ d7 a) (codesFD_at 1 384 rfl _ d7 a) (codesFD_at 2 768 rfl _ d7 a) (codesFD_at 3 1152 rfl _ d7 a))
        (fun a => tempP_at _ _ _ _ _ _ 3 a d hq (hk 4) 1152 rfl _ _ _ _ _ _ (codesFD_at 3 1152 rfl _ d6 a) (codesFD_at 0 0 rfl _ d7 a) (codesFD_at 1 384 rfl _ d7 a) (codesFD_at 2 768 rfl _ d7 a) (codesFD_at 3 1152 rfl _ d7 a))
  · rw [dif_neg h]
    refine Eq.trans ?_ (textP_at _ _ _ _ _ _ _ d)
    unfold spatCol tempCol
    rw [headCol_text _ _ _ _ _ d n h, headCol_text _ _ _ _ _ d n h, ite_self]
end

variable (m : (ℓ : Loc nD τ sig) → Buf (Elt Ideal) ℓ) (c : Dev nD)

/-- What the kernel stores for a head of a batch is that head's attention on the arguments. -/
theorem hcol_at (b : Fin 6) (h : Fin 24) (hq : ∀ x : S6x5x24.Idx, @LT.lt EReal _ 0 (m ((c.tc : Thread nD τ).loc main_arg3) x)) (hk : ∀ x : S6x5x24.Idx, @LT.lt EReal _ 0 (m ((c.tc : Thread nD τ).loc main_arg4) x))
    (d : Fin 72) (n : Fin 1696) (hn : n.val < 1690) :
    hcol m c (pt2 b h) d n
      = headSpec (fun n d => (m ((c.tc : Thread nD τ).loc main_arg0) : S6x1690x24x72.Idx → EReal) (ix4 b n h d)) (fun n d => (m ((c.tc : Thread nD τ).loc main_arg1) : S6x1690x24x72.Idx → EReal) (ix4 b n h d)) (fun n d => (m ((c.tc : Thread nD τ).loc main_arg2) : S6x1690x24x72.Idx → EReal) (ix4 b n h d))
        (fun g => (m ((c.tc : Thread nD τ).loc main_arg3) : S6x5x24.Idx → EReal) (ix3 b g h)) (fun g => (m ((c.tc : Thread nD τ).loc main_arg4) : S6x5x24.Idx → EReal) (ix3 b g h)) (fun g => (m ((c.tc : Thread nD τ).loc main_arg5) : S6x5x24.Idx → EReal) (ix3 b g h))
        (StableHlo.after pre (fun r => m (c, r)) (Proc.devRef .tc main_v3) (ix1 h) = 0#32) ⟨n.val, hn⟩ d := by
  have e := headD_at (grid0.coords (pt2 b h)) (iblk m c 0 (pt2 b h)) (iblk m c 1 (pt2 b h)) (iblk m c 2 (pt2 b h)) (iblk m c 3 (pt2 b h)) (iblk m c 4 (pt2 b h)) (iblk m c 5 (pt2 b h)) (iblk m c 6 (pt2 b h))
    (fun g => lt_of_lt_of_eq (hq _) (scale1_at m c b h g).symm) (fun g => lt_of_lt_of_eq (hk _) (scale2_at m c b h g).symm) d n hn
  unfold hcol
  rw [e]
  have r6 := funext fun n => funext fun d => (rows_codesD (iblk m c 4 (pt2 b h)) n d).trans (codes4_at m c b h d n)
  have r7 := funext fun n => funext fun d => (rows_codesD (iblk m c 5 (pt2 b h)) n d).trans (codes5_at m c b h d n)
  have r8 := funext fun n => funext fun d => (rows_codesD (iblk m c 6 (pt2 b h)) n d).trans (codes6_at m c b h d n)
  have s3 := funext fun g => scale1_at m c b h g
  have s4 := funext fun g => scale2_at m c b h g
  have s5 := funext fun g => scale3_at m c b h g
  simp only [r6, r7, r8, s3, s4, s5, word_at]

end Cert.KernelIdeal.Hand
-- ==== Proof.RefOps.lean ====
module

public import proofs.«01_k».proof.Proof.Gen.ReferenceIdeal.Launch
public import proofs.«01_k».proof.Proof.Gen.ReferenceIdeal.Frame
public import proofs.«01_k».proof.Proof.Spec
public import Idealize.ShloMosaic.Lib.StableHlo.ReadAt
public import Idealize.ShloMosaic.Lib.StableHlo.RunRead
public import Idealize.ShloMosaic.Lib.Pipeline.Frame
public import Idealize.ShloMosaic.Lib.Pointwise
public import Idealize.ShloMosaic.PureOps.Ideal

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo

/-! ### The reference's host operations, each written once: the final contents satisfy every operation's equation -/

/-- The operations after the decoding call. -/
def allOps : List (HloOp τ sig (Elt Ideal)) := hostOps1 ++ (hostOps1_1 ++ (hostOps1_2 ++ (hostOps1_3 ++ hostOps1_4)))
/-- What they write, in order. -/
def allW : List (Ref sig .tc) := hostOps1_W ++ (hostOps1_1_W ++ (hostOps1_2_W ++ (hostOps1_3_W ++ hostOps1_4_W)))

/-- Each operation writes its one result. -/
theorem allOps_writes : allOps.map HloOp.writes = allW.map fun w => {Proc.devRef (τ := τ) .tc w} := rfl

/-- The contents after all of them. -/
def fin (V : Valuation τ sig (Elt Ideal)) : Valuation τ sig (Elt Ideal) := after allOps V

/-- What is not written from position `n` on is final there. -/
theorem fin_in (n : ℕ) (r : Ref sig .tc) (hr : r ∉ allW.drop n) (V : Valuation τ sig (Elt Ideal)) :
    after (allOps.take n) V (Proc.devRef .tc r) = fin V (Proc.devRef .tc r) := by
  have e : fin V = after (allOps.drop n) (after (allOps.take n) V) := by
    rw [← after_append, List.take_append_drop]; rfl
  rw [e]
  refine (after_unwritten (allW.drop n) ?_ hr _).symm
  rw [List.map_drop, allOps_writes, List.map_drop]

/-- What is not written after the `k` operations from position `n` on is final after them. -/
theorem fin_mid (n k : ℕ) (r : Ref sig .tc) (hr : r ∉ allW.drop (n + k)) (V : Valuation τ sig (Elt Ideal)) :
    fin V (Proc.devRef .tc r) = after ((allOps.drop n).take k) (after (allOps.take n) V) (Proc.devRef .tc r) := by
  rw [← fin_in (n + k) r hr V, List.take_add, after_append]

/-- Nothing written: as before. -/
theorem fin_old (r : Ref sig .tc) (hr : r ∉ allW) (V : Valuation τ sig (Elt Ideal)) : fin V (Proc.devRef .tc r) = V (Proc.devRef .tc r) :=
  (fin_in 0 r hr V).symm

/-- An entry as an extended real. -/
abbrev E (x : EReal) : EReal := x

/-- The test for frame 0. -/
theorem sel_eq {α : Type} (f : Fin 4) (a b : α) : Scalar.select (IntOp.cmpi CmpIPredicate.eq (BitVec.ofNat 32 f.val) 0#32) a b = if f = 0 then a else b := by
  fin_cases f <;> rfl

end Cert.ReferenceIdeal.Hand
-- ==== Proof.RefA.lean ====
module

public import proofs.«01_k».proof.Proof.RefOps

@[expose] public section

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.StableHlo

variable (V : Valuation τ sig (Elt Ideal))

/-! ### The text rows -/

set_option maxHeartbeats 4000000 in
/-- Scores of a text query. -/
theorem f_v31 (b : Fin 6) (h : Fin 24) (r : Fin 154) (j : Fin 1690) :
    fin V (Proc.devRef .tc main_v31) (ix4 b h r j) = (∑ x, E (fin V (Proc.devRef .tc main_v0_0) (ix4 b (tx r) h x)) * E (fin V (Proc.devRef .tc main_v0_1) (ix4 b j h x))) * (E (fin V (Proc.devRef .tc main_arg3) (ix3 b 4 h)) * Soft.S) * E (fin V (Proc.devRef .tc main_arg4) (ix3 b (g5 j) h)) := by
  rw [fin_mid 0 32 main_v31 (by decide +kernel), ← fin_in 0 main_v0_0 (by decide +kernel), ← fin_in 0 main_v0_1 (by decide +kernel), ← fin_in 0 main_arg3 (by decide +kernel), ← fin_in 0 main_arg4 (by decide +kernel)]
  generalize after (List.take 0 allOps) V = W
  simp only [allOps, hostOps1, hostOps1_1, hostOps1_2, hostOps1_3, hostOps1_4, List.cons_append, List.nil_append, List.drop_succ_cons, List.drop_zero, List.take_succ_cons, List.take_zero]
  repeat after_reads_at
  rw [Soft.ofBits_S]
  exact congrArg (fun z => _ * z) (gsel (fun g => W (Proc.devRef .tc main_arg4) (ix3 b g h)) j)

set_option maxHeartbeats 4000000 in
/-- A row's value scale. -/
theorem f_v19 (b : Fin 6) (h : Fin 24) (j : Fin 1690) :
    fin V (Proc.devRef .tc main_v19) (ix3 b h j) = fin V (Proc.devRef .tc main_arg5) (ix3 b (g5 j) h) := by
  rw [fin_mid 0 32 main_v19 (by decide +kernel), ← fin_in 0 main_arg5 (by decide +kernel)]
  generalize after (List.take 0 allOps) V = W
  simp only [allOps, hostOps1, hostOps1_1, hostOps1_2, hostOps1_3, hostOps1_4, List.cons_append, List.nil_append, List.drop_succ_cons, List.drop_zero, List.take_succ_cons, List.take_zero]
  repeat after_reads_at
  exact gsel (fun g => W (Proc.devRef .tc main_arg5) (ix3 b g h)) j

set_option maxHeartbeats 4000000 in
/-- The queries, head first. -/
theorem f_v1 (b : Fin 6) (h : Fin 24) (n : Fin 1690) (d : Fin 72) :
    fin V (Proc.devRef .tc main_v1) (ix4 b h n d) = fin V (Proc.devRef .tc main_v0_0) (ix4 b n h d) := by
  rw [fin_mid 0 32 main_v1 (by decide +kernel), ← fin_in 0 main_v0_0 (by decide +kernel)]
  generalize after (List.take 0 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- The keys, head first. -/
theorem f_v2 (b : Fin 6) (h : Fin 24) (n : Fin 1690) (d : Fin 72) :
    fin V (Proc.devRef .tc main_v2) (ix4 b h n d) = fin V (Proc.devRef .tc main_v0_1) (ix4 b n h d) := by
  rw [fin_mid 0 32 main_v2 (by decide +kernel), ← fin_in 0 main_v0_1 (by decide +kernel)]
  generalize after (List.take 0 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- The values, head first. -/
theorem f_v3 (b : Fin 6) (h : Fin 24) (n : Fin 1690) (d : Fin 72) :
    fin V (Proc.devRef .tc main_v3) (ix4 b h n d) = fin V (Proc.devRef .tc main_v0_2) (ix4 b n h d) := by
  rw [fin_mid 0 32 main_v3 (by decide +kernel), ← fin_in 0 main_v0_2 (by decide +kernel)]
  generalize after (List.take 0 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- A text row's output. -/
theorem f_v47 (b : Fin 6) (h : Fin 24) (r : Fin 154) (d : Fin 72) :
    fin V (Proc.devRef .tc main_v47) (ix4 b h r d) = soft1 (fun j : Fin 1690 => fin V (Proc.devRef .tc main_v31) (ix4 b h r j)) (fun j => fin V (Proc.devRef .tc main_v19) (ix3 b h j)) (fun j => fin V (Proc.devRef .tc main_v3) (ix4 b h j d)) := by
  rw [fin_mid 32 19 main_v47 (by decide +kernel), ← fin_in 32 main_v31 (by decide +kernel), ← fin_in 32 main_v19 (by decide +kernel), ← fin_in 32 main_v3 (by decide +kernel)]
  generalize after (List.take 32 allOps) V = W
  simp only [allOps, hostOps1, hostOps1_1, hostOps1_2, hostOps1_3, hostOps1_4, List.cons_append, List.nil_append, List.drop_succ_cons, List.drop_zero, List.take_succ_cons, List.take_zero]
  repeat after_reads_at
  rw [Soft.ofBits_bot]; rfl

end Cert.ReferenceIdeal.Hand
-- ==== Proof.RefB.lean ====
module

public import proofs.«01_k».proof.Proof.RefOps

@[expose] public section

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.StableHlo

variable (V : Valuation τ sig (Elt Ideal))

/-! ### The heads of each group, gathered -/

set_option maxHeartbeats 4000000 in
/-- A head of the group. -/
theorem f_v51 (b : Fin 6) (i : Fin 15) (n : Fin 1690) (d : Fin 72) :
    fin V (Proc.devRef .tc main_v51) (ix4 b i n d) = Host.gather gather_S6x24x1690x72_S15x1_S6x15x1690x72_023_1_n_n_1_1_61169072 (fin V (Proc.devRef .tc main_v1)) (broadcastInDim S15x1 ![0] bcast_S15_S15x1_0 (extractStridedSlice S15 ![0] (fin V (Proc.devRef .tc main_arg6)) slices_S24_S15_0)) (ix4 b i n d) := by
  rw [fin_mid 51 17 main_v51 (by decide +kernel), ← fin_in 51 main_v1 (by decide +kernel), ← fin_in 51 main_arg6 (by decide +kernel)]
  generalize after (List.take 51 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- A head of the group. -/
theorem f_v53 (b : Fin 6) (i : Fin 15) (n : Fin 1690) (d : Fin 72) :
    fin V (Proc.devRef .tc main_v53) (ix4 b i n d) = Host.gather gather_S6x24x1690x72_S15x1_S6x15x1690x72_023_1_n_n_1_1_61169072 (fin V (Proc.devRef .tc main_v2)) (broadcastInDim S15x1 ![0] bcast_S15_S15x1_0 (extractStridedSlice S15 ![0] (fin V (Proc.devRef .tc main_arg6)) slices_S24_S15_0)) (ix4 b i n d) := by
  rw [fin_mid 51 17 main_v53 (by decide +kernel), ← fin_in 51 main_v2 (by decide +kernel), ← fin_in 51 main_arg6 (by decide +kernel)]
  generalize after (List.take 51 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- A head of the group. -/
theorem f_v55 (b : Fin 6) (i : Fin 15) (n : Fin 1690) (d : Fin 72) :
    fin V (Proc.devRef .tc main_v55) (ix4 b i n d) = Host.gather gather_S6x24x1690x72_S15x1_S6x15x1690x72_023_1_n_n_1_1_61169072 (fin V (Proc.devRef .tc main_v3)) (broadcastInDim S15x1 ![0] bcast_S15_S15x1_0 (extractStridedSlice S15 ![0] (fin V (Proc.devRef .tc main_arg6)) slices_S24_S15_0)) (ix4 b i n d) := by
  rw [fin_mid 51 17 main_v55 (by decide +kernel), ← fin_in 51 main_v3 (by decide +kernel), ← fin_in 51 main_arg6 (by decide +kernel)]
  generalize after (List.take 51 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- Its scales. -/
theorem f_v58 (b : Fin 6) (i : Fin 15) (g : Fin 5) :
    fin V (Proc.devRef .tc main_v58) (ix3 b i g) = Host.gather gather_S6x5x24_S15x1_S6x5x15_01_2_n_n_2_1_651 (fin V (Proc.devRef .tc main_arg3)) (broadcastInDim S15x1 ![0] bcast_S15_S15x1_0 (extractStridedSlice S15 ![0] (fin V (Proc.devRef .tc main_arg6)) slices_S24_S15_0)) (ix3 b g i) := by
  rw [fin_mid 51 17 main_v58 (by decide +kernel), ← fin_in 51 main_arg3 (by decide +kernel), ← fin_in 51 main_arg6 (by decide +kernel)]
  generalize after (List.take 51 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- Its scales. -/
theorem f_v61 (b : Fin 6) (i : Fin 15) (g : Fin 5) :
    fin V (Proc.devRef .tc main_v61) (ix3 b i g) = Host.gather gather_S6x5x24_S15x1_S6x5x15_01_2_n_n_2_1_651 (fin V (Proc.devRef .tc main_arg4)) (broadcastInDim S15x1 ![0] bcast_S15_S15x1_0 (extractStridedSlice S15 ![0] (fin V (Proc.devRef .tc main_arg6)) slices_S24_S15_0)) (ix3 b g i) := by
  rw [fin_mid 51 17 main_v61 (by decide +kernel), ← fin_in 51 main_arg4 (by decide +kernel), ← fin_in 51 main_arg6 (by decide +kernel)]
  generalize after (List.take 51 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- Its scales. -/
theorem f_v64 (b : Fin 6) (i : Fin 15) (g : Fin 5) :
    fin V (Proc.devRef .tc main_v64) (ix3 b i g) = Host.gather gather_S6x5x24_S15x1_S6x5x15_01_2_n_n_2_1_651 (fin V (Proc.devRef .tc main_arg5)) (broadcastInDim S15x1 ![0] bcast_S15_S15x1_0 (extractStridedSlice S15 ![0] (fin V (Proc.devRef .tc main_arg6)) slices_S24_S15_0)) (ix3 b g i) := by
  rw [fin_mid 51 17 main_v64 (by decide +kernel), ← fin_in 51 main_arg5 (by decide +kernel), ← fin_in 51 main_arg6 (by decide +kernel)]
  generalize after (List.take 51 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- The last nine heads. -/
theorem f_v49 (i : Fin 9) :
    fin V (Proc.devRef .tc main_v49) (ix1 i) = fin V (Proc.devRef .tc main_arg6) (ix1 ⟨15 + i.val, by omega⟩) := by
  rw [fin_mid 51 17 main_v49 (by decide +kernel), ← fin_in 51 main_arg6 (by decide +kernel)]
  generalize after (List.take 51 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- A head of the group. -/
theorem f_v177 (b : Fin 6) (i : Fin 9) (n : Fin 1690) (d : Fin 72) :
    fin V (Proc.devRef .tc main_v177) (ix4 b i n d) = Host.gather gather_S6x24x1690x72_S9x1_S6x9x1690x72_023_1_n_n_1_1_61169072 (fin V (Proc.devRef .tc main_v1)) (broadcastInDim S9x1 ![0] bcast_S9_S9x1_0 (fin V (Proc.devRef .tc main_v49))) (ix4 b i n d) := by
  rw [fin_mid 194 15 main_v177 (by decide +kernel), ← fin_in 194 main_v1 (by decide +kernel), ← fin_in 194 main_v49 (by decide +kernel)]
  generalize after (List.take 194 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- A head of the group. -/
theorem f_v179 (b : Fin 6) (i : Fin 9) (n : Fin 1690) (d : Fin 72) :
    fin V (Proc.devRef .tc main_v179) (ix4 b i n d) = Host.gather gather_S6x24x1690x72_S9x1_S6x9x1690x72_023_1_n_n_1_1_61169072 (fin V (Proc.devRef .tc main_v2)) (broadcastInDim S9x1 ![0] bcast_S9_S9x1_0 (fin V (Proc.devRef .tc main_v49))) (ix4 b i n d) := by
  rw [fin_mid 194 15 main_v179 (by decide +kernel), ← fin_in 194 main_v2 (by decide +kernel), ← fin_in 194 main_v49 (by decide +kernel)]
  generalize after (List.take 194 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- A head of the group. -/
theorem f_v181 (b : Fin 6) (i : Fin 9) (n : Fin 1690) (d : Fin 72) :
    fin V (Proc.devRef .tc main_v181) (ix4 b i n d) = Host.gather gather_S6x24x1690x72_S9x1_S6x9x1690x72_023_1_n_n_1_1_61169072 (fin V (Proc.devRef .tc main_v3)) (broadcastInDim S9x1 ![0] bcast_S9_S9x1_0 (fin V (Proc.devRef .tc main_v49))) (ix4 b i n d) := by
  rw [fin_mid 194 15 main_v181 (by decide +kernel), ← fin_in 194 main_v3 (by decide +kernel), ← fin_in 194 main_v49 (by decide +kernel)]
  generalize after (List.take 194 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- Its scales. -/
theorem f_v184 (b : Fin 6) (i : Fin 9) (g : Fin 5) :
    fin V (Proc.devRef .tc main_v184) (ix3 b i g) = Host.gather gather_S6x5x24_S9x1_S6x5x9_01_2_n_n_2_1_651 (fin V (Proc.devRef .tc main_arg3)) (broadcastInDim S9x1 ![0] bcast_S9_S9x1_0 (fin V (Proc.devRef .tc main_v49))) (ix3 b g i) := by
  rw [fin_mid 194 15 main_v184 (by decide +kernel), ← fin_in 194 main_arg3 (by decide +kernel), ← fin_in 194 main_v49 (by decide +kernel)]
  generalize after (List.take 194 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- Its scales. -/
theorem f_v187 (b : Fin 6) (i : Fin 9) (g : Fin 5) :
    fin V (Proc.devRef .tc main_v187) (ix3 b i g) = Host.gather gather_S6x5x24_S9x1_S6x5x9_01_2_n_n_2_1_651 (fin V (Proc.devRef .tc main_arg4)) (broadcastInDim S9x1 ![0] bcast_S9_S9x1_0 (fin V (Proc.devRef .tc main_v49))) (ix3 b g i) := by
  rw [fin_mid 194 15 main_v187 (by decide +kernel), ← fin_in 194 main_arg4 (by decide +kernel), ← fin_in 194 main_v49 (by decide +kernel)]
  generalize after (List.take 194 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- Its scales. -/
theorem f_v190 (b : Fin 6) (i : Fin 9) (g : Fin 5) :
    fin V (Proc.devRef .tc main_v190) (ix3 b i g) = Host.gather gather_S6x5x24_S9x1_S6x5x9_01_2_n_n_2_1_651 (fin V (Proc.devRef .tc main_arg5)) (broadcastInDim S9x1 ![0] bcast_S9_S9x1_0 (fin V (Proc.devRef .tc main_v49))) (ix3 b g i) := by
  rw [fin_mid 194 15 main_v190 (by decide +kernel), ← fin_in 194 main_arg5 (by decide +kernel), ← fin_in 194 main_v49 (by decide +kernel)]
  generalize after (List.take 194 allOps) V = W
  simp only [allOps, hostOps1, hostOps1_1, hostOps1_2, hostOps1_3, hostOps1_4, List.cons_append, List.nil_append, List.drop_succ_cons, List.drop_zero, List.take_succ_cons, List.take_zero]
  repeat after_reads_at

end Cert.ReferenceIdeal.Hand
-- ==== Proof.RefC.lean ====
module

public import proofs.«01_k».proof.Proof.RefOps

@[expose] public section

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.StableHlo

variable (V : Valuation τ sig (Elt Ideal))

/-! ### The scores of the spatial heads -/

set_option maxHeartbeats 4000000 in
/-- Values by frame. -/
theorem f_v70 (b : Fin 6) (i : Fin 15) (f : Fin 4) (j : Fin 384) (d : Fin 72) :
    fin V (Proc.devRef .tc main_v70) (ix5 b i f j d) = fin V (Proc.devRef .tc main_v55) (ix4 b i (fr f j) d) := by
  rw [fin_mid 68 67 main_v70 (by decide +kernel), ← fin_in 68 main_v55 (by decide +kernel)]
  generalize after (List.take 68 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- Frame 0's values. -/
theorem f_v83 (b : Fin 6) (i : Fin 15) (j : Fin 384) (d : Fin 72) :
    fin V (Proc.devRef .tc main_v83) (ix4 b i j d) = fin V (Proc.devRef .tc main_v55) (ix4 b i ⟨j.val, by omega⟩ d) := by
  rw [fin_mid 68 67 main_v83 (by decide +kernel), ← fin_in 68 main_v55 (by decide +kernel)]
  generalize after (List.take 68 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- The text's values. -/
theorem f_v72 (b : Fin 6) (i : Fin 15) (j : Fin 154) (d : Fin 72) :
    fin V (Proc.devRef .tc main_v72) (ix4 b i j d) = fin V (Proc.devRef .tc main_v55) (ix4 b i (tx j) d) := by
  rw [fin_mid 68 67 main_v72 (by decide +kernel), ← fin_in 68 main_v55 (by decide +kernel)]
  generalize after (List.take 68 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- A frame's value scale. -/
theorem f_v104 (b : Fin 6) (i : Fin 15) (f : Fin 4) :
    fin V (Proc.devRef .tc main_v104) (ix5 b i f 0 0) = fin V (Proc.devRef .tc main_v64) (ix3 b i (f5 f)) := by
  rw [fin_mid 68 67 main_v104 (by decide +kernel), ← fin_in 68 main_v64 (by decide +kernel)]
  generalize after (List.take 68 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- Frame 0's value scale. -/
theorem f_v105 (b : Fin 6) (i : Fin 15)  :
    fin V (Proc.devRef .tc main_v105) (ix5 b i 0 0 0) = fin V (Proc.devRef .tc main_v64) (ix3 b i 0) := by
  rw [fin_mid 68 67 main_v105 (by decide +kernel), ← fin_in 68 main_v64 (by decide +kernel)]
  generalize after (List.take 68 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- The text's value scale. -/
theorem f_v106 (b : Fin 6) (i : Fin 15)  :
    fin V (Proc.devRef .tc main_v106) (ix5 b i 0 0 0) = fin V (Proc.devRef .tc main_v64) (ix3 b i 4) := by
  rw [fin_mid 68 67 main_v106 (by decide +kernel), ← fin_in 68 main_v64 (by decide +kernel)]
  generalize after (List.take 68 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- Scores against the own frame. -/
theorem f_v110 (b : Fin 6) (i : Fin 15) (f : Fin 4) (a j : Fin 384) :
    fin V (Proc.devRef .tc main_v110) (ix5 b i f a j) = (∑ x, E (fin V (Proc.devRef .tc main_v51) (ix4 b i (fr f a) x)) * E (fin V (Proc.devRef .tc main_v53) (ix4 b i (fr f j) x))) * (E (fin V (Proc.devRef .tc main_v58) (ix3 b i (f5 f))) * E (fin V (Proc.devRef .tc main_v61) (ix3 b i (f5 f))) * Soft.S) := by
  rw [fin_mid 68 67 main_v110 (by decide +kernel), ← fin_in 68 main_v51 (by decide +kernel), ← fin_in 68 main_v53 (by decide +kernel), ← fin_in 68 main_v58 (by decide +kernel), ← fin_in 68 main_v61 (by decide +kernel)]
  generalize after (List.take 68 allOps) V = W
  simp only [allOps, hostOps1, hostOps1_1, hostOps1_2, hostOps1_3, hostOps1_4, List.cons_append, List.nil_append, List.drop_succ_cons, List.drop_zero, List.take_succ_cons, List.take_zero]
  repeat after_reads_at
  rw [Soft.ofBits_S]

set_option maxHeartbeats 4000000 in
/-- Scores against frame 0. -/
theorem f_v119 (b : Fin 6) (i : Fin 15) (f : Fin 4) (a j : Fin 384) :
    fin V (Proc.devRef .tc main_v119) (ix5 b i f a j) = if f = 0 then ⊥ else (∑ x, E (fin V (Proc.devRef .tc main_v51) (ix4 b i (fr f a) x)) * E (fin V (Proc.devRef .tc main_v53) (ix4 b i ⟨j.val, by omega⟩ x))) * (E (fin V (Proc.devRef .tc main_v58) (ix3 b i (f5 f))) * E (fin V (Proc.devRef .tc main_v61) (ix3 b i 0)) * Soft.S) := by
  rw [fin_mid 68 67 main_v119 (by decide +kernel), ← fin_in 68 main_v51 (by decide +kernel), ← fin_in 68 main_v53 (by decide +kernel), ← fin_in 68 main_v58 (by decide +kernel), ← fin_in 68 main_v61 (by decide +kernel)]
  generalize after (List.take 68 allOps) V = W
  simp only [allOps, hostOps1, hostOps1_1, hostOps1_2, hostOps1_3, hostOps1_4, List.cons_append, List.nil_append, List.drop_succ_cons, List.drop_zero, List.take_succ_cons, List.take_zero]
  repeat after_reads_at
  simp only [Nat.div_add_mod', Soft.ofBits_S]
  refine (sel_eq f _ _).trans ?_
  exact congrArg (fun z => if f = 0 then z else _) Soft.ofBits_bot

set_option maxHeartbeats 4000000 in
/-- Scores against the text. -/
theorem f_v123 (b : Fin 6) (i : Fin 15) (f : Fin 4) (a : Fin 384) (j : Fin 154) :
    fin V (Proc.devRef .tc main_v123) (ix5 b i f a j) = (∑ x, E (fin V (Proc.devRef .tc main_v51) (ix4 b i (fr f a) x)) * E (fin V (Proc.devRef .tc main_v53) (ix4 b i (tx j) x))) * (E (fin V (Proc.devRef .tc main_v58) (ix3 b i (f5 f))) * E (fin V (Proc.devRef .tc main_v61) (ix3 b i 4)) * Soft.S) := by
  rw [fin_mid 68 67 main_v123 (by decide +kernel), ← fin_in 68 main_v51 (by decide +kernel), ← fin_in 68 main_v53 (by decide +kernel), ← fin_in 68 main_v58 (by decide +kernel), ← fin_in 68 main_v61 (by decide +kernel)]
  generalize after (List.take 68 allOps) V = W
  simp only [allOps, hostOps1, hostOps1_1, hostOps1_2, hostOps1_3, hostOps1_4, List.cons_append, List.nil_append, List.drop_succ_cons, List.drop_zero, List.take_succ_cons, List.take_zero]
  repeat after_reads_at
  simp only [Nat.div_add_mod', Soft.ofBits_S]

end Cert.ReferenceIdeal.Hand
-- ==== Proof.RefD.lean ====
module

public import proofs.«01_k».proof.Proof.RefOps

@[expose] public section

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.StableHlo

variable (V : Valuation τ sig (Elt Ideal))

/-! ### The largest scores of the spatial heads -/

set_option maxHeartbeats 4000000 in
/-- Largest own score. -/
theorem f_v125 (b : Fin 6) (i : Fin 15) (f : Fin 4) (a : Fin 384) :
    fin V (Proc.devRef .tc main_v125) (ix5 b i f a 0) = Finset.univ.sup fun j => E (fin V (Proc.devRef .tc main_v110) (ix5 b i f a j)) := by
  rw [fin_mid 135 6 main_v125 (by decide +kernel), ← fin_in 135 main_v110 (by decide +kernel)]
  generalize after (List.take 135 allOps) V = W
  simp only [allOps, hostOps1, hostOps1_1, hostOps1_2, hostOps1_3, hostOps1_4, List.cons_append, List.nil_append, List.drop_succ_cons, List.drop_zero, List.take_succ_cons, List.take_zero]
  repeat after_reads_at
  rw [Soft.ofBits_bot]; rfl

set_option maxHeartbeats 4000000 in
/-- Largest score against frame 0. -/
theorem f_v127 (b : Fin 6) (i : Fin 15) (f : Fin 4) (a : Fin 384) :
    fin V (Proc.devRef .tc main_v127) (ix5 b i f a 0) = Finset.univ.sup fun j => E (fin V (Proc.devRef .tc main_v119) (ix5 b i f a j)) := by
  rw [fin_mid 135 6 main_v127 (by decide +kernel), ← fin_in 135 main_v119 (by decide +kernel)]
  generalize after (List.take 135 allOps) V = W
  simp only [allOps, hostOps1, hostOps1_1, hostOps1_2, hostOps1_3, hostOps1_4, List.cons_append, List.nil_append, List.drop_succ_cons, List.drop_zero, List.take_succ_cons, List.take_zero]
  repeat after_reads_at
  rw [Soft.ofBits_bot]; rfl

/-- A maximum of arrays, read at an index. -/
theorem maxf_at {s : Shape} (x y : FVec Ideal s .f32) (i : s.Idx) : maximumf x y i = max (E (x i)) (E (y i)) := by
  rw [maximumf_apply, Ideal.maximumf_eq_max]

/-- The maximum, as whole arrays. -/
theorem v128_eq : fin V (Proc.devRef .tc main_v128) = maximumf (F := Ideal) (φ := .f32) (fin V (Proc.devRef .tc main_v125)) (fin V (Proc.devRef .tc main_v127)) := by
  rw [fin_mid 141 1 main_v128 (by decide +kernel), ← fin_in 141 main_v125 (by decide +kernel), ← fin_in 141 main_v127 (by decide +kernel)]
  generalize after (List.take 141 allOps) V = W
  simp only [allOps, hostOps1, hostOps1_1, hostOps1_2, hostOps1_3, hostOps1_4, List.cons_append, List.nil_append, List.drop_succ_cons, List.drop_zero, List.take_succ_cons, List.take_zero]
  after_reads_simp

/-- The larger of both. -/
theorem f_v128 (b : Fin 6) (i : Fin 15) (f : Fin 4) (a : Fin 384) :
    fin V (Proc.devRef .tc main_v128) (ix5 b i f a 0) = max (E (fin V (Proc.devRef .tc main_v125) (ix5 b i f a 0))) (E (fin V (Proc.devRef .tc main_v127) (ix5 b i f a 0))) :=
  (congrFun (v128_eq V) (ix5 b i f a 0)).trans (maxf_at _ _ _)

set_option maxHeartbeats 4000000 in
/-- Largest score against the text. -/
theorem f_v130 (b : Fin 6) (i : Fin 15) (f : Fin 4) (a : Fin 384) :
    fin V (Proc.devRef .tc main_v130) (ix5 b i f a 0) = Finset.univ.sup fun j => E (fin V (Proc.devRef .tc main_v123) (ix5 b i f a j)) := by
  rw [fin_mid 142 3 main_v130 (by decide +kernel), ← fin_in 142 main_v123 (by decide +kernel)]
  generalize after (List.take 142 allOps) V = W
  simp only [allOps, hostOps1, hostOps1_1, hostOps1_2, hostOps1_3, hostOps1_4, List.cons_append, List.nil_append, List.drop_succ_cons, List.drop_zero, List.take_succ_cons, List.take_zero]
  repeat after_reads_at
  rw [Soft.ofBits_bot]; rfl

/-- The maximum, as whole arrays. -/
theorem v131_eq : fin V (Proc.devRef .tc main_v131) = maximumf (F := Ideal) (φ := .f32) (fin V (Proc.devRef .tc main_v128)) (fin V (Proc.devRef .tc main_v130)) := by
  rw [fin_mid 145 1 main_v131 (by decide +kernel), ← fin_in 145 main_v128 (by decide +kernel), ← fin_in 145 main_v130 (by decide +kernel)]
  generalize after (List.take 145 allOps) V = W
  simp only [allOps, hostOps1, hostOps1_1, hostOps1_2, hostOps1_3, hostOps1_4, List.cons_append, List.nil_append, List.drop_succ_cons, List.drop_zero, List.take_succ_cons, List.take_zero]
  after_reads_simp

/-- The largest of all. -/
theorem f_v131 (b : Fin 6) (i : Fin 15) (f : Fin 4) (a : Fin 384) :
    fin V (Proc.devRef .tc main_v131) (ix5 b i f a 0) = max (E (fin V (Proc.devRef .tc main_v128) (ix5 b i f a 0))) (E (fin V (Proc.devRef .tc main_v130) (ix5 b i f a 0))) :=
  (congrFun (v131_eq V) (ix5 b i f a 0)).trans (maxf_at _ _ _)

end Cert.ReferenceIdeal.Hand
-- ==== Proof.RefE.lean ====
module

public import proofs.«01_k».proof.Proof.RefOps

@[expose] public section

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.StableHlo

variable (V : Valuation τ sig (Elt Ideal))

/-! ### The temporal heads -/

set_option maxHeartbeats 4000000 in
/-- Scores against the keys at the query's place. -/
theorem f_v227 (b : Fin 6) (i : Fin 9) (a : Fin 384) (f g : Fin 4) :
    fin V (Proc.devRef .tc main_v227) (ix5 b i a f g) = (∑ x, E (fin V (Proc.devRef .tc main_v177) (ix4 b i (fr f a) x)) * E (fin V (Proc.devRef .tc main_v179) (ix4 b i (fr g a) x))) * (E (fin V (Proc.devRef .tc main_v184) (ix3 b i (f5 f))) * E (fin V (Proc.devRef .tc main_v187) (ix3 b i (f5 g))) * Soft.S) := by
  rw [fin_mid 209 42 main_v227 (by decide +kernel), ← fin_in 209 main_v177 (by decide +kernel), ← fin_in 209 main_v179 (by decide +kernel), ← fin_in 209 main_v184 (by decide +kernel), ← fin_in 209 main_v187 (by decide +kernel)]
  generalize after (List.take 209 allOps) V = W
  simp only [allOps, hostOps1, hostOps1_1, hostOps1_2, hostOps1_3, hostOps1_4, List.cons_append, List.nil_append, List.drop_succ_cons, List.drop_zero, List.take_succ_cons, List.take_zero]
  repeat after_reads_at
  rw [Soft.ofBits_S]

set_option maxHeartbeats 4000000 in
/-- Scores against the text. -/
theorem f_v230 (b : Fin 6) (i : Fin 9) (a : Fin 384) (f : Fin 4) (j : Fin 154) :
    fin V (Proc.devRef .tc main_v230) (ix5 b i a f j) = (∑ x, E (fin V (Proc.devRef .tc main_v177) (ix4 b i (fr f a) x)) * E (fin V (Proc.devRef .tc main_v179) (ix4 b i (tx j) x))) * (E (fin V (Proc.devRef .tc main_v184) (ix3 b i (f5 f))) * E (fin V (Proc.devRef .tc main_v187) (ix3 b i 4)) * Soft.S) := by
  rw [fin_mid 209 42 main_v230 (by decide +kernel), ← fin_in 209 main_v177 (by decide +kernel), ← fin_in 209 main_v179 (by decide +kernel), ← fin_in 209 main_v184 (by decide +kernel), ← fin_in 209 main_v187 (by decide +kernel)]
  generalize after (List.take 209 allOps) V = W
  simp only [allOps, hostOps1, hostOps1_1, hostOps1_2, hostOps1_3, hostOps1_4, List.cons_append, List.nil_append, List.drop_succ_cons, List.drop_zero, List.take_succ_cons, List.take_zero]
  repeat after_reads_at
  rw [Soft.ofBits_S]

set_option maxHeartbeats 4000000 in
/-- Values by place and frame. -/
theorem f_v208 (b : Fin 6) (i : Fin 9) (a : Fin 384) (g : Fin 4) (d : Fin 72) :
    fin V (Proc.devRef .tc main_v208) (ix5 b i a g d) = fin V (Proc.devRef .tc main_v181) (ix4 b i (fr g a) d) := by
  rw [fin_mid 209 42 main_v208 (by decide +kernel), ← fin_in 209 main_v181 (by decide +kernel)]
  generalize after (List.take 209 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- The text's values. -/
theorem f_v198 (b : Fin 6) (i : Fin 9) (j : Fin 154) (d : Fin 72) :
    fin V (Proc.devRef .tc main_v198) (ix4 b i j d) = fin V (Proc.devRef .tc main_v181) (ix4 b i (tx j) d) := by
  rw [fin_mid 209 42 main_v198 (by decide +kernel), ← fin_in 209 main_v181 (by decide +kernel)]
  generalize after (List.take 209 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- A frame's value scale. -/
theorem f_v223 (b : Fin 6) (i : Fin 9) (g : Fin 4) :
    fin V (Proc.devRef .tc main_v223) (ix5 b i 0 0 g) = fin V (Proc.devRef .tc main_v190) (ix3 b i (f5 g)) := by
  rw [fin_mid 209 42 main_v223 (by decide +kernel), ← fin_in 209 main_v190 (by decide +kernel)]
  generalize after (List.take 209 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- The text's value scale. -/
theorem f_v224 (b : Fin 6) (i : Fin 9)  :
    fin V (Proc.devRef .tc main_v224) (ix5 b i 0 0 0) = fin V (Proc.devRef .tc main_v190) (ix3 b i 4) := by
  rw [fin_mid 209 42 main_v224 (by decide +kernel), ← fin_in 209 main_v190 (by decide +kernel)]
  generalize after (List.take 209 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- Largest frame score. -/
theorem f_v232 (b : Fin 6) (i : Fin 9) (a : Fin 384) (f : Fin 4) :
    fin V (Proc.devRef .tc main_v232) (ix5 b i a f 0) = Finset.univ.sup fun j => E (fin V (Proc.devRef .tc main_v227) (ix5 b i a f j)) := by
  rw [fin_mid 251 6 main_v232 (by decide +kernel), ← fin_in 251 main_v227 (by decide +kernel)]
  generalize after (List.take 251 allOps) V = W
  simp only [allOps, hostOps1, hostOps1_1, hostOps1_2, hostOps1_3, hostOps1_4, List.cons_append, List.nil_append, List.drop_succ_cons, List.drop_zero, List.take_succ_cons, List.take_zero]
  repeat after_reads_at
  rw [Soft.ofBits_bot]; rfl

set_option maxHeartbeats 4000000 in
/-- Largest text score. -/
theorem f_v234 (b : Fin 6) (i : Fin 9) (a : Fin 384) (f : Fin 4) :
    fin V (Proc.devRef .tc main_v234) (ix5 b i a f 0) = Finset.univ.sup fun j => E (fin V (Proc.devRef .tc main_v230) (ix5 b i a f j)) := by
  rw [fin_mid 251 6 main_v234 (by decide +kernel), ← fin_in 251 main_v230 (by decide +kernel)]
  generalize after (List.take 251 allOps) V = W
  simp only [allOps, hostOps1, hostOps1_1, hostOps1_2, hostOps1_3, hostOps1_4, List.cons_append, List.nil_append, List.drop_succ_cons, List.drop_zero, List.take_succ_cons, List.take_zero]
  repeat after_reads_at
  rw [Soft.ofBits_bot]; rfl

set_option maxHeartbeats 4000000 in
/-- The larger of both. -/
theorem f_v235 (b : Fin 6) (i : Fin 9) (a : Fin 384) (f : Fin 4) :
    fin V (Proc.devRef .tc main_v235) (ix5 b i a f 0) = max (E (fin V (Proc.devRef .tc main_v232) (ix5 b i a f 0))) (E (fin V (Proc.devRef .tc main_v234) (ix5 b i a f 0))) := by
  rw [fin_mid 257 1 main_v235 (by decide +kernel), ← fin_in 257 main_v232 (by decide +kernel), ← fin_in 257 main_v234 (by decide +kernel)]
  generalize after (List.take 257 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- Exponentials. -/
theorem f_v238 (b : Fin 6) (i : Fin 9) (a : Fin 384) (f : Fin 4) (j : Fin 4) :
    fin V (Proc.devRef .tc main_v238) (ix5 b i a f j) = Ideal.exp (E (fin V (Proc.devRef .tc main_v227) (ix5 b i a f j)) - E (fin V (Proc.devRef .tc main_v235) (ix5 b i a f 0))) := by
  rw [fin_mid 258 16 main_v238 (by decide +kernel), ← fin_in 258 main_v227 (by decide +kernel), ← fin_in 258 main_v235 (by decide +kernel)]
  generalize after (List.take 258 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- Exponentials. -/
theorem f_v241 (b : Fin 6) (i : Fin 9) (a : Fin 384) (f : Fin 4) (j : Fin 154) :
    fin V (Proc.devRef .tc main_v241) (ix5 b i a f j) = Ideal.exp (E (fin V (Proc.devRef .tc main_v230) (ix5 b i a f j)) - E (fin V (Proc.devRef .tc main_v235) (ix5 b i a f 0))) := by
  rw [fin_mid 258 16 main_v241 (by decide +kernel), ← fin_in 258 main_v230 (by decide +kernel), ← fin_in 258 main_v235 (by decide +kernel)]
  generalize after (List.take 258 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- The reciprocal of their sum. -/
theorem f_v248 (b : Fin 6) (i : Fin 9) (a : Fin 384) (f : Fin 4) :
    fin V (Proc.devRef .tc main_v248) (ix5 b i a f 0) = Ideal.div 1 (∑ j, Ideal.exp (E (fin V (Proc.devRef .tc main_v227) (ix5 b i a f j)) - E (fin V (Proc.devRef .tc main_v235) (ix5 b i a f 0))) + ∑ j, Ideal.exp (E (fin V (Proc.devRef .tc main_v230) (ix5 b i a f j)) - E (fin V (Proc.devRef .tc main_v235) (ix5 b i a f 0)))) := by
  rw [fin_mid 258 16 main_v248 (by decide +kernel), ← fin_in 258 main_v227 (by decide +kernel), ← fin_in 258 main_v235 (by decide +kernel), ← fin_in 258 main_v230 (by decide +kernel)]
  generalize after (List.take 258 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- A temporal head's row. -/
theorem f_v263 (b : Fin 6) (i : Fin 9) (n : Fin 1536) (d : Fin 72) :
    fin V (Proc.devRef .tc main_v263) (ix4 b i n d) = ∑ x, E (fin V (Proc.devRef .tc main_v238) (ix5 b i ⟨n.val % 384, by omega⟩ ⟨n.val / 384, by omega⟩ x)) * E (fin V (Proc.devRef .tc main_v248) (ix5 b i ⟨n.val % 384, by omega⟩ ⟨n.val / 384, by omega⟩ 0)) * E (fin V (Proc.devRef .tc main_v223) (ix5 b i 0 0 x)) * E (fin V (Proc.devRef .tc main_v208) (ix5 b i ⟨n.val % 384, by omega⟩ x d)) + ∑ x, E (fin V (Proc.devRef .tc main_v241) (ix5 b i ⟨n.val % 384, by omega⟩ ⟨n.val / 384, by omega⟩ x)) * E (fin V (Proc.devRef .tc main_v248) (ix5 b i ⟨n.val % 384, by omega⟩ ⟨n.val / 384, by omega⟩ 0)) * E (fin V (Proc.devRef .tc main_v224) (ix5 b i 0 0 0)) * E (fin V (Proc.devRef .tc main_v198) (ix4 b i x d)) := by
  rw [fin_mid 274 15 main_v263 (by decide +kernel), ← fin_in 274 main_v238 (by decide +kernel), ← fin_in 274 main_v248 (by decide +kernel), ← fin_in 274 main_v223 (by decide +kernel), ← fin_in 274 main_v208 (by decide +kernel), ← fin_in 274 main_v241 (by decide +kernel), ← fin_in 274 main_v224 (by decide +kernel), ← fin_in 274 main_v198 (by decide +kernel)]
  generalize after (List.take 274 allOps) V = W
  simp only [allOps, hostOps1, hostOps1_1, hostOps1_2, hostOps1_3, hostOps1_4, List.cons_append, List.nil_append, List.drop_succ_cons, List.drop_zero, List.take_succ_cons, List.take_zero]
  repeat after_reads_at

end Cert.ReferenceIdeal.Hand
-- ==== Proof.RefF.lean ====
module

public import proofs.«01_k».proof.Proof.RefOps

@[expose] public section

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.StableHlo

variable (V : Valuation τ sig (Elt Ideal))

/-! ### The result -/

set_option maxHeartbeats 4000000 in
/-- Both groups, one after the other. -/
theorem f_v264 (b : Fin 6) (h : Fin 24) (n : Fin 1536) (d : Fin 72) :
    fin V (Proc.devRef .tc main_v264) (ix4 b h n d) = if hh : h.val < 15 then fin V (Proc.devRef .tc main_v175) (ix4 b ⟨h.val, hh⟩ n d) else fin V (Proc.devRef .tc main_v263) (ix4 b ⟨h.val - 15, by omega⟩ n d) := by
  rw [fin_mid 289 1 main_v264 (by decide +kernel), ← fin_in 289 main_v175 (by decide +kernel), ← fin_in 289 main_v263 (by decide +kernel)]
  generalize after (List.take 289 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- The result. -/
theorem f_v271 (b : Fin 6) (n : Fin 1690) (x : Fin 1728) :
    fin V (Proc.devRef .tc main_v271) (ix3 b n x) = if hn : n.val < 1536 then Host.gather gather_S6x24x1536x72_S24x1_S6x24x1536x72_023_1_n_n_1_1_61153672 (fin V (Proc.devRef .tc main_v264)) (broadcastInDim S24x1 ![0] bcast_S24_S24x1_0 (Host.sort2 S24 0 comparator_i32_i32_d0 (fin V (Proc.devRef .tc main_arg6)) (iotaInDim S24 32 0)).2) (ix4 b ⟨x.val / 72, by omega⟩ ⟨n.val, hn⟩ ⟨x.val % 72, by omega⟩) else fin V (Proc.devRef .tc main_v47) (ix4 b ⟨x.val / 72, by omega⟩ ⟨n.val - 1536, by omega⟩ ⟨x.val % 72, by omega⟩) := by
  rw [fin_mid 290 9 main_v271 (by decide +kernel), ← fin_in 290 main_v264 (by decide +kernel), ← fin_in 290 main_arg6 (by decide +kernel), ← fin_in 290 main_v47 (by decide +kernel)]
  generalize after (List.take 290 allOps) V = W
  simp only [allOps, hostOps1, hostOps1_1, hostOps1_2, hostOps1_3, hostOps1_4, List.cons_append, List.nil_append, List.drop_succ_cons, List.drop_zero, List.take_succ_cons, List.take_zero]
  repeat after_reads_at

end Cert.ReferenceIdeal.Hand
-- ==== Proof.RefG.lean ====
module

public import proofs.«01_k».proof.Proof.RefOps

@[expose] public section

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.StableHlo

variable (V : Valuation τ sig (Elt Ideal))

/-! ### The exponentials of the spatial heads -/

set_option maxHeartbeats 4000000 in
/-- Exponentials. -/
theorem f_v134 (b : Fin 6) (i : Fin 15) (f : Fin 4) (a : Fin 384) (j : Fin 384) :
    fin V (Proc.devRef .tc main_v134) (ix5 b i f a j) = Ideal.exp (E (fin V (Proc.devRef .tc main_v110) (ix5 b i f a j)) - E (fin V (Proc.devRef .tc main_v131) (ix5 b i f a 0))) := by
  rw [fin_mid 146 23 main_v134 (by decide +kernel), ← fin_in 146 main_v110 (by decide +kernel), ← fin_in 146 main_v131 (by decide +kernel)]
  generalize after (List.take 146 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- Exponentials. -/
theorem f_v137 (b : Fin 6) (i : Fin 15) (f : Fin 4) (a : Fin 384) (j : Fin 384) :
    fin V (Proc.devRef .tc main_v137) (ix5 b i f a j) = Ideal.exp (E (fin V (Proc.devRef .tc main_v119) (ix5 b i f a j)) - E (fin V (Proc.devRef .tc main_v131) (ix5 b i f a 0))) := by
  rw [fin_mid 146 23 main_v137 (by decide +kernel), ← fin_in 146 main_v119 (by decide +kernel), ← fin_in 146 main_v131 (by decide +kernel)]
  generalize after (List.take 146 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- Exponentials. -/
theorem f_v140 (b : Fin 6) (i : Fin 15) (f : Fin 4) (a : Fin 384) (j : Fin 154) :
    fin V (Proc.devRef .tc main_v140) (ix5 b i f a j) = Ideal.exp (E (fin V (Proc.devRef .tc main_v123) (ix5 b i f a j)) - E (fin V (Proc.devRef .tc main_v131) (ix5 b i f a 0))) := by
  rw [fin_mid 146 23 main_v140 (by decide +kernel), ← fin_in 146 main_v123 (by decide +kernel), ← fin_in 146 main_v131 (by decide +kernel)]
  generalize after (List.take 146 allOps) V = W
  simp only [allOps, hostOps1, hostOps1_1, hostOps1_2, hostOps1_3, hostOps1_4, List.cons_append, List.nil_append, List.drop_succ_cons, List.drop_zero, List.take_succ_cons, List.take_zero]
  repeat after_reads_at

set_option maxHeartbeats 4000000 in
/-- The reciprocal of their sum. -/
theorem f_v150 (b : Fin 6) (i : Fin 15) (f : Fin 4) (a : Fin 384) :
    fin V (Proc.devRef .tc main_v150) (ix5 b i f a 0) = Ideal.div 1 (∑ j, Ideal.exp (E (fin V (Proc.devRef .tc main_v110) (ix5 b i f a j)) - E (fin V (Proc.devRef .tc main_v131) (ix5 b i f a 0))) + ∑ j, Ideal.exp (E (fin V (Proc.devRef .tc main_v119) (ix5 b i f a j)) - E (fin V (Proc.devRef .tc main_v131) (ix5 b i f a 0))) + ∑ j, Ideal.exp (E (fin V (Proc.devRef .tc main_v123) (ix5 b i f a j)) - E (fin V (Proc.devRef .tc main_v131) (ix5 b i f a 0)))) := by
  rw [fin_mid 146 23 main_v150 (by decide +kernel), ← fin_in 146 main_v110 (by decide +kernel), ← fin_in 146 main_v131 (by decide +kernel), ← fin_in 146 main_v119 (by decide +kernel), ← fin_in 146 main_v123 (by decide +kernel)]
  generalize after (List.take 146 allOps) V = W
  simp only [allOps, hostOps1, hostOps1_1, hostOps1_2, hostOps1_3, hostOps1_4, List.cons_append, List.nil_append, List.drop_succ_cons, List.drop_zero, List.take_succ_cons, List.take_zero]
  repeat after_reads_at

end Cert.ReferenceIdeal.Hand
-- ==== Proof.RefH.lean ====
module

public import proofs.«01_k».proof.Proof.RefOps

@[expose] public section

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.StableHlo

variable (V : Valuation τ sig (Elt Ideal))

/-! ### The rows of the spatial heads -/

set_option maxHeartbeats 4000000 in
/-- A spatial head's row. -/
theorem f_v175 (b : Fin 6) (i : Fin 15) (n : Fin 1536) (d : Fin 72) :
    fin V (Proc.devRef .tc main_v175) (ix4 b i n d) = ∑ x, E (fin V (Proc.devRef .tc main_v134) (ix5 b i ⟨n.val / 384, by omega⟩ ⟨n.val % 384, by omega⟩ x)) * E (fin V (Proc.devRef .tc main_v150) (ix5 b i ⟨n.val / 384, by omega⟩ ⟨n.val % 384, by omega⟩ 0)) * E (fin V (Proc.devRef .tc main_v104) (ix5 b i ⟨n.val / 384, by omega⟩ 0 0)) * E (fin V (Proc.devRef .tc main_v70) (ix5 b i ⟨n.val / 384, by omega⟩ x d)) + ∑ x, E (fin V (Proc.devRef .tc main_v137) (ix5 b i ⟨n.val / 384, by omega⟩ ⟨n.val % 384, by omega⟩ x)) * E (fin V (Proc.devRef .tc main_v150) (ix5 b i ⟨n.val / 384, by omega⟩ ⟨n.val % 384, by omega⟩ 0)) * E (fin V (Proc.devRef .tc main_v105) (ix5 b i 0 0 0)) * E (fin V (Proc.devRef .tc main_v83) (ix4 b i x d)) + ∑ x, E (fin V (Proc.devRef .tc main_v140) (ix5 b i ⟨n.val / 384, by omega⟩ ⟨n.val % 384, by omega⟩ x)) * E (fin V (Proc.devRef .tc main_v150) (ix5 b i ⟨n.val / 384, by omega⟩ ⟨n.val % 384, by omega⟩ 0)) * E (fin V (Proc.devRef .tc main_v106) (ix5 b i 0 0 0)) * E (fin V (Proc.devRef .tc main_v72) (ix4 b i x d)) := by
  rw [fin_mid 169 25 main_v175 (by decide +kernel), ← fin_in 169 main_v134 (by decide +kernel), ← fin_in 169 main_v150 (by decide +kernel), ← fin_in 169 main_v104 (by decide +kernel), ← fin_in 169 main_v70 (by decide +kernel), ← fin_in 169 main_v137 (by decide +kernel), ← fin_in 169 main_v105 (by decide +kernel), ← fin_in 169 main_v83 (by decide +kernel), ← fin_in 169 main_v140 (by decide +kernel), ← fin_in 169 main_v106 (by decide +kernel), ← fin_in 169 main_v72 (by decide +kernel)]
  generalize after (List.take 169 allOps) V = W
  simp only [allOps, hostOps1, hostOps1_1, hostOps1_2, hostOps1_3, hostOps1_4, List.cons_append, List.nil_append, List.drop_succ_cons, List.drop_zero, List.take_succ_cons, List.take_zero]
  repeat after_reads_at
  simp only [Nat.div_add_mod']

end Cert.ReferenceIdeal.Hand
-- ==== Proof.Gather.lean ====
module

public import proofs.«01_k».proof.Proof.Sorts

@[expose] public section

noncomputable section

namespace Cert.Spec

open Idealize.ShloMosaic

/-! ### Gathering heads -/

section
variable {α : Type} {I N : ℕ}

/-- The dimension numbers of a gather of heads out of codes. -/
abbrev headDims (wf : GatherDims.WF ⟨4, ![6, 24, N, 72]⟩ ⟨2, ![I, 1]⟩ ⟨4, ![6, I, N, 72]⟩ [0, 2, 3] [1] [] [1] [] 1 ![6, 1, N, 72]) :
    GatherDims ⟨4, ![6, 24, N, 72]⟩ ⟨2, ![I, 1]⟩ ⟨4, ![6, I, N, 72]⟩ where
  offsetDims := [0, 2, 3]
  collapsedSliceDims := [1]
  operandBatchingDims := []
  startIndicesBatchingDims := []
  startIndexMap := [1]
  indexVectorDim := 1
  sliceSizes := ![6, 1, N, 72]
  wf := wf

/-- A gather of heads reads the head its index word names. -/
theorem gather_head (wf) (x : (⟨4, ![6, 24, N, 72]⟩ : Shape).Idx → α) (idx : IVec ⟨2, ![I, 1]⟩ 32) (b : Fin 6) (i : Fin I) (n : Fin N) (d : Fin 72) :
    Host.gather (headDims wf) x idx (ix4 b i n d) = x (ix4 b (hd (idx (ix2 i 0))) n d) := by
  unfold Host.gather
  congr 1
  funext a
  refine Fin.ext ?_
  show (headDims wf).start (ix4 b i n d) idx a + (headDims wf).batchCoord (ix4 b i n d) a + (headDims wf).offCoord (ix4 b i n d) a = _
  rw [GatherDims.batchCoord_eq_zero _ _ _ (fun h => by simp at h), Nat.add_zero]
  obtain rfl | rfl | rfl | rfl : a = (0 : Fin 4) ∨ a = (1 : Fin 4) ∨ a = (2 : Fin 4) ∨ a = (3 : Fin 4) := by
    match a with
    | ⟨0, _⟩ => simp
    | ⟨1, _⟩ => simp
    | ⟨2, _⟩ => simp
    | ⟨3, _⟩ => simp
  · unfold GatherDims.start GatherDims.offCoord
    rw [dif_neg (show (0 : Fin 4) ∉ (headDims wf).startIndexMap from fun h => absurd (List.mem_singleton.mp h) (Fin.ne_of_val_ne (by simp))),
      dif_pos (show (0 : Fin 4) ∈ (headDims wf).sKept from (GatherDims.mem_sKept _ _).mpr ⟨fun h => absurd (List.mem_singleton.mp h) (Fin.ne_of_val_ne (by simp)), List.not_mem_nil⟩)]
    exact Nat.zero_add _
  · rw [GatherDims.offCoord_eq_zero _ _ _ (fun h => ((GatherDims.mem_sKept _ _).mp h).1 (List.mem_singleton.mpr rfl)), Nat.add_zero]
    unfold GatherDims.start
    rw [dif_pos (show (1 : Fin 4) ∈ (headDims wf).startIndexMap from List.mem_singleton.mpr rfl)]
    have hsi : (headDims wf).siIdx (ix4 b i n d) ⟨List.idxOf (1 : Fin 4) (headDims wf).startIndexMap, List.idxOf_lt_length_iff.2 (List.mem_singleton.mpr rfl)⟩ = ix2 i 0 := by
      funext e; refine Fin.ext ?_
      match e with
      | ⟨0, _⟩ => rfl
      | ⟨1, _⟩ => rfl
    exact congrArg (fun z => min (idx z).toInt.toNat 23) hsi
  · unfold GatherDims.start GatherDims.offCoord
    rw [dif_neg (show (2 : Fin 4) ∉ (headDims wf).startIndexMap from fun h => absurd (List.mem_singleton.mp h) (Fin.ne_of_val_ne (by simp))),
      dif_pos (show (2 : Fin 4) ∈ (headDims wf).sKept from (GatherDims.mem_sKept _ _).mpr ⟨fun h => absurd (List.mem_singleton.mp h) (Fin.ne_of_val_ne (by simp)), List.not_mem_nil⟩)]
    exact Nat.zero_add _
  · unfold GatherDims.start GatherDims.offCoord
    rw [dif_neg (show (3 : Fin 4) ∉ (headDims wf).startIndexMap from fun h => absurd (List.mem_singleton.mp h) (Fin.ne_of_val_ne (by simp))),
      dif_pos (show (3 : Fin 4) ∈ (headDims wf).sKept from (GatherDims.mem_sKept _ _).mpr ⟨fun h => absurd (List.mem_singleton.mp h) (Fin.ne_of_val_ne (by simp)), List.not_mem_nil⟩)]
    exact Nat.zero_add _

/-- The dimension numbers of a gather of heads out of scales. -/
abbrev scaleDims (wf : GatherDims.WF ⟨3, ![6, 5, 24]⟩ ⟨2, ![I, 1]⟩ ⟨3, ![6, 5, I]⟩ [0, 1] [2] [] [2] [] 1 ![6, 5, 1]) :
    GatherDims ⟨3, ![6, 5, 24]⟩ ⟨2, ![I, 1]⟩ ⟨3, ![6, 5, I]⟩ where
  offsetDims := [0, 1]
  collapsedSliceDims := [2]
  operandBatchingDims := []
  startIndicesBatchingDims := []
  startIndexMap := [2]
  indexVectorDim := 1
  sliceSizes := ![6, 5, 1]
  wf := wf

/-- A gather of heads' scales reads the head its index word names. -/
theorem gather_scale (wf) (x : (⟨3, ![6, 5, 24]⟩ : Shape).Idx → α) (idx : IVec ⟨2, ![I, 1]⟩ 32) (b : Fin 6) (g : Fin 5) (i : Fin I) :
    Host.gather (scaleDims wf) x idx (ix3 b g i) = x (ix3 b g (hd (idx (ix2 i 0)))) := by
  unfold Host.gather
  congr 1
  funext a
  refine Fin.ext ?_
  show (scaleDims wf).start (ix3 b g i) idx a + (scaleDims wf).batchCoord (ix3 b g i) a + (scaleDims wf).offCoord (ix3 b g i) a = _
  rw [GatherDims.batchCoord_eq_zero _ _ _ (fun h => by simp at h), Nat.add_zero]
  obtain rfl | rfl | rfl : a = (0 : Fin 3) ∨ a = (1 : Fin 3) ∨ a = (2 : Fin 3) := by
    match a with
    | ⟨0, _⟩ => simp
    | ⟨1, _⟩ => simp
    | ⟨2, _⟩ => simp
  · unfold GatherDims.start GatherDims.offCoord
    rw [dif_neg (show (0 : Fin 3) ∉ (scaleDims wf).startIndexMap from fun h => absurd (List.mem_singleton.mp h) (Fin.ne_of_val_ne (by simp))),
      dif_pos (show (0 : Fin 3) ∈ (scaleDims wf).sKept from (GatherDims.mem_sKept _ _).mpr ⟨fun h => absurd (List.mem_singleton.mp h) (Fin.ne_of_val_ne (by simp)), List.not_mem_nil⟩)]
    exact Nat.zero_add _
  · unfold GatherDims.start GatherDims.offCoord
    rw [dif_neg (show (1 : Fin 3) ∉ (scaleDims wf).startIndexMap from fun h => absurd (List.mem_singleton.mp h) (Fin.ne_of_val_ne (by simp))),
      dif_pos (show (1 : Fin 3) ∈ (scaleDims wf).sKept from (GatherDims.mem_sKept _ _).mpr ⟨fun h => absurd (List.mem_singleton.mp h) (Fin.ne_of_val_ne (by simp)), List.not_mem_nil⟩)]
    exact Nat.zero_add _
  · rw [GatherDims.offCoord_eq_zero _ _ _ (fun h => ((GatherDims.mem_sKept _ _).mp h).1 (List.mem_singleton.mpr rfl)), Nat.add_zero]
    unfold GatherDims.start
    rw [dif_pos (show (2 : Fin 3) ∈ (scaleDims wf).startIndexMap from List.mem_singleton.mpr rfl)]
    have hsi : (scaleDims wf).siIdx (ix3 b g i) ⟨List.idxOf (2 : Fin 3) (scaleDims wf).startIndexMap, List.idxOf_lt_length_iff.2 (List.mem_singleton.mpr rfl)⟩ = ix2 i 0 := by
      funext e; refine Fin.ext ?_
      match e with
      | ⟨0, _⟩ => rfl
      | ⟨1, _⟩ => rfl
    exact congrArg (fun z => min (idx z).toInt.toNat 23) hsi
end

end Cert.Spec
-- ==== Proof.RefVals.lean ====
module

public import proofs.«01_k».proof.Proof.RefA
public import proofs.«01_k».proof.Proof.RefB
public import proofs.«01_k».proof.Proof.RefC
public import proofs.«01_k».proof.Proof.RefD
public import proofs.«01_k».proof.Proof.RefE
public import proofs.«01_k».proof.Proof.RefF
public import proofs.«01_k».proof.Proof.RefG
public import proofs.«01_k».proof.Proof.RefH
public import proofs.«01_k».proof.Proof.Gather

@[expose] public section

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.StableHlo

variable (V : Valuation τ sig (Elt Ideal))

/-! ### What the reference computes, head by head -/

/-- The codes a head of a batch reads, by row. -/
def code (A : S6x1690x24x72.Idx → EReal) (b : Fin 6) (h : Fin 24) (n : Fin 1690) (d : Fin 72) : EReal := A (ix4 b n h d)
/-- The scales a head of a batch reads, by group. -/
def scal (A : S6x5x24.Idx → EReal) (b : Fin 6) (h : Fin 24) (g : Fin 5) : EReal := A (ix3 b g h)

/-- The index words of the spatial heads. -/
theorem idx15 (w : IVec S24 32) (i : Fin 15) :
    broadcastInDim S15x1 ![0] bcast_S15_S15x1_0 (extractStridedSlice S15 ![0] w slices_S24_S15_0) (ix2 i 0) = w (ix1 ⟨i.val, by omega⟩) := by
  refine congrArg w (funext fun a => Fin.ext ?_)
  match a with
  | ⟨0, _⟩ => show 0 + i.val = i.val; omega

/-- The text rows. -/
theorem v47_eq (b : Fin 6) (h : Fin 24) (r : Fin 154) (d : Fin 72) :
    fin V (Proc.devRef .tc main_v47) (ix4 b h r d)
      = textO (code (fin V (Proc.devRef .tc main_v0_0)) b h) (code (fin V (Proc.devRef .tc main_v0_1)) b h) (code (fin V (Proc.devRef .tc main_v0_2)) b h)
        (scal (fin V (Proc.devRef .tc main_arg3)) b h) (scal (fin V (Proc.devRef .tc main_arg4)) b h) (scal (fin V (Proc.devRef .tc main_arg5)) b h) r d := by
  rw [f_v47]
  exact congr (congr (congrArg soft1 (funext fun j => f_v31 V b h r j)) (funext fun j => f_v19 V b h j)) (funext fun j => f_v3 V b h j d)

section
variable (b : Fin 6) (i : Fin 15) (h : Fin 24) (hh : hd (fin V (Proc.devRef .tc main_arg6) (ix1 ⟨i.val, by omega⟩)) = h)
include hh

/-- The gathered codes are the named head's. -/
theorem v51_eq (n : Fin 1690) (d : Fin 72) : fin V (Proc.devRef .tc main_v51) (ix4 b i n d) = code (fin V (Proc.devRef .tc main_v0_0)) b h n d := by
  refine (f_v51 V b i n d).trans ((gather_head _ _ _ b i n d).trans ?_)
  rw [idx15, hh]
  exact f_v1 V b h n d

/-- The gathered codes are the named head's. -/
theorem v53_eq (n : Fin 1690) (d : Fin 72) : fin V (Proc.devRef .tc main_v53) (ix4 b i n d) = code (fin V (Proc.devRef .tc main_v0_1)) b h n d := by
  refine (f_v53 V b i n d).trans ((gather_head _ _ _ b i n d).trans ?_)
  rw [idx15, hh]
  exact f_v2 V b h n d

/-- The gathered codes are the named head's. -/
theorem v55_eq (n : Fin 1690) (d : Fin 72) : fin V (Proc.devRef .tc main_v55) (ix4 b i n d) = code (fin V (Proc.devRef .tc main_v0_2)) b h n d := by
  refine (f_v55 V b i n d).trans ((gather_head _ _ _ b i n d).trans ?_)
  rw [idx15, hh]
  exact f_v3 V b h n d

/-- The gathered scales are the named head's. -/
theorem v58_eq (g : Fin 5) : fin V (Proc.devRef .tc main_v58) (ix3 b i g) = scal (fin V (Proc.devRef .tc main_arg3)) b h g := by
  refine (f_v58 V b i g).trans ((gather_scale _ _ _ b g i).trans ?_)
  rw [idx15, hh]
  rfl

/-- The gathered scales are the named head's. -/
theorem v61_eq (g : Fin 5) : fin V (Proc.devRef .tc main_v61) (ix3 b i g) = scal (fin V (Proc.devRef .tc main_arg4)) b h g := by
  refine (f_v61 V b i g).trans ((gather_scale _ _ _ b g i).trans ?_)
  rw [idx15, hh]
  rfl

/-- The gathered scales are the named head's. -/
theorem v64_eq (g : Fin 5) : fin V (Proc.devRef .tc main_v64) (ix3 b i g) = scal (fin V (Proc.devRef .tc main_arg5)) b h g := by
  refine (f_v64 V b i g).trans ((gather_scale _ _ _ b g i).trans ?_)
  rw [idx15, hh]
  rfl

/-- The own scores. -/
theorem v110_at (f : Fin 4) (a j : Fin 384) : fin V (Proc.devRef .tc main_v110) (ix5 b i f a j) = sOwn (code (fin V (Proc.devRef .tc main_v0_0)) b h) (code (fin V (Proc.devRef .tc main_v0_1)) b h) (scal (fin V (Proc.devRef .tc main_arg3)) b h) (scal (fin V (Proc.devRef .tc main_arg4)) b h) f a j := by
  rw [f_v110]
  simp only [v51_eq V b i h hh, v53_eq V b i h hh, v58_eq V b i h hh, v61_eq V b i h hh]
  rfl

/-- The scores against frame 0. -/
theorem v119_at (f : Fin 4) (a j : Fin 384) : fin V (Proc.devRef .tc main_v119) (ix5 b i f a j) = sF0 (code (fin V (Proc.devRef .tc main_v0_0)) b h) (code (fin V (Proc.devRef .tc main_v0_1)) b h) (scal (fin V (Proc.devRef .tc main_arg3)) b h) (scal (fin V (Proc.devRef .tc main_arg4)) b h) f a j := by
  rw [f_v119]
  simp only [v51_eq V b i h hh, v53_eq V b i h hh, v58_eq V b i h hh, v61_eq V b i h hh]
  have e : (⟨j.val, by omega⟩ : Fin 1690) = fr 0 j := Fin.ext (by show j.val = 0 * 384 + j.val; omega)
  rw [e]
  rfl

/-- The scores against the text. -/
theorem v123_at (f : Fin 4) (a : Fin 384) (j : Fin 154) : fin V (Proc.devRef .tc main_v123) (ix5 b i f a j) = sTx (code (fin V (Proc.devRef .tc main_v0_0)) b h) (code (fin V (Proc.devRef .tc main_v0_1)) b h) (scal (fin V (Proc.devRef .tc main_arg3)) b h) (scal (fin V (Proc.devRef .tc main_arg4)) b h) f a j := by
  rw [f_v123]
  simp only [v51_eq V b i h hh, v53_eq V b i h hh, v58_eq V b i h hh, v61_eq V b i h hh]
  rfl

/-- The largest score. -/
theorem v131_at (f : Fin 4) (a : Fin 384) : fin V (Proc.devRef .tc main_v131) (ix5 b i f a 0) = mS (code (fin V (Proc.devRef .tc main_v0_0)) b h) (code (fin V (Proc.devRef .tc main_v0_1)) b h) (scal (fin V (Proc.devRef .tc main_arg3)) b h) (scal (fin V (Proc.devRef .tc main_arg4)) b h) f a := by
  rw [f_v131, f_v128, f_v125, f_v127, f_v130]
  simp only [v110_at V b i h hh, v119_at V b i h hh, v123_at V b i h hh]
  rfl

/-- The rows of a spatial head. -/
theorem v175_at (n : Fin 1536) (d : Fin 72) :
    fin V (Proc.devRef .tc main_v175) (ix4 b i n d) = spatO (code (fin V (Proc.devRef .tc main_v0_0)) b h) (code (fin V (Proc.devRef .tc main_v0_1)) b h) (code (fin V (Proc.devRef .tc main_v0_2)) b h) (scal (fin V (Proc.devRef .tc main_arg3)) b h) (scal (fin V (Proc.devRef .tc main_arg4)) b h) (scal (fin V (Proc.devRef .tc main_arg5)) b h) ⟨n.val / 384, by omega⟩ ⟨n.val % 384, by omega⟩ d := by
  have e : ∀ j : Fin 384, (⟨j.val, by omega⟩ : Fin 1690) = fr 0 j := fun j => Fin.ext (by show j.val = 0 * 384 + j.val; omega)
  rw [f_v175]
  simp only [f_v134 V b i, f_v137 V b i, f_v140 V b i, f_v150 V b i, f_v104 V b i, f_v105 V b i, f_v106 V b i, f_v70 V b i, f_v83 V b i, f_v72 V b i]
  simp only [v110_at V b i h hh, v119_at V b i h hh, v123_at V b i h hh, v131_at V b i h hh, v55_eq V b i h hh, v64_eq V b i h hh, e]
  rfl
end

/-- The index words of the temporal heads. -/
theorem idx9 (i : Fin 9) :
    broadcastInDim S9x1 ![0] bcast_S9_S9x1_0 (fin V (Proc.devRef .tc main_v49)) (ix2 i 0) = fin V (Proc.devRef .tc main_arg6) (ix1 ⟨15 + i.val, by omega⟩) := by
  refine Eq.trans ?_ (f_v49 V i)
  refine congrArg (fin V (Proc.devRef .tc main_v49)) (funext fun a => Fin.ext ?_)
  match a with
  | ⟨0, _⟩ => rfl

section
variable (b : Fin 6) (i : Fin 9) (h : Fin 24) (hh : hd (fin V (Proc.devRef .tc main_arg6) (ix1 ⟨15 + i.val, by omega⟩)) = h)
include hh

/-- The gathered codes are the named head's. -/
theorem v177_eq (n : Fin 1690) (d : Fin 72) : fin V (Proc.devRef .tc main_v177) (ix4 b i n d) = code (fin V (Proc.devRef .tc main_v0_0)) b h n d := by
  refine (f_v177 V b i n d).trans ((gather_head _ _ _ b i n d).trans ?_)
  rw [idx9, hh]
  exact f_v1 V b h n d

/-- The gathered codes are the named head's. -/
theorem v179_eq (n : Fin 1690) (d : Fin 72) : fin V (Proc.devRef .tc main_v179) (ix4 b i n d) = code (fin V (Proc.devRef .tc main_v0_1)) b h n d := by
  refine (f_v179 V b i n d).trans ((gather_head _ _ _ b i n d).trans ?_)
  rw [idx9, hh]
  exact f_v2 V b h n d

/-- The gathered codes are the named head's. -/
theorem v181_eq (n : Fin 1690) (d : Fin 72) : fin V (Proc.devRef .tc main_v181) (ix4 b i n d) = code (fin V (Proc.devRef .tc main_v0_2)) b h n d := by
  refine (f_v181 V b i n d).trans ((gather_head _ _ _ b i n d).trans ?_)
  rw [idx9, hh]
  exact f_v3 V b h n d

/-- The gathered scales are the named head's. -/
theorem v184_eq (g : Fin 5) : fin V (Proc.devRef .tc main_v184) (ix3 b i g) = scal (fin V (Proc.devRef .tc main_arg3)) b h g := by
  refine (f_v184 V b i g).trans ((gather_scale _ _ _ b g i).trans ?_)
  rw [idx9, hh]
  rfl

/-- The gathered scales are the named head's. -/
theorem v187_eq (g : Fin 5) : fin V (Proc.devRef .tc main_v187) (ix3 b i g) = scal (fin V (Proc.devRef .tc main_arg4)) b h g := by
  refine (f_v187 V b i g).trans ((gather_scale _ _ _ b g i).trans ?_)
  rw [idx9, hh]
  rfl

/-- The gathered scales are the named head's. -/
theorem v190_eq (g : Fin 5) : fin V (Proc.devRef .tc main_v190) (ix3 b i g) = scal (fin V (Proc.devRef .tc main_arg5)) b h g := by
  refine (f_v190 V b i g).trans ((gather_scale _ _ _ b g i).trans ?_)
  rw [idx9, hh]
  rfl

/-- The scores against the other frames. -/
theorem v227_at (f g : Fin 4) (a : Fin 384) : fin V (Proc.devRef .tc main_v227) (ix5 b i a f g) = sV (code (fin V (Proc.devRef .tc main_v0_0)) b h) (code (fin V (Proc.devRef .tc main_v0_1)) b h) (scal (fin V (Proc.devRef .tc main_arg3)) b h) (scal (fin V (Proc.devRef .tc main_arg4)) b h) f a g := by
  rw [f_v227]
  simp only [v177_eq V b i h hh, v179_eq V b i h hh, v184_eq V b i h hh, v187_eq V b i h hh]
  rfl

/-- The scores against the text. -/
theorem v230_at (f : Fin 4) (a : Fin 384) (j : Fin 154) : fin V (Proc.devRef .tc main_v230) (ix5 b i a f j) = sTx (code (fin V (Proc.devRef .tc main_v0_0)) b h) (code (fin V (Proc.devRef .tc main_v0_1)) b h) (scal (fin V (Proc.devRef .tc main_arg3)) b h) (scal (fin V (Proc.devRef .tc main_arg4)) b h) f a j := by
  rw [f_v230]
  simp only [v177_eq V b i h hh, v179_eq V b i h hh, v184_eq V b i h hh, v187_eq V b i h hh]
  rfl

/-- The largest score. -/
theorem v235_at (f : Fin 4) (a : Fin 384) : fin V (Proc.devRef .tc main_v235) (ix5 b i a f 0) = mT (code (fin V (Proc.devRef .tc main_v0_0)) b h) (code (fin V (Proc.devRef .tc main_v0_1)) b h) (scal (fin V (Proc.devRef .tc main_arg3)) b h) (scal (fin V (Proc.devRef .tc main_arg4)) b h) f a := by
  rw [f_v235, f_v232, f_v234]
  simp only [v227_at V b i h hh, v230_at V b i h hh]
  rfl

/-- The rows of a temporal head. -/
theorem v263_at (n : Fin 1536) (d : Fin 72) :
    fin V (Proc.devRef .tc main_v263) (ix4 b i n d) = tempO (code (fin V (Proc.devRef .tc main_v0_0)) b h) (code (fin V (Proc.devRef .tc main_v0_1)) b h) (code (fin V (Proc.devRef .tc main_v0_2)) b h) (scal (fin V (Proc.devRef .tc main_arg3)) b h) (scal (fin V (Proc.devRef .tc main_arg4)) b h) (scal (fin V (Proc.devRef .tc main_arg5)) b h) ⟨n.val / 384, by omega⟩ ⟨n.val % 384, by omega⟩ d := by
  rw [f_v263]
  simp only [f_v238 V b i, f_v241 V b i, f_v248 V b i, f_v223 V b i, f_v224 V b i, f_v208 V b i, f_v198 V b i]
  simp only [v227_at V b i h hh, v230_at V b i h hh, v235_at V b i h hh, v181_eq V b i h hh, v190_eq V b i h hh]
  rfl
end

end Cert.ReferenceIdeal.Hand
-- ==== Proof.RefOut.lean ====
module

public import proofs.«01_k».proof.Proof.RefVals

@[expose] public section

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.StableHlo

variable (V : Valuation τ sig (Elt Ideal))

/-! ### The reference's result -/

/-- The index words of all heads. -/
theorem idx24 (w : IVec S24 32) (h : Fin 24) : broadcastInDim S24x1 ![0] bcast_S24_S24x1_0 w (ix2 h 0) = w (ix1 h) := by
  refine congrArg w (funext fun a => Fin.ext ?_)
  match a with
  | ⟨0, _⟩ => rfl

/-- The rows of a head, where the head order sorts to the heads' numbers: the head at its own place. -/
theorem v271_at (cmp : BitVec 32 → BitVec 32 → BitVec 1) (hc : ∀ l r, cmp l r = IntOp.cmpi .slt l r)
    (hx : ∀ h : Fin 24, Host.sort ⟨1, ![24]⟩ 0 cmp (fin V (Proc.devRef .tc main_arg6) : IVec S24 32) (ix1 h) = iotaInDim ⟨1, ![24]⟩ 32 0 (ix1 h))
    (b : Fin 6) (n : Fin 1690) (x : Fin 1728) (h : Fin 24) (d : Fin 72) (eh : (⟨x.val / 72, by omega⟩ : Fin 24) = h) (ed : (⟨x.val % 72, by omega⟩ : Fin 72) = d) :
    fin V (Proc.devRef .tc main_v271) (ix3 b n x)
      = headSpec (code (fin V (Proc.devRef .tc main_v0_0)) b h) (code (fin V (Proc.devRef .tc main_v0_1)) b h) (code (fin V (Proc.devRef .tc main_v0_2)) b h)
        (scal (fin V (Proc.devRef .tc main_arg3)) b h) (scal (fin V (Proc.devRef .tc main_arg4)) b h) (scal (fin V (Proc.devRef .tc main_arg5)) b h)
        ((place (fun k => (fin V (Proc.devRef .tc main_arg6) : IVec S24 32) (ix1 k)) h).val < 15) n d := by
  have hw : hd ((fin V (Proc.devRef .tc main_arg6) : IVec S24 32) (ix1 (place (fun k => (fin V (Proc.devRef .tc main_arg6) : IVec S24 32) (ix1 k)) h))) = h :=
    (congrArg hd (word_place cmp hc (fin V (Proc.devRef .tc main_arg6)) h (hx h))).trans (hd_ofNat h)
  have hp : ∀ (n : Fin 1536), Host.gather gather_S6x24x1536x72_S24x1_S6x24x1536x72_023_1_n_n_1_1_61153672 (fin V (Proc.devRef .tc main_v264)) (broadcastInDim S24x1 ![0] bcast_S24_S24x1_0 (Host.sort2 S24 0 comparator_i32_i32_d0 (fin V (Proc.devRef .tc main_arg6)) (iotaInDim S24 32 0)).2) (ix4 b h n d)
      = fin V (Proc.devRef .tc main_v264) (ix4 b (place (fun k => (fin V (Proc.devRef .tc main_arg6) : IVec S24 32) (ix1 k)) h) n d) := by
    intro n
    refine (gather_head _ _ _ b h n d).trans ?_
    rw [idx24, argsort_at comparator_i32_i32_d0 (fun _ _ => rfl), hd_ofNat]
  revert hw hp
  generalize place (fun k => (fin V (Proc.devRef .tc main_arg6) : IVec S24 32) (ix1 k)) h = p
  intro hw hp
  rw [f_v271, eh, ed]
  unfold headSpec
  by_cases hn : n.val < 1536
  · rw [dif_pos hn, dif_pos hn, hp, f_v264]
    by_cases h15 : p.val < 15
    · rw [dif_pos h15, if_pos h15]
      exact v175_at V b ⟨p.val, h15⟩ h hw ⟨n.val, hn⟩ d
    · rw [dif_neg h15, if_neg h15]
      refine v263_at V b ⟨p.val - 15, by omega⟩ h ?_ ⟨n.val, hn⟩ d
      have ep : (⟨15 + (p.val - 15), by omega⟩ : Fin 24) = p := Fin.ext (by show 15 + (p.val - 15) = p.val; omega)
      exact (congrArg (fun q => hd ((fin V (Proc.devRef .tc main_arg6) : IVec S24 32) (ix1 q))) ep).trans hw
  · rw [dif_neg hn, dif_neg hn]
    exact v47_eq V b h _ d

end Cert.ReferenceIdeal.Hand
-- ==== Proof.RefRun.lean ====
module

public import proofs.«01_k».proof.Proof.RefOut
public import Idealize.ShloMosaic.Lib.Pipeline.ValueKit
public import Idealize.ShloMosaic.Lib.Claim

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.ShloMosaic.Pipeline

variable (m : (ℓ : Loc nD τ sig) → Buf (Elt Ideal) ℓ) (c : Dev nD)

/-! ### The reference's run -/

/-- What the decode leaves: its arrays, and everything else as launched. -/
def Vr : Valuation τ sig (Elt Ideal) := withArrays (cfgs 0).spec c (V0 m c) fun w => (dats m 0 c).arrAt w (cfgs 0).N

/-- The block index of window 0. -/
theorem idx0 : ∀ t : Fin cfg0.N, win0_0.index t = ![0, 0, 0, 0] := by decide +kernel
/-- The block index of window 1. -/
theorem idx1 : ∀ t : Fin cfg0.N, win0_1.index t = ![0, 0, 0, 0] := by decide +kernel
/-- The block index of window 2. -/
theorem idx2 : ∀ t : Fin cfg0.N, win0_2.index t = ![0, 0, 0, 0] := by decide +kernel
/-- The block index of window 3. -/
theorem idx3 : ∀ t : Fin cfg0.N, win0_3.index t = ![0, 0, 0, 0] := by decide +kernel
/-- The block index of window 4. -/
theorem idx4 : ∀ t : Fin cfg0.N, win0_4.index t = ![0, 0, 0, 0] := by decide +kernel
/-- The block index of window 5. -/
theorem idx5 : ∀ t : Fin cfg0.N, win0_5.index t = ![0, 0, 0, 0] := by decide +kernel

/-- Two places of the same whole array agree. -/
theorem same_place (A : S6x1690x24x72.Idx → EReal) (e e' y : S6x1690x24x72.Idx) (h : ∀ a, (e a).val = (y a).val) (h' : ∀ a, (e' a).val = (y a).val) : A e = A e' :=
  congrArg A (funext fun a => Fin.ext ((h a).trans (h' a).symm))

/-- The block of window 0 is its array. -/
theorem emb0 (t : Fin cfg0.N) (y : S6x1690x24x72.Idx) (a : Fin 4) : (((cfg0.win 0).blk t).view.emb y a).val = (y a).val := by
  have e := congrFun (idx0 t) a
  match a with
  | ⟨0, _⟩ => blk_simp; exact (congrArg (fun z => z * 6 + (y 0).val) e).trans (by show 0 * 6 + (y 0).val = (y 0).val; omega)
  | ⟨1, _⟩ => blk_simp; exact (congrArg (fun z => z * 1690 + (y 1).val) e).trans (by show 0 * 1690 + (y 1).val = (y 1).val; omega)
  | ⟨2, _⟩ => blk_simp; exact (congrArg (fun z => z * 24 + (y 2).val) e).trans (by show 0 * 24 + (y 2).val = (y 2).val; omega)
  | ⟨3, _⟩ => blk_simp; exact (congrArg (fun z => z * 72 + (y 3).val) e).trans (by show 0 * 72 + (y 3).val = (y 3).val; omega)

/-- The block of window 3 is its array. -/
theorem emb3 (t : Fin cfg0.N) (y : S6x1690x24x72.Idx) (a : Fin 4) : (((cfg0.win 3).blk t).view.emb y a).val = (y a).val := by
  have e := congrFun (idx3 t) a
  match a with
  | ⟨0, _⟩ => blk_simp; exact (congrArg (fun z => z * 6 + (y 0).val) e).trans (by show 0 * 6 + (y 0).val = (y 0).val; omega)
  | ⟨1, _⟩ => blk_simp; exact (congrArg (fun z => z * 1690 + (y 1).val) e).trans (by show 0 * 1690 + (y 1).val = (y 1).val; omega)
  | ⟨2, _⟩ => blk_simp; exact (congrArg (fun z => z * 24 + (y 2).val) e).trans (by show 0 * 24 + (y 2).val = (y 2).val; omega)
  | ⟨3, _⟩ => blk_simp; exact (congrArg (fun z => z * 72 + (y 3).val) e).trans (by show 0 * 72 + (y 3).val = (y 3).val; omega)

/-- The query codes, decoded, are the query codes. -/
theorem arr3 : (dats m 0 c).arrAt 3 cfg0.N = fun y : S6x1690x24x72.Idx => (m ((c.tc : Thread nD τ).loc main_arg0) : S6x1690x24x72.Idx → EReal) y := by
  refine (dats m 0 c).arrAt_eq_of_covers 3 _ (by decide +kernel) fun t hf y => ?_
  blk_simp
  rw [after0_3]
  frame_out
  exact same_place (m ((c.tc : Thread nD τ).loc main_arg0)) (((cfg0.win 0).blk t).view.emb y) (((cfg0.win 3).blk t).view.emb y) y (emb0 t y) (emb3 t y)

/-- The decoded query codes, after every operation. -/
theorem fin_v0_0 : fin (Vr m c) (Proc.devRef .tc main_v0_0) = m ((c.tc : Thread nD τ).loc main_arg0) := by
  rw [fin_old main_v0_0 (by decide +kernel)]
  exact (withArrays_arr (cfgs 0).spec (by decide) c (V0 m c) (fun w => (dats m 0 c).arrAt w (cfgs 0).N) 3).trans (arr3 m c)

/-- The block of window 1 is its array. -/
theorem emb1 (t : Fin cfg0.N) (y : S6x1690x24x72.Idx) (a : Fin 4) : (((cfg0.win 1).blk t).view.emb y a).val = (y a).val := by
  have e := congrFun (idx1 t) a
  match a with
  | ⟨0, _⟩ => blk_simp; exact (congrArg (fun z => z * 6 + (y 0).val) e).trans (by show 0 * 6 + (y 0).val = (y 0).val; omega)
  | ⟨1, _⟩ => blk_simp; exact (congrArg (fun z => z * 1690 + (y 1).val) e).trans (by show 0 * 1690 + (y 1).val = (y 1).val; omega)
  | ⟨2, _⟩ => blk_simp; exact (congrArg (fun z => z * 24 + (y 2).val) e).trans (by show 0 * 24 + (y 2).val = (y 2).val; omega)
  | ⟨3, _⟩ => blk_simp; exact (congrArg (fun z => z * 72 + (y 3).val) e).trans (by show 0 * 72 + (y 3).val = (y 3).val; omega)

/-- The block of window 4 is its array. -/
theorem emb4 (t : Fin cfg0.N) (y : S6x1690x24x72.Idx) (a : Fin 4) : (((cfg0.win 4).blk t).view.emb y a).val = (y a).val := by
  have e := congrFun (idx4 t) a
  match a with
  | ⟨0, _⟩ => blk_simp; exact (congrArg (fun z => z * 6 + (y 0).val) e).trans (by show 0 * 6 + (y 0).val = (y 0).val; omega)
  | ⟨1, _⟩ => blk_simp; exact (congrArg (fun z => z * 1690 + (y 1).val) e).trans (by show 0 * 1690 + (y 1).val = (y 1).val; omega)
  | ⟨2, _⟩ => blk_simp; exact (congrArg (fun z => z * 24 + (y 2).val) e).trans (by show 0 * 24 + (y 2).val = (y 2).val; omega)
  | ⟨3, _⟩ => blk_simp; exact (congrArg (fun z => z * 72 + (y 3).val) e).trans (by show 0 * 72 + (y 3).val = (y 3).val; omega)

/-- The key codes, decoded, are the key codes. -/
theorem arr4 : (dats m 0 c).arrAt 4 cfg0.N = fun y : S6x1690x24x72.Idx => (m ((c.tc : Thread nD τ).loc main_arg1) : S6x1690x24x72.Idx → EReal) y := by
  refine (dats m 0 c).arrAt_eq_of_covers 4 _ (by decide +kernel) fun t hf y => ?_
  blk_simp
  rw [after0_4]
  frame_out
  exact same_place (m ((c.tc : Thread nD τ).loc main_arg1)) (((cfg0.win 1).blk t).view.emb y) (((cfg0.win 4).blk t).view.emb y) y (emb1 t y) (emb4 t y)

/-- The decoded key codes, after every operation. -/
theorem fin_v0_1 : fin (Vr m c) (Proc.devRef .tc main_v0_1) = m ((c.tc : Thread nD τ).loc main_arg1) := by
  rw [fin_old main_v0_1 (by decide +kernel)]
  exact (withArrays_arr (cfgs 0).spec (by decide) c (V0 m c) (fun w => (dats m 0 c).arrAt w (cfgs 0).N) 4).trans (arr4 m c)

/-- The block of window 2 is its array. -/
theorem emb2 (t : Fin cfg0.N) (y : S6x1690x24x72.Idx) (a : Fin 4) : (((cfg0.win 2).blk t).view.emb y a).val = (y a).val := by
  have e := congrFun (idx2 t) a
  match a with
  | ⟨0, _⟩ => blk_simp; exact (congrArg (fun z => z * 6 + (y 0).val) e).trans (by show 0 * 6 + (y 0).val = (y 0).val; omega)
  | ⟨1, _⟩ => blk_simp; exact (congrArg (fun z => z * 1690 + (y 1).val) e).trans (by show 0 * 1690 + (y 1).val = (y 1).val; omega)
  | ⟨2, _⟩ => blk_simp; exact (congrArg (fun z => z * 24 + (y 2).val) e).trans (by show 0 * 24 + (y 2).val = (y 2).val; omega)
  | ⟨3, _⟩ => blk_simp; exact (congrArg (fun z => z * 72 + (y 3).val) e).trans (by show 0 * 72 + (y 3).val = (y 3).val; omega)

/-- The block of window 5 is its array. -/
theorem emb5 (t : Fin cfg0.N) (y : S6x1690x24x72.Idx) (a : Fin 4) : (((cfg0.win 5).blk t).view.emb y a).val = (y a).val := by
  have e := congrFun (idx5 t) a
  match a with
  | ⟨0, _⟩ => blk_simp; exact (congrArg (fun z => z * 6 + (y 0).val) e).trans (by show 0 * 6 + (y 0).val = (y 0).val; omega)
  | ⟨1, _⟩ => blk_simp; exact (congrArg (fun z => z * 1690 + (y 1).val) e).trans (by show 0 * 1690 + (y 1).val = (y 1).val; omega)
  | ⟨2, _⟩ => blk_simp; exact (congrArg (fun z => z * 24 + (y 2).val) e).trans (by show 0 * 24 + (y 2).val = (y 2).val; omega)
  | ⟨3, _⟩ => blk_simp; exact (congrArg (fun z => z * 72 + (y 3).val) e).trans (by show 0 * 72 + (y 3).val = (y 3).val; omega)

/-- The value codes, decoded, are the value codes. -/
theorem arr5 : (dats m 0 c).arrAt 5 cfg0.N = fun y : S6x1690x24x72.Idx => (m ((c.tc : Thread nD τ).loc main_arg2) : S6x1690x24x72.Idx → EReal) y := by
  refine (dats m 0 c).arrAt_eq_of_covers 5 _ (by decide +kernel) fun t hf y => ?_
  blk_simp
  rw [after0_5]
  frame_out
  exact same_place (m ((c.tc : Thread nD τ).loc main_arg2)) (((cfg0.win 2).blk t).view.emb y) (((cfg0.win 5).blk t).view.emb y) y (emb2 t y) (emb5 t y)

/-- The decoded value codes, after every operation. -/
theorem fin_v0_2 : fin (Vr m c) (Proc.devRef .tc main_v0_2) = m ((c.tc : Thread nD τ).loc main_arg2) := by
  rw [fin_old main_v0_2 (by decide +kernel)]
  exact (withArrays_arr (cfgs 0).spec (by decide) c (V0 m c) (fun w => (dats m 0 c).arrAt w (cfgs 0).N) 5).trans (arr5 m c)

/-- An argument, after every operation. -/
theorem fin_arg3 : fin (Vr m c) (Proc.devRef .tc main_arg3) = m ((c.tc : Thread nD τ).loc main_arg3) := by
  rw [fin_old main_arg3 (by decide +kernel)]
  exact withArrays_of_ne _ c (V0 m c) _ main_arg3 (by exact (by decide : ∀ w, Pipeline.arrRef spec0 w ≠ main_arg3))

/-- An argument, after every operation. -/
theorem fin_arg4 : fin (Vr m c) (Proc.devRef .tc main_arg4) = m ((c.tc : Thread nD τ).loc main_arg4) := by
  rw [fin_old main_arg4 (by decide +kernel)]
  exact withArrays_of_ne _ c (V0 m c) _ main_arg4 (by exact (by decide : ∀ w, Pipeline.arrRef spec0 w ≠ main_arg4))

/-- An argument, after every operation. -/
theorem fin_arg5 : fin (Vr m c) (Proc.devRef .tc main_arg5) = m ((c.tc : Thread nD τ).loc main_arg5) := by
  rw [fin_old main_arg5 (by decide +kernel)]
  exact withArrays_of_ne _ c (V0 m c) _ main_arg5 (by exact (by decide : ∀ w, Pipeline.arrRef spec0 w ≠ main_arg5))

/-- An argument, after every operation. -/
theorem fin_arg6 : fin (Vr m c) (Proc.devRef .tc main_arg6) = m ((c.tc : Thread nD τ).loc main_arg6) := by
  rw [fin_old main_arg6 (by decide +kernel)]
  exact withArrays_of_ne _ c (V0 m c) _ main_arg6 (by exact (by decide : ∀ w, Pipeline.arrRef spec0 w ≠ main_arg6))

/-- Every run of the reference leaves its result at what its operations compute, and its arguments unchanged. -/
theorem run_value (ρ) : θ_run defs (onTc (τ := τ) (main (F := Ideal))) ⟨m, fun _ => 0, ρ⟩ (fun r => ∀ c : Dev nD,
      r.2.mem ((c.tc : Thread nD τ).loc main_v271) = fin (Vr m c) (Proc.devRef .tc main_v271)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun _ h c => ⟨?_, h.2 c⟩) (θ_run_and (run_main m ρ) (unchanged m ρ))
  refine ((h.1 c).2 main_v271 (Pipeline.mem_restRefs_of main_v271 (by decide) (by decide))).trans ?_
  unfold Pipeline.afterTail₀ fin
  rw [List.flatten_cons, List.flatten_cons, List.flatten_cons, List.flatten_cons, List.flatten_cons, List.flatten_nil, List.append_nil]
  rfl

end Cert.ReferenceIdeal.Hand
-- ==== Proof.Glue.lean ====
module

public import proofs.«01_k».proof.Defs
public import proofs.«01_k».proof.Proof.PreDom
public import proofs.«01_k».proof.Proof.KHead
public import proofs.«01_k».proof.Proof.RefRun

@[expose] public section

noncomputable section

namespace Cert.Glue

open Cert.Spec
open Idealize.ShloMosaic Idealize.ShloMosaic.TcCoe Idealize.ShloMosaic.Tactic Idealize.SL.Sem

/-! ### The two results are one array -/

/-- The kernel leaves its result array at what its points stored, and its arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v10) = (Cert.KernelIdeal.Hand.dats m 0 c).arrAt 7 Cert.KernelIdeal.cfg0.N
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run _ _ _).mono (fun _ h c => ⟨(h.1.1 c).1 7, h.2.1 c⟩) (θ_run_and (Cert.KernelIdeal.Hand.run_main m ρ) (Cert.KernelIdeal.Hand.frame_run m ρ))

/-- What a head holds depends on the kind of the head only. -/
theorem headSpec_iff (q k v : Fin 1690 → Fin 72 → EReal) (qs ks vs : Fin 5 → EReal) (w w' : Prop) [Decidable w] [Decidable w'] (e : w ↔ w') (n : Fin 1690) (d : Fin 72) :
    headSpec q k v qs ks vs w n d = headSpec q k v qs ks vs w' n d := by
  unfold headSpec
  simp only [e]

/-- The kernel's word for a head says which kind the head order's inverse gives. -/
theorem word_iff (m : (ℓ : Loc Cert.KernelIdeal.nD Cert.KernelIdeal.τ Cert.KernelIdeal.sig) → Buf (Elt Ideal) ℓ) (c : Dev Cert.KernelIdeal.nD) (h : Fin 24) :
    StableHlo.after Cert.KernelIdeal.Hand.pre (fun r => m (c, r)) (Proc.devRef .tc Cert.KernelIdeal.main_v3) (ix1 h) = 0#32
      ↔ (place (fun k => m ((c.tc : Thread Cert.KernelIdeal.nD Cert.KernelIdeal.τ).loc Cert.KernelIdeal.main_arg6) (ix1 k)) h).val < 15 := by
  rw [Cert.KernelIdeal.Hand.v3_at,
    argsort_at Cert.KernelIdeal.comparator_i32_i32_d0 (fun _ _ => rfl)]
  exact kind_ofNat _

/-- At arguments the precondition admits, the reference's result is the kernel's. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hq : ∀ x : Cert.KernelIdeal.S6x5x24.Idx, @LT.lt EReal _ 0 (m ((c.tc : Thread Cert.KernelIdeal.nD Cert.KernelIdeal.τ).loc Cert.KernelIdeal.main_arg3) x))
    (hk : ∀ x : Cert.KernelIdeal.S6x5x24.Idx, @LT.lt EReal _ 0 (m ((c.tc : Thread Cert.KernelIdeal.nD Cert.KernelIdeal.τ).loc Cert.KernelIdeal.main_arg4) x))
    (hs : ∀ h : Fin 24, Host.sort ⟨1, ![24]⟩ 0 Cert.Pre_domain.comparator_i32_d0
      (m ((c.tc : Thread Cert.KernelIdeal.nD Cert.KernelIdeal.τ).loc Cert.KernelIdeal.main_arg6) : IVec ⟨1, ![24]⟩ 32) (ix1 h) = iotaInDim ⟨1, ![24]⟩ 32 0 (ix1 h))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Hand.fin (Cert.ReferenceIdeal.Hand.Vr m' c) (Proc.devRef .tc Cert.ReferenceIdeal.main_v271)
      = (Cert.KernelIdeal.Hand.dats m 0 c).arrAt 7 Cert.KernelIdeal.cfg0.N := by
  rw [Cert.KernelIdeal.Hand.arr_eq]
  funext y
  have e6 := (Cert.ReferenceIdeal.Hand.fin_arg6 m' c).trans h6
  refine (congrArg _ (eq_ix3 y)).trans ?_
  refine (Cert.ReferenceIdeal.Hand.v271_at _ Cert.Pre_domain.comparator_i32_d0 (fun _ _ => rfl) ?_ (y 0) (y 1) (y 2) _ _ rfl rfl).trans ?_
  · intro h
    rw [e6]
    exact hs h
  · rw [Cert.ReferenceIdeal.Hand.fin_v0_0, Cert.ReferenceIdeal.Hand.fin_v0_1, Cert.ReferenceIdeal.Hand.fin_v0_2, Cert.ReferenceIdeal.Hand.fin_arg3,
      Cert.ReferenceIdeal.Hand.fin_arg4, Cert.ReferenceIdeal.Hand.fin_arg5, e6, h0, h1, h2, h3, h4, h5]
    refine Eq.trans ?_ (Cert.KernelIdeal.Hand.hcol_at m c (y 0) _ hq hk _ _ (y 1).isLt).symm
    exact headSpec_iff _ _ _ _ _ _ _ _ (word_iff m c _).symm _ _

/-- The ideal kernel computes the reference's result, at arguments the precondition admits. -/
theorem algebraic : Cert.algebraic_KernelIdeal_ReferenceIdeal_pre_domain (hKernelIdeal := Cert.KernelIdeal.Gen.facts)
    (hReferenceIdeal := Cert.ReferenceIdeal.Gen.facts) (hPre_domain := Cert.Pre_domain.Hand.facts) := by
  intro m g m' g' hpre hag
  refine ⟨fun c => (Cert.KernelIdeal.Hand.dats m 0 c).arrAt 7 Cert.KernelIdeal.cfg0.N, kernel_run m g, ?_⟩
  refine (θ_run _ _ _).mono (fun r h c => ⟨(h c).1.trans ?_, (h c).2⟩) (Cert.ReferenceIdeal.Hand.run_value m' g')
  obtain ⟨h0, h1, h2, h3, h4, h5, h6⟩ := hag c
  obtain ⟨hq, hk, hs⟩ := Cert.Pre_domain.Hand.decode _ _ _ _ _ _ _ (hpre c)
  exact value_eq m m' c hq hk hs h0 h1 h2 h3 h4 h5 h6

end Cert.Glue

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KBody
public import proofs.«01_k».proof.Proof.Body
public import proofs.«01_k».proof.Proof.Glue
public import Idealize.ShloMosaic.Adequacy
public import Idealize.ShloMosaic.Init

@[expose] public section

noncomputable section

namespace Cert.Proof

open Idealize.ShloMosaic Idealize.SL.Sem

/-- The ideal kernel's scale constant is the named real number. -/
theorem preserves : Cert.preserves_Kernel_KernelIdeal :=
  IdealRules.named_const.statement Cert.KernelIdeal.κ "exp2_scale" .f32 0x3E2E1A93#32 (((15817711 / 134217728) * (Real.log 2)⁻¹ : ℝ) : EReal) rfl

/-- Every claim of the statement. -/
theorem claim : Cert.Claim :=
  ⟨Cert.Kernel.Gen.facts, Cert.KernelIdeal.Gen.facts, Cert.ReferenceIdeal.Gen.facts, Cert.Pre_domain.Hand.facts,
    fun m g _ => Cert.Kernel.Hand.frame_run m g, fun m g _ => Cert.KernelIdeal.Hand.frame_run m g,
    fun m g _ => Cert.KernelIdeal.Hand.frame_run m g, fun m g _ => Cert.ReferenceIdeal.Gen.frame m g,
    fun m g _ => Cert.ReferenceIdeal.Gen.frame m g, preserves, Cert.Glue.algebraic⟩

end Cert.Proof

end
